-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_squares [hPre_ffn_in_squares : Cert.Pre_ffn_in_squares.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_squares.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))) = (fun _ => 1#1)

def Pre_FfnInReferenceIdeal (m : (ℓ : Loc Cert.FfnInReferenceIdeal.nD Cert.FfnInReferenceIdeal.τ Cert.FfnInReferenceIdeal.sig) → Buf (Elt Ideal) ℓ) : Prop :=
  True

def Pre_FfnInReferenceIdeal_ffn_in_squares [hPre_ffn_in_squares : Cert.Pre_ffn_in_squares.Facts] (m : (ℓ : Loc Cert.FfnInReferenceIdeal.nD Cert.FfnInReferenceIdeal.τ Cert.FfnInReferenceIdeal.sig) → Buf (Elt Ideal) ℓ) : Prop :=
  ∀ c : Dev Cert.FfnInReferenceIdeal.nD,
    (Cert.Pre_ffn_in_squares.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6)) (m ((c.tc : Thread Cert.FfnInReferenceIdeal.nD Cert.FfnInReferenceIdeal.τ).loc Cert.FfnInReferenceIdeal.main_arg7))) = (fun _ => 1#1)

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddIdeal_in_odd_squares [hPre_in_odd_squares : Cert.Pre_in_odd_squares.Facts] (m : (ℓ : Loc Cert.InOddIdeal.nD Cert.InOddIdeal.τ Cert.InOddIdeal.sig) → Buf (Elt Ideal) ℓ) : Prop :=
  ∀ c : Dev Cert.InOddIdeal.nD,
    (Cert.Pre_in_odd_squares.fn (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)) (m ((c.tc : Thread Cert.InOddIdeal.nD Cert.InOddIdeal.τ).loc Cert.InOddIdeal.main_arg3)) (m ((c.tc : Thread Cert.InOddIdeal.nD Cert.InOddIdeal.τ).loc Cert.InOddIdeal.main_arg4))) = (fun _ => 1#1)

def Pre_InOddReferenceIdeal (m : (ℓ : Loc Cert.InOddReferenceIdeal.nD Cert.InOddReferenceIdeal.τ Cert.InOddReferenceIdeal.sig) → Buf (Elt Ideal) ℓ) : Prop :=
  True

def Pre_InOddReferenceIdeal_in_odd_squares [hPre_in_odd_squares : Cert.Pre_in_odd_squares.Facts] (m : (ℓ : Loc Cert.InOddReferenceIdeal.nD Cert.InOddReferenceIdeal.τ Cert.InOddReferenceIdeal.sig) → Buf (Elt Ideal) ℓ) : Prop :=
  ∀ c : Dev Cert.InOddReferenceIdeal.nD,
    (Cert.Pre_in_odd_squares.fn (F := Ideal) (m ((c.tc : Thread Cert.InOddReferenceIdeal.nD Cert.InOddReferenceIdeal.τ).loc Cert.InOddReferenceIdeal.main_arg0)) (m ((c.tc : Thread Cert.InOddReferenceIdeal.nD Cert.InOddReferenceIdeal.τ).loc Cert.InOddReferenceIdeal.main_arg1)) (m ((c.tc : Thread Cert.InOddReferenceIdeal.nD Cert.InOddReferenceIdeal.τ).loc Cert.InOddReferenceIdeal.main_arg2)) (m ((c.tc : Thread Cert.InOddReferenceIdeal.nD Cert.InOddReferenceIdeal.τ).loc Cert.InOddReferenceIdeal.main_arg3)) (m ((c.tc : Thread Cert.InOddReferenceIdeal.nD Cert.InOddReferenceIdeal.τ).loc Cert.InOddReferenceIdeal.main_arg4))) = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenIdeal_in_even_squares [hPre_in_even_squares : Cert.Pre_in_even_squares.Facts] (m : (ℓ : Loc Cert.InEvenIdeal.nD Cert.InEvenIdeal.τ Cert.InEvenIdeal.sig) → Buf (Elt Ideal) ℓ) : Prop :=
  ∀ c : Dev Cert.InEvenIdeal.nD,
    (Cert.Pre_in_even_squares.fn (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)) (m ((c.tc : Thread Cert.InEvenIdeal.nD Cert.InEvenIdeal.τ).loc Cert.InEvenIdeal.main_arg4))) = (fun _ => 1#1)

def Pre_InEvenReferenceIdeal (m : (ℓ : Loc Cert.InEvenReferenceIdeal.nD Cert.InEvenReferenceIdeal.τ Cert.InEvenReferenceIdeal.sig) → Buf (Elt Ideal) ℓ) : Prop :=
  True

def Pre_InEvenReferenceIdeal_in_even_squares [hPre_in_even_squares : Cert.Pre_in_even_squares.Facts] (m : (ℓ : Loc Cert.InEvenReferenceIdeal.nD Cert.InEvenReferenceIdeal.τ Cert.InEvenReferenceIdeal.sig) → Buf (Elt Ideal) ℓ) : Prop :=
  ∀ c : Dev Cert.InEvenReferenceIdeal.nD,
    (Cert.Pre_in_even_squares.fn (F := Ideal) (m ((c.tc : Thread Cert.InEvenReferenceIdeal.nD Cert.InEvenReferenceIdeal.τ).loc Cert.InEvenReferenceIdeal.main_arg0)) (m ((c.tc : Thread Cert.InEvenReferenceIdeal.nD Cert.InEvenReferenceIdeal.τ).loc Cert.InEvenReferenceIdeal.main_arg1)) (m ((c.tc : Thread Cert.InEvenReferenceIdeal.nD Cert.InEvenReferenceIdeal.τ).loc Cert.InEvenReferenceIdeal.main_arg2)) (m ((c.tc : Thread Cert.InEvenReferenceIdeal.nD Cert.InEvenReferenceIdeal.τ).loc Cert.InEvenReferenceIdeal.main_arg3)) (m ((c.tc : Thread Cert.InEvenReferenceIdeal.nD Cert.InEvenReferenceIdeal.τ).loc Cert.InEvenReferenceIdeal.main_arg4))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddReferenceIdeal (m : (ℓ : Loc Cert.OutOddReferenceIdeal.nD Cert.OutOddReferenceIdeal.τ Cert.OutOddReferenceIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenReferenceIdeal (m : (ℓ : Loc Cert.OutEvenReferenceIdeal.nD Cert.OutEvenReferenceIdeal.τ Cert.OutEvenReferenceIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastReferenceIdeal (m : (ℓ : Loc Cert.FfnLastReferenceIdeal.nD Cert.FfnLastReferenceIdeal.τ Cert.FfnLastReferenceIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptReferenceIdeal (m : (ℓ : Loc Cert.NormPromptReferenceIdeal.nD Cert.NormPromptReferenceIdeal.τ Cert.NormPromptReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_InFirst (m : (ℓ : Loc Cert.InFirst.nD Cert.InFirst.τ Cert.InFirst.sig) → Buf (Elt Bits) ℓ) : Prop :=
  True

def Pre_InFirstIdeal (m : (ℓ : Loc Cert.InFirstIdeal.nD Cert.InFirstIdeal.τ Cert.InFirstIdeal.sig) → Buf (Elt Ideal) ℓ) : Prop :=
  True

def Pre_InFirstIdeal_in_first_squares [hPre_in_first_squares : Cert.Pre_in_first_squares.Facts] (m : (ℓ : Loc Cert.InFirstIdeal.nD Cert.InFirstIdeal.τ Cert.InFirstIdeal.sig) → Buf (Elt Ideal) ℓ) : Prop :=
  ∀ c : Dev Cert.InFirstIdeal.nD,
    (Cert.Pre_in_first_squares.fn (F := Ideal) (m ((c.tc : Thread Cert.InFirstIdeal.nD Cert.InFirstIdeal.τ).loc Cert.InFirstIdeal.main_arg0)) (m ((c.tc : Thread Cert.InFirstIdeal.nD Cert.InFirstIdeal.τ).loc Cert.InFirstIdeal.main_arg1)) (m ((c.tc : Thread Cert.InFirstIdeal.nD Cert.InFirstIdeal.τ).loc Cert.InFirstIdeal.main_arg2)) (m ((c.tc : Thread Cert.InFirstIdeal.nD Cert.InFirstIdeal.τ).loc Cert.InFirstIdeal.main_arg3)) (m ((c.tc : Thread Cert.InFirstIdeal.nD Cert.InFirstIdeal.τ).loc Cert.InFirstIdeal.main_arg4))) = (fun _ => 1#1)

def Pre_InFirstReferenceIdeal (m : (ℓ : Loc Cert.InFirstReferenceIdeal.nD Cert.InFirstReferenceIdeal.τ Cert.InFirstReferenceIdeal.sig) → Buf (Elt Ideal) ℓ) : Prop :=
  True

def Pre_InFirstReferenceIdeal_in_first_squares [hPre_in_first_squares : Cert.Pre_in_first_squares.Facts] (m : (ℓ : Loc Cert.InFirstReferenceIdeal.nD Cert.InFirstReferenceIdeal.τ Cert.InFirstReferenceIdeal.sig) → Buf (Elt Ideal) ℓ) : Prop :=
  ∀ c : Dev Cert.InFirstReferenceIdeal.nD,
    (Cert.Pre_in_first_squares.fn (F := Ideal) (m ((c.tc : Thread Cert.InFirstReferenceIdeal.nD Cert.InFirstReferenceIdeal.τ).loc Cert.InFirstReferenceIdeal.main_arg0)) (m ((c.tc : Thread Cert.InFirstReferenceIdeal.nD Cert.InFirstReferenceIdeal.τ).loc Cert.InFirstReferenceIdeal.main_arg1)) (m ((c.tc : Thread Cert.InFirstReferenceIdeal.nD Cert.InFirstReferenceIdeal.τ).loc Cert.InFirstReferenceIdeal.main_arg2)) (m ((c.tc : Thread Cert.InFirstReferenceIdeal.nD Cert.InFirstReferenceIdeal.τ).loc Cert.InFirstReferenceIdeal.main_arg3)) (m ((c.tc : Thread Cert.InFirstReferenceIdeal.nD Cert.InFirstReferenceIdeal.τ).loc Cert.InFirstReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInIdeal_pre_ffn_in_squares [hFfnInIdeal : Cert.FfnInIdeal.Facts] [hPre_ffn_in_squares : Cert.Pre_ffn_in_squares.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_squares m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6)
      ∧ r.2.mem ((c.tc : Thread Cert.FfnInReferenceIdeal.nD Cert.FfnInReferenceIdeal.τ).loc Cert.FfnInReferenceIdeal.main_arg7) = m ((c.tc : Thread Cert.FfnInReferenceIdeal.nD Cert.FfnInReferenceIdeal.τ).loc Cert.FfnInReferenceIdeal.main_arg7))
      ∧ r.2.sem = fun _ => 0)

def quiescent_FfnInReferenceIdeal_pre_ffn_in_squares [hFfnInReferenceIdeal : Cert.FfnInReferenceIdeal.Facts] [hPre_ffn_in_squares : Cert.Pre_ffn_in_squares.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal_ffn_in_squares m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6)
      ∧ r.2.mem ((c.tc : Thread Cert.FfnInReferenceIdeal.nD Cert.FfnInReferenceIdeal.τ).loc Cert.FfnInReferenceIdeal.main_arg7) = m ((c.tc : Thread Cert.FfnInReferenceIdeal.nD Cert.FfnInReferenceIdeal.τ).loc Cert.FfnInReferenceIdeal.main_arg7))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddIdeal_pre_in_odd_squares [hInOddIdeal : Cert.InOddIdeal.Facts] [hPre_in_odd_squares : Cert.Pre_in_odd_squares.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal_in_odd_squares m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2)
      ∧ r.2.mem ((c.tc : Thread Cert.InOddReferenceIdeal.nD Cert.InOddReferenceIdeal.τ).loc Cert.InOddReferenceIdeal.main_arg3) = m ((c.tc : Thread Cert.InOddReferenceIdeal.nD Cert.InOddReferenceIdeal.τ).loc Cert.InOddReferenceIdeal.main_arg3)
      ∧ r.2.mem ((c.tc : Thread Cert.InOddReferenceIdeal.nD Cert.InOddReferenceIdeal.τ).loc Cert.InOddReferenceIdeal.main_arg4) = m ((c.tc : Thread Cert.InOddReferenceIdeal.nD Cert.InOddReferenceIdeal.τ).loc Cert.InOddReferenceIdeal.main_arg4))
      ∧ r.2.sem = fun _ => 0)

def quiescent_InOddReferenceIdeal_pre_in_odd_squares [hInOddReferenceIdeal : Cert.InOddReferenceIdeal.Facts] [hPre_in_odd_squares : Cert.Pre_in_odd_squares.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal_in_odd_squares m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2)
      ∧ r.2.mem ((c.tc : Thread Cert.InOddReferenceIdeal.nD Cert.InOddReferenceIdeal.τ).loc Cert.InOddReferenceIdeal.main_arg3) = m ((c.tc : Thread Cert.InOddReferenceIdeal.nD Cert.InOddReferenceIdeal.τ).loc Cert.InOddReferenceIdeal.main_arg3)
      ∧ r.2.mem ((c.tc : Thread Cert.InOddReferenceIdeal.nD Cert.InOddReferenceIdeal.τ).loc Cert.InOddReferenceIdeal.main_arg4) = m ((c.tc : Thread Cert.InOddReferenceIdeal.nD Cert.InOddReferenceIdeal.τ).loc Cert.InOddReferenceIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenIdeal_pre_in_even_squares [hInEvenIdeal : Cert.InEvenIdeal.Facts] [hPre_in_even_squares : Cert.Pre_in_even_squares.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal_in_even_squares m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2)
      ∧ r.2.mem ((c.tc : Thread Cert.InEvenReferenceIdeal.nD Cert.InEvenReferenceIdeal.τ).loc Cert.InEvenReferenceIdeal.main_arg3) = m ((c.tc : Thread Cert.InEvenReferenceIdeal.nD Cert.InEvenReferenceIdeal.τ).loc Cert.InEvenReferenceIdeal.main_arg3)
      ∧ r.2.mem ((c.tc : Thread Cert.InEvenReferenceIdeal.nD Cert.InEvenReferenceIdeal.τ).loc Cert.InEvenReferenceIdeal.main_arg4) = m ((c.tc : Thread Cert.InEvenReferenceIdeal.nD Cert.InEvenReferenceIdeal.τ).loc Cert.InEvenReferenceIdeal.main_arg4))
      ∧ r.2.sem = fun _ => 0)

def quiescent_InEvenReferenceIdeal_pre_in_even_squares [hInEvenReferenceIdeal : Cert.InEvenReferenceIdeal.Facts] [hPre_in_even_squares : Cert.Pre_in_even_squares.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal_in_even_squares m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2)
      ∧ r.2.mem ((c.tc : Thread Cert.InEvenReferenceIdeal.nD Cert.InEvenReferenceIdeal.τ).loc Cert.InEvenReferenceIdeal.main_arg3) = m ((c.tc : Thread Cert.InEvenReferenceIdeal.nD Cert.InEvenReferenceIdeal.τ).loc Cert.InEvenReferenceIdeal.main_arg3)
      ∧ r.2.mem ((c.tc : Thread Cert.InEvenReferenceIdeal.nD Cert.InEvenReferenceIdeal.τ).loc Cert.InEvenReferenceIdeal.main_arg4) = m ((c.tc : Thread Cert.InEvenReferenceIdeal.nD Cert.InEvenReferenceIdeal.τ).loc Cert.InEvenReferenceIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2)
      ∧ r.2.mem ((c.tc : Thread Cert.FfnOutReferenceIdeal.nD Cert.FfnOutReferenceIdeal.τ).loc Cert.FfnOutReferenceIdeal.main_arg3) = m ((c.tc : Thread Cert.FfnOutReferenceIdeal.nD Cert.FfnOutReferenceIdeal.τ).loc Cert.FfnOutReferenceIdeal.main_arg3)
      ∧ r.2.mem ((c.tc : Thread Cert.FfnOutReferenceIdeal.nD Cert.FfnOutReferenceIdeal.τ).loc Cert.FfnOutReferenceIdeal.main_arg4) = m ((c.tc : Thread Cert.FfnOutReferenceIdeal.nD Cert.FfnOutReferenceIdeal.τ).loc Cert.FfnOutReferenceIdeal.main_arg4)
      ∧ r.2.mem ((c.tc : Thread Cert.FfnOutReferenceIdeal.nD Cert.FfnOutReferenceIdeal.τ).loc Cert.FfnOutReferenceIdeal.main_arg5) = m ((c.tc : Thread Cert.FfnOutReferenceIdeal.nD Cert.FfnOutReferenceIdeal.τ).loc Cert.FfnOutReferenceIdeal.main_arg5))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ r.2.sem = fun _ => 0)

def quiescent_OutOddReferenceIdeal [hOutOddReferenceIdeal : Cert.OutOddReferenceIdeal.Facts] : Prop :=
  ∀ (m : (ℓ : Loc Cert.OutOddReferenceIdeal.nD Cert.OutOddReferenceIdeal.τ Cert.OutOddReferenceIdeal.sig) → Buf (Elt Ideal) ℓ) (g : Dev Cert.OutOddReferenceIdeal.nD → PrngReg), Pre_OutOddReferenceIdeal m →
    θ_run (Cert.OutOddReferenceIdeal.defs (F := Ideal)) (onTc (τ := Cert.OutOddReferenceIdeal.τ) (Cert.OutOddReferenceIdeal.main (F := Ideal))) ⟨m, fun _ => 0, g⟩ (fun r => (∀ c : Dev Cert.OutOddReferenceIdeal.nD,
      r.2.mem ((c.tc : Thread Cert.OutOddReferenceIdeal.nD Cert.OutOddReferenceIdeal.τ).loc Cert.OutOddReferenceIdeal.main_arg0) = m ((c.tc : Thread Cert.OutOddReferenceIdeal.nD Cert.OutOddReferenceIdeal.τ).loc Cert.OutOddReferenceIdeal.main_arg0)
      ∧ r.2.mem ((c.tc : Thread Cert.OutOddReferenceIdeal.nD Cert.OutOddReferenceIdeal.τ).loc Cert.OutOddReferenceIdeal.main_arg1) = m ((c.tc : Thread Cert.OutOddReferenceIdeal.nD Cert.OutOddReferenceIdeal.τ).loc Cert.OutOddReferenceIdeal.main_arg1)
      ∧ r.2.mem ((c.tc : Thread Cert.OutOddReferenceIdeal.nD Cert.OutOddReferenceIdeal.τ).loc Cert.OutOddReferenceIdeal.main_arg2) = m ((c.tc : Thread Cert.OutOddReferenceIdeal.nD Cert.OutOddReferenceIdeal.τ).loc Cert.OutOddReferenceIdeal.main_arg2)
      ∧ r.2.mem ((c.tc : Thread Cert.OutOddReferenceIdeal.nD Cert.OutOddReferenceIdeal.τ).loc Cert.OutOddReferenceIdeal.main_arg3) = m ((c.tc : Thread Cert.OutOddReferenceIdeal.nD Cert.OutOddReferenceIdeal.τ).loc Cert.OutOddReferenceIdeal.main_arg3)
      ∧ r.2.mem ((c.tc : Thread Cert.OutOddReferenceIdeal.nD Cert.OutOddReferenceIdeal.τ).loc Cert.OutOddReferenceIdeal.main_arg4) = m ((c.tc : Thread Cert.OutOddReferenceIdeal.nD Cert.OutOddReferenceIdeal.τ).loc Cert.OutOddReferenceIdeal.main_arg4)
      ∧ r.2.mem ((c.tc : Thread Cert.OutOddReferenceIdeal.nD Cert.OutOddReferenceIdeal.τ).loc Cert.OutOddReferenceIdeal.main_arg5) = m ((c.tc : Thread Cert.OutOddReferenceIdeal.nD Cert.OutOddReferenceIdeal.τ).loc Cert.OutOddReferenceIdeal.main_arg5))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6)
      ∧ r.2.mem ((c.tc : Thread Cert.OutEven.nD Cert.OutEven.τ).loc Cert.OutEven.main_arg7) = m ((c.tc : Thread Cert.OutEven.nD Cert.OutEven.τ).loc Cert.OutEven.main_arg7))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7))
      ∧ r.2.sem = fun _ => 0)

def quiescent_OutEvenReferenceIdeal [hOutEvenReferenceIdeal : Cert.OutEvenReferenceIdeal.Facts] : Prop :=
  ∀ (m : (ℓ : Loc Cert.OutEvenReferenceIdeal.nD Cert.OutEvenReferenceIdeal.τ Cert.OutEvenReferenceIdeal.sig) → Buf (Elt Ideal) ℓ) (g : Dev Cert.OutEvenReferenceIdeal.nD → PrngReg), Pre_OutEvenReferenceIdeal m →
    θ_run (Cert.OutEvenReferenceIdeal.defs (F := Ideal)) (onTc (τ := Cert.OutEvenReferenceIdeal.τ) (Cert.OutEvenReferenceIdeal.main (F := Ideal))) ⟨m, fun _ => 0, g⟩ (fun r => (∀ c : Dev Cert.OutEvenReferenceIdeal.nD,
      r.2.mem ((c.tc : Thread Cert.OutEvenReferenceIdeal.nD Cert.OutEvenReferenceIdeal.τ).loc Cert.OutEvenReferenceIdeal.main_arg0) = m ((c.tc : Thread Cert.OutEvenReferenceIdeal.nD Cert.OutEvenReferenceIdeal.τ).loc Cert.OutEvenReferenceIdeal.main_arg0)
      ∧ r.2.mem ((c.tc : Thread Cert.OutEvenReferenceIdeal.nD Cert.OutEvenReferenceIdeal.τ).loc Cert.OutEvenReferenceIdeal.main_arg1) = m ((c.tc : Thread Cert.OutEvenReferenceIdeal.nD Cert.OutEvenReferenceIdeal.τ).loc Cert.OutEvenReferenceIdeal.main_arg1)
      ∧ r.2.mem ((c.tc : Thread Cert.OutEvenReferenceIdeal.nD Cert.OutEvenReferenceIdeal.τ).loc Cert.OutEvenReferenceIdeal.main_arg2) = m ((c.tc : Thread Cert.OutEvenReferenceIdeal.nD Cert.OutEvenReferenceIdeal.τ).loc Cert.OutEvenReferenceIdeal.main_arg2)
      ∧ r.2.mem ((c.tc : Thread Cert.OutEvenReferenceIdeal.nD Cert.OutEvenReferenceIdeal.τ).loc Cert.OutEvenReferenceIdeal.main_arg3) = m ((c.tc : Thread Cert.OutEvenReferenceIdeal.nD Cert.OutEvenReferenceIdeal.τ).loc Cert.OutEvenReferenceIdeal.main_arg3)
      ∧ r.2.mem ((c.tc : Thread Cert.OutEvenReferenceIdeal.nD Cert.OutEvenReferenceIdeal.τ).loc Cert.OutEvenReferenceIdeal.main_arg4) = m ((c.tc : Thread Cert.OutEvenReferenceIdeal.nD Cert.OutEvenReferenceIdeal.τ).loc Cert.OutEvenReferenceIdeal.main_arg4)
      ∧ r.2.mem ((c.tc : Thread Cert.OutEvenReferenceIdeal.nD Cert.OutEvenReferenceIdeal.τ).loc Cert.OutEvenReferenceIdeal.main_arg5) = m ((c.tc : Thread Cert.OutEvenReferenceIdeal.nD Cert.OutEvenReferenceIdeal.τ).loc Cert.OutEvenReferenceIdeal.main_arg5)
      ∧ r.2.mem ((c.tc : Thread Cert.OutEvenReferenceIdeal.nD Cert.OutEvenReferenceIdeal.τ).loc Cert.OutEvenReferenceIdeal.main_arg6) = m ((c.tc : Thread Cert.OutEvenReferenceIdeal.nD Cert.OutEvenReferenceIdeal.τ).loc Cert.OutEvenReferenceIdeal.main_arg6)
      ∧ r.2.mem ((c.tc : Thread Cert.OutEvenReferenceIdeal.nD Cert.OutEvenReferenceIdeal.τ).loc Cert.OutEvenReferenceIdeal.main_arg7) = m ((c.tc : Thread Cert.OutEvenReferenceIdeal.nD Cert.OutEvenReferenceIdeal.τ).loc Cert.OutEvenReferenceIdeal.main_arg7))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastReferenceIdeal [hFfnLastReferenceIdeal : Cert.FfnLastReferenceIdeal.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptReferenceIdeal [hNormPromptReferenceIdeal : Cert.NormPromptReferenceIdeal.Facts] : Prop :=
  ∀ (m : (ℓ : Loc Cert.NormPromptReferenceIdeal.nD Cert.NormPromptReferenceIdeal.τ Cert.NormPromptReferenceIdeal.sig) → Buf (Elt Ideal) ℓ) (g : Dev Cert.NormPromptReferenceIdeal.nD → PrngReg), Pre_NormPromptReferenceIdeal m →
    θ_run (Cert.NormPromptReferenceIdeal.defs (F := Ideal)) (onTc (τ := Cert.NormPromptReferenceIdeal.τ) (Cert.NormPromptReferenceIdeal.main (F := Ideal))) ⟨m, fun _ => 0, g⟩ (fun r => (∀ c : Dev Cert.NormPromptReferenceIdeal.nD,
      r.2.mem ((c.tc : Thread Cert.NormPromptReferenceIdeal.nD Cert.NormPromptReferenceIdeal.τ).loc Cert.NormPromptReferenceIdeal.main_arg0) = m ((c.tc : Thread Cert.NormPromptReferenceIdeal.nD Cert.NormPromptReferenceIdeal.τ).loc Cert.NormPromptReferenceIdeal.main_arg0)
      ∧ r.2.mem ((c.tc : Thread Cert.NormPromptReferenceIdeal.nD Cert.NormPromptReferenceIdeal.τ).loc Cert.NormPromptReferenceIdeal.main_arg1) = m ((c.tc : Thread Cert.NormPromptReferenceIdeal.nD Cert.NormPromptReferenceIdeal.τ).loc Cert.NormPromptReferenceIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_InFirst [hInFirst : Cert.InFirst.Facts] : Prop :=
  ∀ (m : (ℓ : Loc Cert.InFirst.nD Cert.InFirst.τ Cert.InFirst.sig) → Buf (Elt Bits) ℓ) (g : Dev Cert.InFirst.nD → PrngReg), Pre_InFirst m →
    θ_run (Cert.InFirst.defs (F := Bits)) (onTc (τ := Cert.InFirst.τ) (Cert.InFirst.main (F := Bits))) ⟨m, fun _ => 0, g⟩ (fun r => (∀ c : Dev Cert.InFirst.nD,
      r.2.mem ((c.tc : Thread Cert.InFirst.nD Cert.InFirst.τ).loc Cert.InFirst.main_arg0) = m ((c.tc : Thread Cert.InFirst.nD Cert.InFirst.τ).loc Cert.InFirst.main_arg0)
      ∧ r.2.mem ((c.tc : Thread Cert.InFirst.nD Cert.InFirst.τ).loc Cert.InFirst.main_arg1) = m ((c.tc : Thread Cert.InFirst.nD Cert.InFirst.τ).loc Cert.InFirst.main_arg1)
      ∧ r.2.mem ((c.tc : Thread Cert.InFirst.nD Cert.InFirst.τ).loc Cert.InFirst.main_arg2) = m ((c.tc : Thread Cert.InFirst.nD Cert.InFirst.τ).loc Cert.InFirst.main_arg2)
      ∧ r.2.mem ((c.tc : Thread Cert.InFirst.nD Cert.InFirst.τ).loc Cert.InFirst.main_arg3) = m ((c.tc : Thread Cert.InFirst.nD Cert.InFirst.τ).loc Cert.InFirst.main_arg3)
      ∧ r.2.mem ((c.tc : Thread Cert.InFirst.nD Cert.InFirst.τ).loc Cert.InFirst.main_arg4) = m ((c.tc : Thread Cert.InFirst.nD Cert.InFirst.τ).loc Cert.InFirst.main_arg4))
      ∧ r.2.sem = fun _ => 0)

def quiescent_InFirstIdeal [hInFirstIdeal : Cert.InFirstIdeal.Facts] : Prop :=
  ∀ (m : (ℓ : Loc Cert.InFirstIdeal.nD Cert.InFirstIdeal.τ Cert.InFirstIdeal.sig) → Buf (Elt Ideal) ℓ) (g : Dev Cert.InFirstIdeal.nD → PrngReg), Pre_InFirstIdeal m →
    θ_run (Cert.InFirstIdeal.defs (F := Ideal)) (onTc (τ := Cert.InFirstIdeal.τ) (Cert.InFirstIdeal.main (F := Ideal))) ⟨m, fun _ => 0, g⟩ (fun r => (∀ c : Dev Cert.InFirstIdeal.nD,
      r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
      ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
      ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
      ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3)
      ∧ r.2.mem ((c.tc : Thread Cert.InFirstIdeal.nD Cert.InFirstIdeal.τ).loc Cert.InFirstIdeal.main_arg4) = m ((c.tc : Thread Cert.InFirstIdeal.nD Cert.InFirstIdeal.τ).loc Cert.InFirstIdeal.main_arg4))
      ∧ r.2.sem = fun _ => 0)

def quiescent_InFirstIdeal_pre_in_first_squares [hInFirstIdeal : Cert.InFirstIdeal.Facts] [hPre_in_first_squares : Cert.Pre_in_first_squares.Facts] : Prop :=
  ∀ (m : (ℓ : Loc Cert.InFirstIdeal.nD Cert.InFirstIdeal.τ Cert.InFirstIdeal.sig) → Buf (Elt Ideal) ℓ) (g : Dev Cert.InFirstIdeal.nD → PrngReg), Pre_InFirstIdeal_in_first_squares m →
    θ_run (Cert.InFirstIdeal.defs (F := Ideal)) (onTc (τ := Cert.InFirstIdeal.τ) (Cert.InFirstIdeal.main (F := Ideal))) ⟨m, fun _ => 0, g⟩ (fun r => (∀ c : Dev Cert.InFirstIdeal.nD,
      r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
      ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
      ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
      ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3)
      ∧ r.2.mem ((c.tc : Thread Cert.InFirstIdeal.nD Cert.InFirstIdeal.τ).loc Cert.InFirstIdeal.main_arg4) = m ((c.tc : Thread Cert.InFirstIdeal.nD Cert.InFirstIdeal.τ).loc Cert.InFirstIdeal.main_arg4))
      ∧ r.2.sem = fun _ => 0)

def quiescent_InFirstReferenceIdeal [hInFirstReferenceIdeal : Cert.InFirstReferenceIdeal.Facts] : Prop :=
  ∀ (m : (ℓ : Loc Cert.InFirstReferenceIdeal.nD Cert.InFirstReferenceIdeal.τ Cert.InFirstReferenceIdeal.sig) → Buf (Elt Ideal) ℓ) (g : Dev Cert.InFirstReferenceIdeal.nD → PrngReg), Pre_InFirstReferenceIdeal m →
    θ_run (Cert.InFirstReferenceIdeal.defs (F := Ideal)) (onTc (τ := Cert.InFirstReferenceIdeal.τ) (Cert.InFirstReferenceIdeal.main (F := Ideal))) ⟨m, fun _ => 0, g⟩ (fun r => (∀ c : Dev Cert.InFirstReferenceIdeal.nD,
      r.2.mem ((c.tc : Thread Cert.InFirstReferenceIdeal.nD Cert.InFirstReferenceIdeal.τ).loc Cert.InFirstReferenceIdeal.main_arg0) = m ((c.tc : Thread Cert.InFirstReferenceIdeal.nD Cert.InFirstReferenceIdeal.τ).loc Cert.InFirstReferenceIdeal.main_arg0)
      ∧ r.2.mem ((c.tc : Thread Cert.InFirstReferenceIdeal.nD Cert.InFirstReferenceIdeal.τ).loc Cert.InFirstReferenceIdeal.main_arg1) = m ((c.tc : Thread Cert.InFirstReferenceIdeal.nD Cert.InFirstReferenceIdeal.τ).loc Cert.InFirstReferenceIdeal.main_arg1)
      ∧ r.2.mem ((c.tc : Thread Cert.InFirstReferenceIdeal.nD Cert.InFirstReferenceIdeal.τ).loc Cert.InFirstReferenceIdeal.main_arg2) = m ((c.tc : Thread Cert.InFirstReferenceIdeal.nD Cert.InFirstReferenceIdeal.τ).loc Cert.InFirstReferenceIdeal.main_arg2)
      ∧ r.2.mem ((c.tc : Thread Cert.InFirstReferenceIdeal.nD Cert.InFirstReferenceIdeal.τ).loc Cert.InFirstReferenceIdeal.main_arg3) = m ((c.tc : Thread Cert.InFirstReferenceIdeal.nD Cert.InFirstReferenceIdeal.τ).loc Cert.InFirstReferenceIdeal.main_arg3)
      ∧ r.2.mem ((c.tc : Thread Cert.InFirstReferenceIdeal.nD Cert.InFirstReferenceIdeal.τ).loc Cert.InFirstReferenceIdeal.main_arg4) = m ((c.tc : Thread Cert.InFirstReferenceIdeal.nD Cert.InFirstReferenceIdeal.τ).loc Cert.InFirstReferenceIdeal.main_arg4))
      ∧ r.2.sem = fun _ => 0)

def quiescent_InFirstReferenceIdeal_pre_in_first_squares [hInFirstReferenceIdeal : Cert.InFirstReferenceIdeal.Facts] [hPre_in_first_squares : Cert.Pre_in_first_squares.Facts] : Prop :=
  ∀ (m : (ℓ : Loc Cert.InFirstReferenceIdeal.nD Cert.InFirstReferenceIdeal.τ Cert.InFirstReferenceIdeal.sig) → Buf (Elt Ideal) ℓ) (g : Dev Cert.InFirstReferenceIdeal.nD → PrngReg), Pre_InFirstReferenceIdeal_in_first_squares m →
    θ_run (Cert.InFirstReferenceIdeal.defs (F := Ideal)) (onTc (τ := Cert.InFirstReferenceIdeal.τ) (Cert.InFirstReferenceIdeal.main (F := Ideal))) ⟨m, fun _ => 0, g⟩ (fun r => (∀ c : Dev Cert.InFirstReferenceIdeal.nD,
      r.2.mem ((c.tc : Thread Cert.InFirstReferenceIdeal.nD Cert.InFirstReferenceIdeal.τ).loc Cert.InFirstReferenceIdeal.main_arg0) = m ((c.tc : Thread Cert.InFirstReferenceIdeal.nD Cert.InFirstReferenceIdeal.τ).loc Cert.InFirstReferenceIdeal.main_arg0)
      ∧ r.2.mem ((c.tc : Thread Cert.InFirstReferenceIdeal.nD Cert.InFirstReferenceIdeal.τ).loc Cert.InFirstReferenceIdeal.main_arg1) = m ((c.tc : Thread Cert.InFirstReferenceIdeal.nD Cert.InFirstReferenceIdeal.τ).loc Cert.InFirstReferenceIdeal.main_arg1)
      ∧ r.2.mem ((c.tc : Thread Cert.InFirstReferenceIdeal.nD Cert.InFirstReferenceIdeal.τ).loc Cert.InFirstReferenceIdeal.main_arg2) = m ((c.tc : Thread Cert.InFirstReferenceIdeal.nD Cert.InFirstReferenceIdeal.τ).loc Cert.InFirstReferenceIdeal.main_arg2)
      ∧ r.2.mem ((c.tc : Thread Cert.InFirstReferenceIdeal.nD Cert.InFirstReferenceIdeal.τ).loc Cert.InFirstReferenceIdeal.main_arg3) = m ((c.tc : Thread Cert.InFirstReferenceIdeal.nD Cert.InFirstReferenceIdeal.τ).loc Cert.InFirstReferenceIdeal.main_arg3)
      ∧ r.2.mem ((c.tc : Thread Cert.InFirstReferenceIdeal.nD Cert.InFirstReferenceIdeal.τ).loc Cert.InFirstReferenceIdeal.main_arg4) = m ((c.tc : Thread Cert.InFirstReferenceIdeal.nD Cert.InFirstReferenceIdeal.τ).loc Cert.InFirstReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnIn_FfnInIdeal : Prop :=
  True

def algebraic_FfnInIdeal_FfnInReferenceIdeal_pre_ffn_in_squares [hFfnInIdeal : Cert.FfnInIdeal.Facts] [hFfnInReferenceIdeal : Cert.FfnInReferenceIdeal.Facts] [hPre_ffn_in_squares : Cert.Pre_ffn_in_squares.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal_ffn_in_squares m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)
      ∧ m' ((c.tc : Thread Cert.FfnInReferenceIdeal.nD Cert.FfnInReferenceIdeal.τ).loc Cert.FfnInReferenceIdeal.main_arg2) = m ((c.tc : Thread Cert.FfnInIdeal.nD Cert.FfnInIdeal.τ).loc Cert.FfnInIdeal.main_arg2)
      ∧ m' ((c.tc : Thread Cert.FfnInReferenceIdeal.nD Cert.FfnInReferenceIdeal.τ).loc Cert.FfnInReferenceIdeal.main_arg3) = m ((c.tc : Thread Cert.FfnInIdeal.nD Cert.FfnInIdeal.τ).loc Cert.FfnInIdeal.main_arg3)
      ∧ m' ((c.tc : Thread Cert.FfnInReferenceIdeal.nD Cert.FfnInReferenceIdeal.τ).loc Cert.FfnInReferenceIdeal.main_arg4) = m ((c.tc : Thread Cert.FfnInIdeal.nD Cert.FfnInIdeal.τ).loc Cert.FfnInIdeal.main_arg4)
      ∧ m' ((c.tc : Thread Cert.FfnInReferenceIdeal.nD Cert.FfnInReferenceIdeal.τ).loc Cert.FfnInReferenceIdeal.main_arg5) = m ((c.tc : Thread Cert.FfnInIdeal.nD Cert.FfnInIdeal.τ).loc Cert.FfnInIdeal.main_arg5)
      ∧ m' ((c.tc : Thread Cert.FfnInReferenceIdeal.nD Cert.FfnInReferenceIdeal.τ).loc Cert.FfnInReferenceIdeal.main_arg6) = m ((c.tc : Thread Cert.FfnInIdeal.nD Cert.FfnInIdeal.τ).loc Cert.FfnInIdeal.main_arg6)
      ∧ m' ((c.tc : Thread Cert.FfnInReferenceIdeal.nD Cert.FfnInReferenceIdeal.τ).loc Cert.FfnInReferenceIdeal.main_arg7) = m ((c.tc : Thread Cert.FfnInIdeal.nD Cert.FfnInIdeal.τ).loc Cert.FfnInIdeal.main_arg7)) →
    ∃ (v0 : (c : Dev Cert.FfnInIdeal.nD) → Buf (Elt Ideal) ((c.tc : Thread Cert.FfnInIdeal.nD Cert.FfnInIdeal.τ).loc Cert.FfnInIdeal.main_v2_0)) (v1 : (c : Dev Cert.FfnInIdeal.nD) → Buf (Elt Ideal) ((c.tc : Thread Cert.FfnInIdeal.nD Cert.FfnInIdeal.τ).loc Cert.FfnInIdeal.main_v2_1)) (v2 : (c : Dev Cert.FfnInIdeal.nD) → Buf (Elt Ideal) ((c.tc : Thread Cert.FfnInIdeal.nD Cert.FfnInIdeal.τ).loc Cert.FfnInIdeal.main_v2_2)) (v3 : (c : Dev Cert.FfnInIdeal.nD) → Buf (Elt Ideal) ((c.tc : Thread Cert.FfnInIdeal.nD Cert.FfnInIdeal.τ).loc Cert.FfnInIdeal.main_v3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2_0) = v0 c
          ∧ r.2.mem ((c.tc : Thread Cert.FfnInIdeal.nD Cert.FfnInIdeal.τ).loc Cert.FfnInIdeal.main_v2_1) = v1 c
          ∧ r.2.mem ((c.tc : Thread Cert.FfnInIdeal.nD Cert.FfnInIdeal.τ).loc Cert.FfnInIdeal.main_v2_2) = v2 c
          ∧ r.2.mem ((c.tc : Thread Cert.FfnInIdeal.nD Cert.FfnInIdeal.τ).loc Cert.FfnInIdeal.main_v3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v99) = v0 c
          ∧ r.2.mem ((c.tc : Thread Cert.FfnInReferenceIdeal.nD Cert.FfnInReferenceIdeal.τ).loc Cert.FfnInReferenceIdeal.main_v62) = v1 c
          ∧ r.2.mem ((c.tc : Thread Cert.FfnInReferenceIdeal.nD Cert.FfnInReferenceIdeal.τ).loc Cert.FfnInReferenceIdeal.main_v100) = v2 c
          ∧ r.2.mem ((c.tc : Thread Cert.FfnInReferenceIdeal.nD Cert.FfnInReferenceIdeal.τ).loc Cert.FfnInReferenceIdeal.main_v98) = v3 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4)
          ∧ r.2.mem ((c.tc : Thread Cert.FfnInReferenceIdeal.nD Cert.FfnInReferenceIdeal.τ).loc Cert.FfnInReferenceIdeal.main_arg5) = m' ((c.tc : Thread Cert.FfnInReferenceIdeal.nD Cert.FfnInReferenceIdeal.τ).loc Cert.FfnInReferenceIdeal.main_arg5)
          ∧ r.2.mem ((c.tc : Thread Cert.FfnInReferenceIdeal.nD Cert.FfnInReferenceIdeal.τ).loc Cert.FfnInReferenceIdeal.main_arg6) = m' ((c.tc : Thread Cert.FfnInReferenceIdeal.nD Cert.FfnInReferenceIdeal.τ).loc Cert.FfnInReferenceIdeal.main_arg6)
          ∧ r.2.mem ((c.tc : Thread Cert.FfnInReferenceIdeal.nD Cert.FfnInReferenceIdeal.τ).loc Cert.FfnInReferenceIdeal.main_arg7) = m' ((c.tc : Thread Cert.FfnInReferenceIdeal.nD Cert.FfnInReferenceIdeal.τ).loc Cert.FfnInReferenceIdeal.main_arg7))

def preserves_InOdd_InOddIdeal : Prop :=
  True

def algebraic_InOddIdeal_InOddReferenceIdeal_pre_in_odd_squares [hInOddIdeal : Cert.InOddIdeal.Facts] [hInOddReferenceIdeal : Cert.InOddReferenceIdeal.Facts] [hPre_in_odd_squares : Cert.Pre_in_odd_squares.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal_in_odd_squares m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)
      ∧ m' ((c.tc : Thread Cert.InOddReferenceIdeal.nD Cert.InOddReferenceIdeal.τ).loc Cert.InOddReferenceIdeal.main_arg2) = m ((c.tc : Thread Cert.InOddIdeal.nD Cert.InOddIdeal.τ).loc Cert.InOddIdeal.main_arg2)
      ∧ m' ((c.tc : Thread Cert.InOddReferenceIdeal.nD Cert.InOddReferenceIdeal.τ).loc Cert.InOddReferenceIdeal.main_arg3) = m ((c.tc : Thread Cert.InOddIdeal.nD Cert.InOddIdeal.τ).loc Cert.InOddIdeal.main_arg3)
      ∧ m' ((c.tc : Thread Cert.InOddReferenceIdeal.nD Cert.InOddReferenceIdeal.τ).loc Cert.InOddReferenceIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v0_0)) (v1 : (c : Dev Cert.InOddIdeal.nD) → Buf (Elt Ideal) ((c.tc : Thread Cert.InOddIdeal.nD Cert.InOddIdeal.τ).loc Cert.InOddIdeal.main_v0_1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v0_0) = v0 c
          ∧ r.2.mem ((c.tc : Thread Cert.InOddIdeal.nD Cert.InOddIdeal.τ).loc Cert.InOddIdeal.main_v0_1) = v1 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v12) = v0 c
          ∧ r.2.mem ((c.tc : Thread Cert.InOddReferenceIdeal.nD Cert.InOddReferenceIdeal.τ).loc Cert.InOddReferenceIdeal.main_v25) = v1 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1)
          ∧ r.2.mem ((c.tc : Thread Cert.InOddReferenceIdeal.nD Cert.InOddReferenceIdeal.τ).loc Cert.InOddReferenceIdeal.main_arg2) = m' ((c.tc : Thread Cert.InOddReferenceIdeal.nD Cert.InOddReferenceIdeal.τ).loc Cert.InOddReferenceIdeal.main_arg2)
          ∧ r.2.mem ((c.tc : Thread Cert.InOddReferenceIdeal.nD Cert.InOddReferenceIdeal.τ).loc Cert.InOddReferenceIdeal.main_arg3) = m' ((c.tc : Thread Cert.InOddReferenceIdeal.nD Cert.InOddReferenceIdeal.τ).loc Cert.InOddReferenceIdeal.main_arg3)
          ∧ r.2.mem ((c.tc : Thread Cert.InOddReferenceIdeal.nD Cert.InOddReferenceIdeal.τ).loc Cert.InOddReferenceIdeal.main_arg4) = m' ((c.tc : Thread Cert.InOddReferenceIdeal.nD Cert.InOddReferenceIdeal.τ).loc Cert.InOddReferenceIdeal.main_arg4))

def preserves_InEven_InEvenIdeal : Prop :=
  True

def algebraic_InEvenIdeal_InEvenReferenceIdeal_pre_in_even_squares [hInEvenIdeal : Cert.InEvenIdeal.Facts] [hInEvenReferenceIdeal : Cert.InEvenReferenceIdeal.Facts] [hPre_in_even_squares : Cert.Pre_in_even_squares.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal_in_even_squares m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)
      ∧ m' ((c.tc : Thread Cert.InEvenReferenceIdeal.nD Cert.InEvenReferenceIdeal.τ).loc Cert.InEvenReferenceIdeal.main_arg2) = m ((c.tc : Thread Cert.InEvenIdeal.nD Cert.InEvenIdeal.τ).loc Cert.InEvenIdeal.main_arg2)
      ∧ m' ((c.tc : Thread Cert.InEvenReferenceIdeal.nD Cert.InEvenReferenceIdeal.τ).loc Cert.InEvenReferenceIdeal.main_arg3) = m ((c.tc : Thread Cert.InEvenIdeal.nD Cert.InEvenIdeal.τ).loc Cert.InEvenIdeal.main_arg3)
      ∧ m' ((c.tc : Thread Cert.InEvenReferenceIdeal.nD Cert.InEvenReferenceIdeal.τ).loc Cert.InEvenReferenceIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v0_0)) (v1 : (c : Dev Cert.InEvenIdeal.nD) → Buf (Elt Ideal) ((c.tc : Thread Cert.InEvenIdeal.nD Cert.InEvenIdeal.τ).loc Cert.InEvenIdeal.main_v0_1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v0_0) = v0 c
          ∧ r.2.mem ((c.tc : Thread Cert.InEvenIdeal.nD Cert.InEvenIdeal.τ).loc Cert.InEvenIdeal.main_v0_1) = v1 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v12) = v0 c
          ∧ r.2.mem ((c.tc : Thread Cert.InEvenReferenceIdeal.nD Cert.InEvenReferenceIdeal.τ).loc Cert.InEvenReferenceIdeal.main_v25) = v1 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1)
          ∧ r.2.mem ((c.tc : Thread Cert.InEvenReferenceIdeal.nD Cert.InEvenReferenceIdeal.τ).loc Cert.InEvenReferenceIdeal.main_arg2) = m' ((c.tc : Thread Cert.InEvenReferenceIdeal.nD Cert.InEvenReferenceIdeal.τ).loc Cert.InEvenReferenceIdeal.main_arg2)
          ∧ r.2.mem ((c.tc : Thread Cert.InEvenReferenceIdeal.nD Cert.InEvenReferenceIdeal.τ).loc Cert.InEvenReferenceIdeal.main_arg3) = m' ((c.tc : Thread Cert.InEvenReferenceIdeal.nD Cert.InEvenReferenceIdeal.τ).loc Cert.InEvenReferenceIdeal.main_arg3)
          ∧ r.2.mem ((c.tc : Thread Cert.InEvenReferenceIdeal.nD Cert.InEvenReferenceIdeal.τ).loc Cert.InEvenReferenceIdeal.main_arg4) = m' ((c.tc : Thread Cert.InEvenReferenceIdeal.nD Cert.InEvenReferenceIdeal.τ).loc Cert.InEvenReferenceIdeal.main_arg4))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)
      ∧ m' ((c.tc : Thread Cert.FfnOutReferenceIdeal.nD Cert.FfnOutReferenceIdeal.τ).loc Cert.FfnOutReferenceIdeal.main_arg3) = m ((c.tc : Thread Cert.FfnOutIdeal.nD Cert.FfnOutIdeal.τ).loc Cert.FfnOutIdeal.main_arg3)
      ∧ m' ((c.tc : Thread Cert.FfnOutReferenceIdeal.nD Cert.FfnOutReferenceIdeal.τ).loc Cert.FfnOutReferenceIdeal.main_arg4) = m ((c.tc : Thread Cert.FfnOutIdeal.nD Cert.FfnOutIdeal.τ).loc Cert.FfnOutIdeal.main_arg4)
      ∧ m' ((c.tc : Thread Cert.FfnOutReferenceIdeal.nD Cert.FfnOutReferenceIdeal.τ).loc Cert.FfnOutReferenceIdeal.main_arg5) = m ((c.tc : Thread Cert.FfnOutIdeal.nD Cert.FfnOutIdeal.τ).loc Cert.FfnOutIdeal.main_arg5)) →
    ∃ (v0 : (c : Dev Cert.FfnOutIdeal.nD) → Buf (Elt Ideal) ((c.tc : Thread Cert.FfnOutIdeal.nD Cert.FfnOutIdeal.τ).loc Cert.FfnOutIdeal.main_v1_0)) (v1 : (c : Dev Cert.FfnOutIdeal.nD) → Buf (Elt Ideal) ((c.tc : Thread Cert.FfnOutIdeal.nD Cert.FfnOutIdeal.τ).loc Cert.FfnOutIdeal.main_v1_1)) (v2 : (c : Dev Cert.FfnOutIdeal.nD) → Buf (Elt Ideal) ((c.tc : Thread Cert.FfnOutIdeal.nD Cert.FfnOutIdeal.τ).loc Cert.FfnOutIdeal.main_v1_2)) (v3 : (c : Dev Cert.FfnOutIdeal.nD) → Buf (Elt Ideal) ((c.tc : Thread Cert.FfnOutIdeal.nD Cert.FfnOutIdeal.τ).loc Cert.FfnOutIdeal.main_v1_3)) (v4 : (c : Dev Cert.FfnOutIdeal.nD) → Buf (Elt Ideal) ((c.tc : Thread Cert.FfnOutIdeal.nD Cert.FfnOutIdeal.τ).loc Cert.FfnOutIdeal.main_v1_4)) (v5 : (c : Dev Cert.FfnOutIdeal.nD) → Buf (Elt Ideal) ((c.tc : Thread Cert.FfnOutIdeal.nD Cert.FfnOutIdeal.τ).loc Cert.FfnOutIdeal.main_v1_5)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1_0) = v0 c
          ∧ r.2.mem ((c.tc : Thread Cert.FfnOutIdeal.nD Cert.FfnOutIdeal.τ).loc Cert.FfnOutIdeal.main_v1_1) = v1 c
          ∧ r.2.mem ((c.tc : Thread Cert.FfnOutIdeal.nD Cert.FfnOutIdeal.τ).loc Cert.FfnOutIdeal.main_v1_2) = v2 c
          ∧ r.2.mem ((c.tc : Thread Cert.FfnOutIdeal.nD Cert.FfnOutIdeal.τ).loc Cert.FfnOutIdeal.main_v1_3) = v3 c
          ∧ r.2.mem ((c.tc : Thread Cert.FfnOutIdeal.nD Cert.FfnOutIdeal.τ).loc Cert.FfnOutIdeal.main_v1_4) = v4 c
          ∧ r.2.mem ((c.tc : Thread Cert.FfnOutIdeal.nD Cert.FfnOutIdeal.τ).loc Cert.FfnOutIdeal.main_v1_5) = v5 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v6) = v0 c
          ∧ r.2.mem ((c.tc : Thread Cert.FfnOutReferenceIdeal.nD Cert.FfnOutReferenceIdeal.τ).loc Cert.FfnOutReferenceIdeal.main_v21) = v1 c
          ∧ r.2.mem ((c.tc : Thread Cert.FfnOutReferenceIdeal.nD Cert.FfnOutReferenceIdeal.τ).loc Cert.FfnOutReferenceIdeal.main_v13) = v2 c
          ∧ r.2.mem ((c.tc : Thread Cert.FfnOutReferenceIdeal.nD Cert.FfnOutReferenceIdeal.τ).loc Cert.FfnOutReferenceIdeal.main_v28) = v3 c
          ∧ r.2.mem ((c.tc : Thread Cert.FfnOutReferenceIdeal.nD Cert.FfnOutReferenceIdeal.τ).loc Cert.FfnOutReferenceIdeal.main_v14) = v4 c
          ∧ r.2.mem ((c.tc : Thread Cert.FfnOutReferenceIdeal.nD Cert.FfnOutReferenceIdeal.τ).loc Cert.FfnOutReferenceIdeal.main_v29) = v5 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2)
          ∧ r.2.mem ((c.tc : Thread Cert.FfnOutReferenceIdeal.nD Cert.FfnOutReferenceIdeal.τ).loc Cert.FfnOutReferenceIdeal.main_arg3) = m' ((c.tc : Thread Cert.FfnOutReferenceIdeal.nD Cert.FfnOutReferenceIdeal.τ).loc Cert.FfnOutReferenceIdeal.main_arg3)
          ∧ r.2.mem ((c.tc : Thread Cert.FfnOutReferenceIdeal.nD Cert.FfnOutReferenceIdeal.τ).loc Cert.FfnOutReferenceIdeal.main_arg4) = m' ((c.tc : Thread Cert.FfnOutReferenceIdeal.nD Cert.FfnOutReferenceIdeal.τ).loc Cert.FfnOutReferenceIdeal.main_arg4)
          ∧ r.2.mem ((c.tc : Thread Cert.FfnOutReferenceIdeal.nD Cert.FfnOutReferenceIdeal.τ).loc Cert.FfnOutReferenceIdeal.main_arg5) = m' ((c.tc : Thread Cert.FfnOutReferenceIdeal.nD Cert.FfnOutReferenceIdeal.τ).loc Cert.FfnOutReferenceIdeal.main_arg5))

def preserves_OutOdd_OutOddIdeal : Prop :=
  True

def algebraic_OutOddIdeal_OutOddReferenceIdeal [hOutOddIdeal : Cert.OutOddIdeal.Facts] [hOutOddReferenceIdeal : Cert.OutOddReferenceIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddReferenceIdeal.nD Cert.OutOddReferenceIdeal.τ Cert.OutOddReferenceIdeal.sig) → Buf (Elt Ideal) ℓ) (g' : Dev Cert.OutOddReferenceIdeal.nD → PrngReg), Pre_OutOddIdeal m →
    (∀ c : Dev Cert.OutOddIdeal.nD,
      m' ((c.tc : Thread Cert.OutOddReferenceIdeal.nD Cert.OutOddReferenceIdeal.τ).loc Cert.OutOddReferenceIdeal.main_arg0) = m ((c.tc : Thread Cert.OutOddIdeal.nD Cert.OutOddIdeal.τ).loc Cert.OutOddIdeal.main_arg0)
      ∧ m' ((c.tc : Thread Cert.OutOddReferenceIdeal.nD Cert.OutOddReferenceIdeal.τ).loc Cert.OutOddReferenceIdeal.main_arg1) = m ((c.tc : Thread Cert.OutOddIdeal.nD Cert.OutOddIdeal.τ).loc Cert.OutOddIdeal.main_arg1)
      ∧ m' ((c.tc : Thread Cert.OutOddReferenceIdeal.nD Cert.OutOddReferenceIdeal.τ).loc Cert.OutOddReferenceIdeal.main_arg2) = m ((c.tc : Thread Cert.OutOddIdeal.nD Cert.OutOddIdeal.τ).loc Cert.OutOddIdeal.main_arg2)
      ∧ m' ((c.tc : Thread Cert.OutOddReferenceIdeal.nD Cert.OutOddReferenceIdeal.τ).loc Cert.OutOddReferenceIdeal.main_arg3) = m ((c.tc : Thread Cert.OutOddIdeal.nD Cert.OutOddIdeal.τ).loc Cert.OutOddIdeal.main_arg3)
      ∧ m' ((c.tc : Thread Cert.OutOddReferenceIdeal.nD Cert.OutOddReferenceIdeal.τ).loc Cert.OutOddReferenceIdeal.main_arg4) = m ((c.tc : Thread Cert.OutOddIdeal.nD Cert.OutOddIdeal.τ).loc Cert.OutOddIdeal.main_arg4)
      ∧ m' ((c.tc : Thread Cert.OutOddReferenceIdeal.nD Cert.OutOddReferenceIdeal.τ).loc Cert.OutOddReferenceIdeal.main_arg5) = m ((c.tc : Thread Cert.OutOddIdeal.nD Cert.OutOddIdeal.τ).loc Cert.OutOddIdeal.main_arg5)) →
    ∃ (v0 : (c : Dev Cert.OutOddIdeal.nD) → Buf (Elt Ideal) ((c.tc : Thread Cert.OutOddIdeal.nD Cert.OutOddIdeal.τ).loc Cert.OutOddIdeal.main_v1_0)) (v1 : (c : Dev Cert.OutOddIdeal.nD) → Buf (Elt Ideal) ((c.tc : Thread Cert.OutOddIdeal.nD Cert.OutOddIdeal.τ).loc Cert.OutOddIdeal.main_v1_1)) (v2 : (c : Dev Cert.OutOddIdeal.nD) → Buf (Elt Ideal) ((c.tc : Thread Cert.OutOddIdeal.nD Cert.OutOddIdeal.τ).loc Cert.OutOddIdeal.main_v1_2)) (v3 : (c : Dev Cert.OutOddIdeal.nD) → Buf (Elt Ideal) ((c.tc : Thread Cert.OutOddIdeal.nD Cert.OutOddIdeal.τ).loc Cert.OutOddIdeal.main_v1_3)) (v4 : (c : Dev Cert.OutOddIdeal.nD) → Buf (Elt Ideal) ((c.tc : Thread Cert.OutOddIdeal.nD Cert.OutOddIdeal.τ).loc Cert.OutOddIdeal.main_v1_4)) (v5 : (c : Dev Cert.OutOddIdeal.nD) → Buf (Elt Ideal) ((c.tc : Thread Cert.OutOddIdeal.nD Cert.OutOddIdeal.τ).loc Cert.OutOddIdeal.main_v1_5)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1_0) = v0 c
          ∧ r.2.mem ((c.tc : Thread Cert.OutOddIdeal.nD Cert.OutOddIdeal.τ).loc Cert.OutOddIdeal.main_v1_1) = v1 c
          ∧ r.2.mem ((c.tc : Thread Cert.OutOddIdeal.nD Cert.OutOddIdeal.τ).loc Cert.OutOddIdeal.main_v1_2) = v2 c
          ∧ r.2.mem ((c.tc : Thread Cert.OutOddIdeal.nD Cert.OutOddIdeal.τ).loc Cert.OutOddIdeal.main_v1_3) = v3 c
          ∧ r.2.mem ((c.tc : Thread Cert.OutOddIdeal.nD Cert.OutOddIdeal.τ).loc Cert.OutOddIdeal.main_v1_4) = v4 c
          ∧ r.2.mem ((c.tc : Thread Cert.OutOddIdeal.nD Cert.OutOddIdeal.τ).loc Cert.OutOddIdeal.main_v1_5) = v5 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ θ_run (Cert.OutOddReferenceIdeal.defs (F := Ideal)) (onTc (τ := Cert.OutOddReferenceIdeal.τ) (Cert.OutOddReferenceIdeal.main (F := Ideal))) ⟨m', fun _ => 0, g'⟩ (fun r => ∀ c : Dev Cert.OutOddReferenceIdeal.nD,
          r.2.mem ((c.tc : Thread Cert.OutOddReferenceIdeal.nD Cert.OutOddReferenceIdeal.τ).loc Cert.OutOddReferenceIdeal.main_v6) = v0 c
          ∧ r.2.mem ((c.tc : Thread Cert.OutOddReferenceIdeal.nD Cert.OutOddReferenceIdeal.τ).loc Cert.OutOddReferenceIdeal.main_v21) = v1 c
          ∧ r.2.mem ((c.tc : Thread Cert.OutOddReferenceIdeal.nD Cert.OutOddReferenceIdeal.τ).loc Cert.OutOddReferenceIdeal.main_v13) = v2 c
          ∧ r.2.mem ((c.tc : Thread Cert.OutOddReferenceIdeal.nD Cert.OutOddReferenceIdeal.τ).loc Cert.OutOddReferenceIdeal.main_v28) = v3 c
          ∧ r.2.mem ((c.tc : Thread Cert.OutOddReferenceIdeal.nD Cert.OutOddReferenceIdeal.τ).loc Cert.OutOddReferenceIdeal.main_v14) = v4 c
          ∧ r.2.mem ((c.tc : Thread Cert.OutOddReferenceIdeal.nD Cert.OutOddReferenceIdeal.τ).loc Cert.OutOddReferenceIdeal.main_v29) = v5 c
          ∧ r.2.mem ((c.tc : Thread Cert.OutOddReferenceIdeal.nD Cert.OutOddReferenceIdeal.τ).loc Cert.OutOddReferenceIdeal.main_arg0) = m' ((c.tc : Thread Cert.OutOddReferenceIdeal.nD Cert.OutOddReferenceIdeal.τ).loc Cert.OutOddReferenceIdeal.main_arg0)
          ∧ r.2.mem ((c.tc : Thread Cert.OutOddReferenceIdeal.nD Cert.OutOddReferenceIdeal.τ).loc Cert.OutOddReferenceIdeal.main_arg1) = m' ((c.tc : Thread Cert.OutOddReferenceIdeal.nD Cert.OutOddReferenceIdeal.τ).loc Cert.OutOddReferenceIdeal.main_arg1)
          ∧ r.2.mem ((c.tc : Thread Cert.OutOddReferenceIdeal.nD Cert.OutOddReferenceIdeal.τ).loc Cert.OutOddReferenceIdeal.main_arg2) = m' ((c.tc : Thread Cert.OutOddReferenceIdeal.nD Cert.OutOddReferenceIdeal.τ).loc Cert.OutOddReferenceIdeal.main_arg2)
          ∧ r.2.mem ((c.tc : Thread Cert.OutOddReferenceIdeal.nD Cert.OutOddReferenceIdeal.τ).loc Cert.OutOddReferenceIdeal.main_arg3) = m' ((c.tc : Thread Cert.OutOddReferenceIdeal.nD Cert.OutOddReferenceIdeal.τ).loc Cert.OutOddReferenceIdeal.main_arg3)
          ∧ r.2.mem ((c.tc : Thread Cert.OutOddReferenceIdeal.nD Cert.OutOddReferenceIdeal.τ).loc Cert.OutOddReferenceIdeal.main_arg4) = m' ((c.tc : Thread Cert.OutOddReferenceIdeal.nD Cert.OutOddReferenceIdeal.τ).loc Cert.OutOddReferenceIdeal.main_arg4)
          ∧ r.2.mem ((c.tc : Thread Cert.OutOddReferenceIdeal.nD Cert.OutOddReferenceIdeal.τ).loc Cert.OutOddReferenceIdeal.main_arg5) = m' ((c.tc : Thread Cert.OutOddReferenceIdeal.nD Cert.OutOddReferenceIdeal.τ).loc Cert.OutOddReferenceIdeal.main_arg5))

def preserves_OutEven_OutEvenIdeal : Prop :=
  True

def algebraic_OutEvenIdeal_OutEvenReferenceIdeal [hOutEvenIdeal : Cert.OutEvenIdeal.Facts] [hOutEvenReferenceIdeal : Cert.OutEvenReferenceIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenReferenceIdeal.nD Cert.OutEvenReferenceIdeal.τ Cert.OutEvenReferenceIdeal.sig) → Buf (Elt Ideal) ℓ) (g' : Dev Cert.OutEvenReferenceIdeal.nD → PrngReg), Pre_OutEvenIdeal m →
    (∀ c : Dev Cert.OutEvenIdeal.nD,
      m' ((c.tc : Thread Cert.OutEvenReferenceIdeal.nD Cert.OutEvenReferenceIdeal.τ).loc Cert.OutEvenReferenceIdeal.main_arg0) = m ((c.tc : Thread Cert.OutEvenIdeal.nD Cert.OutEvenIdeal.τ).loc Cert.OutEvenIdeal.main_arg0)
      ∧ m' ((c.tc : Thread Cert.OutEvenReferenceIdeal.nD Cert.OutEvenReferenceIdeal.τ).loc Cert.OutEvenReferenceIdeal.main_arg1) = m ((c.tc : Thread Cert.OutEvenIdeal.nD Cert.OutEvenIdeal.τ).loc Cert.OutEvenIdeal.main_arg1)
      ∧ m' ((c.tc : Thread Cert.OutEvenReferenceIdeal.nD Cert.OutEvenReferenceIdeal.τ).loc Cert.OutEvenReferenceIdeal.main_arg2) = m ((c.tc : Thread Cert.OutEvenIdeal.nD Cert.OutEvenIdeal.τ).loc Cert.OutEvenIdeal.main_arg2)
      ∧ m' ((c.tc : Thread Cert.OutEvenReferenceIdeal.nD Cert.OutEvenReferenceIdeal.τ).loc Cert.OutEvenReferenceIdeal.main_arg3) = m ((c.tc : Thread Cert.OutEvenIdeal.nD Cert.OutEvenIdeal.τ).loc Cert.OutEvenIdeal.main_arg3)
      ∧ m' ((c.tc : Thread Cert.OutEvenReferenceIdeal.nD Cert.OutEvenReferenceIdeal.τ).loc Cert.OutEvenReferenceIdeal.main_arg4) = m ((c.tc : Thread Cert.OutEvenIdeal.nD Cert.OutEvenIdeal.τ).loc Cert.OutEvenIdeal.main_arg4)
      ∧ m' ((c.tc : Thread Cert.OutEvenReferenceIdeal.nD Cert.OutEvenReferenceIdeal.τ).loc Cert.OutEvenReferenceIdeal.main_arg5) = m ((c.tc : Thread Cert.OutEvenIdeal.nD Cert.OutEvenIdeal.τ).loc Cert.OutEvenIdeal.main_arg5)
      ∧ m' ((c.tc : Thread Cert.OutEvenReferenceIdeal.nD Cert.OutEvenReferenceIdeal.τ).loc Cert.OutEvenReferenceIdeal.main_arg6) = m ((c.tc : Thread Cert.OutEvenIdeal.nD Cert.OutEvenIdeal.τ).loc Cert.OutEvenIdeal.main_arg6)
      ∧ m' ((c.tc : Thread Cert.OutEvenReferenceIdeal.nD Cert.OutEvenReferenceIdeal.τ).loc Cert.OutEvenReferenceIdeal.main_arg7) = m ((c.tc : Thread Cert.OutEvenIdeal.nD Cert.OutEvenIdeal.τ).loc Cert.OutEvenIdeal.main_arg7)) →
    ∃ (v0 : (c : Dev Cert.OutEvenIdeal.nD) → Buf (Elt Ideal) ((c.tc : Thread Cert.OutEvenIdeal.nD Cert.OutEvenIdeal.τ).loc Cert.OutEvenIdeal.main_v1_0)) (v1 : (c : Dev Cert.OutEvenIdeal.nD) → Buf (Elt Ideal) ((c.tc : Thread Cert.OutEvenIdeal.nD Cert.OutEvenIdeal.τ).loc Cert.OutEvenIdeal.main_v1_1)) (v2 : (c : Dev Cert.OutEvenIdeal.nD) → Buf (Elt Ideal) ((c.tc : Thread Cert.OutEvenIdeal.nD Cert.OutEvenIdeal.τ).loc Cert.OutEvenIdeal.main_v1_2)) (v3 : (c : Dev Cert.OutEvenIdeal.nD) → Buf (Elt Ideal) ((c.tc : Thread Cert.OutEvenIdeal.nD Cert.OutEvenIdeal.τ).loc Cert.OutEvenIdeal.main_v1_3)) (v4 : (c : Dev Cert.OutEvenIdeal.nD) → Buf (Elt Ideal) ((c.tc : Thread Cert.OutEvenIdeal.nD Cert.OutEvenIdeal.τ).loc Cert.OutEvenIdeal.main_v1_4)) (v5 : (c : Dev Cert.OutEvenIdeal.nD) → Buf (Elt Ideal) ((c.tc : Thread Cert.OutEvenIdeal.nD Cert.OutEvenIdeal.τ).loc Cert.OutEvenIdeal.main_v1_5)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v1_0) = v0 c
          ∧ r.2.mem ((c.tc : Thread Cert.OutEvenIdeal.nD Cert.OutEvenIdeal.τ).loc Cert.OutEvenIdeal.main_v1_1) = v1 c
          ∧ r.2.mem ((c.tc : Thread Cert.OutEvenIdeal.nD Cert.OutEvenIdeal.τ).loc Cert.OutEvenIdeal.main_v1_2) = v2 c
          ∧ r.2.mem ((c.tc : Thread Cert.OutEvenIdeal.nD Cert.OutEvenIdeal.τ).loc Cert.OutEvenIdeal.main_v1_3) = v3 c
          ∧ r.2.mem ((c.tc : Thread Cert.OutEvenIdeal.nD Cert.OutEvenIdeal.τ).loc Cert.OutEvenIdeal.main_v1_4) = v4 c
          ∧ r.2.mem ((c.tc : Thread Cert.OutEvenIdeal.nD Cert.OutEvenIdeal.τ).loc Cert.OutEvenIdeal.main_v1_5) = v5 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
          ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7))
      ∧ θ_run (Cert.OutEvenReferenceIdeal.defs (F := Ideal)) (onTc (τ := Cert.OutEvenReferenceIdeal.τ) (Cert.OutEvenReferenceIdeal.main (F := Ideal))) ⟨m', fun _ => 0, g'⟩ (fun r => ∀ c : Dev Cert.OutEvenReferenceIdeal.nD,
          r.2.mem ((c.tc : Thread Cert.OutEvenReferenceIdeal.nD Cert.OutEvenReferenceIdeal.τ).loc Cert.OutEvenReferenceIdeal.main_v7) = v0 c
          ∧ r.2.mem ((c.tc : Thread Cert.OutEvenReferenceIdeal.nD Cert.OutEvenReferenceIdeal.τ).loc Cert.OutEvenReferenceIdeal.main_v23) = v1 c
          ∧ r.2.mem ((c.tc : Thread Cert.OutEvenReferenceIdeal.nD Cert.OutEvenReferenceIdeal.τ).loc Cert.OutEvenReferenceIdeal.main_v14) = v2 c
          ∧ r.2.mem ((c.tc : Thread Cert.OutEvenReferenceIdeal.nD Cert.OutEvenReferenceIdeal.τ).loc Cert.OutEvenReferenceIdeal.main_v30) = v3 c
          ∧ r.2.mem ((c.tc : Thread Cert.OutEvenReferenceIdeal.nD Cert.OutEvenReferenceIdeal.τ).loc Cert.OutEvenReferenceIdeal.main_v15) = v4 c
          ∧ r.2.mem ((c.tc : Thread Cert.OutEvenReferenceIdeal.nD Cert.OutEvenReferenceIdeal.τ).loc Cert.OutEvenReferenceIdeal.main_v31) = v5 c
          ∧ r.2.mem ((c.tc : Thread Cert.OutEvenReferenceIdeal.nD Cert.OutEvenReferenceIdeal.τ).loc Cert.OutEvenReferenceIdeal.main_arg0) = m' ((c.tc : Thread Cert.OutEvenReferenceIdeal.nD Cert.OutEvenReferenceIdeal.τ).loc Cert.OutEvenReferenceIdeal.main_arg0)
          ∧ r.2.mem ((c.tc : Thread Cert.OutEvenReferenceIdeal.nD Cert.OutEvenReferenceIdeal.τ).loc Cert.OutEvenReferenceIdeal.main_arg1) = m' ((c.tc : Thread Cert.OutEvenReferenceIdeal.nD Cert.OutEvenReferenceIdeal.τ).loc Cert.OutEvenReferenceIdeal.main_arg1)
          ∧ r.2.mem ((c.tc : Thread Cert.OutEvenReferenceIdeal.nD Cert.OutEvenReferenceIdeal.τ).loc Cert.OutEvenReferenceIdeal.main_arg2) = m' ((c.tc : Thread Cert.OutEvenReferenceIdeal.nD Cert.OutEvenReferenceIdeal.τ).loc Cert.OutEvenReferenceIdeal.main_arg2)
          ∧ r.2.mem ((c.tc : Thread Cert.OutEvenReferenceIdeal.nD Cert.OutEvenReferenceIdeal.τ).loc Cert.OutEvenReferenceIdeal.main_arg3) = m' ((c.tc : Thread Cert.OutEvenReferenceIdeal.nD Cert.OutEvenReferenceIdeal.τ).loc Cert.OutEvenReferenceIdeal.main_arg3)
          ∧ r.2.mem ((c.tc : Thread Cert.OutEvenReferenceIdeal.nD Cert.OutEvenReferenceIdeal.τ).loc Cert.OutEvenReferenceIdeal.main_arg4) = m' ((c.tc : Thread Cert.OutEvenReferenceIdeal.nD Cert.OutEvenReferenceIdeal.τ).loc Cert.OutEvenReferenceIdeal.main_arg4)
          ∧ r.2.mem ((c.tc : Thread Cert.OutEvenReferenceIdeal.nD Cert.OutEvenReferenceIdeal.τ).loc Cert.OutEvenReferenceIdeal.main_arg5) = m' ((c.tc : Thread Cert.OutEvenReferenceIdeal.nD Cert.OutEvenReferenceIdeal.τ).loc Cert.OutEvenReferenceIdeal.main_arg5)
          ∧ r.2.mem ((c.tc : Thread Cert.OutEvenReferenceIdeal.nD Cert.OutEvenReferenceIdeal.τ).loc Cert.OutEvenReferenceIdeal.main_arg6) = m' ((c.tc : Thread Cert.OutEvenReferenceIdeal.nD Cert.OutEvenReferenceIdeal.τ).loc Cert.OutEvenReferenceIdeal.main_arg6)
          ∧ r.2.mem ((c.tc : Thread Cert.OutEvenReferenceIdeal.nD Cert.OutEvenReferenceIdeal.τ).loc Cert.OutEvenReferenceIdeal.main_arg7) = m' ((c.tc : Thread Cert.OutEvenReferenceIdeal.nD Cert.OutEvenReferenceIdeal.τ).loc Cert.OutEvenReferenceIdeal.main_arg7))

def preserves_FfnLast_FfnLastIdeal : Prop :=
  True

def algebraic_FfnLastIdeal_FfnLastReferenceIdeal [hFfnLastIdeal : Cert.FfnLastIdeal.Facts] [hFfnLastReferenceIdeal : Cert.FfnLastReferenceIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastReferenceIdeal.nD Cert.FfnLastReferenceIdeal.τ Cert.FfnLastReferenceIdeal.sig) → Buf (Elt Ideal) ℓ) (g' : Dev Cert.FfnLastReferenceIdeal.nD → PrngReg), Pre_FfnLastIdeal m →
    (∀ c : Dev Cert.FfnLastIdeal.nD,
      m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0)
      ∧ m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1)
      ∧ m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2)
      ∧ m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3)
      ∧ m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v0_0)) (v1 : (c : Dev Cert.FfnLastIdeal.nD) → Buf (Elt Ideal) ((c.tc : Thread Cert.FfnLastIdeal.nD Cert.FfnLastIdeal.τ).loc Cert.FfnLastIdeal.main_v0_1)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v0_0) = v0 c
          ∧ r.2.mem ((c.tc : Thread Cert.FfnLastIdeal.nD Cert.FfnLastIdeal.τ).loc Cert.FfnLastIdeal.main_v0_1) = v1 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastReferenceIdeal.defs (F := Ideal)) (onTc (τ := Cert.FfnLastReferenceIdeal.τ) (Cert.FfnLastReferenceIdeal.main (F := Ideal))) ⟨m', fun _ => 0, g'⟩ (fun r => ∀ c : Dev Cert.FfnLastReferenceIdeal.nD,
          r.2.mem ((c.tc : Thread Cert.FfnLastReferenceIdeal.nD Cert.FfnLastReferenceIdeal.τ).loc Cert.FfnLastReferenceIdeal.main_v4) = v0 c
          ∧ r.2.mem ((c.tc : Thread Cert.FfnLastReferenceIdeal.nD Cert.FfnLastReferenceIdeal.τ).loc Cert.FfnLastReferenceIdeal.main_v9) = v1 c
          ∧ r.2.mem ((c.tc : Thread Cert.FfnLastReferenceIdeal.nD Cert.FfnLastReferenceIdeal.τ).loc Cert.FfnLastReferenceIdeal.main_arg0) = m' ((c.tc : Thread Cert.FfnLastReferenceIdeal.nD Cert.FfnLastReferenceIdeal.τ).loc Cert.FfnLastReferenceIdeal.main_arg0)
          ∧ r.2.mem ((c.tc : Thread Cert.FfnLastReferenceIdeal.nD Cert.FfnLastReferenceIdeal.τ).loc Cert.FfnLastReferenceIdeal.main_arg1) = m' ((c.tc : Thread Cert.FfnLastReferenceIdeal.nD Cert.FfnLastReferenceIdeal.τ).loc Cert.FfnLastReferenceIdeal.main_arg1)
          ∧ r.2.mem ((c.tc : Thread Cert.FfnLastReferenceIdeal.nD Cert.FfnLastReferenceIdeal.τ).loc Cert.FfnLastReferenceIdeal.main_arg2) = m' ((c.tc : Thread Cert.FfnLastReferenceIdeal.nD Cert.FfnLastReferenceIdeal.τ).loc Cert.FfnLastReferenceIdeal.main_arg2)
          ∧ r.2.mem ((c.tc : Thread Cert.FfnLastReferenceIdeal.nD Cert.FfnLastReferenceIdeal.τ).loc Cert.FfnLastReferenceIdeal.main_arg3) = m' ((c.tc : Thread Cert.FfnLastReferenceIdeal.nD Cert.FfnLastReferenceIdeal.τ).loc Cert.FfnLastReferenceIdeal.main_arg3)
          ∧ r.2.mem ((c.tc : Thread Cert.FfnLastReferenceIdeal.nD Cert.FfnLastReferenceIdeal.τ).loc Cert.FfnLastReferenceIdeal.main_arg4) = m' ((c.tc : Thread Cert.FfnLastReferenceIdeal.nD Cert.FfnLastReferenceIdeal.τ).loc Cert.FfnLastReferenceIdeal.main_arg4))

def preserves_NormPrompt_NormPromptIdeal : Prop :=
  True

def algebraic_NormPromptIdeal_NormPromptReferenceIdeal [hNormPromptIdeal : Cert.NormPromptIdeal.Facts] [hNormPromptReferenceIdeal : Cert.NormPromptReferenceIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptReferenceIdeal.nD Cert.NormPromptReferenceIdeal.τ Cert.NormPromptReferenceIdeal.sig) → Buf (Elt Ideal) ℓ) (g' : Dev Cert.NormPromptReferenceIdeal.nD → PrngReg), Pre_NormPromptIdeal m →
    (∀ c : Dev Cert.NormPromptIdeal.nD,
      m' ((c.tc : Thread Cert.NormPromptReferenceIdeal.nD Cert.NormPromptReferenceIdeal.τ).loc Cert.NormPromptReferenceIdeal.main_arg0) = m ((c.tc : Thread Cert.NormPromptIdeal.nD Cert.NormPromptIdeal.τ).loc Cert.NormPromptIdeal.main_arg0)
      ∧ m' ((c.tc : Thread Cert.NormPromptReferenceIdeal.nD Cert.NormPromptReferenceIdeal.τ).loc Cert.NormPromptReferenceIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v2)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v2) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptReferenceIdeal.defs (F := Ideal)) (onTc (τ := Cert.NormPromptReferenceIdeal.τ) (Cert.NormPromptReferenceIdeal.main (F := Ideal))) ⟨m', fun _ => 0, g'⟩ (fun r => ∀ c : Dev Cert.NormPromptReferenceIdeal.nD,
          r.2.mem ((c.tc : Thread Cert.NormPromptReferenceIdeal.nD Cert.NormPromptReferenceIdeal.τ).loc Cert.NormPromptReferenceIdeal.main_v12) = v0 c
          ∧ r.2.mem ((c.tc : Thread Cert.NormPromptReferenceIdeal.nD Cert.NormPromptReferenceIdeal.τ).loc Cert.NormPromptReferenceIdeal.main_arg0) = m' ((c.tc : Thread Cert.NormPromptReferenceIdeal.nD Cert.NormPromptReferenceIdeal.τ).loc Cert.NormPromptReferenceIdeal.main_arg0)
          ∧ r.2.mem ((c.tc : Thread Cert.NormPromptReferenceIdeal.nD Cert.NormPromptReferenceIdeal.τ).loc Cert.NormPromptReferenceIdeal.main_arg1) = m' ((c.tc : Thread Cert.NormPromptReferenceIdeal.nD Cert.NormPromptReferenceIdeal.τ).loc Cert.NormPromptReferenceIdeal.main_arg1))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v2)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v2) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v12) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_InFirst_InFirstIdeal : Prop :=
  True

def algebraic_InFirstIdeal_InFirstReferenceIdeal_pre_in_first_squares [hInFirstIdeal : Cert.InFirstIdeal.Facts] [hInFirstReferenceIdeal : Cert.InFirstReferenceIdeal.Facts] [hPre_in_first_squares : Cert.Pre_in_first_squares.Facts] : Prop :=
  ∀ (m : (ℓ : Loc Cert.InFirstIdeal.nD Cert.InFirstIdeal.τ Cert.InFirstIdeal.sig) → Buf (Elt Ideal) ℓ) (g : Dev Cert.InFirstIdeal.nD → PrngReg)
    (m' : (ℓ : Loc Cert.InFirstReferenceIdeal.nD Cert.InFirstReferenceIdeal.τ Cert.InFirstReferenceIdeal.sig) → Buf (Elt Ideal) ℓ) (g' : Dev Cert.InFirstReferenceIdeal.nD → PrngReg), Pre_InFirstIdeal_in_first_squares m →
    (∀ c : Dev Cert.InFirstIdeal.nD,
      m' ((c.tc : Thread Cert.InFirstReferenceIdeal.nD Cert.InFirstReferenceIdeal.τ).loc Cert.InFirstReferenceIdeal.main_arg0) = m ((c.tc : Thread Cert.InFirstIdeal.nD Cert.InFirstIdeal.τ).loc Cert.InFirstIdeal.main_arg0)
      ∧ m' ((c.tc : Thread Cert.InFirstReferenceIdeal.nD Cert.InFirstReferenceIdeal.τ).loc Cert.InFirstReferenceIdeal.main_arg1) = m ((c.tc : Thread Cert.InFirstIdeal.nD Cert.InFirstIdeal.τ).loc Cert.InFirstIdeal.main_arg1)
      ∧ m' ((c.tc : Thread Cert.InFirstReferenceIdeal.nD Cert.InFirstReferenceIdeal.τ).loc Cert.InFirstReferenceIdeal.main_arg2) = m ((c.tc : Thread Cert.InFirstIdeal.nD Cert.InFirstIdeal.τ).loc Cert.InFirstIdeal.main_arg2)
      ∧ m' ((c.tc : Thread Cert.InFirstReferenceIdeal.nD Cert.InFirstReferenceIdeal.τ).loc Cert.InFirstReferenceIdeal.main_arg3) = m ((c.tc : Thread Cert.InFirstIdeal.nD Cert.InFirstIdeal.τ).loc Cert.InFirstIdeal.main_arg3)
      ∧ m' ((c.tc : Thread Cert.InFirstReferenceIdeal.nD Cert.InFirstReferenceIdeal.τ).loc Cert.InFirstReferenceIdeal.main_arg4) = m ((c.tc : Thread Cert.InFirstIdeal.nD Cert.InFirstIdeal.τ).loc Cert.InFirstIdeal.main_arg4)) →
    ∃ (v0 : (c : Dev Cert.InFirstIdeal.nD) → Buf (Elt Ideal) ((c.tc : Thread Cert.InFirstIdeal.nD Cert.InFirstIdeal.τ).loc Cert.InFirstIdeal.main_v0_0)) (v1 : (c : Dev Cert.InFirstIdeal.nD) → Buf (Elt Ideal) ((c.tc : Thread Cert.InFirstIdeal.nD Cert.InFirstIdeal.τ).loc Cert.InFirstIdeal.main_v0_1)),
      θ_run (Cert.InFirstIdeal.defs (F := Ideal)) (onTc (τ := Cert.InFirstIdeal.τ) (Cert.InFirstIdeal.main (F := Ideal))) ⟨m, fun _ => 0, g⟩ (fun r => ∀ c : Dev Cert.InFirstIdeal.nD,
          r.2.mem ((c.tc : Thread Cert.InFirstIdeal.nD Cert.InFirstIdeal.τ).loc Cert.InFirstIdeal.main_v0_0) = v0 c
          ∧ r.2.mem ((c.tc : Thread Cert.InFirstIdeal.nD Cert.InFirstIdeal.τ).loc Cert.InFirstIdeal.main_v0_1) = v1 c
          ∧ r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
          ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
          ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
          ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3)
          ∧ r.2.mem ((c.tc : Thread Cert.InFirstIdeal.nD Cert.InFirstIdeal.τ).loc Cert.InFirstIdeal.main_arg4) = m ((c.tc : Thread Cert.InFirstIdeal.nD Cert.InFirstIdeal.τ).loc Cert.InFirstIdeal.main_arg4))
      ∧ θ_run (Cert.InFirstReferenceIdeal.defs (F := Ideal)) (onTc (τ := Cert.InFirstReferenceIdeal.τ) (Cert.InFirstReferenceIdeal.main (F := Ideal))) ⟨m', fun _ => 0, g'⟩ (fun r => ∀ c : Dev Cert.InFirstReferenceIdeal.nD,
          r.2.mem ((c.tc : Thread Cert.InFirstReferenceIdeal.nD Cert.InFirstReferenceIdeal.τ).loc Cert.InFirstReferenceIdeal.main_v12) = v0 c
          ∧ r.2.mem ((c.tc : Thread Cert.InFirstReferenceIdeal.nD Cert.InFirstReferenceIdeal.τ).loc Cert.InFirstReferenceIdeal.main_v25) = v1 c
          ∧ r.2.mem ((c.tc : Thread Cert.InFirstReferenceIdeal.nD Cert.InFirstReferenceIdeal.τ).loc Cert.InFirstReferenceIdeal.main_arg0) = m' ((c.tc : Thread Cert.InFirstReferenceIdeal.nD Cert.InFirstReferenceIdeal.τ).loc Cert.InFirstReferenceIdeal.main_arg0)
          ∧ r.2.mem ((c.tc : Thread Cert.InFirstReferenceIdeal.nD Cert.InFirstReferenceIdeal.τ).loc Cert.InFirstReferenceIdeal.main_arg1) = m' ((c.tc : Thread Cert.InFirstReferenceIdeal.nD Cert.InFirstReferenceIdeal.τ).loc Cert.InFirstReferenceIdeal.main_arg1)
          ∧ r.2.mem ((c.tc : Thread Cert.InFirstReferenceIdeal.nD Cert.InFirstReferenceIdeal.τ).loc Cert.InFirstReferenceIdeal.main_arg2) = m' ((c.tc : Thread Cert.InFirstReferenceIdeal.nD Cert.InFirstReferenceIdeal.τ).loc Cert.InFirstReferenceIdeal.main_arg2)
          ∧ r.2.mem ((c.tc : Thread Cert.InFirstReferenceIdeal.nD Cert.InFirstReferenceIdeal.τ).loc Cert.InFirstReferenceIdeal.main_arg3) = m' ((c.tc : Thread Cert.InFirstReferenceIdeal.nD Cert.InFirstReferenceIdeal.τ).loc Cert.InFirstReferenceIdeal.main_arg3)
          ∧ r.2.mem ((c.tc : Thread Cert.InFirstReferenceIdeal.nD Cert.InFirstReferenceIdeal.τ).loc Cert.InFirstReferenceIdeal.main_arg4) = m' ((c.tc : Thread Cert.InFirstReferenceIdeal.nD Cert.InFirstReferenceIdeal.τ).loc Cert.InFirstReferenceIdeal.main_arg4))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInReferenceIdeal : Cert.FfnInReferenceIdeal.Facts) (hInOdd : Cert.InOdd.Facts) (hInOddIdeal : Cert.InOddIdeal.Facts) (hInOddReferenceIdeal : Cert.InOddReferenceIdeal.Facts) (hInEven : Cert.InEven.Facts) (hInEvenIdeal : Cert.InEvenIdeal.Facts) (hInEvenReferenceIdeal : Cert.InEvenReferenceIdeal.Facts) (hFfnOut : Cert.FfnOut.Facts) (hFfnOutIdeal : Cert.FfnOutIdeal.Facts) (hFfnOutReferenceIdeal : Cert.FfnOutReferenceIdeal.Facts) (hOutOdd : Cert.OutOdd.Facts) (hOutOddIdeal : Cert.OutOddIdeal.Facts) (hOutOddReferenceIdeal : Cert.OutOddReferenceIdeal.Facts) (hOutEven : Cert.OutEven.Facts) (hOutEvenIdeal : Cert.OutEvenIdeal.Facts) (hOutEvenReferenceIdeal : Cert.OutEvenReferenceIdeal.Facts) (hFfnLast : Cert.FfnLast.Facts) (hFfnLastIdeal : Cert.FfnLastIdeal.Facts) (hFfnLastReferenceIdeal : Cert.FfnLastReferenceIdeal.Facts) (hNormPrompt : Cert.NormPrompt.Facts) (hNormPromptIdeal : Cert.NormPromptIdeal.Facts) (hNormPromptReferenceIdeal : Cert.NormPromptReferenceIdeal.Facts) (hNormSample : Cert.NormSample.Facts) (hNormSampleIdeal : Cert.NormSampleIdeal.Facts) (hNormSampleReferenceIdeal : Cert.NormSampleReferenceIdeal.Facts) (hInFirst : Cert.InFirst.Facts) (hInFirstIdeal : Cert.InFirstIdeal.Facts) (hInFirstReferenceIdeal : Cert.InFirstReferenceIdeal.Facts) (hPre_finite : Cert.Pre_finite.Facts) (hPre_ffn_in_squares : Cert.Pre_ffn_in_squares.Facts) (hPre_in_odd_squares : Cert.Pre_in_odd_squares.Facts) (hPre_in_even_squares : Cert.Pre_in_even_squares.Facts) (hPre_in_first_squares : Cert.Pre_in_first_squares.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInIdeal_pre_ffn_in_squares (hFfnInIdeal := hFfnInIdeal) (hPre_ffn_in_squares := hPre_ffn_in_squares)
    ∧ quiescent_FfnInReferenceIdeal (hFfnInReferenceIdeal := hFfnInReferenceIdeal)
    ∧ quiescent_FfnInReferenceIdeal_pre_ffn_in_squares (hFfnInReferenceIdeal := hFfnInReferenceIdeal) (hPre_ffn_in_squares := hPre_ffn_in_squares)
    ∧ quiescent_InOdd (hInOdd := hInOdd)
    ∧ quiescent_InOddIdeal (hInOddIdeal := hInOddIdeal)
    ∧ quiescent_InOddIdeal_pre_in_odd_squares (hInOddIdeal := hInOddIdeal) (hPre_in_odd_squares := hPre_in_odd_squares)
    ∧ quiescent_InOddReferenceIdeal (hInOddReferenceIdeal := hInOddReferenceIdeal)
    ∧ quiescent_InOddReferenceIdeal_pre_in_odd_squares (hInOddReferenceIdeal := hInOddReferenceIdeal) (hPre_in_odd_squares := hPre_in_odd_squares)
    ∧ quiescent_InEven (hInEven := hInEven)
    ∧ quiescent_InEvenIdeal (hInEvenIdeal := hInEvenIdeal)
    ∧ quiescent_InEvenIdeal_pre_in_even_squares (hInEvenIdeal := hInEvenIdeal) (hPre_in_even_squares := hPre_in_even_squares)
    ∧ quiescent_InEvenReferenceIdeal (hInEvenReferenceIdeal := hInEvenReferenceIdeal)
    ∧ quiescent_InEvenReferenceIdeal_pre_in_even_squares (hInEvenReferenceIdeal := hInEvenReferenceIdeal) (hPre_in_even_squares := hPre_in_even_squares)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_OutOdd (hOutOdd := hOutOdd)
    ∧ quiescent_OutOddIdeal (hOutOddIdeal := hOutOddIdeal)
    ∧ quiescent_OutOddReferenceIdeal (hOutOddReferenceIdeal := hOutOddReferenceIdeal)
    ∧ quiescent_OutEven (hOutEven := hOutEven)
    ∧ quiescent_OutEvenIdeal (hOutEvenIdeal := hOutEvenIdeal)
    ∧ quiescent_OutEvenReferenceIdeal (hOutEvenReferenceIdeal := hOutEvenReferenceIdeal)
    ∧ quiescent_FfnLast (hFfnLast := hFfnLast)
    ∧ quiescent_FfnLastIdeal (hFfnLastIdeal := hFfnLastIdeal)
    ∧ quiescent_FfnLastReferenceIdeal (hFfnLastReferenceIdeal := hFfnLastReferenceIdeal)
    ∧ quiescent_NormPrompt (hNormPrompt := hNormPrompt)
    ∧ quiescent_NormPromptIdeal (hNormPromptIdeal := hNormPromptIdeal)
    ∧ quiescent_NormPromptReferenceIdeal (hNormPromptReferenceIdeal := hNormPromptReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_InFirst (hInFirst := hInFirst)
    ∧ quiescent_InFirstIdeal (hInFirstIdeal := hInFirstIdeal)
    ∧ quiescent_InFirstIdeal_pre_in_first_squares (hInFirstIdeal := hInFirstIdeal) (hPre_in_first_squares := hPre_in_first_squares)
    ∧ quiescent_InFirstReferenceIdeal (hInFirstReferenceIdeal := hInFirstReferenceIdeal)
    ∧ quiescent_InFirstReferenceIdeal_pre_in_first_squares (hInFirstReferenceIdeal := hInFirstReferenceIdeal) (hPre_in_first_squares := hPre_in_first_squares)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInReferenceIdeal_pre_ffn_in_squares (hFfnInIdeal := hFfnInIdeal) (hFfnInReferenceIdeal := hFfnInReferenceIdeal) (hPre_ffn_in_squares := hPre_ffn_in_squares)
    ∧ preserves_InOdd_InOddIdeal
    ∧ algebraic_InOddIdeal_InOddReferenceIdeal_pre_in_odd_squares (hInOddIdeal := hInOddIdeal) (hInOddReferenceIdeal := hInOddReferenceIdeal) (hPre_in_odd_squares := hPre_in_odd_squares)
    ∧ preserves_InEven_InEvenIdeal
    ∧ algebraic_InEvenIdeal_InEvenReferenceIdeal_pre_in_even_squares (hInEvenIdeal := hInEvenIdeal) (hInEvenReferenceIdeal := hInEvenReferenceIdeal) (hPre_in_even_squares := hPre_in_even_squares)
    ∧ preserves_FfnOut_FfnOutIdeal
    ∧ algebraic_FfnOutIdeal_FfnOutReferenceIdeal (hFfnOutIdeal := hFfnOutIdeal) (hFfnOutReferenceIdeal := hFfnOutReferenceIdeal)
    ∧ preserves_OutOdd_OutOddIdeal
    ∧ algebraic_OutOddIdeal_OutOddReferenceIdeal (hOutOddIdeal := hOutOddIdeal) (hOutOddReferenceIdeal := hOutOddReferenceIdeal)
    ∧ preserves_OutEven_OutEvenIdeal
    ∧ algebraic_OutEvenIdeal_OutEvenReferenceIdeal (hOutEvenIdeal := hOutEvenIdeal) (hOutEvenReferenceIdeal := hOutEvenReferenceIdeal)
    ∧ preserves_FfnLast_FfnLastIdeal
    ∧ algebraic_FfnLastIdeal_FfnLastReferenceIdeal (hFfnLastIdeal := hFfnLastIdeal) (hFfnLastReferenceIdeal := hFfnLastReferenceIdeal)
    ∧ preserves_NormPrompt_NormPromptIdeal
    ∧ algebraic_NormPromptIdeal_NormPromptReferenceIdeal (hNormPromptIdeal := hNormPromptIdeal) (hNormPromptReferenceIdeal := hNormPromptReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_InFirst_InFirstIdeal
    ∧ algebraic_InFirstIdeal_InFirstReferenceIdeal_pre_in_first_squares (hInFirstIdeal := hInFirstIdeal) (hInFirstReferenceIdeal := hInFirstReferenceIdeal) (hPre_in_first_squares := hPre_in_first_squares)
-- ==== Pre_ffn_in_squares.lean ====
abbrev S8192x2048 : Shape := ⟨2, ![8192, 2048]⟩
abbrev S8x2048 : Shape := ⟨2, ![8, 2048]⟩
abbrev S2x8192x128 : Shape := ⟨3, ![2, 8192, 128]⟩
abbrev S2x8x128 : Shape := ⟨3, ![2, 8, 128]⟩
abbrev S4x8x2x5632 : Shape := ⟨4, ![4, 8, 2, 5632]⟩
abbrev S4x2048x11264 : Shape := ⟨3, ![4, 2048, 11264]⟩
abbrev S4x3x5632 : Shape := ⟨3, ![4, 3, 5632]⟩
abbrev S4x5632 : Shape := ⟨2, ![4, 5632]⟩
abbrev S_ : Shape := ⟨0, ![]⟩

class Facts : Prop where
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S2x8x128 : S_.BroadcastsInDim S2x8x128 (![] : Fin 0 → Fin S2x8x128.rank)
  reducesTo_S2x8x128_S_d0_1_2 : S2x8x128.ReducesTo [0, 1, 2] S_

variable [Facts]

def fn {F : FTy → Type} [FloatOps F] (main_arg0 : FVec F S8192x2048 .bf16) (main_arg1 : FVec F S8x2048 .bf16) (main_arg2 : FVec F S2x8192x128 .f32) (main_arg3 : FVec F S2x8x128 .f32) (main_arg4 : FVec F S4x8x2x5632 .f32) (main_arg5 : FVec F S4x2048x11264 .f32) (main_arg6 : FVec F S4x3x5632 .f32) (main_arg7 : FVec F S4x5632 .f32) : IVec S_ 1 :=
  let main_cst : FVec F S_ .f32 := constant S_ .f32 0x00000000#32
  let main_v0 : FVec F S2x8192x128 .f32 := broadcastInDim S2x8192x128 ![] bcast_S_S2x8192x128 main_cst
  let main_v1 : IVec S2x8192x128 1 := cmpf .oge main_arg2 main_v0
  let main_c : IVec S_ 1 := constantI S_ 1 1#1
  let main_v2 : IVec S_ 1 := (fun x v => Host.reduce IntOp.andi x v reducesTo_S2x8192x128_S_d0_1_2 h_S_) main_v1 main_c
  let main_cst_0 : FVec F S_ .f32 := constant S_ .f32 0x00000000#32
  let main_v3 : FVec F S2x8x128 .f32 := broadcastInDim S2x8x128 ![] bcast_S_S2x8x128 main_cst_0
  let main_v4 : IVec S2x8x128 1 := cmpf .oge main_arg3 main_v3
  let main_c_1 : IVec S_ 1 := constantI S_ 1 1#1
  let main_v5 : IVec S_ 1 := (fun x v => Host.reduce IntOp.andi x v reducesTo_S2x8x128_S_d0_1_2 h_S_) main_v4 main_c_1
  let main_v6 : IVec S_ 1 := andi main_v2 main_v5
  main_v6
-- ==== Pre_finite.lean ====
abbrev S4x2048x8192 : Shape := ⟨3, ![4, 2048, 8192]⟩
abbrev S2048x128 : Shape := ⟨2, ![2048, 128]⟩
abbrev S2x2048 : Shape := ⟨2, ![2, 2048]⟩
abbrev S4x2048x6144 : Shape := ⟨3, ![4, 2048, 6144]⟩
abbrev S_ : Shape := ⟨0, ![]⟩

class Facts : Prop where
  slices_S4x2048x8192_S4x2048x6144_0_0_0 : S4x2048x8192.Slices ![0, 0, 0] S4x2048x6144
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn {F : FTy → Type} [FloatOps F] (main_arg0 : FVec F S4x2048x8192 .f32) (main_arg1 : FVec F S2048x128 .f32) (main_arg2 : FVec F S2048x128 .f32) (main_arg3 : FVec F S2x2048 .f32) : IVec S_ 1 :=
  let main_v0 : FVec F S4x2048x6144 .f32 := (extractStridedSlice S4x2048x6144 ![0, 0, 0] · slices_S4x2048x8192_S4x2048x6144_0_0_0) main_arg0
  let main_v1 : FVec F S4x2048x6144 .f32 := Host.absf main_v0
  let main_cst : FVec F S_ .f32 := constant S_ .f32 0x7F800000#32
  let main_v2 : FVec F S4x2048x6144 .f32 := broadcastInDim S4x2048x6144 ![] bcast_S_S4x2048x6144 main_cst
  let main_v3 : IVec S4x2048x6144 1 := cmpf .olt main_v1 main_v2
  let main_c : IVec S_ 1 := constantI S_ 1 1#1
  let main_v4 : IVec S_ 1 := (fun x v => Host.reduce IntOp.andi x v reducesTo_S4x2048x6144_S_d0_1_2 h_S_) main_v3 main_c
  let main_v5 : FVec F S2048x128 .f32 := Host.absf main_arg1
  let main_cst_0 : FVec F S_ .f32 := constant S_ .f32 0x7F800000#32
  let main_v6 : FVec F S2048x128 .f32 := broadcastInDim S2048x128 ![] bcast_S_S2048x128 main_cst_0
  let main_v7 : IVec S2048x128 1 := cmpf .olt main_v5 main_v6
  let main_c_1 : IVec S_ 1 := constantI S_ 1 1#1
  let main_v8 : IVec S_ 1 := (fun x v => Host.reduce IntOp.andi x v reducesTo_S2048x128_S_d0_1 h_S_) main_v7 main_c_1
  let main_v9 : IVec S_ 1 := andi main_v4 main_v8
  let main_v10 : FVec F S2048x128 .f32 := Host.absf main_arg2
  let main_cst_2 : FVec F S_ .f32 := constant S_ .f32 0x7F800000#32
  let main_v11 : FVec F S2048x128 .f32 := broadcastInDim S2048x128 ![] bcast_S_S2048x128 main_cst_2
  let main_v12 : IVec S2048x128 1 := cmpf .olt main_v10 main_v11
  let main_c_3 : IVec S_ 1 := constantI S_ 1 1#1
  let main_v13 : IVec S_ 1 := (fun x v => Host.reduce IntOp.andi x v reducesTo_S2048x128_S_d0_1 h_S_) main_v12 main_c_3
  let main_v14 : IVec S_ 1 := andi main_v9 main_v13
  main_v14
-- ==== Pre_in_even_squares.lean ====
abbrev S8192x2048 : Shape := ⟨2, ![8192, 2048]⟩
abbrev S8x2048 : Shape := ⟨2, ![8, 2048]⟩
abbrev S4x8192x128 : Shape := ⟨3, ![4, 8192, 128]⟩
abbrev S4x8x128 : Shape := ⟨3, ![4, 8, 128]⟩
abbrev S2x2048x7168 : Shape := ⟨3, ![2, 2048, 7168]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S4x8x128 : S_.BroadcastsInDim S4x8x128 (![] : Fin 0 → Fin S4x8x128.rank)
  reducesTo_S4x8x128_S_d0_1_2 : S4x8x128.ReducesTo [0, 1, 2] S_

variable [Facts]

def fn {F : FTy → Type} [FloatOps F] (main_arg0 : FVec F S8192x2048 .bf16) (main_arg1 : FVec F S8x2048 .bf16) (main_arg2 : FVec F S4x8192x128 .f32) (main_arg3 : FVec F S4x8x128 .f32) (main_arg4 : FVec F S2x2048x7168 .f32) : IVec S_ 1 :=
  let main_cst : FVec F S_ .f32 := constant S_ .f32 0x00000000#32
  let main_v0 : FVec F S4x8192x128 .f32 := broadcastInDim S4x8192x128 ![] bcast_S_S4x8192x128 main_cst
  let main_v1 : IVec S4x8192x128 1 := cmpf .oge main_arg2 main_v0
  let main_c : IVec S_ 1 := constantI S_ 1 1#1
  let main_v2 : IVec S_ 1 := (fun x v => Host.reduce IntOp.andi x v reducesTo_S4x8192x128_S_d0_1_2 h_S_) main_v1 main_c
  let main_cst_0 : FVec F S_ .f32 := constant S_ .f32 0x00000000#32
  let main_v3 : FVec F S4x8x128 .f32 := broadcastInDim S4x8x128 ![] bcast_S_S4x8x128 main_cst_0
  let main_v4 : IVec S4x8x128 1 := cmpf .oge main_arg3 main_v3
  let main_c_1 : IVec S_ 1 := constantI S_ 1 1#1
  let main_v5 : IVec S_ 1 := (fun x v => Host.reduce IntOp.andi x v reducesTo_S4x8x128_S_d0_1_2 h_S_) main_v4 main_c_1
  let main_v6 : IVec S_ 1 := andi main_v2 main_v5
  main_v6
-- ==== Pre_in_first_squares.lean ====
abbrev S8192x2048 : Shape := ⟨2, ![8192, 2048]⟩
abbrev S8x2048 : Shape := ⟨2, ![8, 2048]⟩
abbrev S1x8192x128 : Shape := ⟨3, ![1, 8192, 128]⟩
abbrev S1x8x128 : Shape := ⟨3, ![1, 8, 128]⟩
abbrev S2x2048x7168 : Shape := ⟨3, ![2, 2048, 7168]⟩
abbrev S_ : Shape := ⟨0, ![]⟩

class Facts : Prop where
  bcast_S_S1x8192x128 : S_.BroadcastsInDim S1x8192x128 (![] : Fin 0 → Fin S1x8192x128.rank)
  reducesTo_S1x8192x128_S_d0_1_2 : S1x8192x128.ReducesTo [0, 1, 2] S_
  h_S_ : 0 < S_.numel
  bcast_S_S1x8x128 : S_.BroadcastsInDim S1x8x128 (![] : Fin 0 → Fin S1x8x128.rank)
  reducesTo_S1x8x128_S_d0_1_2 : S1x8x128.ReducesTo [0, 1, 2] S_

variable [Facts]

def fn {F : FTy → Type} [FloatOps F] (main_arg0 : FVec F S8192x2048 .bf16) (main_arg1 : FVec F S8x2048 .bf16) (main_arg2 : FVec F S1x8192x128 .f32) (main_arg3 : FVec F S1x8x128 .f32) (main_arg4 : FVec F S2x2048x7168 .f32) : IVec S_ 1 :=
  let main_cst : FVec F S_ .f32 := constant S_ .f32 0x00000000#32
  let main_v0 : FVec F S1x8192x128 .f32 := broadcastInDim S1x8192x128 ![] bcast_S_S1x8192x128 main_cst
  let main_v1 : IVec S1x8192x128 1 := cmpf .oge main_arg2 main_v0
  let main_c : IVec S_ 1 := constantI S_ 1 1#1
  let main_v2 : IVec S_ 1 := (fun x v => Host.reduce IntOp.andi x v reducesTo_S1x8192x128_S_d0_1_2 h_S_) main_v1 main_c
  let main_cst_0 : FVec F S_ .f32 := constant S_ .f32 0x00000000#32
  let main_v3 : FVec F S1x8x128 .f32 := broadcastInDim S1x8x128 ![] bcast_S_S1x8x128 main_cst_0
  let main_v4 : IVec S1x8x128 1 := cmpf .oge main_arg3 main_v3
  let main_c_1 : IVec S_ 1 := constantI S_ 1 1#1
  let main_v5 : IVec S_ 1 := (fun x v => Host.reduce IntOp.andi x v reducesTo_S1x8x128_S_d0_1_2 h_S_) main_v4 main_c_1
  let main_v6 : IVec S_ 1 := andi main_v2 main_v5
  main_v6
-- ==== Pre_in_odd_squares.lean ====
abbrev S8192x2048 : Shape := ⟨2, ![8192, 2048]⟩
abbrev S8x2048 : Shape := ⟨2, ![8, 2048]⟩
abbrev S4x8192x128 : Shape := ⟨3, ![4, 8192, 128]⟩
abbrev S4x8x128 : Shape := ⟨3, ![4, 8, 128]⟩
abbrev S2x2048x8192 : Shape := ⟨3, ![2, 2048, 8192]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S4x8x128 : S_.BroadcastsInDim S4x8x128 (![] : Fin 0 → Fin S4x8x128.rank)
  reducesTo_S4x8x128_S_d0_1_2 : S4x8x128.ReducesTo [0, 1, 2] S_

variable [Facts]

def fn {F : FTy → Type} [FloatOps F] (main_arg0 : FVec F S8192x2048 .bf16) (main_arg1 : FVec F S8x2048 .bf16) (main_arg2 : FVec F S4x8192x128 .f32) (main_arg3 : FVec F S4x8x128 .f32) (main_arg4 : FVec F S2x2048x8192 .f32) : IVec S_ 1 :=
  let main_cst : FVec F S_ .f32 := constant S_ .f32 0x00000000#32
  let main_v0 : FVec F S4x8192x128 .f32 := broadcastInDim S4x8192x128 ![] bcast_S_S4x8192x128 main_cst
  let main_v1 : IVec S4x8192x128 1 := cmpf .oge main_arg2 main_v0
  let main_c : IVec S_ 1 := constantI S_ 1 1#1
  let main_v2 : IVec S_ 1 := (fun x v => Host.reduce IntOp.andi x v reducesTo_S4x8192x128_S_d0_1_2 h_S_) main_v1 main_c
  let main_cst_0 : FVec F S_ .f32 := constant S_ .f32 0x00000000#32
  let main_v3 : FVec F S4x8x128 .f32 := broadcastInDim S4x8x128 ![] bcast_S_S4x8x128 main_cst_0
  let main_v4 : IVec S4x8x128 1 := cmpf .oge main_arg3 main_v3
  let main_c_1 : IVec S_ 1 := constantI S_ 1 1#1
  let main_v5 : IVec S_ 1 := (fun x v => Host.reduce IntOp.andi x v reducesTo_S4x8x128_S_d0_1_2 h_S_) main_v4 main_c_1
  let main_v6 : IVec S_ 1 := andi main_v2 main_v5
  main_v6
-- ==== Kernel.lean ====
abbrev S4x2048x8192 : Shape := ⟨3, ![4, 2048, 8192]⟩
abbrev S2048x128 : Shape := ⟨2, ![2048, 128]⟩
abbrev S2x2048 : Shape := ⟨2, ![2, 2048]⟩
abbrev S2x1x2048 : Shape := ⟨3, ![2, 1, 2048]⟩
abbrev S4x2048x2048 : Shape := ⟨3, ![4, 2048, 2048]⟩
abbrev S4x8x256x256 : Shape := ⟨4, ![4, 8, 256, 256]⟩
abbrev S1x256x2048 : Shape := ⟨3, ![1, 256, 2048]⟩
abbrev S1x1x2048 : Shape := ⟨3, ![1, 1, 2048]⟩
abbrev S1x8x256x256 : Shape := ⟨4, ![1, 8, 256, 256]⟩
abbrev S8x256x256 : Shape := ⟨3, ![8, 256, 256]⟩
abbrev S256x128 : Shape := ⟨2, ![256, 128]⟩
abbrev S256x256 : Shape := ⟨2, ![256, 256]⟩
abbrev S1x256x256 : Shape := ⟨3, ![1, 256, 256]⟩
abbrev S1x1 : Shape := ⟨2, ![1, 1]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x2048x8192, .f32⟩
  | .hbm, ⟨1, _⟩ => ⟨S2048x128, .f32⟩
  | .hbm, ⟨2, _⟩ => ⟨S2048x128, .f32⟩
  | .hbm, ⟨3, _⟩ => ⟨S2x2048, .f32⟩
  | .hbm, ⟨4, _⟩ => ⟨S2x1x2048, .f32⟩
  | .hbm, ⟨5, _⟩ => ⟨S4x2048x2048, .bf16⟩
  | .hbm, ⟨6, _⟩ => ⟨S4x8x256x256, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S2048x128, .f32⟩
  | .local _ .vmem, ⟨9, _⟩ => ⟨S2048x128, .f32⟩
  | .local _ .vmem, ⟨10, _⟩ => ⟨S1x1x2048, .f32⟩
  | .local _ .vmem, ⟨11, _⟩ => ⟨S1x256x2048, .bf16⟩
  | .local _ .vmem, ⟨12, _⟩ => ⟨S1x256x2048, .bf16⟩
  | .local _ .vmem, ⟨13, _⟩ => ⟨S1x8x256x256, .f32⟩
  | .local _ .vmem, ⟨14, _⟩ => ⟨S1x8x256x256, .f32⟩
  | .local _ .vmem, ⟨15, _⟩ => ⟨S8x256x256, .f32⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 8], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v5 : Index := Scalar.indexCast v4
  let c0 : Index := 0#32
  ![v5.toNat, 0]
def k0_cond2 (i : grid0.Coords) : BitVec 1 :=
  let arg2 : BitVec 32 := BitVec.ofNat 32 (i 2).val
  let c7_i32_339 : BitVec 32 := 7#32
  let v925 : BitVec 1 := Scalar.cmpi .eq arg2 c7_i32_339
  let v926 : BitVec 32 := Scalar.extui v925
  let c0_i32_340 : BitVec 32 := 0#32
  let v927 : BitVec 1 := Scalar.cmpi .ne v926 c0_i32_340
  v927

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x2048x8192 : Shape := ⟨3, ![4, 2048, 8192]⟩
abbrev S2048x128 : Shape := ⟨2, ![2048, 128]⟩
abbrev S2x2048 : Shape := ⟨2, ![2, 2048]⟩
abbrev S4x2048x2048 : Shape := ⟨3, ![4, 2048, 2048]⟩
abbrev S4x2048x8x256 : Shape := ⟨4, ![4, 2048, 8, 256]⟩
abbrev S4x8x2048x256 : Shape := ⟨4, ![4, 8, 2048, 256]⟩
abbrev S4x8x2048x128 : Shape := ⟨4, ![4, 8, 2048, 128]⟩
abbrev S1x1x2048x128 : Shape := ⟨4, ![1, 1, 2048, 128]⟩
abbrev S_ : Shape := ⟨0, ![]⟩
abbrev S8 : Shape := ⟨1, ![8]⟩
abbrev S2048 : Shape := ⟨1, ![2048]⟩
abbrev S2048x2048 : Shape := ⟨2, ![2048, 2048]⟩
abbrev S2048x1 : Shape := ⟨2, ![2048, 1]⟩
abbrev S1x2048 : Shape := ⟨2, ![1, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S4x8x2048x2048 : Shape := ⟨4, ![4, 8, 2048, 2048]⟩
abbrev S1x8x2048x2048 : Shape := ⟨4, ![1, 8, 2048, 2048]⟩
abbrev S8x1 : Shape := ⟨2, ![8, 1]⟩
abbrev S8x2048 : Shape := ⟨2, ![8, 2048]⟩
abbrev S8x2048x1 : Shape := ⟨3, ![8, 2048, 1]⟩
abbrev S1x8x2048x1 : Shape := ⟨4, ![1, 8, 2048, 1]⟩
abbrev S4x8x256x256 : Shape := ⟨4, ![4, 8, 256, 256]⟩
abbrev S4x8x2048 : Shape := ⟨3, ![4, 8, 2048]⟩
abbrev S4x8x2048x1 : Shape := ⟨4, ![4, 8, 2048, 1]⟩
abbrev S8x1x256 : Shape := ⟨3, ![8, 1, 256]⟩
abbrev S1x8x1x256 : Shape := ⟨4, ![1, 8, 1, 256]⟩

abbrev nBuf : Space → Nat
  | .hbm => 149
  | .vmem => 0
  | .smem => 0
  | _ => 0

abbrev hbmTy0_0 (i : Nat) : BufTy := match i % 128 with
  | 0 => ⟨S4x2048x8192, .f32⟩
  | 1 => ⟨S2048x128, .f32⟩
  | 2 => ⟨S2048x128, .f32⟩
  | 3 => ⟨S2x2048, .f32⟩
  | 4 => ⟨S4x2048x2048, .f32⟩
  | 5 => ⟨S4x2048x2048, .f32⟩
  | 6 => ⟨S4x2048x2048, .f32⟩
  | 7 => ⟨S4x2048x2048, .f32⟩
  | 8 => ⟨S4x2048x8x256, .f32⟩
  | 9 => ⟨S4x8x2048x256, .f32⟩
  | 10 => ⟨S4x8x2048x128, .f32⟩
  | 11 => ⟨S4x8x2048x128, .f32⟩
  | 12 => ⟨S1x1x2048x128, .f32⟩
  | 13 => ⟨S4x8x2048x128, .f32⟩
  | 14 => ⟨S4x8x2048x128, .f32⟩
  | 15 => ⟨S1x1x2048x128, .f32⟩
  | 16 => ⟨S4x8x2048x128, .f32⟩
  | 17 => ⟨S4x8x2048x128, .f32⟩
  | 18 => ⟨S4x8x2048x128, .f32⟩
  | 19 => ⟨S1x1x2048x128, .f32⟩
  | 20 => ⟨S4x8x2048x128, .f32⟩
  | 21 => ⟨S4x8x2048x128, .f32⟩
  | 22 => ⟨S1x1x2048x128, .f32⟩
  | 23 => ⟨S4x8x2048x128, .f32⟩
  | 24 => ⟨S4x8x2048x128, .f32⟩
  | 25 => ⟨S4x8x2048x128, .f32⟩
  | 26 => ⟨S4x8x2048x256, .f32⟩
  | 27 => ⟨S4x2048x8x256, .f32⟩
  | 28 => ⟨S4x8x2048x256, .f32⟩
  | 29 => ⟨S4x8x2048x128, .f32⟩
  | 30 => ⟨S4x8x2048x128, .f32⟩
  | 31 => ⟨S1x1x2048x128, .f32⟩
  | 32 => ⟨S4x8x2048x128, .f32⟩
  | 33 => ⟨S4x8x2048x128, .f32⟩
  | 34 => ⟨S1x1x2048x128, .f32⟩
  | 35 => ⟨S4x8x2048x128, .f32⟩
  | 36 => ⟨S4x8x2048x128, .f32⟩
  | 37 => ⟨S4x8x2048x128, .f32⟩
  | 38 => ⟨S1x1x2048x128, .f32⟩
  | 39 => ⟨S4x8x2048x128, .f32⟩
  | 40 => ⟨S4x8x2048x128, .f32⟩
  | 41 => ⟨S1x1x2048x128, .f32⟩
  | 42 => ⟨S4x8x2048x128, .f32⟩
  | 43 => ⟨S4x8x2048x128, .f32⟩
  | 44 => ⟨S4x8x2048x128, .f32⟩
  | 45 => ⟨S4x8x2048x256, .f32⟩
  | 46 => ⟨S_, .f32⟩
  | 47 => ⟨S4x8x2048x256, .f32⟩
  | 48 => ⟨S4x8x2048x256, .f32⟩
  | 49 => ⟨S4x2048x8x256, .f32⟩
  | 50 => ⟨S4x8x2048x256, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S2048, .f32⟩
  | 63 => ⟨S_, .i1⟩
  | 64 => ⟨S2048x2048, .i1⟩
  | 65 => ⟨S2048x2048, .i32⟩
  | 66 => ⟨S_, .i32⟩
  | 67 => ⟨S2048x2048, .i32⟩
  | 68 => ⟨S2048x2048, .i32⟩
  | 69 => ⟨S2048x2048, .i32⟩
  | 70 => ⟨S2048x2048, .i1⟩
  | 71 => ⟨S_, .i1⟩
  | 72 => ⟨S2048x2048, .i1⟩
  | 73 => ⟨S2048x2048, .i1⟩
  | 74 => ⟨S2048x1, .f32⟩
  | 75 => ⟨S1x2048, .f32⟩
  | 76 => ⟨S2048x2048, .f32⟩
  | 77 => ⟨S2048x2048, .f32⟩
  | 78 => ⟨S2048x2048, .f32⟩
  | 79 => ⟨S8x1x1, .f32⟩
  | 80 => ⟨S1x2048x2048, .f32⟩
  | 81 => ⟨S8x2048x2048, .f32⟩
  | 82 => ⟨S8x2048x2048, .f32⟩
  | 83 => ⟨S8x2048x2048, .f32⟩
  | 84 => ⟨S_, .f32⟩
  | 85 => ⟨S_, .f32⟩
  | 86 => ⟨S8x2048x2048, .i1⟩
  | 87 => ⟨S8x2048x2048, .f32⟩
  | 88 => ⟨S8x2048x2048, .f32⟩
  | 89 => ⟨S8x2048x2048, .f32⟩
  | 90 => ⟨S4x8x2048x2048, .f32⟩
  | 91 => ⟨S1x8x2048x2048, .f32⟩
  | 92 => ⟨S4x8x2048x2048, .f32⟩
  | 93 => ⟨S4x8x2048x2048, .f32⟩
  | 94 => ⟨S4x8x2048x256, .f32⟩
  | 95 => ⟨S_, .f32⟩
  | 96 => ⟨S2048, .f32⟩
  | 97 => ⟨S2048, .f32⟩
  | 98 => ⟨S1x2048, .f32⟩
  | 99 => ⟨S8x1, .f32⟩
  | 100 => ⟨S8x2048, .f32⟩
  | 101 => ⟨S8x2048, .f32⟩
  | 102 => ⟨S8x2048, .f32⟩
  | 103 => ⟨S8x2048, .f32⟩
  | 104 => ⟨S8x2048x1, .f32⟩
  | 105 => ⟨S1x8x2048x1, .f32⟩
  | 106 => ⟨S4x8x2048x256, .f32⟩
  | 107 => ⟨S4x8x2048x256, .f32⟩
  | 108 => ⟨S4x8x256x256, .f32⟩
  | 109 => ⟨S_, .f32⟩
  | 110 => ⟨S4x8x2048, .f32⟩
  | 111 => ⟨S4x8x2048x1, .f32⟩
  | 112 => ⟨S_, .f32⟩
  | 113 => ⟨S4x8x2048x1, .f32⟩
  | 114 => ⟨S4x8x2048x1, .f32⟩
  | 115 => ⟨S4x8x2048x256, .f32⟩
  | 116 => ⟨S4x8x2048x256, .f32⟩
  | 117 => ⟨S4x8x2048x256, .f32⟩
  | 118 => ⟨S_, .f32⟩
  | 119 => ⟨S4x8x2048, .f32⟩
  | 120 => ⟨S4x8x2048x1, .f32⟩
  | 121 => ⟨S_, .f32⟩
  | 122 => ⟨S4x8x2048x1, .f32⟩
  | 123 => ⟨S4x8x2048x1, .f32⟩
  | 124 => ⟨S_, .f32⟩
  | 125 => ⟨S4x8x2048x1, .f32⟩
  | 126 => ⟨S4x8x2048x1, .f32⟩
  | 127 => ⟨S4x8x2048x1, .f32⟩
  | _ => ⟨S4x2048x8192, .f32⟩

abbrev hbmTy0_1 (i : Nat) : BufTy := match i % 128 with
  | 0 => ⟨S4x8x2048x256, .f32⟩
  | 1 => ⟨S4x8x2048x256, .f32⟩
  | 2 => ⟨S1x2048, .f32⟩
  | 3 => ⟨S2048, .f32⟩
  | 4 => ⟨S8x1x256, .f32⟩
  | 5 => ⟨S1x8x1x256, .f32⟩
  | 6 => ⟨S4x8x2048x256, .f32⟩
  | 7 => ⟨S4x8x2048x256, .f32⟩
  | 8 => ⟨S4x2048x8x256, .f32⟩
  | 9 => ⟨S4x2048x2048, .f32⟩
  | 10 => ⟨S4x2048x2048, .f32⟩
  | 11 => ⟨S4x2048x2048, .f32⟩
  | 12 => ⟨S_, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S4x2048x2048, .f32⟩
  | 20 => ⟨S4x2048x2048, .bf16⟩
  | _ => ⟨S4x2048x8192, .f32⟩

abbrev hbmTy (i : Nat) : BufTy := match i / 128 with
  | 0 => hbmTy0_0 i
  | 1 => hbmTy0_1 i
  | _ => ⟨S4x2048x8192, .f32⟩

abbrev bufTy : (tb : Table) → Fin (tcTables nBuf tb) → BufTy
  | .hbm, ⟨i, _⟩ => hbmTy i
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_0 : Ref sig .tc := ⟨.hbm, 52, rfl⟩
abbrev main_v47 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c : Ref sig .tc := ⟨.hbm, 63, rfl⟩
abbrev main_v55 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_3 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_4 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_5 : Ref sig .tc := ⟨.hbm, 109, rfl⟩
abbrev main_v87 : Ref sig .tc := ⟨.hbm, 110, rfl⟩
abbrev main_v88 : Ref sig .tc := ⟨.hbm, 111, rfl⟩
abbrev main_cst_6 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_7 : Ref sig .tc := ⟨.hbm, 118, rfl⟩
abbrev main_v94 : Ref sig .tc := ⟨.hbm, 119, rfl⟩
abbrev main_v95 : Ref sig .tc := ⟨.hbm, 120, rfl⟩
abbrev main_cst_8 : Ref sig .tc := ⟨.hbm, 121, rfl⟩
abbrev main_v96 : Ref sig .tc := ⟨.hbm, 122, rfl⟩
abbrev main_v97 : Ref sig .tc := ⟨.hbm, 123, rfl⟩
abbrev main_cst_9 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_call2_v0 : Ref sig .tc := ⟨.hbm, 138, rfl⟩
abbrev main_call2_v1 : Ref sig .tc := ⟨.hbm, 139, rfl⟩
abbrev main_call2_cst : Ref sig .tc := ⟨.hbm, 140, rfl⟩
abbrev main_call2_v2 : Ref sig .tc := ⟨.hbm, 141, rfl⟩
abbrev main_call2_v3 : Ref sig .tc := ⟨.hbm, 142, rfl⟩
abbrev main_call2_cst_0 : Ref sig .tc := ⟨.hbm, 143, rfl⟩
abbrev main_call2_v4 : Ref sig .tc := ⟨.hbm, 144, rfl⟩
abbrev main_call2_v5 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]
-- ==== FfnIn.lean ====
abbrev S8192x2048 : Shape := ⟨2, ![8192, 2048]⟩
abbrev S8x2048 : Shape := ⟨2, ![8, 2048]⟩
abbrev S2x8192x128 : Shape := ⟨3, ![2, 8192, 128]⟩
abbrev S2x8x128 : Shape := ⟨3, ![2, 8, 128]⟩
abbrev S4x8x2x5632 : Shape := ⟨4, ![4, 8, 2, 5632]⟩
abbrev S4x2048x11264 : Shape := ⟨3, ![4, 2048, 11264]⟩
abbrev S4x3x5632 : Shape := ⟨3, ![4, 3, 5632]⟩
abbrev S4x5632 : Shape := ⟨2, ![4, 5632]⟩
abbrev S4x2x8x5632 : Shape := ⟨4, ![4, 2, 8, 5632]⟩
abbrev S4x1x5632 : Shape := ⟨3, ![4, 1, 5632]⟩
abbrev S8192x5632 : Shape := ⟨2, ![8192, 5632]⟩
abbrev S4x2x5632 : Shape := ⟨3, ![4, 2, 5632]⟩
abbrev S8x5632 : Shape := ⟨2, ![8, 5632]⟩
abbrev S2x8x5632 : Shape := ⟨3, ![2, 8, 5632]⟩
abbrev S1024x2048 : Shape := ⟨2, ![1024, 2048]⟩
abbrev S2x1024x128 : Shape := ⟨3, ![2, 1024, 128]⟩
abbrev S1x2x8x512 : Shape := ⟨4, ![1, 2, 8, 512]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S1x2x512 : Shape := ⟨3, ![1, 2, 512]⟩
abbrev S8x512 : Shape := ⟨2, ![8, 512]⟩
abbrev S2x8x512 : Shape := ⟨3, ![2, 8, 512]⟩
abbrev S2048x512 : Shape := ⟨2, ![2048, 512]⟩
abbrev S8x128 : Shape := ⟨2, ![8, 128]⟩
abbrev S8 : Shape := ⟨1, ![8]⟩
abbrev S8x1 : Shape := ⟨2, ![8, 1]⟩
abbrev S1x512 : Shape := ⟨2, ![1, 512]⟩
abbrev S1x1x8x512 : Shape := ⟨4, ![1, 1, 8, 512]⟩
abbrev S1x8x512 : Shape := ⟨3, ![1, 8, 512]⟩
abbrev S1024x128 : Shape := ⟨2, ![1024, 128]⟩
abbrev S1024 : Shape := ⟨1, ![1024]⟩
abbrev S1024x1 : Shape := ⟨2, ![1024, 1]⟩
abbrev S2x512 : Shape := ⟨2, ![2, 512]⟩
abbrev S8x2x5632 : Shape := ⟨3, ![8, 2, 5632]⟩

abbrev nBuf : Space → Nat
  | .hbm => 15
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S2x8192x128, .f32⟩
  | .hbm, ⟨3, _⟩ => ⟨S2x8x128, .f32⟩
  | .hbm, ⟨4, _⟩ => ⟨S4x8x2x5632, .f32⟩
  | .hbm, ⟨5, _⟩ => ⟨S4x2048x11264, .f32⟩
  | .hbm, ⟨6, _⟩ => ⟨S4x3x5632, .f32⟩
  | .hbm, ⟨7, _⟩ => ⟨S4x5632, .f32⟩
  | .hbm, ⟨8, _⟩ => ⟨S4x2x8x5632, .f32⟩
  | .hbm, ⟨9, _⟩ => ⟨S4x1x5632, .f32⟩
  | .hbm, ⟨10, _⟩ => ⟨S8192x5632, .bf16⟩
  | .hbm, ⟨11, _⟩ => ⟨S4x2x5632, .f32⟩
  | .hbm, ⟨12, _⟩ => ⟨S8x5632, .bf16⟩
  | .hbm, ⟨13, _⟩ => ⟨S2x8x5632, .f32⟩
  | .hbm, ⟨14, _⟩ => ⟨S8x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S8x2048, .bf16⟩
  | .local _ .vmem, ⟨3, _⟩ => ⟨S2x1024x128, .f32⟩
  | .local _ .vmem, ⟨4, _⟩ => ⟨S2x1024x128, .f32⟩
  | .local _ .vmem, ⟨5, _⟩ => ⟨S2x8x128, .f32⟩
  | .local _ .vmem, ⟨6, _⟩ => ⟨S1x2x8x512, .f32⟩
  | .local _ .vmem, ⟨7, _⟩ => ⟨S1x2x8x512, .f32⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x3x512, .f32⟩
  | .local _ .vmem, ⟨13, _⟩ => ⟨S1x3x512, .f32⟩
  | .local _ .vmem, ⟨14, _⟩ => ⟨S1x1x512, .f32⟩
  | .local _ .vmem, ⟨15, _⟩ => ⟨S1x1x512, .f32⟩
  | .local _ .vmem, ⟨16, _⟩ => ⟨S1024x512, .bf16⟩
  | .local _ .vmem, ⟨17, _⟩ => ⟨S1024x512, .bf16⟩
  | .local _ .vmem, ⟨18, _⟩ => ⟨S1x2x512, .f32⟩
  | .local _ .vmem, ⟨19, _⟩ => ⟨S1x2x512, .f32⟩
  | .local _ .vmem, ⟨20, _⟩ => ⟨S8x512, .bf16⟩
  | .local _ .vmem, ⟨21, _⟩ => ⟨S8x512, .bf16⟩
  | .local _ .vmem, ⟨22, _⟩ => ⟨S2x8x512, .f32⟩
  | .local _ .vmem, ⟨23, _⟩ => ⟨S2x8x512, .f32⟩
  | .local _ .vmem, ⟨24, _⟩ => ⟨S2048x512, .bf16⟩
  | .local _ .vmem, ⟨25, _⟩ => ⟨S2048x512, .bf16⟩
  | .local _ .vmem, ⟨26, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg1 : BitVec 32 := BitVec.ofNat 32 (i 1).val
  let c2_i32_45 : BitVec 32 := 2#32
  let c0_i32_46 : BitVec 32 := 0#32
  let v89 : BitVec 1 := Scalar.cmpi .eq c2_i32_45 c0_i32_46
  let c1_i32_47 : BitVec 32 := 1#32
  let v90 : BitVec 32 := Scalar.select v89 c1_i32_47 c2_i32_45
  let v91 : BitVec 32 := Scalar.remsi arg1 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let c1_i32_51 : BitVec 32 := 1#32
  let v99 : BitVec 1 := Scalar.cmpi .eq v98 c1_i32_51
  let v100 : BitVec 32 := Scalar.extui v99
  let c0_i32_52 : BitVec 32 := 0#32
  let v101 : BitVec 1 := Scalar.cmpi .ne v100 c0_i32_52
  v101

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnInReferenceIdeal.lean ====
abbrev S8192x2048 : Shape := ⟨2, ![8192, 2048]⟩
abbrev S8x2048 : Shape := ⟨2, ![8, 2048]⟩
abbrev S2x8192x128 : Shape := ⟨3, ![2, 8192, 128]⟩
abbrev S2x8x128 : Shape := ⟨3, ![2, 8, 128]⟩
abbrev S4x8x2x5632 : Shape := ⟨4, ![4, 8, 2, 5632]⟩
abbrev S4x2048x11264 : Shape := ⟨3, ![4, 2048, 11264]⟩
abbrev S4x3x5632 : Shape := ⟨3, ![4, 3, 5632]⟩
abbrev S4x5632 : Shape := ⟨2, ![4, 5632]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S8192x11264 : Shape := ⟨2, ![8192, 11264]⟩
abbrev S8 : Shape := ⟨1, ![8]⟩
abbrev S8x1 : Shape := ⟨2, ![8, 1]⟩
abbrev S8x11264 : Shape := ⟨2, ![8, 11264]⟩
abbrev S8x1x11264 : Shape := ⟨3, ![8, 1, 11264]⟩
abbrev S4x2x5632 : Shape := ⟨3, ![4, 2, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S4x2048x5632 : Shape := ⟨3, ![4, 2048, 5632]⟩
abbrev S4x2050x5632 : Shape := ⟨3, ![4, 2050, 5632]⟩
abbrev S1x1x5632 : Shape := ⟨3, ![1, 1, 5632]⟩
abbrev S1x8x2x5632 : Shape := ⟨4, ![1, 8, 2, 5632]⟩
abbrev S8x2x5632 : Shape := ⟨3, ![8, 2, 5632]⟩
abbrev S8x1x5632 : Shape := ⟨3, ![8, 1, 5632]⟩
abbrev S8x3x5632 : Shape := ⟨3, ![8, 3, 5632]⟩
abbrev S8192x5632 : Shape := ⟨2, ![8192, 5632]⟩
abbrev S8x5632 : Shape := ⟨2, ![8, 5632]⟩

abbrev nBuf : Space → Nat
  | .hbm => 132
  | .vmem => 0
  | .smem => 0
  | _ => 0

abbrev hbmTy0_0 (i : Nat) : BufTy := match i % 128 with
  | 0 => ⟨S8192x2048, .bf16⟩
  | 1 => ⟨S8x2048, .bf16⟩
  | 2 => ⟨S2x8192x128, .f32⟩
  | 3 => ⟨S2x8x128, .f32⟩
  | 4 => ⟨S4x8x2x5632, .f32⟩
  | 5 => ⟨S4x2048x11264, .f32⟩
  | 6 => ⟨S4x3x5632, .f32⟩
  | 7 => ⟨S4x5632, .f32⟩
  | 8 => ⟨S8192x2048, .f32⟩
  | 9 => ⟨S_, .f32⟩
  | 10 => ⟨S8192, .f32⟩
  | 11 => ⟨S_, .f32⟩
  | 12 => ⟨S8192, .f32⟩
  | 13 => ⟨S8192, .f32⟩
  | 14 => ⟨S_, .f32⟩
  | 15 => ⟨S8192, .f32⟩
  | 16 => ⟨S8192, .f32⟩
  | 17 => ⟨S8192, .f32⟩
  | 18 => ⟨S8192x1, .f32⟩
  | 19 => ⟨S8192x2048, .f32⟩
  | 20 => ⟨S8192x2048, .f32⟩
  | 21 => ⟨S1x2048x11264, .f32⟩
  | 22 => ⟨S2048x11264, .f32⟩
  | 23 => ⟨S8192x11264, .f32⟩
  | 24 => ⟨S4x2048x11264, .f32⟩
  | 25 => ⟨S8x2048, .f32⟩
  | 26 => ⟨S_, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S8x1, .f32⟩
  | 36 => ⟨S8x2048, .f32⟩
  | 37 => ⟨S8x2048, .f32⟩
  | 38 => ⟨S1x2048x11264, .f32⟩
  | 39 => ⟨S2048x11264, .f32⟩
  | 40 => ⟨S8x11264, .f32⟩
  | 41 => ⟨S8x1x11264, .f32⟩
  | 42 => ⟨S_, .f32⟩
  | 43 => ⟨S4x2x5632, .f32⟩
  | 44 => ⟨S1x3x5632, .f32⟩
  | 45 => ⟨S3x5632, .f32⟩
  | 46 => ⟨S1x5632, .f32⟩
  | 47 => ⟨S5632, .f32⟩
  | 48 => ⟨S4x2048x5632, .f32⟩
  | 49 => ⟨S4x2048x5632, .f32⟩
  | 50 => ⟨S4x2050x5632, .f32⟩
  | 51 => ⟨S1x5632, .f32⟩
  | 52 => ⟨S5632, .f32⟩
  | 53 => ⟨S4x2048x5632, .f32⟩
  | 54 => ⟨S1x1x5632, .f32⟩
  | 55 => ⟨S4x2048x5632, .f32⟩
  | 56 => ⟨S4x2048x5632, .f32⟩
  | 57 => ⟨S1x1x5632, .f32⟩
  | 58 => ⟨S4x2048x5632, .f32⟩
  | 59 => ⟨S4x2048x5632, .f32⟩
  | 60 => ⟨S1x5632, .f32⟩
  | 61 => ⟨S5632, .f32⟩
  | 62 => ⟨S4x2048x5632, .f32⟩
  | 63 => ⟨S1x1x5632, .f32⟩
  | 64 => ⟨S4x2048x5632, .f32⟩
  | 65 => ⟨S4x2048x5632, .f32⟩
  | 66 => ⟨S4x2048x5632, .f32⟩
  | 67 => ⟨S1x5632, .f32⟩
  | 68 => ⟨S5632, .f32⟩
  | 69 => ⟨S4x2048x5632, .f32⟩
  | 70 => ⟨S1x1x5632, .f32⟩
  | 71 => ⟨S4x2048x5632, .f32⟩
  | 72 => ⟨S4x2048x5632, .f32⟩
  | 73 => ⟨S4x2048x5632, .f32⟩
  | 74 => ⟨S4x2048x5632, .f32⟩
  | 75 => ⟨S4x2048x5632, .f32⟩
  | 76 => ⟨S_, .f32⟩
  | 77 => ⟨S4x2048x5632, .f32⟩
  | 78 => ⟨S4x2048x5632, .f32⟩
  | 79 => ⟨S_, .f32⟩
  | 80 => ⟨S4x2048x5632, .f32⟩
  | 81 => ⟨S4x2048x5632, .f32⟩
  | 82 => ⟨S4x2048x5632, .f32⟩
  | 83 => ⟨S4x2048x5632, .f32⟩
  | 84 => ⟨S4x2048x5632, .bf16⟩
  | 85 => ⟨S4x2x5632, .f32⟩
  | 86 => ⟨S1x8x2x5632, .f32⟩
  | 87 => ⟨S8x2x5632, .f32⟩
  | 88 => ⟨S1x3x5632, .f32⟩
  | 89 => ⟨S3x5632, .f32⟩
  | 90 => ⟨S1x5632, .f32⟩
  | 91 => ⟨S5632, .f32⟩
  | 92 => ⟨S8x1x5632, .f32⟩
  | 93 => ⟨S8x1x5632, .f32⟩
  | 94 => ⟨S8x3x5632, .f32⟩
  | 95 => ⟨S1x5632, .f32⟩
  | 96 => ⟨S5632, .f32⟩
  | 97 => ⟨S8x1x5632, .f32⟩
  | 98 => ⟨S1x1x5632, .f32⟩
  | 99 => ⟨S8x1x5632, .f32⟩
  | 100 => ⟨S8x1x5632, .f32⟩
  | 101 => ⟨S1x1x5632, .f32⟩
  | 102 => ⟨S8x1x5632, .f32⟩
  | 103 => ⟨S8x1x5632, .f32⟩
  | 104 => ⟨S1x5632, .f32⟩
  | 105 => ⟨S5632, .f32⟩
  | 106 => ⟨S8x1x5632, .f32⟩
  | 107 => ⟨S1x1x5632, .f32⟩
  | 108 => ⟨S8x1x5632, .f32⟩
  | 109 => ⟨S8x1x5632, .f32⟩
  | 110 => ⟨S8x1x5632, .f32⟩
  | 111 => ⟨S1x5632, .f32⟩
  | 112 => ⟨S5632, .f32⟩
  | 113 => ⟨S8x1x5632, .f32⟩
  | 114 => ⟨S1x1x5632, .f32⟩
  | 115 => ⟨S8x1x5632, .f32⟩
  | 116 => ⟨S8x1x5632, .f32⟩
  | 117 => ⟨S8x1x5632, .f32⟩
  | 118 => ⟨S8x1x5632, .f32⟩
  | 119 => ⟨S8x1x5632, .f32⟩
  | 120 => ⟨S_, .f32⟩
  | 121 => ⟨S8x1x5632, .f32⟩
  | 122 => ⟨S8x1x5632, .f32⟩
  | 123 => ⟨S_, .f32⟩
  | 124 => ⟨S8x1x5632, .f32⟩
  | 125 => ⟨S8x1x5632, .f32⟩
  | 126 => ⟨S8x1x5632, .f32⟩
  | 127 => ⟨S8x1x5632, .f32⟩
  | _ => ⟨S8192x2048, .bf16⟩

abbrev hbmTy0_1 (i : Nat) : BufTy := match i % 128 with
  | 0 => ⟨S8x1x5632, .bf16⟩
  | 1 => ⟨S8x2x5632, .f32⟩
  | 2 => ⟨S8192x5632, .bf16⟩
  | 3 => ⟨S8x5632, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_call1_v0 : Ref sig .tc := ⟨.hbm, 118, rfl⟩
abbrev main_call1_v1 : Ref sig .tc := ⟨.hbm, 119, rfl⟩
abbrev main_call1_cst : Ref sig .tc := ⟨.hbm, 120, rfl⟩
abbrev main_call1_v2 : Ref sig .tc := ⟨.hbm, 121, rfl⟩
abbrev main_call1_v3 : Ref sig .tc := ⟨.hbm, 122, rfl⟩
abbrev main_call1_cst_0 : Ref sig .tc := ⟨.hbm, 123, rfl⟩
abbrev main_call1_v4 : Ref sig .tc := ⟨.hbm, 124, rfl⟩
abbrev main_call1_v5 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩

abbrev nD : Nat := 1
abbrev τ : Topo := Topo.v7x

variable {F : FTy → Type} [FloatOps F]
-- ==== InOdd.lean ====
abbrev S8192x2048 : Shape := ⟨2, ![8192, 2048]⟩
abbrev S8x2048 : Shape := ⟨2, ![8, 2048]⟩
abbrev S4x8192x128 : Shape := ⟨3, ![4, 8192, 128]⟩
abbrev S4x8x128 : Shape := ⟨3, ![4, 8, 128]⟩
abbrev S2x2048x8192 : Shape := ⟨3, ![2, 2048, 8192]⟩
abbrev S8192x8192 : Shape := ⟨2, ![8192, 8192]⟩
abbrev S8x8192 : Shape := ⟨2, ![8, 8192]⟩
abbrev S1024x2048 : Shape := ⟨2, ![1024, 2048]⟩
abbrev S1x2048x1024 : Shape := ⟨3, ![1, 2048, 1024]⟩
abbrev S4x1024x128 : Shape := ⟨3, ![4, 1024, 128]⟩
abbrev S1024x1024 : Shape := ⟨2, ![1024, 1024]⟩
abbrev S8x1024 : Shape := ⟨2, ![8, 1024]⟩
abbrev S2048x1024 : Shape := ⟨2, ![2048, 1024]⟩
abbrev S8x128 : Shape := ⟨2, ![8, 128]⟩
abbrev S8 : Shape := ⟨1, ![8]⟩
abbrev S8x1 : Shape := ⟨2, ![8, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S4x8192x128, .f32⟩
  | .hbm, ⟨3, _⟩ => ⟨S4x8x128, .f32⟩
  | .hbm, ⟨4, _⟩ => ⟨S2x2048x8192, .f32⟩
  | .hbm, ⟨5, _⟩ => ⟨S8192x8192, .f32⟩
  | .hbm, ⟨6, _⟩ => ⟨S8x8192, .f32⟩
  | .local _ .vmem, ⟨0, _⟩ => ⟨S1024x2048, .bf16⟩
  | .local _ .vmem, ⟨1, _⟩ => ⟨S1024x2048, .bf16⟩
  | .local _ .vmem, ⟨2, _⟩ => ⟨S8x2048, .bf16⟩
  | .local _ .vmem, ⟨3, _⟩ => ⟨S1x2048x1024, .f32⟩
  | .local _ .vmem, ⟨4, _⟩ => ⟨S1x2048x1024, .f32⟩
  | .local _ .vmem, ⟨5, _⟩ => ⟨S4x1024x128, .f32⟩
  | .local _ .vmem, ⟨6, _⟩ => ⟨S4x1024x128, .f32⟩
  | .local _ .vmem, ⟨7, _⟩ => ⟨S4x8x128, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InOddReferenceIdeal.lean ====
abbrev S8192x2048 : Shape := ⟨2, ![8192, 2048]⟩
abbrev S8x2048 : Shape := ⟨2, ![8, 2048]⟩
abbrev S4x8192x128 : Shape := ⟨3, ![4, 8192, 128]⟩
abbrev S4x8x128 : Shape := ⟨3, ![4, 8, 128]⟩
abbrev S2x2048x8192 : Shape := ⟨3, ![2, 2048, 8192]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S8 : Shape := ⟨1, ![8]⟩
abbrev S8x1 : Shape := ⟨2, ![8, 1]⟩
abbrev S8x8192 : Shape := ⟨2, ![8, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S4x8192x128, .f32⟩
  | .hbm, ⟨3, _⟩ => ⟨S4x8x128, .f32⟩
  | .hbm, ⟨4, _⟩ => ⟨S2x2048x8192, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048x8192, .f32⟩
  | .hbm, ⟨19, _⟩ => ⟨S2048x8192, .f32⟩
  | .hbm, ⟨20, _⟩ => ⟨S8192x8192, .f32⟩
  | .hbm, ⟨21, _⟩ => ⟨S8x2048, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8x1, .f32⟩
  | .hbm, ⟨32, _⟩ => ⟨S8x2048, .f32⟩
  | .hbm, ⟨33, _⟩ => ⟨S8x2048, .f32⟩
  | .hbm, ⟨34, _⟩ => ⟨S1x2048x8192, .f32⟩
  | .hbm, ⟨35, _⟩ => ⟨S2048x8192, .f32⟩
  | .hbm, ⟨36, _⟩ => ⟨S8x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InEven.lean ====
abbrev S8192x2048 : Shape := ⟨2, ![8192, 2048]⟩
abbrev S8x2048 : Shape := ⟨2, ![8, 2048]⟩
abbrev S4x8192x128 : Shape := ⟨3, ![4, 8192, 128]⟩
abbrev S4x8x128 : Shape := ⟨3, ![4, 8, 128]⟩
abbrev S2x2048x7168 : Shape := ⟨3, ![2, 2048, 7168]⟩
abbrev S8192x7168 : Shape := ⟨2, ![8192, 7168]⟩
abbrev S8x7168 : Shape := ⟨2, ![8, 7168]⟩
abbrev S1024x2048 : Shape := ⟨2, ![1024, 2048]⟩
abbrev S1x2048x1024 : Shape := ⟨3, ![1, 2048, 1024]⟩
abbrev S4x1024x128 : Shape := ⟨3, ![4, 1024, 128]⟩
abbrev S1024x1024 : Shape := ⟨2, ![1024, 1024]⟩
abbrev S8x1024 : Shape := ⟨2, ![8, 1024]⟩
abbrev S2048x1024 : Shape := ⟨2, ![2048, 1024]⟩
abbrev S8x128 : Shape := ⟨2, ![8, 128]⟩
abbrev S8 : Shape := ⟨1, ![8]⟩
abbrev S8x1 : Shape := ⟨2, ![8, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S4x8192x128, .f32⟩
  | .hbm, ⟨3, _⟩ => ⟨S4x8x128, .f32⟩
  | .hbm, ⟨4, _⟩ => ⟨S2x2048x7168, .f32⟩
  | .hbm, ⟨5, _⟩ => ⟨S8192x7168, .f32⟩
  | .hbm, ⟨6, _⟩ => ⟨S8x7168, .f32⟩
  | .local _ .vmem, ⟨0, _⟩ => ⟨S1024x2048, .bf16⟩
  | .local _ .vmem, ⟨1, _⟩ => ⟨S1024x2048, .bf16⟩
  | .local _ .vmem, ⟨2, _⟩ => ⟨S8x2048, .bf16⟩
  | .local _ .vmem, ⟨3, _⟩ => ⟨S1x2048x1024, .f32⟩
  | .local _ .vmem, ⟨4, _⟩ => ⟨S1x2048x1024, .f32⟩
  | .local _ .vmem, ⟨5, _⟩ => ⟨S4x1024x128, .f32⟩
  | .local _ .vmem, ⟨6, _⟩ => ⟨S4x1024x128, .f32⟩
  | .local _ .vmem, ⟨7, _⟩ => ⟨S4x8x128, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InEvenReferenceIdeal.lean ====
abbrev S8192x2048 : Shape := ⟨2, ![8192, 2048]⟩
abbrev S8x2048 : Shape := ⟨2, ![8, 2048]⟩
abbrev S4x8192x128 : Shape := ⟨3, ![4, 8192, 128]⟩
abbrev S4x8x128 : Shape := ⟨3, ![4, 8, 128]⟩
abbrev S2x2048x7168 : Shape := ⟨3, ![2, 2048, 7168]⟩
abbrev S_ : Shape := ⟨0, ![]⟩
abbrev S8192 : Shape := ⟨1, ![8192]⟩
abbrev S8192x1 : Shape := ⟨2, ![8192, 1]⟩
abbrev S1x2048x7168 : Shape := ⟨3, ![1, 2048, 7168]⟩
abbrev S2048x7168 : Shape := ⟨2, ![2048, 7168]⟩
abbrev S8192x7168 : Shape := ⟨2, ![8192, 7168]⟩
abbrev S8 : Shape := ⟨1, ![8]⟩
abbrev S8x1 : Shape := ⟨2, ![8, 1]⟩
abbrev S8x7168 : Shape := ⟨2, ![8, 7168]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S4x8192x128, .f32⟩
  | .hbm, ⟨3, _⟩ => ⟨S4x8x128, .f32⟩
  | .hbm, ⟨4, _⟩ => ⟨S2x2048x7168, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048x7168, .f32⟩
  | .hbm, ⟨19, _⟩ => ⟨S2048x7168, .f32⟩
  | .hbm, ⟨20, _⟩ => ⟨S8192x7168, .f32⟩
  | .hbm, ⟨21, _⟩ => ⟨S8x2048, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8x1, .f32⟩
  | .hbm, ⟨32, _⟩ => ⟨S8x2048, .f32⟩
  | .hbm, ⟨33, _⟩ => ⟨S8x2048, .f32⟩
  | .hbm, ⟨34, _⟩ => ⟨S1x2048x7168, .f32⟩
  | .hbm, ⟨35, _⟩ => ⟨S2048x7168, .f32⟩
  | .hbm, ⟨36, _⟩ => ⟨S8x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== FfnOut.lean ====
abbrev S8192x5632 : Shape := ⟨2, ![8192, 5632]⟩
abbrev S8x5632 : Shape := ⟨2, ![8, 5632]⟩
abbrev S4x5632x2048 : Shape := ⟨3, ![4, 5632, 2048]⟩
abbrev S8192x2048 : Shape := ⟨2, ![8192, 2048]⟩
abbrev S8x2048 : Shape := ⟨2, ![8, 2048]⟩
abbrev S4x2048 : Shape := ⟨2, ![4, 2048]⟩
abbrev S4x1x2048 : Shape := ⟨3, ![4, 1, 2048]⟩
abbrev S4x8192x128 : Shape := ⟨3, ![4, 8192, 128]⟩
abbrev S4x8x128 : Shape := ⟨3, ![4, 8, 128]⟩
abbrev S512x5632 : Shape := ⟨2, ![512, 5632]⟩
abbrev S1x5632x512 : Shape := ⟨3, ![1, 5632, 512]⟩
abbrev S512x512 : Shape := ⟨2, ![512, 512]⟩
abbrev S8x512 : Shape := ⟨2, ![8, 512]⟩
abbrev S1x1x512 : Shape := ⟨3, ![1, 1, 512]⟩
abbrev S1x512x128 : Shape := ⟨3, ![1, 512, 128]⟩
abbrev S1x8x128 : Shape := ⟨3, ![1, 8, 128]⟩
abbrev S5632x512 : Shape := ⟨2, ![5632, 512]⟩
abbrev S1x512 : Shape := ⟨2, ![1, 512]⟩
abbrev S8x128 : Shape := ⟨2, ![8, 128]⟩
abbrev S512x128 : Shape := ⟨2, ![512, 128]⟩

abbrev nBuf : Space → Nat
  | .hbm => 13
  | .vmem => 24
  | .smem => 0
  | _ => 0

abbrev bufTy : (tb : Table) → Fin (tcTables nBuf tb) → BufTy
  | .hbm, ⟨0, _⟩ => ⟨S8192x5632, .bf16⟩
  | .hbm, ⟨1, _⟩ => ⟨S8x5632, .bf16⟩
  | .hbm, ⟨2, _⟩ => ⟨S4x5632x2048, .f32⟩
  | .hbm, ⟨3, _⟩ => ⟨S8192x2048, .f32⟩
  | .hbm, ⟨4, _⟩ => ⟨S8x2048, .f32⟩
  | .hbm, ⟨5, _⟩ => ⟨S4x2048, .f32⟩
  | .hbm, ⟨6, _⟩ => ⟨S4x1x2048, .f32⟩
  | .hbm, ⟨7, _⟩ => ⟨S8192x2048, .f32⟩
  | .hbm, ⟨8, _⟩ => ⟨S8x2048, .f32⟩
  | .hbm, ⟨9, _⟩ => ⟨S8192x2048, .bf16⟩
  | .hbm, ⟨10, _⟩ => ⟨S8x2048, .bf16⟩
  | .hbm, ⟨11, _⟩ => ⟨S4x8192x128, .f32⟩
  | .hbm, ⟨12, _⟩ => ⟨S4x8x128, .f32⟩
  | .local _ .vmem, ⟨0, _⟩ => ⟨S512x5632, .bf16⟩
  | .local _ .vmem, ⟨1, _⟩ => ⟨S512x5632, .bf16⟩
  | .local _ .vmem, ⟨2, _⟩ => ⟨S8x5632, .bf16⟩
  | .local _ .vmem, ⟨3, _⟩ => ⟨S1x5632x512, .f32⟩
  | .local _ .vmem, ⟨4, _⟩ => ⟨S1x5632x512, .f32⟩
  | .local _ .vmem, ⟨5, _⟩ => ⟨S512x512, .f32⟩
  | .local _ .vmem, ⟨6, _⟩ => ⟨S512x512, .f32⟩
  | .local _ .vmem, ⟨7, _⟩ => ⟨S8x512, .f32⟩
  | .local _ .vmem, ⟨8, _⟩ => ⟨S8x512, .f32⟩
  | .local _ .vmem, ⟨9, _⟩ => ⟨S1x1x512, .f32⟩
  | .local _ .vmem, ⟨10, _⟩ => ⟨S1x1x512, .f32⟩
  | .local _ .vmem, ⟨11, _⟩ => ⟨S512x512, .f32⟩
  | .local _ .vmem, ⟨12, _⟩ => ⟨S512x512, .f32⟩
  | .local _ .vmem, ⟨13, _⟩ => ⟨S8x512, .f32⟩
  | .local _ .vmem, ⟨14, _⟩ => ⟨S8x512, .f32⟩
  | .local _ .vmem, ⟨15, _⟩ => ⟨S512x512, .bf16⟩
  | .local _ .vmem, ⟨16, _⟩ => ⟨S512x512, .bf16⟩
  | .local _ .vmem, ⟨17, _⟩ => ⟨S8x512, .bf16⟩
  | .local _ .vmem, ⟨18, _⟩ => ⟨S8x512, .bf16⟩
  | .local _ .vmem, ⟨19, _⟩ => ⟨S1x512x128, .f32⟩
  | .local _ .vmem, ⟨20, _⟩ => ⟨S1x512x128, .f32⟩
  | .local _ .vmem, ⟨21, _⟩ => ⟨S1x8x128, .f32⟩
  | .local _ .vmem, ⟨22, _⟩ => ⟨S1x8x128, .f32⟩
  | .local _ .vmem, ⟨23, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x5632x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnOutReferenceIdeal.lean ====
abbrev S8192x5632 : Shape := ⟨2, ![8192, 5632]⟩
abbrev S8x5632 : Shape := ⟨2, ![8, 5632]⟩
abbrev S4x5632x2048 : Shape := ⟨3, ![4, 5632, 2048]⟩
abbrev S8192x2048 : Shape := ⟨2, ![8192, 2048]⟩
abbrev S8x2048 : Shape := ⟨2, ![8, 2048]⟩
abbrev S4x2048 : Shape := ⟨2, ![4, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S8192x4x4x128 : Shape := ⟨4, ![8192, 4, 4, 128]⟩
abbrev S_ : Shape := ⟨0, ![]⟩
abbrev S8192x4x128 : Shape := ⟨3, ![8192, 4, 128]⟩
abbrev S4x8192x128 : Shape := ⟨3, ![4, 8192, 128]⟩
abbrev S8x4x4x128 : Shape := ⟨4, ![8, 4, 4, 128]⟩
abbrev S8x4x128 : Shape := ⟨3, ![8, 4, 128]⟩
abbrev S4x8x128 : Shape := ⟨3, ![4, 8, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8x5632, .bf16⟩
  | .hbm, ⟨2, _⟩ => ⟨S4x5632x2048, .f32⟩
  | .hbm, ⟨3, _⟩ => ⟨S8192x2048, .f32⟩
  | .hbm, ⟨4, _⟩ => ⟨S8x2048, .f32⟩
  | .hbm, ⟨5, _⟩ => ⟨S4x2048, .f32⟩
  | .hbm, ⟨6, _⟩ => ⟨S1x5632x2048, .f32⟩
  | .hbm, ⟨7, _⟩ => ⟨S5632x2048, .f32⟩
  | .hbm, ⟨8, _⟩ => ⟨S1x2048, .f32⟩
  | .hbm, ⟨9, _⟩ => ⟨S2048, .f32⟩
  | .hbm, ⟨10, _⟩ => ⟨S8192x5632, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x4x4x128, .f32⟩
  | .hbm, ⟨15, _⟩ => ⟨S_, .f32⟩
  | .hbm, ⟨16, _⟩ => ⟨S8192x4x128, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S4x8192x128, .f32⟩
  | .hbm, ⟨22, _⟩ => ⟨S1x5632x2048, .f32⟩
  | .hbm, ⟨23, _⟩ => ⟨S5632x2048, .f32⟩
  | .hbm, ⟨24, _⟩ => ⟨S1x2048, .f32⟩
  | .hbm, ⟨25, _⟩ => ⟨S2048, .f32⟩
  | .hbm, ⟨26, _⟩ => ⟨S8x5632, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x4x4x128, .f32⟩
  | .hbm, ⟨31, _⟩ => ⟨S_, .f32⟩
  | .hbm, ⟨32, _⟩ => ⟨S8x4x128, .f32⟩
  | .hbm, ⟨33, _⟩ => ⟨S1x2048, .f32⟩
  | .hbm, ⟨34, _⟩ => ⟨S8x2048, .f32⟩
  | .hbm, ⟨35, _⟩ => ⟨S8x2048, .f32⟩
  | .hbm, ⟨36, _⟩ => ⟨S8x2048, .bf16⟩
  | .hbm, ⟨37, _⟩ => ⟨S4x8x128, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutOdd.lean ====
abbrev S8192x2048 : Shape := ⟨2, ![8192, 2048]⟩
abbrev S8x2048 : Shape := ⟨2, ![8, 2048]⟩
abbrev S2x2048x2048 : Shape := ⟨3, ![2, 2048, 2048]⟩
abbrev S4x2048 : Shape := ⟨2, ![4, 2048]⟩
abbrev S4x1x2048 : Shape := ⟨3, ![4, 1, 2048]⟩
abbrev S2x8192x128 : Shape := ⟨3, ![2, 8192, 128]⟩
abbrev S2x8x128 : Shape := ⟨3, ![2, 8, 128]⟩
abbrev S1024x2048 : Shape := ⟨2, ![1024, 2048]⟩
abbrev S1x2048x1024 : Shape := ⟨3, ![1, 2048, 1024]⟩
abbrev S1024x1024 : Shape := ⟨2, ![1024, 1024]⟩
abbrev S8x1024 : Shape := ⟨2, ![8, 1024]⟩
abbrev S1x1x1024 : Shape := ⟨3, ![1, 1, 1024]⟩
abbrev S1x1024x128 : Shape := ⟨3, ![1, 1024, 128]⟩
abbrev S1x8x128 : Shape := ⟨3, ![1, 8, 128]⟩
abbrev S2048x1024 : Shape := ⟨2, ![2048, 1024]⟩
abbrev S1x1024 : Shape := ⟨2, ![1, 1024]⟩
abbrev S8x128 : Shape := ⟨2, ![8, 128]⟩
abbrev S1024x128 : Shape := ⟨2, ![1024, 128]⟩

abbrev nBuf : Space → Nat
  | .hbm => 13
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S2x2048x2048, .f32⟩
  | .hbm, ⟨3, _⟩ => ⟨S8192x2048, .f32⟩
  | .hbm, ⟨4, _⟩ => ⟨S8x2048, .f32⟩
  | .hbm, ⟨5, _⟩ => ⟨S4x2048, .f32⟩
  | .hbm, ⟨6, _⟩ => ⟨S4x1x2048, .f32⟩
  | .hbm, ⟨7, _⟩ => ⟨S8192x2048, .f32⟩
  | .hbm, ⟨8, _⟩ => ⟨S8x2048, .f32⟩
  | .hbm, ⟨9, _⟩ => ⟨S8192x2048, .bf16⟩
  | .hbm, ⟨10, _⟩ => ⟨S8x2048, .bf16⟩
  | .hbm, ⟨11, _⟩ => ⟨S2x8192x128, .f32⟩
  | .hbm, ⟨12, _⟩ => ⟨S2x8x128, .f32⟩
  | .local _ .vmem, ⟨0, _⟩ => ⟨S1024x2048, .bf16⟩
  | .local _ .vmem, ⟨1, _⟩ => ⟨S1024x2048, .bf16⟩
  | .local _ .vmem, ⟨2, _⟩ => ⟨S8x2048, .bf16⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | .local _ .vmem, ⟨12, _⟩ => ⟨S1024x1024, .f32⟩
  | .local _ .vmem, ⟨13, _⟩ => ⟨S8x1024, .f32⟩
  | .local _ .vmem, ⟨14, _⟩ => ⟨S8x1024, .f32⟩
  | .local _ .vmem, ⟨15, _⟩ => ⟨S1024x1024, .bf16⟩
  | .local _ .vmem, ⟨16, _⟩ => ⟨S1024x1024, .bf16⟩
  | .local _ .vmem, ⟨17, _⟩ => ⟨S8x1024, .bf16⟩
  | .local _ .vmem, ⟨18, _⟩ => ⟨S8x1024, .bf16⟩
  | .local _ .vmem, ⟨19, _⟩ => ⟨S1x1024x128, .f32⟩
  | .local _ .vmem, ⟨20, _⟩ => ⟨S1x1024x128, .f32⟩
  | .local _ .vmem, ⟨21, _⟩ => ⟨S1x8x128, .f32⟩
  | .local _ .vmem, ⟨22, _⟩ => ⟨S1x8x128, .f32⟩
  | .local _ .vmem, ⟨23, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== OutOddReferenceIdeal.lean ====
abbrev S8192x2048 : Shape := ⟨2, ![8192, 2048]⟩
abbrev S8x2048 : Shape := ⟨2, ![8, 2048]⟩
abbrev S2x2048x2048 : Shape := ⟨3, ![2, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8192x2x8x128 : Shape := ⟨4, ![8192, 2, 8, 128]⟩
abbrev S_ : Shape := ⟨0, ![]⟩
abbrev S8192x2x128 : Shape := ⟨3, ![8192, 2, 128]⟩
abbrev S2x8192x128 : Shape := ⟨3, ![2, 8192, 128]⟩
abbrev S8x2x8x128 : Shape := ⟨4, ![8, 2, 8, 128]⟩
abbrev S8x2x128 : Shape := ⟨3, ![8, 2, 128]⟩
abbrev S2x8x128 : Shape := ⟨3, ![2, 8, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S2x2048x2048, .f32⟩
  | .hbm, ⟨3, _⟩ => ⟨S8192x2048, .f32⟩
  | .hbm, ⟨4, _⟩ => ⟨S8x2048, .f32⟩
  | .hbm, ⟨5, _⟩ => ⟨S4x2048, .f32⟩
  | .hbm, ⟨6, _⟩ => ⟨S1x2048x2048, .f32⟩
  | .hbm, ⟨7, _⟩ => ⟨S2048x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2x8x128, .f32⟩
  | .hbm, ⟨15, _⟩ => ⟨S_, .f32⟩
  | .hbm, ⟨16, _⟩ => ⟨S8192x2x128, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S2x8192x128, .f32⟩
  | .hbm, ⟨22, _⟩ => ⟨S1x2048x2048, .f32⟩
  | .hbm, ⟨23, _⟩ => ⟨S2048x2048, .f32⟩
  | .hbm, ⟨24, _⟩ => ⟨S1x2048, .f32⟩
  | .hbm, ⟨25, _⟩ => ⟨S2048, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x2x8x128, .f32⟩
  | .hbm, ⟨31, _⟩ => ⟨S_, .f32⟩
  | .hbm, ⟨32, _⟩ => ⟨S8x2x128, .f32⟩
  | .hbm, ⟨33, _⟩ => ⟨S1x2048, .f32⟩
  | .hbm, ⟨34, _⟩ => ⟨S8x2048, .f32⟩
  | .hbm, ⟨35, _⟩ => ⟨S8x2048, .f32⟩
  | .hbm, ⟨36, _⟩ => ⟨S8x2048, .bf16⟩
  | .hbm, ⟨37, _⟩ => ⟨S2x8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutEven.lean ====
abbrev S8192x1024 : Shape := ⟨2, ![8192, 1024]⟩
abbrev S8x1024 : Shape := ⟨2, ![8, 1024]⟩
abbrev S2x2048x2048 : Shape := ⟨3, ![2, 2048, 2048]⟩
abbrev S8192x2048 : Shape := ⟨2, ![8192, 2048]⟩
abbrev S8x2048 : Shape := ⟨2, ![8, 2048]⟩
abbrev S4x2048 : Shape := ⟨2, ![4, 2048]⟩
abbrev S4x1x2048 : Shape := ⟨3, ![4, 1, 2048]⟩
abbrev S2x8192x128 : Shape := ⟨3, ![2, 8192, 128]⟩
abbrev S2x8x128 : Shape := ⟨3, ![2, 8, 128]⟩
abbrev S1024x1024 : Shape := ⟨2, ![1024, 1024]⟩
abbrev S1x2048x1024 : Shape := ⟨3, ![1, 2048, 1024]⟩
abbrev S1x1x1024 : Shape := ⟨3, ![1, 1, 1024]⟩
abbrev S1x1024x128 : Shape := ⟨3, ![1, 1024, 128]⟩
abbrev S1x8x128 : Shape := ⟨3, ![1, 8, 128]⟩
abbrev S2048x1024 : Shape := ⟨2, ![2048, 1024]⟩
abbrev S1x1024 : Shape := ⟨2, ![1, 1024]⟩
abbrev S8x128 : Shape := ⟨2, ![8, 128]⟩
abbrev S1024x128 : Shape := ⟨2, ![1024, 128]⟩

abbrev nBuf : Space → Nat
  | .hbm => 15
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x1024, .bf16⟩
  | .hbm, ⟨3, _⟩ => ⟨S8x1024, .bf16⟩
  | .hbm, ⟨4, _⟩ => ⟨S2x2048x2048, .f32⟩
  | .hbm, ⟨5, _⟩ => ⟨S8192x2048, .f32⟩
  | .hbm, ⟨6, _⟩ => ⟨S8x2048, .f32⟩
  | .hbm, ⟨7, _⟩ => ⟨S4x2048, .f32⟩
  | .hbm, ⟨8, _⟩ => ⟨S4x1x2048, .f32⟩
  | .hbm, ⟨9, _⟩ => ⟨S8192x2048, .f32⟩
  | .hbm, ⟨10, _⟩ => ⟨S8x2048, .f32⟩
  | .hbm, ⟨11, _⟩ => ⟨S8192x2048, .bf16⟩
  | .hbm, ⟨12, _⟩ => ⟨S8x2048, .bf16⟩
  | .hbm, ⟨13, _⟩ => ⟨S2x8192x128, .f32⟩
  | .hbm, ⟨14, _⟩ => ⟨S2x8x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024, .bf16⟩
  | .local _ .vmem, ⟨5, _⟩ => ⟨S8x1024, .bf16⟩
  | .local _ .vmem, ⟨6, _⟩ => ⟨S1x2048x1024, .f32⟩
  | .local _ .vmem, ⟨7, _⟩ => ⟨S1x2048x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | .local _ .vmem, ⟨16, _⟩ => ⟨S8x1024, .f32⟩
  | .local _ .vmem, ⟨17, _⟩ => ⟨S8x1024, .f32⟩
  | .local _ .vmem, ⟨18, _⟩ => ⟨S1024x1024, .bf16⟩
  | .local _ .vmem, ⟨19, _⟩ => ⟨S1024x1024, .bf16⟩
  | .local _ .vmem, ⟨20, _⟩ => ⟨S8x1024, .bf16⟩
  | .local _ .vmem, ⟨21, _⟩ => ⟨S8x1024, .bf16⟩
  | .local _ .vmem, ⟨22, _⟩ => ⟨S1x1024x128, .f32⟩
  | .local _ .vmem, ⟨23, _⟩ => ⟨S1x1024x128, .f32⟩
  | .local _ .vmem, ⟨24, _⟩ => ⟨S1x8x128, .f32⟩
  | .local _ .vmem, ⟨25, _⟩ => ⟨S1x8x128, .f32⟩
  | .local _ .vmem, ⟨26, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== OutEvenReferenceIdeal.lean ====
abbrev S8192x1024 : Shape := ⟨2, ![8192, 1024]⟩
abbrev S8x1024 : Shape := ⟨2, ![8, 1024]⟩
abbrev S2x2048x2048 : Shape := ⟨3, ![2, 2048, 2048]⟩
abbrev S8192x2048 : Shape := ⟨2, ![8192, 2048]⟩
abbrev S8x2048 : Shape := ⟨2, ![8, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8192x2x8x128 : Shape := ⟨4, ![8192, 2, 8, 128]⟩
abbrev S_ : Shape := ⟨0, ![]⟩
abbrev S8192x2x128 : Shape := ⟨3, ![8192, 2, 128]⟩
abbrev S2x8192x128 : Shape := ⟨3, ![2, 8192, 128]⟩
abbrev S8x2x8x128 : Shape := ⟨4, ![8, 2, 8, 128]⟩
abbrev S8x2x128 : Shape := ⟨3, ![8, 2, 128]⟩
abbrev S2x8x128 : Shape := ⟨3, ![2, 8, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x1024, .bf16⟩
  | .hbm, ⟨3, _⟩ => ⟨S8x1024, .bf16⟩
  | .hbm, ⟨4, _⟩ => ⟨S2x2048x2048, .f32⟩
  | .hbm, ⟨5, _⟩ => ⟨S8192x2048, .f32⟩
  | .hbm, ⟨6, _⟩ => ⟨S8x2048, .f32⟩
  | .hbm, ⟨7, _⟩ => ⟨S4x2048, .f32⟩
  | .hbm, ⟨8, _⟩ => ⟨S8192x2048, .bf16⟩
  | .hbm, ⟨9, _⟩ => ⟨S1x2048x2048, .f32⟩
  | .hbm, ⟨10, _⟩ => ⟨S2048x2048, .f32⟩
  | .hbm, ⟨11, _⟩ => ⟨S1x2048, .f32⟩
  | .hbm, ⟨12, _⟩ => ⟨S2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2x8x128, .f32⟩
  | .hbm, ⟨18, _⟩ => ⟨S_, .f32⟩
  | .hbm, ⟨19, _⟩ => ⟨S8192x2x128, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S2x8192x128, .f32⟩
  | .hbm, ⟨25, _⟩ => ⟨S8x2048, .bf16⟩
  | .hbm, ⟨26, _⟩ => ⟨S1x2048x2048, .f32⟩
  | .hbm, ⟨27, _⟩ => ⟨S2048x2048, .f32⟩
  | .hbm, ⟨28, _⟩ => ⟨S1x2048, .f32⟩
  | .hbm, ⟨29, _⟩ => ⟨S2048, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S8x2x8x128, .f32⟩
  | .hbm, ⟨35, _⟩ => ⟨S_, .f32⟩
  | .hbm, ⟨36, _⟩ => ⟨S8x2x128, .f32⟩
  | .hbm, ⟨37, _⟩ => ⟨S1x2048, .f32⟩
  | .hbm, ⟨38, _⟩ => ⟨S8x2048, .f32⟩
  | .hbm, ⟨39, _⟩ => ⟨S8x2048, .f32⟩
  | .hbm, ⟨40, _⟩ => ⟨S8x2048, .bf16⟩
  | .hbm, ⟨41, _⟩ => ⟨S2x8x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== FfnLast.lean ====
abbrev S8192x5632 : Shape := ⟨2, ![8192, 5632]⟩
abbrev S8x5632 : Shape := ⟨2, ![8, 5632]⟩
abbrev S4x5632x2048 : Shape := ⟨3, ![4, 5632, 2048]⟩
abbrev S8192x2048 : Shape := ⟨2, ![8192, 2048]⟩
abbrev S8x2048 : Shape := ⟨2, ![8, 2048]⟩
abbrev S512x5632 : Shape := ⟨2, ![512, 5632]⟩
abbrev S1x5632x512 : Shape := ⟨3, ![1, 5632, 512]⟩
abbrev S512x512 : Shape := ⟨2, ![512, 512]⟩
abbrev S8x512 : Shape := ⟨2, ![8, 512]⟩
abbrev S5632x512 : Shape := ⟨2, ![5632, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S8x5632, .bf16⟩
  | .hbm, ⟨2, _⟩ => ⟨S4x5632x2048, .f32⟩
  | .hbm, ⟨3, _⟩ => ⟨S8192x2048, .f32⟩
  | .hbm, ⟨4, _⟩ => ⟨S8x2048, .f32⟩
  | .hbm, ⟨5, _⟩ => ⟨S8192x2048, .f32⟩
  | .hbm, ⟨6, _⟩ => ⟨S8x2048, .f32⟩
  | .local _ .vmem, ⟨0, _⟩ => ⟨S512x5632, .bf16⟩
  | .local _ .vmem, ⟨1, _⟩ => ⟨S512x5632, .bf16⟩
  | .local _ .vmem, ⟨2, _⟩ => ⟨S8x5632, .bf16⟩
  | .local _ .vmem, ⟨3, _⟩ => ⟨S1x5632x512, .f32⟩
  | .local _ .vmem, ⟨4, _⟩ => ⟨S1x5632x512, .f32⟩
  | .local _ .vmem, ⟨5, _⟩ => ⟨S512x512, .f32⟩
  | .local _ .vmem, ⟨6, _⟩ => ⟨S512x512, .f32⟩
  | .local _ .vmem, ⟨7, _⟩ => ⟨S8x512, .f32⟩
  | .local _ .vmem, ⟨8, _⟩ => ⟨S8x512, .f32⟩
  | .local _ .vmem, ⟨9, _⟩ => ⟨S512x512, .f32⟩
  | .local _ .vmem, ⟨10, _⟩ => ⟨S512x512, .f32⟩
  | .local _ .vmem, ⟨11, _⟩ => ⟨S8x512, .f32⟩
  | .local _ .vmem, ⟨12, _⟩ => ⟨S8x512, .f32⟩
  | .local _ .vmem, ⟨13, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x5632x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastReferenceIdeal.lean ====
abbrev S8192x5632 : Shape := ⟨2, ![8192, 5632]⟩
abbrev S8x5632 : Shape := ⟨2, ![8, 5632]⟩
abbrev S4x5632x2048 : Shape := ⟨3, ![4, 5632, 2048]⟩
abbrev S8192x2048 : Shape := ⟨2, ![8192, 2048]⟩
abbrev S8x2048 : Shape := ⟨2, ![8, 2048]⟩
abbrev S1x5632x2048 : Shape := ⟨3, ![1, 5632, 2048]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8x5632, .bf16⟩
  | .hbm, ⟨2, _⟩ => ⟨S4x5632x2048, .f32⟩
  | .hbm, ⟨3, _⟩ => ⟨S8192x2048, .f32⟩
  | .hbm, ⟨4, _⟩ => ⟨S8x2048, .f32⟩
  | .hbm, ⟨5, _⟩ => ⟨S8192x5632, .f32⟩
  | .hbm, ⟨6, _⟩ => ⟨S1x5632x2048, .f32⟩
  | .hbm, ⟨7, _⟩ => ⟨S5632x2048, .f32⟩
  | .hbm, ⟨8, _⟩ => ⟨S8192x2048, .f32⟩
  | .hbm, ⟨9, _⟩ => ⟨S8192x2048, .f32⟩
  | .hbm, ⟨10, _⟩ => ⟨S8x5632, .f32⟩
  | .hbm, ⟨11, _⟩ => ⟨S1x5632x2048, .f32⟩
  | .hbm, ⟨12, _⟩ => ⟨S5632x2048, .f32⟩
  | .hbm, ⟨13, _⟩ => ⟨S8x2048, .f32⟩
  | .hbm, ⟨14, _⟩ => ⟨S8x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== NormPrompt.lean ====
abbrev S8192x2048 : Shape := ⟨2, ![8192, 2048]⟩
abbrev S2048 : Shape := ⟨1, ![2048]⟩
abbrev S1x2048 : Shape := ⟨2, ![1, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormSample.lean ====
abbrev S8x2048 : Shape := ⟨2, ![8, 2048]⟩
abbrev S2048 : Shape := ⟨1, ![2048]⟩
abbrev S1x2048 : Shape := ⟨2, ![1, 2048]⟩
abbrev S1x1x2048 : Shape := ⟨3, ![1, 1, 2048]⟩
abbrev S8 : Shape := ⟨1, ![8]⟩
abbrev S8x1 : Shape := ⟨2, ![8, 1]⟩

abbrev nBuf : Space → Nat
  | .hbm => 5
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S1x2048, .f32⟩
  | .hbm, ⟨3, _⟩ => ⟨S1x1x2048, .f32⟩
  | .hbm, ⟨4, _⟩ => ⟨S8x2048, .f32⟩
  | .local _ .vmem, ⟨0, _⟩ => ⟨S8x2048, .f32⟩
  | .local _ .vmem, ⟨1, _⟩ => ⟨S1x1x2048, .f32⟩
  | .local _ .vmem, ⟨2, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSampleReferenceIdeal.lean ====
abbrev S8x2048 : Shape := ⟨2, ![8, 2048]⟩
abbrev S2048 : Shape := ⟨1, ![2048]⟩
abbrev S_ : Shape := ⟨0, ![]⟩
abbrev S8 : Shape := ⟨1, ![8]⟩
abbrev S8x1 : Shape := ⟨2, ![8, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x2048, .f32⟩
  | .hbm, ⟨3, _⟩ => ⟨S_, .f32⟩
  | .hbm, ⟨4, _⟩ => ⟨S8, .f32⟩
  | .hbm, ⟨5, _⟩ => ⟨S8x1, .f32⟩
  | .hbm, ⟨6, _⟩ => ⟨S_, .f32⟩
  | .hbm, ⟨7, _⟩ => ⟨S8x1, .f32⟩
  | .hbm, ⟨8, _⟩ => ⟨S8x1, .f32⟩
  | .hbm, ⟨9, _⟩ => ⟨S_, .f32⟩
  | .hbm, ⟨10, _⟩ => ⟨S8x1, .f32⟩
  | .hbm, ⟨11, _⟩ => ⟨S8x1, .f32⟩
  | .hbm, ⟨12, _⟩ => ⟨S8x1, .f32⟩
  | .hbm, ⟨13, _⟩ => ⟨S8x2048, .f32⟩
  | .hbm, ⟨14, _⟩ => ⟨S8x2048, .f32⟩
  | .hbm, ⟨15, _⟩ => ⟨S1x2048, .f32⟩
  | .hbm, ⟨16, _⟩ => ⟨S8x2048, .f32⟩
  | .hbm, ⟨17, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InFirst.lean ====
abbrev S8192x2048 : Shape := ⟨2, ![8192, 2048]⟩
abbrev S8x2048 : Shape := ⟨2, ![8, 2048]⟩
abbrev S1x8192x128 : Shape := ⟨3, ![1, 8192, 128]⟩
abbrev S1x8x128 : Shape := ⟨3, ![1, 8, 128]⟩
abbrev S2x2048x7168 : Shape := ⟨3, ![2, 2048, 7168]⟩
abbrev S8192x7168 : Shape := ⟨2, ![8192, 7168]⟩
abbrev S8x7168 : Shape := ⟨2, ![8, 7168]⟩
abbrev S1024x2048 : Shape := ⟨2, ![1024, 2048]⟩
abbrev S1x2048x1024 : Shape := ⟨3, ![1, 2048, 1024]⟩
abbrev S1x1024x128 : Shape := ⟨3, ![1, 1024, 128]⟩
abbrev S1024x1024 : Shape := ⟨2, ![1024, 1024]⟩
abbrev S8x1024 : Shape := ⟨2, ![8, 1024]⟩
abbrev S2048x1024 : Shape := ⟨2, ![2048, 1024]⟩
abbrev S8x128 : Shape := ⟨2, ![8, 128]⟩
abbrev S8 : Shape := ⟨1, ![8]⟩
abbrev S8x1 : Shape := ⟨2, ![8, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S1x8192x128, .f32⟩
  | .hbm, ⟨3, _⟩ => ⟨S1x8x128, .f32⟩
  | .hbm, ⟨4, _⟩ => ⟨S2x2048x7168, .f32⟩
  | .hbm, ⟨5, _⟩ => ⟨S8192x7168, .f32⟩
  | .hbm, ⟨6, _⟩ => ⟨S8x7168, .f32⟩
  | .local _ .vmem, ⟨0, _⟩ => ⟨S1024x2048, .bf16⟩
  | .local _ .vmem, ⟨1, _⟩ => ⟨S1024x2048, .bf16⟩
  | .local _ .vmem, ⟨2, _⟩ => ⟨S8x2048, .bf16⟩
  | .local _ .vmem, ⟨3, _⟩ => ⟨S1x2048x1024, .f32⟩
  | .local _ .vmem, ⟨4, _⟩ => ⟨S1x2048x1024, .f32⟩
  | .local _ .vmem, ⟨5, _⟩ => ⟨S1x1024x128, .f32⟩
  | .local _ .vmem, ⟨6, _⟩ => ⟨S1x1024x128, .f32⟩
  | .local _ .vmem, ⟨7, _⟩ => ⟨S1x8x128, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InFirstReferenceIdeal.lean ====
abbrev S8192x2048 : Shape := ⟨2, ![8192, 2048]⟩
abbrev S8x2048 : Shape := ⟨2, ![8, 2048]⟩
abbrev S1x8192x128 : Shape := ⟨3, ![1, 8192, 128]⟩
abbrev S1x8x128 : Shape := ⟨3, ![1, 8, 128]⟩
abbrev S2x2048x7168 : Shape := ⟨3, ![2, 2048, 7168]⟩
abbrev S_ : Shape := ⟨0, ![]⟩
abbrev S8192 : Shape := ⟨1, ![8192]⟩
abbrev S8192x1 : Shape := ⟨2, ![8192, 1]⟩
abbrev S1x2048x7168 : Shape := ⟨3, ![1, 2048, 7168]⟩
abbrev S2048x7168 : Shape := ⟨2, ![2048, 7168]⟩
abbrev S8192x7168 : Shape := ⟨2, ![8192, 7168]⟩
abbrev S8 : Shape := ⟨1, ![8]⟩
abbrev S8x1 : Shape := ⟨2, ![8, 1]⟩
abbrev S8x7168 : Shape := ⟨2, ![8, 7168]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048, .bf16⟩
  | .hbm, ⟨2, _⟩ => ⟨S1x8192x128, .f32⟩
  | .hbm, ⟨3, _⟩ => ⟨S1x8x128, .f32⟩
  | .hbm, ⟨4, _⟩ => ⟨S2x2048x7168, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048x7168, .f32⟩
  | .hbm, ⟨19, _⟩ => ⟨S2048x7168, .f32⟩
  | .hbm, ⟨20, _⟩ => ⟨S8192x7168, .f32⟩
  | .hbm, ⟨21, _⟩ => ⟨S8x2048, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8x1, .f32⟩
  | .hbm, ⟨32, _⟩ => ⟨S8x2048, .f32⟩
  | .hbm, ⟨33, _⟩ => ⟨S8x2048, .f32⟩
  | .hbm, ⟨34, _⟩ => ⟨S1x2048x7168, .f32⟩
  | .hbm, ⟨35, _⟩ => ⟨S2048x7168, .f32⟩
  | .hbm, ⟨36, _⟩ => ⟨S8x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Recur.lean ====
/- The arithmetic of the decayed recurrence on real numbers: the state carried from chunk to chunk is the decayed sum over
   all earlier rows, and what a row reads from it, with its own chunk's part, is the decayed sum over the whole sequence. -/
module

public import Idealize.ShloMosaic.Lib.Pointwise
public import Idealize.ShloMosaic.Lib.IdealHost

@[expose] public section

noncomputable section

open Idealize.ShloMosaic

namespace Cert.Ret

/-! ## Real numbers among the extended reals -/

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A small row number, as a word and back. -/
theorem toInt_nat {n : ℕ} (h : n < 2 ^ 31) : (BitVec.ofNat 32 n).toInt = (n : ℤ) := by
  rw [BitVec.toInt_eq_toNat_of_lt] <;> rw [BitVec.toNat_ofNat, Nat.mod_eq_of_lt (by omega)]
  omega

/-- A small row number as a float. -/
theorem float_nat {n : ℕ} (h : n < 2 ^ 31) : (FloatOps.sitofp FTy.f32 (BitVec.ofNat 32 n) : Ideal .f32) = ((n : ℝ) : EReal) := by
  show (((BitVec.ofNat 32 n).toInt : ℝ) : EReal) = _
  rw [toInt_nat h]; norm_cast

/-- Small row numbers compare as words as they do as numbers. -/
theorem sle_nat {a b : ℕ} (ha : a < 2 ^ 31) (hb : b < 2 ^ 31) :
    BitVec.ofBool ((BitVec.ofNat 32 a).sle (BitVec.ofNat 32 b)) = if a ≤ b then 1#1 else 0#1 := by
  rw [BitVec.sle_eq_decide, toInt_nat ha, toInt_nat hb]
  by_cases h : a ≤ b
  · rw [if_pos h, decide_eq_true (by omega)]; rfl
  · rw [if_neg h, decide_eq_false (by omega)]; rfl

/-- The exponential of a masked number is zero where the mask is. -/
theorem exp_masked (p : Prop) [Decidable p] (r : ℝ) :
    Ideal.exp (Scalar.select (if p then 1#1 else 0#1) ((r : ℝ) : EReal) ⊥) = ((if p then Real.exp r else 0 : ℝ) : EReal) := by
  by_cases h : p
  · rw [if_pos h, if_pos h]; rfl
  · rw [if_neg h, if_neg h]; rfl

/-- The literal two. -/
theorem lit_two : Ideal.ofBits .f32 0x40000000#32 = ((2 : ℝ) : EReal) := by
  simp [Ideal.ofBits, Ideal.ieee, -EReal.coe_mul]; norm_num
/-- The literal minus five. -/
theorem lit_neg_five : Ideal.ofBits .f32 0xC0A00000#32 = ((-5 : ℝ) : EReal) := by
  simp [Ideal.ofBits, Ideal.ieee, -EReal.coe_mul, -EReal.coe_neg]; norm_num
/-- The literal one sixteenth, which scales the keys. -/
theorem lit_sixteenth : Ideal.ofBits .f32 0x3D800000#32 = ((1 / 16 : ℝ) : EReal) := by
  simp [Ideal.ofBits, Ideal.ieee, -EReal.coe_mul]; norm_num
/-- The literal 255, the last row of a chunk. -/
theorem lit_255 : Ideal.ofBits .f32 0x437F0000#32 = ((255 : ℝ) : EReal) := by
  simp [Ideal.ofBits, Ideal.ieee, -EReal.coe_mul]; norm_num
/-- The literal 256, the rows of a chunk. -/
theorem lit_256 : Ideal.ofBits .f32 0x43800000#32 = ((256 : ℝ) : EReal) := by
  simp [Ideal.ofBits, Ideal.ieee, -EReal.coe_mul]; norm_num
/-- The literal 2047, the last row of a sequence. -/
theorem lit_2047 : Ideal.ofBits .f32 0x44FFE000#32 = ((2047 : ℝ) : EReal) := by
  simp [Ideal.ofBits, Ideal.ieee, -EReal.coe_mul]; norm_num
/-- The literal minus infinity, which masks the later rows. -/
theorem lit_neg_inf : Ideal.ofBits .f32 0xFF800000#32 = (⊥ : EReal) := by
  simp [Ideal.ofBits, Ideal.ieee]

/-- The logarithm of head `w`'s decay. -/
def rate (w : ℕ) : ℝ := Real.log (1 - Real.rpow 2 (-5 - (w : ℝ)))

/-- The decay is positive, so that its logarithm is a real number. -/
theorem rate_eq (w : ℕ) : Ideal.log ((1 : EReal) - ((Real.rpow 2 (-5 - (w : ℝ)) : ℝ) : EReal)) = ((rate w : ℝ) : EReal) := by
  have h : Real.rpow 2 (-5 - (w : ℝ)) < 1 := Real.rpow_lt_one_of_one_lt_of_neg (by norm_num) (by
    have : (0 : ℝ) ≤ w := Nat.cast_nonneg w
    linarith)
  rw [show (1 : EReal) - ((Real.rpow 2 (-5 - (w : ℝ)) : ℝ) : EReal) = ((1 - Real.rpow 2 (-5 - (w : ℝ)) : ℝ) : EReal) by push_cast; rfl,
    Ideal.log_coe, if_neg (by linarith)]
  rfl

/-! ## The recurrence -/

/-- The decayed sum over the first `n` rows. -/
def carried (l : ℝ) (k v : ℕ → ℝ) (n : ℕ) : ℝ := ∑ s ∈ Finset.range n, k s * Real.exp (((n : ℝ) - 1 - s) * l) * v s

/-- One chunk further. -/
theorem carried_step (l : ℝ) (k v : ℕ → ℝ) (n : ℕ) :
    carried l k v (n + 256) = Real.exp (256 * l) * carried l k v n
      + ∑ x : Fin 256, k (n + x.val) * Real.exp ((255 - (x.val : ℝ)) * l) * v (n + x.val) := by
  unfold carried
  rw [Finset.sum_range_add, Finset.mul_sum, Finset.sum_range (n := 256)]
  congr 1
  · refine Finset.sum_congr rfl fun s _ => ?_
    rw [show ((n + 256 : ℕ) : ℝ) - 1 - s = 256 + ((n : ℝ) - 1 - s) by push_cast; ring, add_mul, Real.exp_add]
    ring
  · refine Finset.sum_congr rfl fun x _ => ?_
    rw [show ((n + 256 : ℕ) : ℝ) - 1 - ((n + x.val : ℕ) : ℝ) = 255 - (x.val : ℝ) by push_cast; ring]

/-- A row's decayed sum over the whole sequence is its own chunk's part plus what it reads from the carried state. -/
theorem mixed_split (l : ℝ) (q : Fin 256 → ℝ) (k : ℕ → Fin 256 → ℝ) (v : ℕ → ℝ) (n : ℕ) (hn : n + 256 ≤ 2048) (t : Fin 256) :
    ∑ x : Fin 256, (∑ d, q d * k (n + x.val) d) * (if x.val ≤ t.val then Real.exp (((t.val : ℝ) - x.val) * l) else 0) * v (n + x.val)
        + (∑ d, q d * carried l (fun s => k s d) v n) * Real.exp (((t.val : ℝ) + 1) * l)
      = ∑ s : Fin 2048, (∑ d, q d * k s.val d) * (if s.val ≤ n + t.val then Real.exp ((((n + t.val : ℕ) : ℝ) - s.val) * l) else 0) * v s.val := by
  rw [← Finset.sum_range (fun s => (∑ d, q d * k s d) * (if s ≤ n + t.val then Real.exp ((((n + t.val : ℕ) : ℝ) - s) * l) else 0) * v s),
    show 2048 = (n + 256) + (2048 - (n + 256)) by omega, Finset.sum_range_add, Finset.sum_range_add, Finset.sum_range (n := 256)]
  have h0 : ∑ s ∈ Finset.range (2048 - (n + 256)), (∑ d, q d * k (n + 256 + s) d) *
      (if n + 256 + s ≤ n + t.val then Real.exp ((((n + t.val : ℕ) : ℝ) - ((n + 256 + s : ℕ) : ℝ)) * l) else 0) * v (n + 256 + s) = 0 := by
    refine Finset.sum_eq_zero fun s _ => ?_
    rw [if_neg (by have := t.isLt; omega)]; ring
  have h1 : (∑ d, q d * carried l (fun s => k s d) v n) * Real.exp (((t.val : ℝ) + 1) * l)
      = ∑ s ∈ Finset.range n, (∑ d, q d * k s d) * (if s ≤ n + t.val then Real.exp ((((n + t.val : ℕ) : ℝ) - s) * l) else 0) * v s := by
    unfold carried
    simp only [Finset.mul_sum, Finset.sum_mul]
    rw [Finset.sum_comm]
    refine Finset.sum_congr rfl fun s hs => Finset.sum_congr rfl fun d _ => ?_
    rw [if_pos (by have := Finset.mem_range.mp hs; omega),
      show (((n + t.val : ℕ) : ℝ) - s) * l = ((n : ℝ) - 1 - s) * l + ((t.val : ℝ) + 1) * l by push_cast; ring, Real.exp_add]
    ring
  rw [h0, h1, add_zero, add_comm]
  congr 1
  refine Finset.sum_congr rfl fun x _ => ?_
  by_cases hx : x.val ≤ t.val
  · rw [if_pos hx, if_pos (by omega)]
    congr 3
    push_cast; ring
  · rw [if_neg hx, if_neg (by omega)]

/-- The state after the whole sequence, as the reference writes it. -/
theorem carried_all (l : ℝ) (k v : ℕ → ℝ) :
    carried l k v 2048 = ∑ s : Fin 2048, k s.val * Real.exp ((2047 - (s.val : ℝ)) * l) * v s.val := by
  unfold carried
  rw [Finset.sum_range]
  refine Finset.sum_congr rfl fun s _ => ?_
  congr 3
  push_cast; ring

/-! ## The arguments as real numbers -/

/-- The rotary embedding of one row of one head. -/
def turned (x : Fin 256 → EReal) (cs sn : Fin 128 → EReal) (d : Fin 256) : EReal :=
  if h : d.val < 128 then x d * cs ⟨d.val, h⟩ - x ⟨128 + d.val, by omega⟩ * sn ⟨d.val, h⟩
  else x ⟨128 + (d.val - 128), by omega⟩ * cs ⟨d.val - 128, by omega⟩ + x ⟨d.val - 128, by omega⟩ * sn ⟨d.val - 128, by omega⟩

/-- The same on real numbers. -/
def turnedR (x : Fin 256 → ℝ) (cs sn : Fin 128 → ℝ) (d : Fin 256) : ℝ :=
  if h : d.val < 128 then x d * cs ⟨d.val, h⟩ - x ⟨128 + d.val, by omega⟩ * sn ⟨d.val, h⟩
  else x ⟨128 + (d.val - 128), by omega⟩ * cs ⟨d.val - 128, by omega⟩ + x ⟨d.val - 128, by omega⟩ * sn ⟨d.val - 128, by omega⟩

/-- The rotary embedding of real numbers is real. -/
theorem turned_coe (x : Fin 256 → ℝ) (cs sn : Fin 128 → ℝ) (d : Fin 256) :
    turned (fun d => (x d : EReal)) (fun d => (cs d : EReal)) (fun d => (sn d : EReal)) d = ((turnedR x cs sn d : ℝ) : EReal) := by
  unfold turned turnedR
  split <;> push_cast <;> rfl

/-- The projected rows as real numbers. -/
def rows (z : (⟨3, ![4, 2048, 8192]⟩ : Shape).Idx → EReal) (b : Fin 4) (s j : ℕ) : ℝ :=
  if h : s < 2048 ∧ j < 8192 then (z (ix3 b ⟨s, h.1⟩ ⟨j, h.2⟩)).toReal else 0

/-- A rotary table as real numbers. -/
def angles (x : (⟨2, ![2048, 128]⟩ : Shape).Idx → EReal) (s : ℕ) (d : Fin 128) : ℝ :=
  if h : s < 2048 then (x (ix2 ⟨s, h⟩ d)).toReal else 0

/-- The queries, the keys and the values are real numbers, and so are the rotary tables. -/
structure RealArgs (z : (⟨3, ![4, 2048, 8192]⟩ : Shape).Idx → EReal) (cs sn : (⟨2, ![2048, 128]⟩ : Shape).Idx → EReal) : Prop where
  z : ∀ (b : Fin 4) (s : Fin 2048) (j : Fin 8192), j.val < 6144 → ((z (ix3 b s j)).toReal : EReal) = z (ix3 b s j)
  cs : ∀ (s : Fin 2048) (d : Fin 128), ((cs (ix2 s d)).toReal : EReal) = cs (ix2 s d)
  sn : ∀ (s : Fin 2048) (d : Fin 128), ((sn (ix2 s d)).toReal : EReal) = sn (ix2 s d)

variable {z : (⟨3, ![4, 2048, 8192]⟩ : Shape).Idx → EReal} {cs sn : (⟨2, ![2048, 128]⟩ : Shape).Idx → EReal}

/-- An entry of the queries, keys or values is its real number. -/
theorem RealArgs.rows_eq (h : RealArgs z cs sn) (b : Fin 4) (s : Fin 2048) (j : Fin 8192) (hj : j.val < 6144) :
    z (ix3 b s j) = ((rows z b s.val j.val : ℝ) : EReal) := by
  unfold rows; rw [dif_pos ⟨s.isLt, j.isLt⟩]; exact (h.z b s j hj).symm

/-- A cosine is its real number. -/
theorem RealArgs.cos_eq (h : RealArgs z cs sn) (s : Fin 2048) (d : Fin 128) : cs (ix2 s d) = ((angles cs s.val d : ℝ) : EReal) := by
  unfold angles; rw [dif_pos s.isLt]; exact (h.cs s d).symm

/-- A sine is its real number. -/
theorem RealArgs.sin_eq (h : RealArgs z cs sn) (s : Fin 2048) (d : Fin 128) : sn (ix2 s d) = ((angles sn s.val d : ℝ) : EReal) := by
  unfold angles; rw [dif_pos s.isLt]; exact (h.sn s d).symm

variable (z cs sn)

/-- Row `s` of head `w`'s queries. -/
def queryR (b : Fin 4) (w : Fin 8) (s : ℕ) (d : Fin 256) : ℝ :=
  turnedR (fun d => rows z b s (256 * w.val + d.val)) (angles cs s) (angles sn s) d

/-- Row `s` of head `w`'s keys. -/
def keyR (b : Fin 4) (w : Fin 8) (s : ℕ) (d : Fin 256) : ℝ :=
  turnedR (fun d => rows z b s (2048 + 256 * w.val + d.val)) (angles cs s) (angles sn s) d * (1 / 16)

/-- Row `s` of head `w`'s values. -/
def valueR (b : Fin 4) (w : Fin 8) (s : ℕ) (e : Fin 256) : ℝ := rows z b s (4096 + 256 * w.val + e.val)

/-- Head `w`'s state before row `n`. -/
def stateR (b : Fin 4) (w : Fin 8) (n : ℕ) (d e : Fin 256) : ℝ :=
  carried (rate w.val) (fun s => keyR z cs sn b w s d) (fun s => valueR z b w s e) n

/-- Row `t` of head `w`'s mixed values: the decayed sum over the rows up to it. -/
def mixR (b : Fin 4) (w : Fin 8) (t : ℕ) (e : Fin 256) : ℝ :=
  ∑ s : Fin 2048, (∑ d, queryR z cs sn b w t d * keyR z cs sn b w s.val d)
    * (if s.val ≤ t then Real.exp (((t : ℝ) - s.val) * rate w.val) else 0) * valueR z b w s.val e

/-! ## The normalisation and the gate -/

/-- The mean of a row of one head. -/
def mean (o : Fin 256 → EReal) : EReal := Ideal.div (∑ x, o x) (Ideal.ofBits FTy.f32 0x43800000#32)

/-- A row normalised over the head's width, scaled by `w` and multiplied by the silu of `g`. -/
def normSilu (o : Fin 256 → EReal) (w g : EReal) (e : Fin 256) : EReal :=
  (o e - mean o) * Ideal.rsqrt (mean (fun x => (o x - mean o) * (o x - mean o)) + Ideal.ofBits FTy.f32 0x358637BD#32) * w
    * (g * Ideal.div 1 (1 + Ideal.exp (-g)))

end Cert.Ret

end
-- ==== Proof.Pre.lean ====
/- What the precondition says of the arguments: the queries, keys and values and the rotary tables are real numbers. -/
module

public import proofs.«01_k».proof.Proof.Recur
public import proofs.«01_k».proof.Pre_finite
public import Idealize.ShloMosaic.Lib.ReduceAll
public import Idealize.ShloMosaic.Lib.Affine
public import Idealize.ShloMosaic.Lib.ValueLayout

@[expose] public section

noncomputable section

open Idealize.ShloMosaic Idealize.SL.Sem

namespace Cert.Pre_finite

open Cert.Pre_finite

/-- The shape relations of the precondition's operations. -/
theorem facts : Facts := ⟨by decide, by decide, by decide, by decide, by decide, by decide⟩

/-- A number whose absolute value is below infinity is real. -/
theorem real_of_lt (x : EReal) (h : Ideal.cmp .olt (max x (-x)) (Ideal.ofBits .f32 0x7F800000#32) = 1#1) : ((x.toReal : ℝ) : EReal) = x := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => rfl

/-- Under the precondition the arguments the recurrence reads are real. -/
theorem realArgs [Facts] (z : FVec Ideal S4x2048x8192 .f32) (cs sn : FVec Ideal S2048x128 .f32) (gn : FVec Ideal S2x2048 .f32)
    (h : fn z cs sn gn = fun _ => 1#1) : Cert.Ret.RealArgs z cs sn := by
  have h := congrFun h ix0
  obtain ⟨h12, h3⟩ := IntOp.andi_eq_one.1 (show IntOp.andi _ _ = 1#1 from h)
  obtain ⟨h1, h2⟩ := IntOp.andi_eq_one.1 (show IntOp.andi _ _ = 1#1 from h12)
  have : Subsingleton S_.Idx := ⟨fun a b => funext fun i => i.elim0⟩
  refine ⟨fun b s j hj => ?_, fun s d => ?_, fun s d => ?_⟩
  · have := real_of_lt _ (Host.reduce_andi_all _ _ _ _ _ h1 (ix3 b s ⟨j.val, hj⟩))
    have e : extractStridedSlice S4x2048x6144 ![0, 0, 0] z Facts.slices_S4x2048x8192_S4x2048x6144_0_0_0 (ix3 b s ⟨j.val, hj⟩) = z (ix3 b s j) := by
      pointwise []
    dsimp only at this
    rwa [e] at this
  · exact real_of_lt _ (Host.reduce_andi_all _ _ _ _ _ h2 (ix2 s d))
  · exact real_of_lt _ (Host.reduce_andi_all _ _ _ _ _ h3 (ix2 s d))

end Cert.Pre_finite

end
-- ==== Proof.Head.lean ====
/- One head of the retention kernel's body, written once: the body unrolls eight heads and cuts each into other named
   values, and every one of them is this function at its own head number. -/
module

public import proofs.«01_k».proof.Proof.Gen.KernelIdeal.Value
public import Idealize.ShloMosaic.Lib.Tactic
public import Idealize.ShloMosaic.Lib.Pointwise

@[expose] public section

noncomputable section

open Idealize.ShloMosaic Idealize.ShloMosaic.TcCoe Idealize.SL.Sem

namespace Cert.KernelIdeal.Ret

open Cert.KernelIdeal Cert.KernelIdeal.Gen

variable {F : FTy → Type} [FloatOps F]

/-- The logarithm of the decay of head `w`: `log (1 − 2^(−5 − w))`. -/
def logDecay (w : BitVec 32) : FVec F S1x1 .f32 :=
  log (subf (broadcast S1x1 (Scalar.ofBits .f32 0x3F800000#32))
    (exp2 (subf (broadcast S1x1 (Scalar.ofBits .f32 0xC0A00000#32)) (sitofp .f32 (broadcast S1x1 w)))))

/-- The row numbers of a chunk as floats. -/
def rowNo : FVec F S256x256 .f32 := sitofp .f32 (iota .tc S256x256 32 [0] iota_S256x256_d0_w32)

/-- The rotary embedding of a chunk of one head: its two halves turned by the rows' angles. -/
def rotate (cs sn : Vec F S256x128 .f32) (x : Vec F S1x256x256 .f32) : FVec F S256x256 .f32 :=
  let y : FVec F S256x256 .f32 := shapeCast S256x256 x shapeCasts_S1x256x256_S256x256
  let a : FVec F S256x128 .f32 := extractStridedSlice S256x128 ![0, 0] y slices_S256x256_o0_0_S256x128
  let b : FVec F S256x128 .f32 := extractStridedSlice S256x128 ![0, 128] y slices_S256x256_o0_128_S256x128
  concatenate S256x256 1 [⟨S256x128, subf (mulf a cs) (mulf b sn)⟩, ⟨S256x128, addf (mulf b cs) (mulf a sn)⟩]
    concatenates_S256x128_S256x128_S256x256_d1

/-- The rotated keys, scaled by one over the square root of the head's width. -/
def rotKey (cs sn : Vec F S256x128 .f32) (k : Vec F S1x256x256 .f32) : FVec F S256x256 .f32 :=
  mulf (rotate cs sn k) (broadcast S256x256 (Scalar.ofBits .f32 0x3D800000#32))

/-- The values as the products take them. -/
def vals (v : Vec F S1x256x256 .f32) : FVec F S256x256 .bf16 :=
  truncf .bf16 (shapeCast S256x256 v shapeCasts_S1x256x256_S256x256) bitsLt_bf16_f32

/-- The state after the chunk: the old one decayed by the whole chunk, plus each row's key times its value, decayed
    from the row to the end of the chunk. -/
def newState (w : BitVec 32) (cs sn : Vec F S256x128 .f32) (k v st : Vec F S1x256x256 .f32) : FVec F S1x256x256 .f32 :=
  let l : FVec F S1x1 .f32 := logDecay w
  let d : FVec F S256x256 .f32 := exp (mulf (subf (broadcast S256x256 (Scalar.ofBits .f32 0x437F0000#32)) rowNo)
    (broadcastTo S256x256 l broadcasts_S1x1_S256x256))
  let cd : FVec F S1x1 .f32 := exp (mulf (broadcast S1x1 (Scalar.ofBits .f32 0x43800000#32)) l)
  shapeCast S1x256x256
    (addf (mulf (broadcastTo S256x256 cd broadcasts_S1x1_S256x256) (shapeCast S256x256 st shapeCasts_S1x256x256_S256x256 : FVec F S256x256 .f32))
      (matmul dot_S256x256_S256x256_S256x256_0_0_1_1_n_n none (truncf .bf16 (mulf (rotKey cs sn k) d) bitsLt_bf16_f32 : FVec F S256x256 .bf16) (vals v)
        (constant S256x256 .f32 0x00000000#32)))
    shapeCasts_S256x256_S1x256x256

/-- The chunk's mixed values: the decayed attention within the chunk, plus the queries through the incoming state. -/
def mix (w : BitVec 32) (cs sn : Vec F S256x128 .f32) (q k v st : Vec F S1x256x256 .f32) : FVec F S256x256 .f32 :=
  let l : FVec F S256x256 .f32 := broadcastTo S256x256 (logDecay w : FVec F S1x1 .f32) broadcasts_S1x1_S256x256
  let tr : IVec S256x256 32 := iota .tc S256x256 32 [0] iota_S256x256_d0_w32
  let sr : IVec S256x256 32 := iota .tc S256x256 32 [1] iota_S256x256_d1_w32
  let dm : FVec F S256x256 .f32 := exp (select (cmpi .sle sr tr) (mulf (sitofp .f32 (subi tr sr)) l)
    (broadcast S256x256 (Scalar.ofBits .f32 0xFF800000#32)))
  let dt : FVec F S256x256 .f32 := exp (mulf (addf rowNo (broadcast S256x256 (Scalar.ofBits .f32 0x3F800000#32))) l)
  let qb : FVec F S256x256 .bf16 := truncf .bf16 (rotate cs sn q) bitsLt_bf16_f32
  let att : FVec F S256x256 .f32 := mulf (matmul dot_S256x256_S256x256_S256x256_1_1_0_0_n_n none qb
    (truncf .bf16 (rotKey cs sn k) bitsLt_bf16_f32 : FVec F S256x256 .bf16) (constant S256x256 .f32 0x00000000#32)) dm
  addf (matmul dot_S256x256_S256x256_S256x256_1_0_0_1_n_n none (truncf .bf16 att bitsLt_bf16_f32 : FVec F S256x256 .bf16) (vals v)
      (constant S256x256 .f32 0x00000000#32))
    (mulf (matmul dot_S256x256_S256x256_S256x256_1_0_0_1_n_n none qb
      (truncf .bf16 (shapeCast S256x256 st shapeCasts_S1x256x256_S256x256 : FVec F S256x256 .f32) bitsLt_bf16_f32 : FVec F S256x256 .bf16)
      (constant S256x256 .f32 0x00000000#32)) dt)

/-- The normalisation of the mixed values over the head's width, scaled by the norm's weights, times the gate's silu. -/
def normGate (o : FVec F S256x256 .f32) (gn : Vec F S1x1x256 .f32) (g : Vec F S1x256x256 .f32) : FVec F S1x256x256 .bf16 :=
  let mean (x : FVec F S256x256 .f32) : FVec F S256x1 .f32 :=
    divf (shapeCast S256x1 (multiReduction .add [1] S256 x 0x00000000#32 reduces_S256x256_S256 (.inl rfl) rfl : FVec F S256 .f32) shapeCasts_S256_S256x1)
      (broadcast S256x1 (Scalar.ofBits .f32 0x43800000#32))
  let oc : FVec F S256x256 .f32 := subf o (broadcastTo S256x256 (mean o) broadcasts_S256x1_S256x256)
  let rs : FVec F S256x1 .f32 := rsqrt (addf (mean (mulf oc oc)) (broadcast S256x1 (Scalar.ofBits .f32 0x358637BD#32)))
  let on : FVec F S256x256 .f32 := mulf (mulf oc (broadcastTo S256x256 rs broadcasts_S256x1_S256x256))
    (broadcastTo S256x256 (shapeCast S1x256 gn shapeCasts_S1x1x256_S1x256 : FVec F S1x256 .f32) broadcasts_S1x256_S256x256)
  let gg : FVec F S256x256 .f32 := shapeCast S256x256 g shapeCasts_S1x256x256_S256x256
  let sg : FVec F S256x256 .f32 := divf (broadcast S256x256 (Scalar.ofBits .f32 0x3F800000#32))
    (addf (broadcast S256x256 (Scalar.ofBits .f32 0x3F800000#32)) (exp (subf (broadcast S256x256 (Scalar.ofBits .f32 0x00000000#32)) gg)))
  shapeCast S1x256x256 (truncf .bf16 (mulf on (mulf gg sg)) bitsLt_bf16_f32 : FVec F S256x256 .bf16) shapeCasts_S256x256_S1x256x256

/-! ## The blocks of a point, cut by head -/

/-- Head `h`'s columns of a 256-row block. -/
def cols (x : Vec F S1x256x2048 .f32) (h : Fin 8) : Vec F S1x256x256 .f32 :=
  View.ld x (Rect.unit (s := S1x256x2048) ![0, 0, 256 * h.val] S1x256x256.size (fun a => by
    have := h.isLt; match a with
    | ⟨0, _⟩ => show 0 + 1 ≤ 1; omega
    | ⟨1, _⟩ => show 0 + 256 ≤ 256; omega
    | ⟨2, _⟩ => show 256 * h.val + 256 ≤ 2048; omega))

/-- Head `h`'s columns of the norm's weights. -/
def gcols (x : Vec F S1x1x2048 .f32) (h : Fin 8) : Vec F S1x1x256 .f32 :=
  View.ld x (Rect.unit (s := S1x1x2048) ![0, 0, 256 * h.val] S1x1x256.size (fun a => by
    have := h.isLt; match a with
    | ⟨0, _⟩ => show 0 + 1 ≤ 1; omega
    | ⟨1, _⟩ => show 0 + 1 ≤ 1; omega
    | ⟨2, _⟩ => show 256 * h.val + 256 ≤ 2048; omega))

/-- Head `h`'s state. -/
def slab (x : Vec F S8x256x256 .f32) (h : Fin 8) : Vec F S1x256x256 .f32 :=
  View.ld x (Rect.unit (s := S8x256x256) ![h.val, 0, 0] S1x256x256.size (fun a => by
    have := h.isLt; match a with
    | ⟨0, _⟩ => show h.val + 1 ≤ 8; omega
    | ⟨1, _⟩ => show 0 + 256 ≤ 256; omega
    | ⟨2, _⟩ => show 0 + 256 ≤ 256; omega))

/-- The rows of a rotary table at the point's chunk. -/
def tab (i : grid0.Coords) (x : Vec F S2048x128 .f32) : Vec F S256x128 .f32 :=
  View.ld x (Rect.unit (s := S2048x128) (k0_off1 i) S256x128.size (k0_off1_inb i))

/-- The head number at a point: eight per grid step. -/
def headNo (i : grid0.Coords) (h : Fin 8) : BitVec 32 :=
  Scalar.addi (Scalar.muli (BitVec.ofNat 32 (i 1).val) 8#32) (BitVec.ofNat 32 h.val)

/-- The state a point leaves, from the state it finds. -/
def stepState (i : grid0.Coords) (x1 x2 : Vec F S1x256x2048 .f32) (x4 x5 : Vec F S2048x128 .f32) (st : Vec F S8x256x256 .f32) :
    Vec F S8x256x256 .f32 :=
  fun y => newState (headNo i (y 0)) (tab i x4) (tab i x5) (cols x1 (y 0)) (cols x2 (y 0)) (slab st (y 0)) (ix3 0 (y 1) (y 2))

/-- The output block a point leaves, from the state it finds. -/
def outBlock (i : grid0.Coords) (x0 x1 x2 x3 : Vec F S1x256x2048 .f32) (x4 x5 : Vec F S2048x128 .f32) (x6 : Vec F S1x1x2048 .f32)
    (st : Vec F S8x256x256 .f32) : Vec F S1x256x2048 .bf16 :=
  fun y =>
    let h : Fin 8 := ⟨(y 2).val / 256, by have : (y 2).val < 2048 := (y 2).isLt; omega⟩
    normGate (mix (headNo i h) (tab i x4) (tab i x5) (cols x0 h) (cols x1 h) (cols x2 h) (slab st h)) (gcols x6 h) (cols x3 h)
      (ix3 0 (y 1) ⟨(y 2).val % 256, Nat.mod_lt _ (by decide)⟩)

end Cert.KernelIdeal.Ret

end
-- ==== Proof.Cases.lean ====
/- What each case of the retention kernel's body leaves in the state and in the output block: the eight heads of
   Head.lean, read off the stores the run of the body lists. -/
module

public import proofs.«01_k».proof.Proof.Head
public import Idealize.ShloMosaic.Lib.Pipeline.ReadBack
public import Idealize.ShloMosaic.Lib.ValueLayout

@[expose] public section

noncomputable section

open Idealize.ShloMosaic Idealize.ShloMosaic.TcCoe Idealize.SL.Sem

namespace Cert.KernelIdeal.Ret

open Cert.KernelIdeal Cert.KernelIdeal.Gen

variable {F : FTy → Type} [FloatOps F]

/-- A store of a whole state slab is a block of the function that gives, per head, that slab. -/
theorem slab_piece {α : Type} (f : Fin 8 → S1x256x256.Idx → α) (h : Fin 8) (n : ℕ) (hn : n = h.val) (inb)
    (w : S1x256x256.Idx → α) (hw : w = f h) (x : S1x256x256.Idx) :
    w x = (fun y : S8x256x256.Idx => f (y 0) (ix3 0 (y 1) (y 2)))
      ((Rect.unit (s := S8x256x256) ![n, 0, 0] S1x256x256.size inb).emb x) := by
  subst hw hn
  idx_vars x
  show f h _ = f _ _
  have e : (Rect.unit (s := S8x256x256) ![h.val, 0, 0] S1x256x256.size inb).emb (ix3 x0 x1 x2) = ix3 h x1 x2 := by
    idx_ext <;> simp [Rect.emb] <;> omega
  rw [e]
  congr 1
  idx_ext

/-- A store of one head's columns is a block of the function that gives, per head, those columns. -/
theorem cols_piece {α : Type} (f : Fin 8 → S1x256x256.Idx → α) (h : Fin 8) (n : ℕ) (hn : n = 256 * h.val) (inb)
    (w : S1x256x256.Idx → α) (hw : w = f h) (x : S1x256x256.Idx) :
    w x = (fun y : S1x256x2048.Idx => f ⟨(y 2).val / 256, by have : (y 2).val < 2048 := (y 2).isLt; omega⟩
        (ix3 0 (y 1) ⟨(y 2).val % 256, Nat.mod_lt _ (by decide)⟩))
      ((Rect.unit (s := S1x256x2048) ![0, 0, n] S1x256x256.size inb).emb x) := by
  subst hw hn
  idx_vars x
  have hh := h.isLt
  have e : (Rect.unit (s := S1x256x2048) ![0, 0, 256 * h.val] S1x256x256.size inb).emb (ix3 x0 x1 x2)
      = ix3 0 x1 ⟨256 * h.val + x2.val, by omega⟩ := by
    idx_ext <;> simp [Rect.emb] <;> omega
  rw [e]
  show f h _ = f _ _
  congr 1
  · apply Fin.ext; show h.val = (256 * h.val + x2.val) / 256; omega
  · funext a
    match a with
    | ⟨0, _⟩ => exact Fin.ext (by show x0.val = 0; omega)
    | ⟨1, _⟩ => rfl
    | ⟨2, _⟩ => exact Fin.ext (by show x2.val = (256 * h.val + x2.val) % 256; omega)

/-- A slab holds every index whose head it is. -/
theorem slab_mem (n : ℕ) (inb) (y : S8x256x256.Idx) (hn : (y 0).val = n) :
    y ∈ (Rect.unit (s := S8x256x256) ![n, 0, 0] S1x256x256.size inb).set := by
  rw [Rect.mem_set_unit]
  intro a
  have h1 : (y 1).val < 256 := (y 1).isLt
  have h2 : (y 2).val < 256 := (y 2).isLt
  match a with
  | ⟨0, _⟩ => exact ⟨by show n ≤ (y 0).val; omega, by show (y 0).val < n + 1; omega⟩
  | ⟨1, _⟩ => exact ⟨Nat.zero_le _, by show (y 1).val < 0 + 256; omega⟩
  | ⟨2, _⟩ => exact ⟨Nat.zero_le _, by show (y 2).val < 0 + 256; omega⟩

/-- The eight slabs cover the state. -/
theorem slabs_cover (w7 w6 w5 w4 w3 w2 w1 w0 : Vec F S1x256x256 .f32) (y : S8x256x256.Idx) :
    ∃ p ∈ ([⟨Rect.unit ![7, 0, 0] S1x256x256.size inb_S8x256x256_S1x256x256_7_0_0, w7⟩,
        ⟨Rect.unit ![6, 0, 0] S1x256x256.size inb_S8x256x256_S1x256x256_6_0_0, w6⟩,
        ⟨Rect.unit ![5, 0, 0] S1x256x256.size inb_S8x256x256_S1x256x256_5_0_0, w5⟩,
        ⟨Rect.unit ![4, 0, 0] S1x256x256.size inb_S8x256x256_S1x256x256_4_0_0, w4⟩,
        ⟨Rect.unit ![3, 0, 0] S1x256x256.size inb_S8x256x256_S1x256x256_3_0_0, w3⟩,
        ⟨Rect.unit ![2, 0, 0] S1x256x256.size inb_S8x256x256_S1x256x256_2_0_0, w2⟩,
        ⟨Rect.unit ![1, 0, 0] S1x256x256.size inb_S8x256x256_S1x256x256_1_0_0, w1⟩,
        ⟨Rect.unit ![0, 0, 0] S1x256x256.size inb_S8x256x256_S1x256x256_0_0_0, w0⟩] : List (View.Piece (Elt F) S8x256x256 .f32)), y ∈ p.1.set := by
  have h0 : (y 0).val < 8 := (y 0).isLt
  simp only [List.exists_mem_cons_iff, List.not_mem_nil, false_and, exists_false, or_false]
  rcases (by omega : (y 0).val = 7 ∨ (y 0).val = 6 ∨ (y 0).val = 5 ∨ (y 0).val = 4 ∨ (y 0).val = 3 ∨ (y 0).val = 2
    ∨ (y 0).val = 1 ∨ (y 0).val = 0) with h | h | h | h | h | h | h | h
  all_goals simp only [slab_mem _ _ y h, true_or, or_true]

variable (c : Dev nD) (i : grid0.Coords) (arg3 : Memref sig .tc .vmem S1x256x2048 .f32) (harg3 : arg3.IsWhole)
  (arg4 : Memref sig .tc .vmem S1x256x2048 .f32) (harg4 : arg4.IsWhole) (arg5 : Memref sig .tc .vmem S1x256x2048 .f32) (harg5 : arg5.IsWhole)
  (arg6 : Memref sig .tc .vmem S1x256x2048 .f32) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S1x1x2048 .f32) (harg9 : arg9.IsWhole)
  (arg10 : Memref sig .tc .vmem S1x256x2048 .bf16) (harg10 : arg10.IsWhole) (arg11 : Memref sig .tc .vmem S1x8x256x256 .f32) (harg11 : arg11.IsWhole)
  (arg12 : Memref sig .tc .vmem S8x256x256 .f32) (harg12 : arg12.IsWhole)
  (x0 x1 x2 x3 : Vec F S1x256x2048 .f32) (x4 x5 : Vec F S2048x128 .f32) (x6 : Vec F S1x1x2048 .f32) (xs0 : Vec F S8x256x256 .f32)

/-- The first point of a sequence leaves the state after one chunk from zero. -/
theorem state_A (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = stepState i x1 x2 x4 x5 (k0_pay3 : Vec F S8x256x256 .f32) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  funext y
  let f : Fin 8 → Vec F S1x256x256 .f32 := fun h =>
    newState (headNo i h) (tab i x4) (tab i x5) (cols x1 h) (cols x2 h) (slab (k0_pay3 : Vec F S8x256x256 .f32) h)
  unfold kernelRun0_A
  dsimp only
  sl_unfold_words
  simp (config := {decide := true}) only [↓View.readCov_skip, View.readCov_fill, View.readAt_eq_ld, harg4.read_unread, harg5.read_unread, harg7.read_unread, harg8.read_unread]
  exact View.canon_append_of_piecesOf (stepState i x1 x2 x4 x5 (k0_pay3 : Vec F S8x256x256 .f32)) [_] [_, _, _, _, _, _, _, _]
    ⟨slab_piece f 7 7 rfl inb_S8x256x256_S1x256x256_7_0_0 _ rfl, slab_piece f 6 6 rfl inb_S8x256x256_S1x256x256_6_0_0 _ rfl,
    slab_piece f 5 5 rfl inb_S8x256x256_S1x256x256_5_0_0 _ rfl, slab_piece f 4 4 rfl inb_S8x256x256_S1x256x256_4_0_0 _ rfl,
    slab_piece f 3 3 rfl inb_S8x256x256_S1x256x256_3_0_0 _ rfl, slab_piece f 2 2 rfl inb_S8x256x256_S1x256x256_2_0_0 _ rfl,
    slab_piece f 1 1 rfl inb_S8x256x256_S1x256x256_1_0_0 _ rfl, slab_piece f 0 0 rfl inb_S8x256x256_S1x256x256_0_0_0 _ rfl, trivial⟩
    y (slabs_cover _ _ _ _ _ _ _ _ y)

/-- A point inside a sequence leaves the next state. -/
theorem state_B (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0
      = stepState i x1 x2 x4 x5 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0)]
  funext y
  let f : Fin 8 → Vec F S1x256x256 .f32 := fun h =>
    newState (headNo i h) (tab i x4) (tab i x5) (cols x1 h) (cols x2 h) (slab xs0 h)
  refine View.canon_apply_of_pieces (stepState i x1 x2 x4 x5 xs0) _ (View.PiecesOf.mem ?_) y
    (scover0_B_0 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_B
  dsimp only
  sl_unfold_words
  simp only [View.readAt_eq_ld, harg4.read_unread, harg5.read_unread, harg7.read_unread, harg8.read_unread, harg12.read_unread]
  exact ⟨slab_piece f 7 7 rfl inb_S8x256x256_S1x256x256_7_0_0 _ rfl, slab_piece f 6 6 rfl inb_S8x256x256_S1x256x256_6_0_0 _ rfl,
    slab_piece f 5 5 rfl inb_S8x256x256_S1x256x256_5_0_0 _ rfl, slab_piece f 4 4 rfl inb_S8x256x256_S1x256x256_4_0_0 _ rfl,
    slab_piece f 3 3 rfl inb_S8x256x256_S1x256x256_3_0_0 _ rfl, slab_piece f 2 2 rfl inb_S8x256x256_S1x256x256_2_0_0 _ rfl,
    slab_piece f 1 1 rfl inb_S8x256x256_S1x256x256_1_0_0 _ rfl, slab_piece f 0 0 rfl inb_S8x256x256_S1x256x256_0_0_0 _ rfl, trivial⟩

/-- The last point of a sequence leaves the next state. -/
theorem state_C (hc0 : ¬cond0_0 i) (hc1 : cond0_1 i) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0
      = stepState i x1 x2 x4 x5 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0)]
  funext y
  let f : Fin 8 → Vec F S1x256x256 .f32 := fun h =>
    newState (headNo i h) (tab i x4) (tab i x5) (cols x1 h) (cols x2 h) (slab xs0 h)
  refine View.canon_apply_of_pieces (stepState i x1 x2 x4 x5 xs0) _ (View.PiecesOf.mem ?_) y
    (scover0_C_0 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  simp only [View.readAt_eq_ld, harg4.read_unread, harg5.read_unread, harg7.read_unread, harg8.read_unread, harg12.read_unread]
  exact ⟨slab_piece f 7 7 rfl inb_S8x256x256_S1x256x256_7_0_0 _ rfl, slab_piece f 6 6 rfl inb_S8x256x256_S1x256x256_6_0_0 _ rfl,
    slab_piece f 5 5 rfl inb_S8x256x256_S1x256x256_5_0_0 _ rfl, slab_piece f 4 4 rfl inb_S8x256x256_S1x256x256_4_0_0 _ rfl,
    slab_piece f 3 3 rfl inb_S8x256x256_S1x256x256_3_0_0 _ rfl, slab_piece f 2 2 rfl inb_S8x256x256_S1x256x256_2_0_0 _ rfl,
    slab_piece f 1 1 rfl inb_S8x256x256_S1x256x256_1_0_0 _ rfl, slab_piece f 0 0 rfl inb_S8x256x256_S1x256x256_0_0_0 _ rfl, trivial⟩

/-- The output block of the first point of a sequence. -/
theorem out_A (hc0 : cond0_0 i) (hc1 : ¬cond0_1 i) :
    out0_A_7 c i arg3 harg3 arg4 harg4 arg5 harg5 arg6 harg6 arg7 harg7 arg8 harg8 arg9 harg9 arg10 harg10 arg11 harg11 arg12 harg12 hc0 hc1 x0 x1 x2 x3 x4 x5 x6
      = outBlock i x0 x1 x2 x3 x4 x5 x6 (k0_pay3 : Vec F S8x256x256 .f32) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 x0 x1 x2 x3 x4 x5 x6)]
  funext y
  let f : Fin 8 → Vec F S1x256x256 .bf16 := fun h =>
    normGate (mix (headNo i h) (tab i x4) (tab i x5) (cols x0 h) (cols x1 h) (cols x2 h) (slab (k0_pay3 : Vec F S8x256x256 .f32) h)) (gcols x6 h) (cols x3 h)
  refine View.canon_apply_of_pieces (outBlock i x0 x1 x2 x3 x4 x5 x6 (k0_pay3 : Vec F S8x256x256 .f32)) _ (View.PiecesOf.mem ?_) y
    (cover0_A_7 c i arg3 harg3 arg4 harg4 arg5 harg5 arg6 harg6 arg7 harg7 arg8 harg8 arg9 harg9 arg10 harg10 arg11 harg11 arg12 harg12 hc0 hc1 x0 x1 x2 x3 x4 x5 x6 y)
  unfold kernelRun0_A
  dsimp only
  sl_unfold_words
  simp (config := {decide := true}) only [↓View.readCov_skip, View.readCov_fill, View.readAt_eq_ld, harg3.read_unread, harg4.read_unread, harg5.read_unread, harg6.read_unread, harg7.read_unread, harg8.read_unread, harg9.read_unread]
  exact ⟨cols_piece f 7 1792 rfl inb_S1x256x2048_S1x256x256_0_0_1792 _ rfl, cols_piece f 6 1536 rfl inb_S1x256x2048_S1x256x256_0_0_1536 _ rfl,
    cols_piece f 5 1280 rfl inb_S1x256x2048_S1x256x256_0_0_1280 _ rfl, cols_piece f 4 1024 rfl inb_S1x256x2048_S1x256x256_0_0_1024 _ rfl,
    cols_piece f 3 768 rfl inb_S1x256x2048_S1x256x256_0_0_768 _ rfl, cols_piece f 2 512 rfl inb_S1x256x2048_S1x256x256_0_0_512 _ rfl,
    cols_piece f 1 256 rfl inb_S1x256x2048_S1x256x256_0_0_256 _ rfl, cols_piece f 0 0 rfl inb_S1x256x2048_S1x256x256_0_0_0 _ rfl, trivial⟩

/-- The output block of a point inside a sequence. -/
theorem out_B (hc0 : ¬cond0_0 i) (hc1 : ¬cond0_1 i) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0
      = outBlock i x0 x1 x2 x3 x4 x5 x6 xs0 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0)]
  funext y
  let f : Fin 8 → Vec F S1x256x256 .bf16 := fun h =>
    normGate (mix (headNo i h) (tab i x4) (tab i x5) (cols x0 h) (cols x1 h) (cols x2 h) (slab xs0 h)) (gcols x6 h) (cols x3 h)
  refine View.canon_apply_of_pieces (outBlock i x0 x1 x2 x3 x4 x5 x6 xs0) _ (View.PiecesOf.mem ?_) y
    (cover0_B_7 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_B
  dsimp only
  sl_unfold_words
  simp (config := {decide := true}) only [View.readAt_eq_ld, harg3.read_unread, harg4.read_unread, harg5.read_unread, harg6.read_unread, harg7.read_unread, harg8.read_unread, harg9.read_unread, harg12.read_unread]
  exact ⟨cols_piece f 7 1792 rfl inb_S1x256x2048_S1x256x256_0_0_1792 _ rfl, cols_piece f 6 1536 rfl inb_S1x256x2048_S1x256x256_0_0_1536 _ rfl,
    cols_piece f 5 1280 rfl inb_S1x256x2048_S1x256x256_0_0_1280 _ rfl, cols_piece f 4 1024 rfl inb_S1x256x2048_S1x256x256_0_0_1024 _ rfl,
    cols_piece f 3 768 rfl inb_S1x256x2048_S1x256x256_0_0_768 _ rfl, cols_piece f 2 512 rfl inb_S1x256x2048_S1x256x256_0_0_512 _ rfl,
    cols_piece f 1 256 rfl inb_S1x256x2048_S1x256x256_0_0_256 _ rfl, cols_piece f 0 0 rfl inb_S1x256x2048_S1x256x256_0_0_0 _ rfl, trivial⟩

/-- The output block of the last point of a sequence. -/
theorem out_C (hc0 : ¬cond0_0 i) (hc1 : cond0_1 i) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0
      = outBlock i x0 x1 x2 x3 x4 x5 x6 xs0 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0)]
  funext y
  let f : Fin 8 → Vec F S1x256x256 .bf16 := fun h =>
    normGate (mix (headNo i h) (tab i x4) (tab i x5) (cols x0 h) (cols x1 h) (cols x2 h) (slab xs0 h)) (gcols x6 h) (cols x3 h)
  refine View.canon_apply_of_pieces (outBlock i x0 x1 x2 x3 x4 x5 x6 xs0) _ (View.PiecesOf.mem ?_) y
    (cover0_C_7 c i arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  simp (config := {decide := true}) only [View.readAt_eq_ld, harg3.read_unread, harg4.read_unread, harg5.read_unread, harg6.read_unread, harg7.read_unread, harg8.read_unread, harg9.read_unread, harg12.read_unread]
  exact ⟨cols_piece f 7 1792 rfl inb_S1x256x2048_S1x256x256_0_0_1792 _ rfl, cols_piece f 6 1536 rfl inb_S1x256x2048_S1x256x256_0_0_1536 _ rfl,
    cols_piece f 5 1280 rfl inb_S1x256x2048_S1x256x256_0_0_1280 _ rfl, cols_piece f 4 1024 rfl inb_S1x256x2048_S1x256x256_0_0_1024 _ rfl,
    cols_piece f 3 768 rfl inb_S1x256x2048_S1x256x256_0_0_768 _ rfl, cols_piece f 2 512 rfl inb_S1x256x2048_S1x256x256_0_0_512 _ rfl,
    cols_piece f 1 256 rfl inb_S1x256x2048_S1x256x256_0_0_256 _ rfl, cols_piece f 0 0 rfl inb_S1x256x2048_S1x256x256_0_0_0 _ rfl, trivial⟩

/-- The last point of a sequence stores the state it leaves. -/
theorem final_C (hc0 : ¬cond0_0 i) (hc1 : cond0_1 i) :
    out0_C_8 c i arg3 harg3 arg4 harg4 arg5 harg5 arg6 harg6 arg7 harg7 arg8 harg8 arg9 harg9 arg10 harg10 arg11 harg11 arg12 harg12 hc0 hc1 x0 x1 x2 x3 x4 x5 x6 xs0
      = fun y => stepState i x1 x2 x4 x5 xs0 (ix3 (y 1) (y 2) (y 3)) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 xs0)]
  have e := state_C c i arg3 harg3 arg4 harg4 arg5 harg5 arg6 harg6 arg7 harg7 arg8 harg8 arg9 harg9 arg10 harg10 arg11 harg11 arg12 harg12 x0 x1 x2 x3 x4 x5 x6 xs0 hc0 hc1
  unfold sout0_C_0 at e
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0)] at e
  unfold kernelRun0_C at e ⊢
  dsimp only at e ⊢
  unfold kernelRun0_C.sl.v928
  rw [View.canon_cons_unit_lit _ _ _ (by decide), View.readCov_eq_canon', e]
  funext y
  idx_vars y
  unfold k0_pay2
  refine (ValueIdx.shapeCast_abc_1abc_apply _ shapeCasts_S8x256x256_S1x8x256x256 y0 y1 y2 y3).trans ?_
  show stepState i x1 x2 x4 x5 xs0 _ = stepState i x1 x2 x4 x5 xs0 _
  congr 1
  idx_ext

end Cert.KernelIdeal.Ret

end
-- ==== Proof.Read.lean ====
/- One head of the kernel's body, read at an index on exact numbers. -/
module

public import proofs.«01_k».proof.Proof.Head
public import proofs.«01_k».proof.Proof.Recur

@[expose] public section

noncomputable section

open Idealize.ShloMosaic Idealize.ShloMosaic.TcCoe Idealize.SL.Sem

namespace Cert.KernelIdeal.Ret

open Cert.KernelIdeal Cert.KernelIdeal.Gen Cert.Ret

/-- The logarithm of a head's decay. -/
theorem logDecay_at (w : ℕ) (hw : w < 2 ^ 31) : (logDecay (BitVec.ofNat 32 w) : FVec Ideal S1x1 .f32) (ix2 0 0) = ((rate w : ℝ) : EReal) := by
  pointwise [logDecay]
  rw [float_nat hw, lit_neg_five, ← EReal.coe_sub]
  exact rate_eq w

/-- The rotary embedding turns each row. -/
theorem rotate_at (cs sn : Vec Ideal S256x128 .f32) (x : Vec Ideal S1x256x256 .f32) (s d : Fin 256) :
    rotate cs sn x (ix2 s d) = turned (fun d => x (ix3 0 s d)) (fun d => cs (ix2 s d)) (fun d => sn (ix2 s d)) d := by
  unfold turned
  pointwise [rotate]

/-- The keys are scaled after the turn. -/
theorem rotKey_at (cs sn : Vec Ideal S256x128 .f32) (x : Vec Ideal S1x256x256 .f32) (s d : Fin 256) :
    rotKey cs sn x (ix2 s d)
      = turned (fun d => x (ix3 0 s d)) (fun d => cs (ix2 s d)) (fun d => sn (ix2 s d)) d * ((1 / 16 : ℝ) : EReal) := by
  rw [← rotate_at]
  pointwise [rotKey]
  rw [lit_sixteenth]

/-- A chunk carries the state on: from the decayed sum over the rows before it to the one over its rows too. -/
theorem newState_real (w : ℕ) (hw : w < 2 ^ 31) (cs sn : Vec Ideal S256x128 .f32) (k v st : Vec Ideal S1x256x256 .f32)
    (kr vr : ℕ → Fin 256 → ℝ) (n : ℕ)
    (hk : ∀ x d : Fin 256, rotKey cs sn k (ix2 x d) = ((kr (n + x.val) d : ℝ) : EReal))
    (hv : ∀ x e : Fin 256, v (ix3 0 x e) = ((vr (n + x.val) e : ℝ) : EReal))
    (hst : ∀ d e : Fin 256, st (ix3 0 d e) = ((carried (rate w) (fun s => kr s d) (fun s => vr s e) n : ℝ) : EReal)) (d e : Fin 256) :
    newState (BitVec.ofNat 32 w) cs sn k v st (ix3 0 d e)
      = ((carried (rate w) (fun s => kr s d) (fun s => vr s e) (n + 256) : ℝ) : EReal) := by
  rw [carried_step]
  pointwise [newState, rowNo, vals]
  simp only [logDecay_at w hw, lit_255, lit_256, hk, hv, hst, ← EReal.coe_mul, Ideal.exp_coe, EReal.coe_add, coe_sum]
  congr 1

/-- A row's mixed values, from its own chunk and the carried state: the decayed sum over the whole sequence. -/
theorem mix_real (w : ℕ) (hw : w < 2 ^ 31) (cs sn : Vec Ideal S256x128 .f32) (q k v st : Vec Ideal S1x256x256 .f32)
    (qr kr vr : ℕ → Fin 256 → ℝ) (n : ℕ) (hn : n + 256 ≤ 2048)
    (hq : ∀ x d : Fin 256, rotate cs sn q (ix2 x d) = ((qr (n + x.val) d : ℝ) : EReal))
    (hk : ∀ x d : Fin 256, rotKey cs sn k (ix2 x d) = ((kr (n + x.val) d : ℝ) : EReal))
    (hv : ∀ x e : Fin 256, v (ix3 0 x e) = ((vr (n + x.val) e : ℝ) : EReal))
    (hst : ∀ d e : Fin 256, st (ix3 0 d e) = ((carried (rate w) (fun s => kr s d) (fun s => vr s e) n : ℝ) : EReal)) (t e : Fin 256) :
    mix (BitVec.ofNat 32 w) cs sn q k v st (ix2 t e)
      = ((∑ s : Fin 2048, (∑ d, qr (n + t.val) d * kr s.val d)
          * (if s.val ≤ n + t.val then Real.exp ((((n + t.val : ℕ) : ℝ) - s.val) * rate w) else 0) * vr s.val e : ℝ) : EReal) := by
  rw [← mixed_split (rate w) (qr (n + t.val)) kr (fun s => vr s e) n hn t]
  pointwise [mix, rowNo, vals]
  simp only [logDecay_at w hw, lit_neg_inf, hq, hk, hv, hst, ← EReal.coe_mul, ← coe_sum]
  have hdec : ∀ x : Fin 256, Ideal.exp (Scalar.select (IntOp.cmpi .sle (BitVec.ofNat 32 x.val) (BitVec.ofNat 32 t.val))
      ((FloatOps.sitofp FTy.f32 (IntOp.subi (BitVec.ofNat 32 t.val) (BitVec.ofNat 32 x.val)) : Ideal .f32) * ((rate w : ℝ) : EReal)) ⊥)
      = ((if x.val ≤ t.val then Real.exp (((t.val : ℝ) - x.val) * rate w) else 0 : ℝ) : EReal) := by
    intro x
    rw [← exp_masked]
    show Ideal.exp (Scalar.select (BitVec.ofBool ((BitVec.ofNat 32 x.val).sle (BitVec.ofNat 32 t.val))) _ _) = _
    rw [sle_nat (by omega) (by omega)]
    by_cases h : x.val ≤ t.val
    · rw [if_pos h, show IntOp.subi (BitVec.ofNat 32 t.val) (BitVec.ofNat 32 x.val) = BitVec.ofNat 32 (t.val - x.val) from
        (BitVec.ofNat_sub_ofNat_of_le _ _ (by omega) h), float_nat (by omega), ← EReal.coe_mul, Nat.cast_sub h]
    · rw [if_neg h]; rfl
  simp only [hdec, ← EReal.coe_mul, ← coe_sum]
  rw [float_nat (by omega), show ((t.val : ℝ) : EReal) + 1 = ((t.val + 1 : ℝ) : EReal) by push_cast; rfl, ← EReal.coe_mul, Ideal.exp_coe,
    ← EReal.coe_mul, ← EReal.coe_add]

/-- The normalised, gated row. -/
theorem normGate_at (o : FVec Ideal S256x256 .f32) (gn : Vec Ideal S1x1x256 .f32) (g : Vec Ideal S1x256x256 .f32) (t e : Fin 256) :
    normGate o gn g (ix3 0 t e) = normSilu (fun e => o (ix2 t e)) (gn (ix3 0 0 e)) (g (ix3 0 t e)) e := by
  unfold normSilu mean
  pointwise [normGate]
  rw [zero_sub]

end Cert.KernelIdeal.Ret

end
-- ==== Proof.Fold.lean ====
/- The grid's points in order: the blocks a point reads, the state it finds, and what it leaves. -/
module

public import proofs.«01_k».proof.Proof.Cases
public import proofs.«01_k».proof.Proof.Read
public import proofs.«01_k».proof.Proof.Gen.KernelIdeal.Value
public import Idealize.ShloMosaic.Lib.Pipeline.ValueKit.Tiles

@[expose] public section

noncomputable section

open Idealize.ShloMosaic Idealize.ShloMosaic.TcCoe Idealize.SL.Sem

namespace Cert.KernelIdeal.Ret

open Cert.KernelIdeal Cert.KernelIdeal.Gen Cert.Ret

section Generic

variable {F : FTy → Type} [FloatOps F]
variable (m : (ℓ : Loc nD τ sig) → Buf (Elt F) ℓ) (c : Dev nD)

/-- The state a point finds: zeros at a sequence's first chunk, else what the point before it left. -/
def before (t : Fin cfg0.N) : Vec F S8x256x256 .f32 :=
  if t.val % 8 = 0 then k0_pay3 else (outsAt0 m c (t.val - 1) (Nat.lt_of_le_of_lt (Nat.sub_le _ _) t.isLt)).2.2

/-- The state a point leaves. -/
theorem after_state (t : Fin cfg0.N) : (outsAt0 m c t.val t.isLt).2.2
    = stepState (grid0.coords t) (iblk m c 1 t) (iblk m c 2 t) (iblk m c 4 t) (iblk m c 5 t) (before m c t) := by
  unfold before
  by_cases h0 : t.val % 8 = 0
  · have h1 : ¬t.val % 8 = 7 := by omega
    rw [outsAt0_A m c t h0 h1, if_pos h0]
    dsimp only
    rw [state_A]
  · rw [if_neg h0]
    by_cases h1 : t.val % 8 = 7
    · rw [outsAt0_C m c t h0 h1]; dsimp only; rw [state_C]
    · rw [outsAt0_B m c t h0 h1]; dsimp only; rw [state_B]

/-- The output block a point leaves. -/
theorem after_out (t : Fin cfg0.N) : (outsAt0 m c t.val t.isLt).1
    = outBlock (grid0.coords t) (iblk m c 0 t) (iblk m c 1 t) (iblk m c 2 t) (iblk m c 3 t) (iblk m c 4 t) (iblk m c 5 t) (iblk m c 6 t)
        (before m c t) := by
  unfold before
  by_cases h0 : t.val % 8 = 0
  · have h1 : ¬t.val % 8 = 7 := by omega
    rw [outsAt0_A m c t h0 h1, if_pos h0]
    dsimp only
    rw [out_A]
  · rw [if_neg h0]
    by_cases h1 : t.val % 8 = 7
    · rw [outsAt0_C m c t h0 h1]; dsimp only; rw [out_C]
    · rw [outsAt0_B m c t h0 h1]; dsimp only; rw [out_B]

/-- The final states a sequence's last chunk writes: the state it leaves. -/
theorem after_final (t : Fin cfg0.N) (h1 : t.val % 8 = 7) : (outsAt0 m c t.val t.isLt).2.1
    = fun y => (outsAt0 m c t.val t.isLt).2.2 (ix3 (y 1) (y 2) (y 3)) := by
  have h0 : ¬t.val % 8 = 0 := by omega
  rw [after_state, before, if_neg h0, outsAt0_C m c t h0 h1]
  dsimp only
  rw [final_C]

/-- A point after a sequence's first finds the state the point before it left. -/
theorem before_succ (n : ℕ) (hn : n + 1 < cfg0.N) (h0 : ¬(n + 1) % 8 = 0) :
    before m c ⟨n + 1, hn⟩ = (outsAt0 m c n (Nat.lt_of_succ_lt hn)).2.2 := if_neg h0

/-! ## The blocks -/

/-- A point's coordinates: its sequence, the one group of heads, its chunk. -/
theorem coords_eq : ∀ t : Fin cfg0.N,
    (grid0.coords t 0).val = t.val / 8 ∧ (grid0.coords t 1).val = 0 ∧ (grid0.coords t 2).val = t.val % 8 := by decide +kernel

/-- The block of the queries a point reads. -/
theorem index_0 : ∀ t : Fin cfg0.N, win0_0.index t 0 = t.val / 8 ∧ win0_0.index t 1 = t.val % 8 ∧ win0_0.index t 2 = 0 := by decide +kernel
/-- The block of the keys a point reads. -/
theorem index_1 : ∀ t : Fin cfg0.N, win0_1.index t 0 = t.val / 8 ∧ win0_1.index t 1 = t.val % 8 ∧ win0_1.index t 2 = 1 := by decide +kernel
/-- The block of the values a point reads. -/
theorem index_2 : ∀ t : Fin cfg0.N, win0_2.index t 0 = t.val / 8 ∧ win0_2.index t 1 = t.val % 8 ∧ win0_2.index t 2 = 2 := by decide +kernel
/-- The block of the gates a point reads. -/
theorem index_3 : ∀ t : Fin cfg0.N, win0_3.index t 0 = t.val / 8 ∧ win0_3.index t 1 = t.val % 8 ∧ win0_3.index t 2 = 3 := by decide +kernel
/-- The block of the cosines a point reads. -/
theorem index_4 : ∀ t : Fin cfg0.N, win0_4.index t 0 = 0 ∧ win0_4.index t 1 = 0 := by decide +kernel
/-- The block of the sines a point reads. -/
theorem index_5 : ∀ t : Fin cfg0.N, win0_5.index t 0 = 0 ∧ win0_5.index t 1 = 0 := by decide +kernel
/-- The block of the norm weights a point reads. -/
theorem index_6 : ∀ t : Fin cfg0.N, win0_6.index t 0 = 1 ∧ win0_6.index t 1 = 0 ∧ win0_6.index t 2 = 0 := by decide +kernel

/-- The place in the projected rows that an entry of a point's block comes from, in the `w`-th group of columns. -/
abbrev place (t : Fin cfg0.N) (w : ℕ) (hw : w < 4) (r : Fin 256) (j : Fin 2048) : S4x2048x8192.Idx :=
  ix3 ⟨t.val / 8, by have := lt_of_lt_of_eq t.isLt N_0; omega⟩ ⟨256 * (t.val % 8) + r.val, by omega⟩ ⟨2048 * w + j.val, by omega⟩

/-- An index of the projected rows is a block entry's place once its three coordinates are. -/
theorem eq_place (i : S4x2048x8192.Idx) (t : Fin cfg0.N) (w : ℕ) (hw : w < 4) (r : Fin 256) (j : Fin 2048) (a0 a1 a2 : ℕ)
    (ha : a0 = t.val / 8 ∧ a1 = t.val % 8 ∧ a2 = w) (h0 : (i 0).val = a0 * 1 + 1 * 0) (h1 : (i 1).val = a1 * 256 + 1 * r.val)
    (h2 : (i 2).val = a2 * 2048 + 1 * j.val) : i = place t w hw r j := by
  obtain ⟨rfl, rfl, rfl⟩ := ha
  funext a
  apply Fin.ext
  match a with
  | ⟨0, _⟩ => show (i 0).val = t.val / 8; omega
  | ⟨1, _⟩ => show (i 1).val = 256 * (t.val % 8) + r.val; omega
  | ⟨2, _⟩ => show (i 2).val = 2048 * a2 + j.val; omega

/-- The queries of a point's chunk. -/
theorem iblk_0 (t : Fin cfg0.N) (r : Fin 256) (j : Fin 2048) :
    (iblk m c 0 t : Vec F S1x256x2048 .f32) (ix3 0 r j) = m ((c : Thread nD τ).loc main_arg0) (place t 0 (by decide) r j) := by
  unfold iblk
  rw [View.read_apply]
  show V m c main_arg0 _ = _
  rw [V_main_arg0]
  exact congrArg _ (eq_place _ t 0 (by decide) r j _ _ _ (index_0 t) rfl rfl rfl)

/-- The keys of a point's chunk. -/
theorem iblk_1 (t : Fin cfg0.N) (r : Fin 256) (j : Fin 2048) :
    (iblk m c 1 t : Vec F S1x256x2048 .f32) (ix3 0 r j) = m ((c : Thread nD τ).loc main_arg0) (place t 1 (by decide) r j) := by
  unfold iblk
  rw [View.read_apply]
  show V m c main_arg0 _ = _
  rw [V_main_arg0]
  exact congrArg _ (eq_place _ t 1 (by decide) r j _ _ _ (index_1 t) rfl rfl rfl)

/-- The values of a point's chunk. -/
theorem iblk_2 (t : Fin cfg0.N) (r : Fin 256) (j : Fin 2048) :
    (iblk m c 2 t : Vec F S1x256x2048 .f32) (ix3 0 r j) = m ((c : Thread nD τ).loc main_arg0) (place t 2 (by decide) r j) := by
  unfold iblk
  rw [View.read_apply]
  show V m c main_arg0 _ = _
  rw [V_main_arg0]
  exact congrArg _ (eq_place _ t 2 (by decide) r j _ _ _ (index_2 t) rfl rfl rfl)

/-- The gates of a point's chunk. -/
theorem iblk_3 (t : Fin cfg0.N) (r : Fin 256) (j : Fin 2048) :
    (iblk m c 3 t : Vec F S1x256x2048 .f32) (ix3 0 r j) = m ((c : Thread nD τ).loc main_arg0) (place t 3 (by decide) r j) := by
  unfold iblk
  rw [View.read_apply]
  show V m c main_arg0 _ = _
  rw [V_main_arg0]
  exact congrArg _ (eq_place _ t 3 (by decide) r j _ _ _ (index_3 t) rfl rfl rfl)

/-- The cosines: every point reads the whole table. -/
theorem iblk_4 (t : Fin cfg0.N) (s : Fin 2048) (d : Fin 128) :
    (iblk m c 4 t : Vec F S2048x128 .f32) (ix2 s d) = m ((c : Thread nD τ).loc main_arg1) (ix2 s d) := by
  obtain ⟨h0, h1⟩ := index_4 t
  unfold iblk
  rw [View.read_apply]
  show V m c main_arg1 _ = _
  rw [V_main_arg1]
  congr 1
  funext a
  apply Fin.ext
  match a with
  | ⟨0, _⟩ => show win0_4.index t 0 * 2048 + 1 * s.val = s.val; omega
  | ⟨1, _⟩ => show win0_4.index t 1 * 128 + 1 * d.val = d.val; omega

/-- The sines: every point reads the whole table. -/
theorem iblk_5 (t : Fin cfg0.N) (s : Fin 2048) (d : Fin 128) :
    (iblk m c 5 t : Vec F S2048x128 .f32) (ix2 s d) = m ((c : Thread nD τ).loc main_arg2) (ix2 s d) := by
  obtain ⟨h0, h1⟩ := index_5 t
  unfold iblk
  rw [View.read_apply]
  show V m c main_arg2 _ = _
  rw [V_main_arg2]
  congr 1
  funext a
  apply Fin.ext
  match a with
  | ⟨0, _⟩ => show win0_5.index t 0 * 2048 + 1 * s.val = s.val; omega
  | ⟨1, _⟩ => show win0_5.index t 1 * 128 + 1 * d.val = d.val; omega

/-- The host's reshaped norm weights. -/
theorem V_norm : V m c main_v0 = shapeCast S2x1x2048 (m ((c : Thread nD τ).loc main_arg3) : Vec F S2x2048 .f32) shapeCasts_S2x2048_S2x1x2048 := by
  rfl

/-- The norm's weights: every point reads the second row. -/
theorem iblk_6 (t : Fin cfg0.N) (j : Fin 2048) :
    (iblk m c 6 t : Vec F S1x1x2048 .f32) (ix3 0 0 j) = m ((c : Thread nD τ).loc main_arg3) (ix2 1 j) := by
  obtain ⟨h0, h1, h2⟩ := index_6 t
  unfold iblk
  rw [View.read_apply]
  show V m c main_v0 _ = _
  rw [V_norm]
  have e : (((cfg0.win 6).blk t).view.emb (ix3 0 0 j) : S2x1x2048.Idx) = ix3 1 0 j := by
    funext a
    apply Fin.ext
    match a with
    | ⟨0, _⟩ => show win0_6.index t 0 * 1 + 1 * 0 = 1; omega
    | ⟨1, _⟩ => show win0_6.index t 1 * 1 + 1 * 0 = 0; omega
    | ⟨2, _⟩ => show win0_6.index t 2 * 2048 + 1 * j.val = j.val; omega
  refine (congrArg (shapeCast S2x1x2048 (m ((c : Thread nD τ).loc main_arg3) : Vec F S2x2048 .f32) shapeCasts_S2x2048_S2x1x2048) e).trans ?_
  refine shapeCast_apply _ _ _ _ ?_
  change (S2x2048.rowMajor (ix2 1 j)).val = _
  rw [Shape.rowMajor_val_two, Shape.rowMajor_val_three]
  rfl

/-! ## One head's part of a block -/

/-- An entry of head `h`'s columns. -/
theorem cols_at (x : Vec F S1x256x2048 .f32) (h : Fin 8) (r e : Fin 256) :
    cols x h (ix3 0 r e) = x (ix3 0 r ⟨256 * h.val + e.val, by omega⟩) := by
  unfold cols
  refine View.ld_unit_apply_of x _ _ _ _ _ fun a => ?_
  match a with
  | ⟨0, _⟩ => rfl
  | ⟨1, _⟩ => exact (Nat.zero_add _).symm
  | ⟨2, _⟩ => rfl

/-- An entry of head `h`'s norm weights. -/
theorem gcols_at (x : Vec F S1x1x2048 .f32) (h : Fin 8) (e : Fin 256) :
    gcols x h (ix3 0 0 e) = x (ix3 0 0 ⟨256 * h.val + e.val, by omega⟩) := by
  unfold gcols
  refine View.ld_unit_apply_of x _ _ _ _ _ fun a => ?_
  match a with
  | ⟨0, _⟩ => rfl
  | ⟨1, _⟩ => rfl
  | ⟨2, _⟩ => rfl

/-- An entry of head `h`'s state. -/
theorem slab_at (x : Vec F S8x256x256 .f32) (h : Fin 8) (d e : Fin 256) : slab x h (ix3 0 d e) = x (ix3 h d e) := by
  unfold slab
  refine View.ld_unit_apply_of x _ _ _ _ _ fun a => ?_
  match a with
  | ⟨0, _⟩ => rfl
  | ⟨1, _⟩ => exact (Nat.zero_add _).symm
  | ⟨2, _⟩ => exact (Nat.zero_add _).symm

/-- An entry of the table rows at a point's chunk. -/
theorem tab_at (t : Fin cfg0.N) (x : Vec F S2048x128 .f32) (r : Fin 256) (d : Fin 128) :
    tab (grid0.coords t) x (ix2 r d) = x (ix2 ⟨256 * (t.val % 8) + r.val, by omega⟩ d) := by
  unfold tab
  refine View.ld_unit_apply_of x _ _ _ _ _ fun a => ?_
  have e : k0_off1 (grid0.coords t) = ![256 * (t.val % 8), 0] := by rw [k0_off1_eq, (coords_eq t).2.2]
  refine Eq.trans ?_ (congrArg (· + _) (congrFun e a).symm)
  match a with
  | ⟨0, _⟩ => rfl
  | ⟨1, _⟩ => exact (Nat.zero_add _).symm

/-- The head's number at every point. -/
theorem headNo_eq (t : Fin cfg0.N) (h : Fin 8) : headNo (grid0.coords t) h = BitVec.ofNat 32 h.val := by
  unfold headNo
  rw [(coords_eq t).2.1]
  show 0#32 * 8#32 + _ = _
  simp

end Generic

/-! ## On exact numbers -/

variable (m : (ℓ : Loc nD τ sig) → Buf (Elt Ideal) ℓ) (c : Dev nD)

/-- The projected rows, the cosines, the sines and the norm weights a device is given. -/
abbrev zOf : S4x2048x8192.Idx → EReal := m ((c : Thread nD τ).loc main_arg0)
abbrev csOf : S2048x128.Idx → EReal := m ((c : Thread nD τ).loc main_arg1)
abbrev snOf : S2048x128.Idx → EReal := m ((c : Thread nD τ).loc main_arg2)
abbrev gnOf : S2x2048.Idx → EReal := m ((c : Thread nD τ).loc main_arg3)

/-- A point's sequence. -/
abbrev seqOf (t : Fin cfg0.N) : Fin 4 := ⟨t.val / 8, by have := lt_of_lt_of_eq t.isLt N_0; omega⟩

variable (hr : RealArgs (zOf m c) (csOf m c) (snOf m c)) (t : Fin cfg0.N) (h : Fin 8)
include hr

/-- A query, a key or a value of a point's chunk is a real number. -/
theorem entry_real (w : ℕ) (hw : w < 3) (r : Fin 256) (j : Fin 2048) : m ((c : Thread nD τ).loc main_arg0) (place t w (by omega) r j)
      = ((rows (zOf m c) (seqOf t) (256 * (t.val % 8) + r.val) (2048 * w + j.val) : ℝ) : EReal) :=
  hr.rows_eq _ _ _ (by show 2048 * w + j.val < 6144; omega)

/-- The turn of real rows by a point's table rows. -/
theorem turned_real (x : Vec Ideal S1x256x256 .f32) (f : Fin 256 → ℝ) (r d : Fin 256) (hx : ∀ d, x (ix3 0 r d) = ((f d : ℝ) : EReal)) :
    turned (fun d => x (ix3 0 r d)) (fun d => tab (grid0.coords t) (iblk m c 4 t) (ix2 r d)) (fun d => tab (grid0.coords t) (iblk m c 5 t) (ix2 r d)) d
      = ((turnedR f (angles (csOf m c) (256 * (t.val % 8) + r.val)) (angles (snOf m c) (256 * (t.val % 8) + r.val)) d : ℝ) : EReal) := by
  rw [← turned_coe]
  congr 1
  · funext d; exact hx d
  · funext d; rw [tab_at, iblk_4]; exact hr.cos_eq _ d
  · funext d; rw [tab_at, iblk_5]; exact hr.sin_eq _ d

/-- A point's queries. -/
theorem query_at (r d : Fin 256) :
    rotate (tab (grid0.coords t) (iblk m c 4 t)) (tab (grid0.coords t) (iblk m c 5 t)) (cols (iblk m c 0 t) h) (ix2 r d)
      = ((queryR (zOf m c) (csOf m c) (snOf m c) (seqOf t) h (256 * (t.val % 8) + r.val) d : ℝ) : EReal) := by
  rw [rotate_at]
  refine turned_real m c hr t _ _ r d fun d => ?_
  rw [cols_at, iblk_0, entry_real m c hr t 0 (by decide)]
  exact congrArg (fun n => ((rows (zOf m c) (seqOf t) (256 * (t.val % 8) + r.val) n : ℝ) : EReal)) (by show 2048 * 0 + (256 * h.val + d.val) = _; omega)

/-- A point's keys. -/
theorem key_at (r d : Fin 256) :
    rotKey (tab (grid0.coords t) (iblk m c 4 t)) (tab (grid0.coords t) (iblk m c 5 t)) (cols (iblk m c 1 t) h) (ix2 r d)
      = ((keyR (zOf m c) (csOf m c) (snOf m c) (seqOf t) h (256 * (t.val % 8) + r.val) d : ℝ) : EReal) := by
  rw [rotKey_at, keyR, EReal.coe_mul]
  congr 1
  refine turned_real m c hr t _ _ r d fun d => ?_
  rw [cols_at, iblk_1, entry_real m c hr t 1 (by decide)]
  exact congrArg (fun n => ((rows (zOf m c) (seqOf t) (256 * (t.val % 8) + r.val) n : ℝ) : EReal))
    (by show 2048 * 1 + (256 * h.val + d.val) = 2048 + 256 * h.val + d.val; omega)

/-- A point's values. -/
theorem value_at (r e : Fin 256) :
    cols (iblk m c 2 t) h (ix3 0 r e) = ((valueR (zOf m c) (seqOf t) h (256 * (t.val % 8) + r.val) e : ℝ) : EReal) := by
  rw [cols_at, iblk_2, entry_real m c hr t 2 (by decide)]
  exact congrArg (fun n => ((rows (zOf m c) (seqOf t) (256 * (t.val % 8) + r.val) n : ℝ) : EReal))
    (by show 2048 * 2 + (256 * h.val + e.val) = 4096 + 256 * h.val + e.val; omega)

/-- A point that finds the decayed sum over the rows before its chunk leaves the one over its chunk too. -/
theorem state_step (hb : ∀ d e : Fin 256, before m c t (ix3 h d e)
      = ((stateR (zOf m c) (csOf m c) (snOf m c) (seqOf t) h (256 * (t.val % 8)) d e : ℝ) : EReal)) (d e : Fin 256) :
    (outsAt0 m c t.val t.isLt).2.2 (ix3 h d e)
      = ((stateR (zOf m c) (csOf m c) (snOf m c) (seqOf t) h (256 * (t.val % 8) + 256) d e : ℝ) : EReal) := by
  rw [after_state]
  show newState (headNo (grid0.coords t) h) _ _ _ _ _ (ix3 0 d e) = _
  rw [headNo_eq]
  exact newState_real h.val (by omega) _ _ _ _ _ (keyR (zOf m c) (csOf m c) (snOf m c) (seqOf t) h) (valueR (zOf m c) (seqOf t) h) _
    (key_at m c hr t h) (value_at m c hr t h) (fun d e => (slab_at _ h d e).trans (hb d e)) d e

/-- Every point finds the decayed sum over the rows of its sequence before its chunk. -/
theorem before_eq (d e : Fin 256) : before m c t (ix3 h d e)
      = ((stateR (zOf m c) (csOf m c) (snOf m c) (seqOf t) h (256 * (t.val % 8)) d e : ℝ) : EReal) := by
  obtain ⟨n, hn⟩ := t
  induction n generalizing d e with
  | zero =>
    rw [before, if_pos (show (0 : ℕ) % 8 = 0 from rfl)]
    show Ideal.ofBits .f32 0#32 = _
    simp [stateR, carried]
  | succ n ih =>
    have hN := lt_of_lt_of_eq hn N_0
    by_cases h0 : (n + 1) % 8 = 0
    · rw [before, if_pos h0]
      show Ideal.ofBits .f32 0#32 = ((stateR _ _ _ _ _ (256 * ((n + 1) % 8)) d e : ℝ) : EReal)
      rw [h0]
      simp [stateR, carried]
    · rw [before_succ m c n hn h0]
      have hd : n / 8 = (n + 1) / 8 := by omega
      have hm : 256 * (n % 8) + 256 = 256 * ((n + 1) % 8) := by omega
      refine (state_step m c hr ⟨n, Nat.lt_of_succ_lt hn⟩ h (fun d e => ih d e (Nat.lt_of_succ_lt hn)) d e).trans ?_
      show ((stateR _ _ _ ⟨n / 8, _⟩ h (256 * (n % 8) + 256) d e : ℝ) : EReal) = ((stateR _ _ _ ⟨(n + 1) / 8, _⟩ h (256 * ((n + 1) % 8)) d e : ℝ) : EReal)
      simp only [hd, hm]

/-- The final states: the decayed sums over whole sequences. -/
theorem final_eq (h1 : t.val % 8 = 7) (d e : Fin 256) : (outsAt0 m c t.val t.isLt).2.1 (ix4 0 h d e)
      = ((stateR (zOf m c) (csOf m c) (snOf m c) (seqOf t) h 2048 d e : ℝ) : EReal) := by
  rw [after_final m c t h1]
  show (outsAt0 m c t.val t.isLt).2.2 (ix3 h d e) = _
  rw [state_step m c hr t h (before_eq m c hr t h) d e, h1]

/-- A point's mixed values: the decayed sums over the rows of the sequence up to each of its own. -/
theorem mix_eq (r e : Fin 256) :
    mix (BitVec.ofNat 32 h.val) (tab (grid0.coords t) (iblk m c 4 t)) (tab (grid0.coords t) (iblk m c 5 t)) (cols (iblk m c 0 t) h)
        (cols (iblk m c 1 t) h) (cols (iblk m c 2 t) h) (slab (before m c t) h) (ix2 r e)
      = ((mixR (zOf m c) (csOf m c) (snOf m c) (seqOf t) h (256 * (t.val % 8) + r.val) e : ℝ) : EReal) :=
  mix_real h.val (by omega) _ _ _ _ _ _ (queryR (zOf m c) (csOf m c) (snOf m c) (seqOf t) h)
    (keyR (zOf m c) (csOf m c) (snOf m c) (seqOf t) h) (valueR (zOf m c) (seqOf t) h) _ (by omega)
    (query_at m c hr t h) (key_at m c hr t h) (value_at m c hr t h) (fun d e => (slab_at _ h d e).trans (before_eq m c hr t h d e)) r e

/-- The output rows: the mixed values normalised and gated. -/
theorem out_eq (r e : Fin 256) :
    (outsAt0 m c t.val t.isLt).1 (ix3 0 r ⟨256 * h.val + e.val, by omega⟩)
      = normSilu (fun e => ((mixR (zOf m c) (csOf m c) (snOf m c) (seqOf t) h (256 * (t.val % 8) + r.val) e : ℝ) : EReal))
          (gnOf m c (ix2 1 ⟨256 * h.val + e.val, by omega⟩))
          (zOf m c (ix3 (seqOf t) ⟨256 * (t.val % 8) + r.val, by omega⟩ ⟨6144 + 256 * h.val + e.val, by omega⟩)) e := by
  rw [after_out]
  have hh : (⟨(256 * h.val + e.val) / 256, by omega⟩ : Fin 8) = h := Fin.ext (by show (256 * h.val + e.val) / 256 = h.val; omega)
  have he : (⟨(256 * h.val + e.val) % 256, by omega⟩ : Fin 256) = e := Fin.ext (by show (256 * h.val + e.val) % 256 = e.val; omega)
  show normGate (mix (headNo _ ⟨(256 * h.val + e.val) / 256, _⟩) _ _ (cols _ ⟨(256 * h.val + e.val) / 256, _⟩) (cols _ ⟨(256 * h.val + e.val) / 256, _⟩)
    (cols _ ⟨(256 * h.val + e.val) / 256, _⟩) (slab _ ⟨(256 * h.val + e.val) / 256, _⟩)) (gcols _ ⟨(256 * h.val + e.val) / 256, _⟩)
    (cols _ ⟨(256 * h.val + e.val) / 256, _⟩) (ix3 0 r ⟨(256 * h.val + e.val) % 256, _⟩) = _
  rw [hh, he, normGate_at, headNo_eq, gcols_at, iblk_6, cols_at, iblk_3]
  congr 1
  · funext e; exact mix_eq m c hr t h r e
  · refine congrArg (zOf m c) (congrArg (ix3 _ _) (Fin.ext ?_))
    show 2048 * 3 + (256 * h.val + e.val) = 6144 + 256 * h.val + e.val
    omega

end Cert.KernelIdeal.Ret

end
-- ==== Proof.RefRead.lean ====
/- The reference's results, cut into the steps of its text and read at an index on exact numbers. -/
module

public import proofs.«01_k».proof.Proof.Gen.ReferenceIdeal.Run
public import proofs.«01_k».proof.Proof.Recur
public import Idealize.ShloMosaic.Lib.Tactic
public import Idealize.ShloMosaic.Lib.Pointwise

@[expose] public section

noncomputable section

open Idealize.ShloMosaic Idealize.ShloMosaic.TcCoe Idealize.SL.Sem

namespace Cert.ReferenceIdeal.Ret

open Cert.ReferenceIdeal Cert.ReferenceIdeal.Gen

variable {F : FTy → Type} [FloatOps F]

/-- One of the four column blocks of the projected rows, cut in heads. -/
def heads (off : Fin 3 → ℕ) (h : S4x2048x8192.Slices off S4x2048x2048) (z : FVec F S4x2048x8192 .f32) : FVec F S4x8x2048x256 .f32 :=
  transpose S4x8x2048x256 [0, 2, 1, 3] (shapeCast _ (extractStridedSlice S4x2048x2048 off z h) shapeCasts_S4x2048x2048_S4x2048x8x256)
    transposes_S4x2048x8x256_S4x8x2048x256_0_2_1_3

/-- A rotary table, repeated over the sequences and the heads. -/
def spread (x : FVec F S2048x128 .f32) : FVec F S4x8x2048x128 .f32 :=
  broadcastInDim S4x8x2048x128 ![0, 1, 2, 3] bcast_S1x1x2048x128_S4x8x2048x128_0_1_2_3
    (broadcastInDim S1x1x2048x128 ![2, 3] bcast_S2048x128_S1x1x2048x128_2_3 x)

/-- The rotary embedding. -/
def rope (cs sn : FVec F S2048x128 .f32) (x : FVec F S4x8x2048x256 .f32) : FVec F S4x8x2048x256 .f32 :=
  let a := extractStridedSlice S4x8x2048x128 ![0, 0, 0, 0] x slices_S4x8x2048x256_S4x8x2048x128_0_0_0_0
  let b := extractStridedSlice S4x8x2048x128 ![0, 0, 0, 128] x slices_S4x8x2048x256_S4x8x2048x128_0_0_0_128
  concatenate S4x8x2048x256 3 [⟨S4x8x2048x128, subf (mulf a (spread cs)) (mulf b (spread sn))⟩,
    ⟨S4x8x2048x128, addf (mulf b (spread cs)) (mulf a (spread sn))⟩] concatenates_S4x8x2048x128_S4x8x2048x128_S4x8x2048x256_d3

/-- The queries. -/
def qry (z : FVec F S4x2048x8192 .f32) (cs sn : FVec F S2048x128 .f32) : FVec F S4x8x2048x256 .f32 :=
  rope cs sn (heads ![0, 0, 0] slices_S4x2048x8192_S4x2048x2048_0_0_0 z)

/-- The keys. -/
def key (z : FVec F S4x2048x8192 .f32) (cs sn : FVec F S2048x128 .f32) : FVec F S4x8x2048x256 .f32 :=
  mulf (rope cs sn (heads ![0, 0, 2048] slices_S4x2048x8192_S4x2048x2048_0_0_2048 z))
    (broadcastInDim S4x8x2048x256 ![] bcast_S_S4x8x2048x256 (constant S_ .f32 0x3D800000#32))

/-- The values. -/
def val (z : FVec F S4x2048x8192 .f32) : FVec F S4x8x2048x256 .f32 :=
  heads ![0, 0, 4096] slices_S4x2048x8192_S4x2048x2048_0_0_4096 z

/-- The logarithms of the heads' decays. -/
def logDecays : FVec F S8 .f32 :=
  Host.log (subf (broadcastInDim S8 ![] bcast_S_S8 (constant S_ .f32 0x3F800000#32))
    (Host.powf (broadcastInDim S8 ![] bcast_S_S8 (constant S_ .f32 0x40000000#32))
      (subf (broadcastInDim S8 ![] bcast_S_S8 (constant S_ .f32 0xC0A00000#32)) (sitofp .f32 (iotaInDim S8 32 0)))))

/-- The decay from every row to every later row of the sequence, zero before it. -/
def decay (lg : FVec F S8 .f32) : FVec F S8x2048x2048 .f32 :=
  Host.exp (select (broadcastInDim S8x2048x2048 ![1, 2] bcast_S2048x2048_S8x2048x2048_1_2
      (select (cmpi .sge (addi (iotaInDim S2048x2048 32 0) (broadcastInDim S2048x2048 ![] bcast_S_S2048x2048 (constantI S_ 32 0#32))) (iotaInDim S2048x2048 32 1))
        (broadcastInDim S2048x2048 ![] bcast_S_S2048x2048 (constantI S_ 1 1#1)) (broadcastInDim S2048x2048 ![] bcast_S_S2048x2048 (constantI S_ 1 0#1))))
    (mulf (broadcastInDim S8x2048x2048 ![0, 1, 2] bcast_S1x2048x2048_S8x2048x2048_0_1_2 (broadcastInDim S1x2048x2048 ![1, 2] bcast_S2048x2048_S1x2048x2048_1_2
        (subf (broadcastInDim S2048x2048 ![0, 1] bcast_S2048x1_S2048x2048_0_1 (broadcastInDim S2048x1 ![0] bcast_S2048_S2048x1_0 (sitofp .f32 (iotaInDim S2048 32 0))))
          (broadcastInDim S2048x2048 ![0, 1] bcast_S1x2048_S2048x2048_0_1 (broadcastInDim S1x2048 ![1] bcast_S2048_S1x2048_1 (sitofp .f32 (iotaInDim S2048 32 0)))))))
      (broadcastInDim S8x2048x2048 ![0, 1, 2] bcast_S8x1x1_S8x2048x2048_0_1_2 (broadcastInDim S8x1x1 ![0] bcast_S8_S8x1x1_0 lg)))
    (broadcastInDim S8x2048x2048 ![] bcast_S_S8x2048x2048 (id (constant S_ .f32 0xFF800000#32))))

/-- The mixed values. -/
def mixed (q k v : FVec F S4x8x2048x256 .f32) (dm : FVec F S8x2048x2048 .f32) : FVec F S4x8x2048x256 .f32 :=
  Host.dotGeneral dot_S4x8x2048x2048_S4x8x2048x256_S4x8x2048x256_3_2_2_3_01_01 none
    (mulf (Host.dotGeneral dot_S4x8x2048x256_S4x8x2048x256_S4x8x2048x2048_3_3_2_2_01_01 none q k)
      (broadcastInDim S4x8x2048x2048 ![0, 1, 2, 3] bcast_S1x8x2048x2048_S4x8x2048x2048_0_1_2_3 (broadcastInDim S1x8x2048x2048 ![1, 2, 3] bcast_S8x2048x2048_S1x8x2048x2048_1_2_3 dm))) v

/-- The mixed values less their mean. -/
def centred (o : FVec F S4x8x2048x256 .f32) : FVec F S4x8x2048x256 .f32 :=
  subf o (broadcastInDim S4x8x2048x256 ![0, 1, 2, 3] bcast_S4x8x2048x1_S4x8x2048x256_0_1_2_3
    (Host.divf (broadcastInDim S4x8x2048x1 ![0, 1, 2] bcast_S4x8x2048_S4x8x2048x1_0_1_2 (Host.reduceAdd o (constant S_ .f32 0x00000000#32) reducesTo_S4x8x2048x256_S4x8x2048_d3 h_S_))
      (broadcastInDim S4x8x2048x1 ![] bcast_S_S4x8x2048x1 (constant S_ .f32 0x43800000#32))))

/-- The normalised values, scaled by the norm's weights. -/
def normed (o : FVec F S4x8x2048x256 .f32) (gn : FVec F S2x2048 .f32) : FVec F S4x8x2048x256 .f32 :=
  mulf (mulf (centred o) (broadcastInDim S4x8x2048x256 ![0, 1, 2, 3] bcast_S4x8x2048x1_S4x8x2048x256_0_1_2_3
      (Host.rsqrt (addf (Host.divf (broadcastInDim S4x8x2048x1 ![0, 1, 2] bcast_S4x8x2048_S4x8x2048x1_0_1_2
            (Host.reduceAdd (mulf (centred o) (centred o)) (constant S_ .f32 0x00000000#32) reducesTo_S4x8x2048x256_S4x8x2048_d3 h_S_))
          (broadcastInDim S4x8x2048x1 ![] bcast_S_S4x8x2048x1 (constant S_ .f32 0x43800000#32)))
        (broadcastInDim S4x8x2048x1 ![] bcast_S_S4x8x2048x1 (constant S_ .f32 0x358637BD#32))))))
    (broadcastInDim S4x8x2048x256 ![0, 1, 2, 3] bcast_S1x8x1x256_S4x8x2048x256_0_1_2_3 (broadcastInDim S1x8x1x256 ![1, 2, 3] bcast_S8x1x256_S1x8x1x256_1_2_3
      (shapeCast _ (shapeCast _ (extractStridedSlice S1x2048 ![1, 0] gn slices_S2x2048_S1x2048_1_0) shapeCasts_S1x2048_S2048) shapeCasts_S2048_S8x1x256)))

/-- The heads joined and multiplied by the gate's silu. -/
def gated (o : FVec F S4x8x2048x256 .f32) (z : FVec F S4x2048x8192 .f32) : FVec F S4x2048x2048 .bf16 :=
  let g := extractStridedSlice S4x2048x2048 ![0, 0, 6144] z slices_S4x2048x8192_S4x2048x2048_0_0_6144
  truncf .bf16 (mulf (shapeCast _ (transpose S4x2048x8x256 [0, 2, 1, 3] o transposes_S4x8x2048x256_S4x2048x8x256_0_2_1_3) shapeCasts_S4x2048x8x256_S4x2048x2048)
    (mulf g (Host.divf (broadcastInDim S4x2048x2048 ![] bcast_S_S4x2048x2048 (constant S_ .f32 0x3F800000#32))
      (addf (broadcastInDim S4x2048x2048 ![] bcast_S_S4x2048x2048 (constant S_ .f32 0x3F800000#32)) (Host.exp (Host.negf g)))))) bitsLt_bf16_f32

/-- The state after the whole sequence. -/
def state (k v : FVec F S4x8x2048x256 .f32) (lg : FVec F S8 .f32) : FVec F S4x8x256x256 .f32 :=
  Host.dotGeneral dot_S4x8x2048x256_S4x8x2048x256_S4x8x256x256_2_2_3_3_01_01 none
    (mulf k (broadcastInDim S4x8x2048x256 ![0, 1, 2, 3] bcast_S1x8x2048x1_S4x8x2048x256_0_1_2_3 (broadcastInDim S1x8x2048x1 ![1, 2, 3] bcast_S8x2048x1_S1x8x2048x1_1_2_3
      (broadcastInDim S8x2048x1 ![0, 1] bcast_S8x2048_S8x2048x1_0_1 (Host.exp (mulf (broadcastInDim S8x2048 ![0, 1] bcast_S1x2048_S8x2048_0_1
          (broadcastInDim S1x2048 ![1] bcast_S2048_S1x2048_1 (subf (broadcastInDim S2048 ![] bcast_S_S2048 (constant S_ .f32 0x44FFE000#32)) (sitofp .f32 (iotaInDim S2048 32 0)))))
        (broadcastInDim S8x2048 ![0, 1] bcast_S8x1_S8x2048_0_1 (broadcastInDim S8x1 ![0] bcast_S8_S8x1_0 lg)))))))) v

variable (m : (ℓ : Loc nD τ sig) → Buf (Elt F) ℓ) (c : Dev nD)

/-- The reference's run, its results as the steps above. -/
theorem run (ρ : Dev nD → PrngReg) :
    θ_run defs (onTc (τ := τ) (main (F := F))) ⟨m, fun _ => 0, ρ⟩ fun r => ∀ c : Dev nD,
      let z := m ((c.tc : Thread nD τ).loc main_arg0)
      let cs := m ((c.tc : Thread nD τ).loc main_arg1)
      let sn := m ((c.tc : Thread nD τ).loc main_arg2)
      r.2.mem ((c.tc : Thread nD τ).loc main_v113)
          = gated (normed (mixed (qry z cs sn) (key z cs sn) (val z) (decay logDecays)) (m ((c.tc : Thread nD τ).loc main_arg3))) z
      ∧ r.2.mem ((c.tc : Thread nD τ).loc main_v86) = state (key z cs sn) (val z) logDecays
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Value.run m ρ)

/-! ## The steps at an index -/

/-- A head's column of a block of the projected rows. -/
theorem heads_at (o : ℕ) (ho : o + 2048 ≤ 8192) (h) (z : FVec Ideal S4x2048x8192 .f32) (b : Fin 4) (w : Fin 8) (t : Fin 2048) (d : Fin 256) :
    heads ![0, 0, o] h z (ix4 b w t d) = z (ix3 b t ⟨o + 256 * w.val + d.val, by omega⟩) := by
  pointwise [heads]
  congr 1
  idx_ext

/-- The rotary embedding turns each row of each head. -/
theorem rope_at (cs sn : FVec Ideal S2048x128 .f32) (x : FVec Ideal S4x8x2048x256 .f32) (b : Fin 4) (w : Fin 8) (t : Fin 2048) (d : Fin 256) :
    rope cs sn x (ix4 b w t d) = Cert.Ret.turned (fun d => x (ix4 b w t d)) (fun d => cs (ix2 t d)) (fun d => sn (ix2 t d)) d := by
  unfold Cert.Ret.turned
  pointwise [rope, spread]

/-- The logarithm of a head's decay. -/
theorem logDecays_at (w : Fin 8) : (logDecays : FVec Ideal S8 .f32) (ix1 w) = ((Cert.Ret.rate w.val : ℝ) : EReal) := by
  pointwise [logDecays]
  rw [Cert.Ret.float_nat (by omega), Cert.Ret.lit_two, Cert.Ret.lit_neg_five, ← EReal.coe_sub, Ideal.pow_coe_coe]
  exact Cert.Ret.rate_eq w.val

/-- The decay from row `s` to row `t`. -/
theorem decay_at (w : Fin 8) (t s : Fin 2048) : decay (logDecays (F := Ideal)) (ix3 w t s)
    = ((if s.val ≤ t.val then Real.exp (((t.val : ℝ) - s.val) * Cert.Ret.rate w.val) else 0 : ℝ) : EReal) := by
  pointwise [decay]
  have e : Scalar.select (IntOp.cmpi .sge (IntOp.addi (BitVec.ofNat 32 t.val) 0#32) (BitVec.ofNat 32 s.val)) 1#1 0#1
      = if s.val ≤ t.val then 1#1 else 0#1 := by
    rw [show IntOp.addi (BitVec.ofNat 32 t.val) 0#32 = BitVec.ofNat 32 t.val from BitVec.add_zero _]
    show Scalar.select (BitVec.ofBool ((BitVec.ofNat 32 s.val).sle (BitVec.ofNat 32 t.val))) 1#1 0#1 = _
    rw [Cert.Ret.sle_nat (by omega) (by omega)]
    split <;> rfl
  have hm : (id (constant S_ .f32 0xFF800000#32) : FVec Ideal S_ .f32) ix0 = (⊥ : EReal) := Cert.Ret.lit_neg_inf
  rw [logDecays_at, Cert.Ret.float_nat (by omega), Cert.Ret.float_nat (by omega), e, ← EReal.coe_sub, ← EReal.coe_mul]
  rw [← Cert.Ret.exp_masked]
  congr 2

/-- The mixed values of a row. -/
theorem mixed_at (q k v : FVec Ideal S4x8x2048x256 .f32) (dm : FVec Ideal S8x2048x2048 .f32) (b : Fin 4) (w : Fin 8) (t : Fin 2048) (e : Fin 256) :
    mixed q k v dm (ix4 b w t e)
      = ∑ x, (∑ d, q (ix4 b w t d) * k (ix4 b w x d)) * dm (ix3 w t x) * v (ix4 b w x e) := by
  pointwise [mixed]

/-- The normalised, gated values of a row. -/
theorem out_at (o : FVec Ideal S4x8x2048x256 .f32) (gn : FVec Ideal S2x2048 .f32) (z : FVec Ideal S4x2048x8192 .f32)
    (b : Fin 4) (t : Fin 2048) (w : Fin 8) (e : Fin 256) :
    gated (normed o gn) z (ix3 b t ⟨256 * w.val + e.val, by omega⟩)
      = Cert.Ret.normSilu (fun e => o (ix4 b w t e)) (gn (ix2 1 ⟨256 * w.val + e.val, by omega⟩))
        (z (ix3 b t ⟨6144 + 256 * w.val + e.val, by omega⟩)) e := by
  have h1 : (⟨6144 + (256 * w.val + e.val), by omega⟩ : Fin 8192) = ⟨6144 + 256 * w.val + e.val, by omega⟩ := Fin.ext (by simp; omega)
  have h2 : (⟨w.val * 256 + e.val, by omega⟩ : Fin 2048) = ⟨256 * w.val + e.val, by omega⟩ := Fin.ext (by simp; omega)
  unfold Cert.Ret.normSilu Cert.Ret.mean
  pointwise [gated, normed, centred]
  rw [h1, h2]

/-- The state of a head after the whole sequence. -/
theorem state_at (k v : FVec Ideal S4x8x2048x256 .f32) (b : Fin 4) (w : Fin 8) (d e : Fin 256) :
    state k v (logDecays (F := Ideal)) (ix4 b w d e)
      = ∑ x : Fin 2048, k (ix4 b w x d) * ((Real.exp ((2047 - (x.val : ℝ)) * Cert.Ret.rate w.val) : ℝ) : EReal) * v (ix4 b w x e) := by
  pointwise [state]
  refine Finset.sum_congr rfl fun x _ => ?_
  rw [logDecays_at, Cert.Ret.float_nat (by omega), Cert.Ret.lit_2047, ← EReal.coe_sub, ← EReal.coe_mul, Ideal.exp_coe]

/-! ## The steps on real arguments -/

variable {z : FVec Ideal S4x2048x8192 .f32} {cs sn : FVec Ideal S2048x128 .f32} (hr : Cert.Ret.RealArgs z cs sn)
include hr

/-- The queries are the real ones. -/
theorem qry_eq (b : Fin 4) (w : Fin 8) (t : Fin 2048) (d : Fin 256) :
    qry z cs sn (ix4 b w t d) = ((Cert.Ret.queryR z cs sn b w t.val d : ℝ) : EReal) := by
  unfold qry Cert.Ret.queryR
  rw [rope_at, ← Cert.Ret.turned_coe]
  congr 1
  · funext d
    rw [heads_at 0 (by omega), hr.rows_eq b t _ (by show 0 + 256 * w.val + d.val < 6144; omega)]
    congr 3
    show 0 + 256 * w.val + d.val = 256 * w.val + d.val
    omega
  · funext d; exact hr.cos_eq t d
  · funext d; exact hr.sin_eq t d

/-- The keys are the real ones. -/
theorem key_eq (b : Fin 4) (w : Fin 8) (t : Fin 2048) (d : Fin 256) :
    key z cs sn (ix4 b w t d) = ((Cert.Ret.keyR z cs sn b w t.val d : ℝ) : EReal) := by
  unfold Cert.Ret.keyR
  pointwise [key]
  rw [rope_at, Cert.Ret.lit_sixteenth, EReal.coe_mul, ← Cert.Ret.turned_coe]
  congr 2
  · funext d
    rw [heads_at 2048 (by omega), hr.rows_eq b t _ (by show 2048 + 256 * w.val + d.val < 6144; omega)]
  · funext d; exact hr.cos_eq t d
  · funext d; exact hr.sin_eq t d

/-- The values are the real ones. -/
theorem val_eq (b : Fin 4) (w : Fin 8) (t : Fin 2048) (e : Fin 256) :
    val z (ix4 b w t e) = ((Cert.Ret.valueR z b w t.val e : ℝ) : EReal) := by
  unfold val Cert.Ret.valueR
  rw [heads_at 4096 (by omega), hr.rows_eq b t _ (by show 4096 + 256 * w.val + e.val < 6144; omega)]

/-- The mixed values are the real ones. -/
theorem mixed_eq (b : Fin 4) (w : Fin 8) (t : Fin 2048) (e : Fin 256) :
    mixed (qry z cs sn) (key z cs sn) (val z) (decay logDecays) (ix4 b w t e) = ((Cert.Ret.mixR z cs sn b w t.val e : ℝ) : EReal) := by
  rw [mixed_at]
  unfold Cert.Ret.mixR
  simp only [qry_eq hr, key_eq hr, val_eq hr, decay_at, ← EReal.coe_mul, ← Cert.Ret.coe_sum]

/-- The last state is the real one. -/
theorem state_eq (b : Fin 4) (w : Fin 8) (d e : Fin 256) :
    state (key z cs sn) (val z) logDecays (ix4 b w d e) = ((Cert.Ret.stateR z cs sn b w 2048 d e : ℝ) : EReal) := by
  rw [state_at]
  unfold Cert.Ret.stateR
  rw [Cert.Ret.carried_all]
  simp only [key_eq hr, val_eq hr, ← EReal.coe_mul, ← Cert.Ret.coe_sum]

end Cert.ReferenceIdeal.Ret

end
-- ==== Proof.Equal.lean ====
/- The two programs' results are equal on real arguments. -/
module

public import proofs.«01_k».proof.Proof.Fold
public import proofs.«01_k».proof.Proof.RefRead

@[expose] public section

noncomputable section

open Idealize.ShloMosaic Idealize.ShloMosaic.TcCoe Idealize.SL.Sem

namespace Cert.KernelIdeal.Ret

open Cert.KernelIdeal Cert.KernelIdeal.Gen Cert.KernelIdeal.Value Cert.Ret

section Generic

variable {F : FTy → Type} [FloatOps F]
variable (m : (ℓ : Loc nD τ sig) → Buf (Elt F) ℓ) (c : Dev nD)

/-- What the points leave depends on the point's number alone. -/
theorem outsAt0_congr (n : ℕ) (hn : n < cfg0.N) (t : Fin cfg0.N) (h : n = t.val) : outsAt0 m c n hn = outsAt0 m c t.val t.isLt := by
  subst h; rfl

/-- The output array holds, at a row of a point's chunk, the block the point leaves. -/
theorem G7_at (t : Fin cfg0.N) (r : Fin 256) (j : Fin 2048) :
    G7 m c (ix3 (⟨t.val / 8, by have := lt_of_lt_of_eq t.isLt N_0; omega⟩ : Fin 4) (⟨256 * (t.val % 8) + r.val, by omega⟩ : Fin 2048) j)
      = (outsAt0 m c t.val t.isLt).1 (ix3 0 r j) := by
  have hN := lt_of_lt_of_eq t.isLt N_0
  have hp : pt7Of (ix3 (⟨t.val / 8, by omega⟩ : Fin 4) (⟨256 * (t.val % 8) + r.val, by omega⟩ : Fin 2048) j) = t.val := by
    show 8 * (t.val / 8 / 1 - 0) + 1 * ((256 * (t.val % 8) + r.val) / 256 - 0) + 1 * (j.val / 2048 - 0) = t.val
    omega
  unfold G7
  rw [dif_pos (lt_of_eq_of_lt hp t.isLt), ← outsAt0_sweep m c _ (lt_of_eq_of_lt hp t.isLt), outsAt0_congr m c _ _ t hp]
  refine congrArg _ (funext fun a => Fin.ext ?_)
  match a with
  | ⟨0, _⟩ => show t.val / 8 % 1 = 0; omega
  | ⟨1, _⟩ => show (256 * (t.val % 8) + r.val) % 256 = r.val; omega
  | ⟨2, _⟩ => show j.val % 2048 = j.val; omega

/-- The state array holds, at a sequence, the states the sequence's last point writes. -/
theorem G8_at (t : Fin cfg0.N) (h7 : t.val % 8 = 7) (h : Fin 8) (d e : Fin 256) :
    G8 m c (ix4 (⟨t.val / 8, by have := lt_of_lt_of_eq t.isLt N_0; omega⟩ : Fin 4) h d e) = (outsAt0 m c t.val t.isLt).2.1 (ix4 0 h d e) := by
  have hN := lt_of_lt_of_eq t.isLt N_0
  have hp : pt8Of (ix4 (⟨t.val / 8, by omega⟩ : Fin 4) h d e) = t.val := by
    show 8 * (1 * (t.val / 8 / 1 - 0) + 1 * (h.val / 8 - 0) + 1 * (d.val / 256 - 0) + 1 * (e.val / 256 - 0)) + 7 = t.val
    omega
  unfold G8
  rw [dif_pos (lt_of_eq_of_lt hp t.isLt), ← outsAt0_sweep m c _ (lt_of_eq_of_lt hp t.isLt), outsAt0_congr m c _ _ t hp]
  refine congrArg _ (funext fun a => Fin.ext ?_)
  match a with
  | ⟨0, _⟩ => show t.val / 8 % 1 = 0; omega
  | ⟨1, _⟩ => show h.val % 8 = h.val; omega
  | ⟨2, _⟩ => show d.val % 256 = d.val; omega
  | ⟨3, _⟩ => show e.val % 256 = e.val; omega

end Generic

open Cert.ReferenceIdeal.Ret

variable (m : (ℓ : Loc nD τ sig) → Buf (Elt Ideal) ℓ) (c : Dev nD) (hr : RealArgs (zOf m c) (csOf m c) (snOf m c))
include hr

/-- The gated rows are the reference's. -/
theorem rows_equal : @Eq (FVec Ideal Cert.ReferenceIdeal.S4x2048x2048 .bf16) (G7 m c) (gated (normed (mixed (qry (zOf m c) (csOf m c) (snOf m c)) (key (zOf m c) (csOf m c) (snOf m c)) (val (zOf m c))
    (decay logDecays)) (gnOf m c)) (zOf m c)) := by
  funext i
  obtain ⟨b, s, j, rfl⟩ : ∃ (b : Fin 4) (s j : Fin 2048), i = ix3 b s j := ⟨i 0, i 1, i 2, (ix3_eta i).symm⟩
  obtain ⟨t, r, rfl, rfl⟩ : ∃ (t : Fin cfg0.N) (r : Fin 256), b = seqOf t ∧ s = ⟨256 * (t.val % 8) + r.val, by omega⟩ :=
    ⟨⟨8 * b.val + s.val / 256, lt_of_lt_of_eq (by omega : _ < 32) N_0.symm⟩, ⟨s.val % 256, by omega⟩,
      Fin.ext (by show b.val = (8 * b.val + s.val / 256) / 8; omega),
      Fin.ext (by show s.val = 256 * ((8 * b.val + s.val / 256) % 8) + s.val % 256; omega)⟩
  obtain ⟨h, e, rfl⟩ : ∃ (h : Fin 8) (e : Fin 256), j = ⟨256 * h.val + e.val, by omega⟩ :=
    ⟨⟨j.val / 256, by omega⟩, ⟨j.val % 256, by omega⟩, Fin.ext (by show j.val = 256 * (j.val / 256) + j.val % 256; omega)⟩
  refine (G7_at m c t r _).trans ((out_eq m c hr t h r e).trans ?_)
  rw [out_at]
  simp only [mixed_eq hr]

/-- The final states are the reference's. -/
theorem states_equal : @Eq (FVec Ideal Cert.ReferenceIdeal.S4x8x256x256 .f32) (G8 m c)
    (state (key (zOf m c) (csOf m c) (snOf m c)) (val (zOf m c)) logDecays) := by
  funext i
  obtain ⟨b, h, d, e, rfl⟩ : ∃ (b : Fin 4) (h : Fin 8) (d e : Fin 256), i = ix4 b h d e := ⟨i 0, i 1, i 2, i 3, (ix4_eta i).symm⟩
  obtain ⟨t, rfl, h7⟩ : ∃ t : Fin cfg0.N, b = seqOf t ∧ t.val % 8 = 7 :=
    ⟨⟨8 * b.val + 7, lt_of_lt_of_eq (by omega : _ < 32) N_0.symm⟩, Fin.ext (by show b.val = (8 * b.val + 7) / 8; omega), by show (8 * b.val + 7) % 8 = 7; omega⟩
  exact (G8_at m c t h7 h d e).trans ((final_eq m c hr t h h7 d e).trans (state_eq hr (seqOf t) h d e).symm)

end Cert.KernelIdeal.Ret

end
-- ==== Proof.Store.lean ====
/- Two facts about the buffers of the product kernels: after one store that covers a buffer it is owned at what was
   stored, and an output block stored only now and then is handed on correctly at the points in between. -/
module

public import Idealize.ShloMosaic.Lib.Pipeline.FrameBody
public import Idealize.ShloMosaic.Lib.Pipeline.ReadBack
public import Idealize.ShloMosaic.Lib.Pipeline.TableIdle
public import Idealize.ShloMosaic.Lib.Pipeline.ValueKit.Basic
public import Idealize.ShloMosaic.Lib.Ring
public import Idealize.ShloMosaic.Lib.Tactic

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} [FloatOps F]

/-- After a store through the rectangle that is the whole buffer, the buffer is owned at the stored vector. -/
theorem owns_store {sp : Space} {S : Shape} {e : EltTy} (c : Dev nD) (M : Memref sig .tc sp S e)
    (f : M.view.ty.Contents (Elt F)) {off : Fin S.rank → ℕ} (inb : ∀ a, off a + S.size a ≤ S.size a) (h : ∀ a, off a = 0)
    (w x : S.Idx → Elt F e) (hx : w = x) :
    (M.view.loc (c : Thread nD τ) ↦[M.view.set]{fullShare} M.view.writes (Elt F) f [⟨Rect.unit off S.size inb, w⟩]
        : sProp (MT nD τ sig Unit (Elt F) ℕ (UR sig nD τ) ℕ))
      ⊢ iprop(∃ f, ⌜M.view.read (Elt F) f = x⌝ ∗ (M.view.loc (c : Thread nD τ) ↦[M.view.set]{fullShare} f)) := by
  iintro H
  iexists _; isplitr
  swap
  · iexact H
  ipureintro
  rw [View.read_writes_eq_canon _ _ _ (fun y => ⟨_, List.mem_singleton_self _, by
    rw [Rect.mem_set_unit]; intro a; rw [h a]; exact ⟨Nat.zero_le _, by simpa using (y a).isLt⟩⟩), View.canon_cons_unit_lit inb w _ h, hx]

/-- An output block at a point that stores nothing into it: whatever the body finds there it hands back, and that is
    right when the stated contents do not change between two points of the same block. `tb` says at which points the
    buffer starts over. -/
theorem retained {Λ₀ : Labels} {cfg : Pipeline.Cfg sig Λ₀} {c : Dev nD}
    (dat : Pipeline.Dat τ (Elt F) Unit ℕ (UR sig nD τ) ℕ cfg c) (w : Fin cfg.W) (hw : (cfg.win w).isOut = true)
    (hclip : ∀ (i : cfg.grid.Coords) a, (cfg.win w).clip i a = none)
    (tb : ℕ → Bool) (h0 : tb 0 = true)
    (hs : ∀ t : Fin cfg.N, tb (t.val + 1) = ((cfg.win w).flush t || (cfg.idle w (cfg.grid.coords t) && tb t.val)))
    (hcarry : ∀ t : Fin cfg.N, tb t.val = false → dat.after w t = dat.after w ⟨t.val - 1, by omega⟩)
    (t : Fin cfg.N) (hi : cfg.idle w (cfg.grid.coords t) = true) (hf : (cfg.win w).flush t = true → tb t.val = false) :
    iprop(∃ d, owns (c : Thread nD τ) ((cfg.win w).stage (cfg.slots t w)) fullShare (dat.before w t d)) ⊢ dat.leavesExact w t := by
  have tab := cfg.fresh_tab w tb h0 hs
  cases hfl : (cfg.win w).flush t with
  | false => rw [dat.leavesExact_idle w t hi hfl]
  | true =>
    have e : dat.leavesExact w t = owns (c : Thread nD τ) ((cfg.win w).stage (cfg.slots t w)) fullShare (dat.after w t) := by
      unfold Pipeline.Dat.leavesExact; rw [hi, hfl]
    rw [e]
    iintro ⟨%d, H⟩
    rw [dat.before_out_traj w hw hclip (fun t _ _ hfr => hcarry t (by rw [← tab t.val t.isLt.le]; exact hfr)) t.val t rfl d,
      tab t.val t.isLt.le, hf hfl, if_neg Bool.false_ne_true, hcarry t (hf hfl)]
    iexact H

end Cert.Own

end
-- ==== Proof.FfnInBody.lean ====
/- The first feed-forward product with its gate and short convolution, point by point: what each run of the kernel
   body leaves in the three scratch buffers and the four output blocks, the pipeline's data built on that, and the run
   of the whole program. -/
module

public import proofs.«01_k».proof.Proof.Gen.FfnInIdeal.Skeleton
public import proofs.«01_k».proof.Proof.Gen.FfnInIdeal.Frame
public import proofs.«01_k».proof.Proof.Store
public import Idealize.ShloMosaic.Lib.Claim

@[expose] public section

set_option maxRecDepth 16384

noncomputable section

namespace Cert.FfnInIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

/-! ## What the body computes -/

/-- Whether a point's rows begin a prompt: its second coordinate is even. -/
def fresh (i : grid0.Coords) : BitVec 1 :=
  let r : BitVec 32 := Scalar.remsi (BitVec.ofNat 32 (i 1).val) 2#32
  Scalar.cmpi .eq (Scalar.select (Scalar.andi (Scalar.xori (Scalar.cmpi .slt r 0#32) 0#1) (Scalar.cmpi .ne r 0#32)) (Scalar.addi r 2#32) r) 0#32

/-- The three taps of the convolution. -/
def tap0 (cw : Vec F S1x3x512 .f32) : Vec F S1x1x512 .f32 := View.ld cw (Rect.unit (s := S1x3x512) ![0, 0, 0] S1x1x512.size inb_S1x3x512_S1x1x512_0_0_0)
@[inherit_doc tap0]
def tap1 (cw : Vec F S1x3x512 .f32) : Vec F S1x1x512 .f32 := View.ld cw (Rect.unit (s := S1x3x512) ![0, 1, 0] S1x1x512.size inb_S1x3x512_S1x1x512_0_1_0)
@[inherit_doc tap0]
def tap2 (cw : Vec F S1x3x512 .f32) : Vec F S1x1x512 .f32 := View.ld cw (Rect.unit (s := S1x3x512) ![0, 2, 0] S1x1x512.size inb_S1x3x512_S1x1x512_0_2_0)

/-- The two rows of the sample's convolution state, older first. -/
def old0 (sc : Vec F S1x2x8x512 .f32) : Vec F S1x1x8x512 .f32 :=
  View.ld sc (Rect.unit (s := S1x2x8x512) ![0, 0, 0, 0] S1x1x8x512.size inb_S1x2x8x512_S1x1x8x512_0_0_0_0)
@[inherit_doc old0]
def old1 (sc : Vec F S1x2x8x512 .f32) : Vec F S1x1x8x512 .f32 :=
  View.ld sc (Rect.unit (s := S1x2x8x512) ![0, 1, 0, 0] S1x1x8x512.size inb_S1x2x8x512_S1x1x8x512_0_1_0_0)

/-- A point's gated rows: `u` and `g` are its two products, `k` the last eight rows of the point before. -/
def rowsOut (i : grid0.Coords) (u g : FVec F S1024x512 .f32) (k : Vec F S8x512 .f32) (cw : Vec F S1x3x512 .f32) (cb : Vec F S1x1x512 .f32) :
    FVec F S1024x512 .bf16 :=
  k0_pay1 u g (k0_pay16 u (fresh i) (View.ld k (Rect.unit (s := S8x512) ![6, 0] S1x512.size inb_S8x512_S1x512_6_0))
    (View.ld k (Rect.unit (s := S8x512) ![7, 0] S1x512.size inb_S8x512_S1x512_7_0)) cb (tap0 cw) (tap1 cw)) (tap2 cw)

/-- Where a prompt begins the rows before it do not matter. -/
theorem rowsOut_fresh (i : grid0.Coords) (h : fresh i = 1#1) (u g : FVec F S1024x512 .f32) (k k' : Vec F S8x512 .f32)
    (cw : Vec F S1x3x512 .f32) (cb : Vec F S1x1x512 .f32) : rowsOut i u g k cw cb = rowsOut i u g k' cw cb := by
  unfold rowsOut; rw [h]; rfl

/-- The gated sample rows. -/
def sampleOut (a : Vec F S8x2048 .bf16) (sq : Vec F S2x8x128 .f32) (sc : Vec F S1x2x8x512 .f32) (wa wb : Vec F S2048x512 .bf16)
    (cw : Vec F S1x3x512 .f32) (cb : Vec F S1x1x512 .f32) : FVec F S8x512 .bf16 :=
  k0_pay10 a (k0_pay6 sq) (k0_pay7 a sq wa) (k0_pay8 cb) (k0_pay9 (tap0 cw)) (old0 sc) (tap1 cw) (old1 sc) (tap2 cw) wb

/-- The sample's new convolution state: its newer row moves up, the step's product follows. -/
def stateOut (a : Vec F S8x2048 .bf16) (sq : Vec F S2x8x128 .f32) (sc : Vec F S1x2x8x512 .f32) (wa : Vec F S2048x512 .bf16) : Vec F S2x8x512 .f32 :=
  View.canon [⟨Rect.unit (s := S2x8x512) ![1, 0, 0] S1x8x512.size inb_S2x8x512_S1x8x512_1_0_0, k0_pay12 (k0_pay7 a sq wa)⟩,
    ⟨Rect.unit (s := S2x8x512) ![0, 0, 0] S1x8x512.size inb_S2x8x512_S1x8x512_0_0_0, k0_pay11 (old1 sc)⟩]

theorem state_covered (w1 w0 : S1x8x512.Idx → Elt F .f32) (y : S2x8x512.Idx) :
    ∃ p ∈ ([⟨Rect.unit (s := S2x8x512) ![1, 0, 0] S1x8x512.size inb_S2x8x512_S1x8x512_1_0_0, w1⟩,
      ⟨Rect.unit (s := S2x8x512) ![0, 0, 0] S1x8x512.size inb_S2x8x512_S1x8x512_0_0_0, w0⟩] : List (View.Piece (Elt F) S2x8x512 .f32)), y ∈ p.1.set := by
  have b0 := (y 0).isLt; have b1 := (y 1).isLt; have b2 := (y 2).isLt
  by_cases h : (y 0).val = 0
  · refine ⟨_, List.mem_cons_of_mem _ (List.mem_singleton_self _), ?_⟩
    rw [Rect.mem_set_unit]; intro a
    fin_cases a <;> simp_all
  · refine ⟨_, List.mem_cons_self, ?_⟩
    rw [Rect.mem_set_unit]; intro a
    fin_cases a <;> simp_all <;> omega

/-! ## The body, case by case -/

section Cases

variable (c : Dev nD) (i : grid0.Coords)
  (arg2 : Memref sig .tc .vmem S1024x2048 .bf16) (harg2 : arg2.IsWhole)
  (arg3 : Memref sig .tc .vmem S8x2048 .bf16) (harg3 : arg3.IsWhole)
  (arg4 : Memref sig .tc .vmem S2x1024x128 .f32) (harg4 : arg4.IsWhole)
  (arg5 : Memref sig .tc .vmem S2x8x128 .f32) (harg5 : arg5.IsWhole)
  (arg6 : Memref sig .tc .vmem S1x2x8x512 .f32) (harg6 : arg6.IsWhole)
  (arg7 : Memref sig .tc .vmem S1x2048x512 .f32) (harg7 : arg7.IsWhole)
  (arg8 : Memref sig .tc .vmem S1x2048x512 .f32) (harg8 : arg8.IsWhole)
  (arg9 : Memref sig .tc .vmem S1x3x512 .f32) (harg9 : arg9.IsWhole)
  (arg10 : Memref sig .tc .vmem S1x1x512 .f32) (harg10 : arg10.IsWhole)
  (arg11 : Memref sig .tc .vmem S1024x512 .bf16) (harg11 : arg11.IsWhole)
  (arg12 : Memref sig .tc .vmem S1x2x512 .f32) (harg12 : arg12.IsWhole)
  (arg13 : Memref sig .tc .vmem S8x512 .bf16) (harg13 : arg13.IsWhole)
  (arg14 : Memref sig .tc .vmem S2x8x512 .f32) (harg14 : arg14.IsWhole)
  (arg15 : Memref sig .tc .vmem S2048x512 .bf16) (harg15 : arg15.IsWhole)
  (arg16 : Memref sig .tc .vmem S2048x512 .bf16) (harg16 : arg16.IsWhole)
  (arg17 : Memref sig .tc .vmem S8x512 .f32) (harg17 : arg17.IsWhole)

set_option maxHeartbeats 3200000 in
/-- A point that begins a sweep: both weight blocks are rounded into scratch, the sample step made, then the point's own rows. -/
theorem body_first (hc : k0_cond1 i = 1#1) (hd : ¬k0_cond2 i = 1#1)
    (x0 : Vec F S1024x2048 .bf16) (x1 : Vec F S8x2048 .bf16) (x2 : Vec F S2x1024x128 .f32) (x3 : Vec F S2x8x128 .f32) (sc : Vec F S1x2x8x512 .f32) (wA : Vec F S1x2048x512 .f32) (wB : Vec F S1x2048x512 .f32) (cw : Vec F S1x3x512 .f32) (cb : Vec F S1x1x512 .f32) (k : Vec F S8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare sc ∗ owns (c : Thread nD τ) arg7 fullShare wA ∗ owns (c : Thread nD τ) arg8 fullShare wB ∗ owns (c : Thread nD τ) arg9 fullShare cw ∗ owns (c : Thread nD τ) arg10 fullShare cb ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare k
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare sc ∗ owns (c : Thread nD τ) arg7 fullShare wA ∗ owns (c : Thread nD τ) arg8 fullShare wB ∗ owns (c : Thread nD τ) arg9 fullShare cw ∗ owns (c : Thread nD τ) arg10 fullShare cb ∗ owns (c : Thread nD τ) arg11 fullShare (rowsOut i (k0_pay14 x0 x2 (k0_pay4 wA)) (k0_pay15 x0 x2 (k0_pay5 wB)) k cw cb) ∗ owns (c : Thread nD τ) arg13 fullShare (sampleOut x1 x3 sc (k0_pay4 wA) (k0_pay5 wB) cw cb) ∗ owns (c : Thread nD τ) arg14 fullShare (stateOut x1 x3 sc (k0_pay4 wA)) ∗ owns (c : Thread nD τ) arg15 fullShare (k0_pay4 wA) ∗ owns (c : Thread nD τ) arg16 fullShare (k0_pay5 wB) ∗ owns (c : Thread nD τ) arg17 fullShare (k0_pay2 (k0_pay14 x0 x2 (k0_pay4 wA)))) -∗ K ⟨⟩))
      ⊢ wp frame (wpE (defs₀ (F := F)) Variants.none c none) Set.univ
          (cc0_ffn_in_conv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_in_conv_eq_skeleton]; unfold cc0_ffn_in_conv_skel
  simp only [k0_part3_eq_skeleton, k0_part4_eq_skeleton, k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d13, %f13, -, H13⟩, ⟨%d14, %f14, -, H14⟩, ⟨%d15, %f15, -, H15⟩, ⟨%d16, %f16, -, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg17.eq_unread hf17
  sl_exec (disch := first | sl_exact hc | sl_exact hd)
  sl_step
  sl_unfold_words
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iapply (Cert.Own.owns_store c arg11 _ _ (by decide) _ _ ?_) $$ H11
    simp only [View.readAt_eq_ld, harg2.read_unread, harg3.read_unread, harg4.read_unread, harg5.read_unread, harg6.read_unread, harg7.read_unread, harg8.read_unread, harg9.read_unread, harg10.read_unread, harg17.read_unread]
    rw [View.readCov_unit_lit _ _ _ (by decide), View.readCov_unit_lit _ _ _ (by decide), View.ld_unit_lit _ wA (by decide), View.ld_unit_lit _ wB (by decide), View.ld_unit_lit _ x0 (by decide), View.ld_unit_lit _ x2 (by decide), View.ld_unit_lit _ cb (by decide)]
    rfl
  isplitl [H13]
  · iapply (Cert.Own.owns_store c arg13 _ _ (by decide) _ _ ?_) $$ H13
    simp only [View.readAt_eq_ld, harg2.read_unread, harg3.read_unread, harg4.read_unread, harg5.read_unread, harg6.read_unread, harg7.read_unread, harg8.read_unread, harg9.read_unread, harg10.read_unread, harg17.read_unread]
    rw [View.readCov_unit_lit _ _ _ (by decide), View.readCov_unit_lit _ _ _ (by decide), View.ld_unit_lit _ wA (by decide), View.ld_unit_lit _ wB (by decide), View.ld_unit_lit _ x1 (by decide), View.ld_unit_lit _ x3 (by decide), View.ld_unit_lit _ cb (by decide)]
    rfl
  isplitl [H14]
  · iexists _; isplitr
    swap
    · iexact H14
    ipureintro
    rw [View.read_writes_eq_canon _ _ _ (state_covered _ _)]
    simp only [View.readAt_eq_ld, harg2.read_unread, harg3.read_unread, harg4.read_unread, harg5.read_unread, harg6.read_unread, harg7.read_unread, harg8.read_unread, harg9.read_unread, harg10.read_unread, harg17.read_unread]
    rw [View.readCov_unit_lit _ _ _ (by decide), View.ld_unit_lit _ wA (by decide), View.ld_unit_lit _ x1 (by decide), View.ld_unit_lit _ x3 (by decide)]
    rfl
  isplitl [H15]
  · iapply (Cert.Own.owns_store c arg15 _ _ (by decide) _ _ ?_) $$ H15
    simp only [View.readAt_eq_ld, harg2.read_unread, harg3.read_unread, harg4.read_unread, harg5.read_unread, harg6.read_unread, harg7.read_unread, harg8.read_unread, harg9.read_unread, harg10.read_unread, harg17.read_unread]
    rw [View.ld_unit_lit _ wA (by decide)]
  isplitl [H16]
  · iapply (Cert.Own.owns_store c arg16 _ _ (by decide) _ _ ?_) $$ H16
    simp only [View.readAt_eq_ld, harg2.read_unread, harg3.read_unread, harg4.read_unread, harg5.read_unread, harg6.read_unread, harg7.read_unread, harg8.read_unread, harg9.read_unread, harg10.read_unread, harg17.read_unread]
    rw [View.ld_unit_lit _ wB (by decide)]
  iapply (Cert.Own.owns_store c arg17 _ _ (by decide) _ _ ?_) $$ H17
  simp only [View.readAt_eq_ld, harg2.read_unread, harg3.read_unread, harg4.read_unread, harg5.read_unread, harg6.read_unread, harg7.read_unread, harg8.read_unread, harg9.read_unread, harg10.read_unread, harg17.read_unread]
  rw [View.readCov_unit_lit _ _ _ (by decide), View.ld_unit_lit _ wA (by decide), View.ld_unit_lit _ x0 (by decide), View.ld_unit_lit _ x2 (by decide)]

/-- A point in the middle of a prompt: the rows before it come from scratch, its last two rows go out. -/
theorem body_odd (hc : ¬k0_cond1 i = 1#1) (hd : k0_cond2 i = 1#1)
    (x0 : Vec F S1024x2048 .bf16) (x2 : Vec F S2x1024x128 .f32) (cw : Vec F S1x3x512 .f32) (cb : Vec F S1x1x512 .f32) (wa : Vec F S2048x512 .bf16) (wb : Vec F S2048x512 .bf16) (k : Vec F S8x512 .f32) (K : PUnit → sProp 𝕄) :
    iprop(owns (c : Thread nD τ) arg2 fullShare x0 ∗ owns (c : Thread nD τ) arg4 fullShare x2 ∗ owns (c : Thread nD τ) arg9 fullShare cw ∗ owns (c : Thread nD τ) arg10 fullShare cb ∗ (∃ d, owns (c : Thread nD τ) arg11 fullShare d) ∗ (∃ d, owns (c : Thread nD τ) arg12 fullShare d) ∗ owns (c : Thread nD τ) arg15 fullShare wa ∗ owns (c : Thread nD τ) arg16 fullShare wb ∗ owns (c : Thread nD τ) arg17 fullShare k
        ∗ (iprop(owns (c : Thread nD τ) arg2 fullShare x0 ∗ owns (c : Thread nD τ) arg4 fullShare x2 ∗ owns (c : Thread nD τ) arg9 fullShare cw ∗ owns (c : Thread nD τ) arg10 fullShare cb ∗ owns (c : Thread nD τ) arg11 fullShare (rowsOut i (k0_pay14 x0 x2 wa) (k0_pay15 x0 x2 wb) k cw cb) ∗ owns (c : Thread nD τ) arg12 fullShare (k0_pay3 (k0_pay14 x0 x2 wa)) ∗ owns (c : Thread nD τ) arg15 fullShare wa ∗ owns (c : Thread nD τ) arg16 fullShare wb ∗ owns (c : Thread nD τ) arg17 fullShare (k0_pay2 (k0_pay14 x0 x2 wa))) -∗ K ⟨⟩))
      ⊢ wp frame (wpE (defs₀ (F := F)) Variants.none c none) Set.univ
          (cc0_ffn_in_conv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_in_conv_eq_skeleton]; unfold cc0_ffn_in_conv_skel
  simp only [k0_part3_eq_skeleton, k0_part4_eq_skeleton, k0_part1_eq_skeleton, k0_part2_eq_skeleton]
  unfold owns
  iintro ⟨⟨%f2, %hf2, H2⟩, ⟨%f4, %hf4, H4⟩, ⟨%f9, %hf9, H9⟩, ⟨%f10, %hf10, H10⟩, ⟨%d11, %f11, -, H11⟩, ⟨%d12, %f12, -, H12⟩, ⟨%f15, %hf15, H15⟩, ⟨%f16, %hf16, H16⟩, ⟨%f17, %hf17, H17⟩, Hk⟩
  obtain rfl := harg2.eq_unread hf2; obtain rfl := harg4.eq_unread hf4; obtain rfl := harg9.eq_unread hf9; obtain rfl := harg10.eq_unread hf10; obtain rfl := harg15.eq_unread hf15; obtain rfl := harg16.eq_unread hf16; obtain rfl := harg17.eq_unread hf17
  sl_exec (disch := first | sl_exact hc | sl_exact hd)
  sl_step
  sl_unfold_words
  iapply Hk
  isplitl [H2]
  · iexists _; isplitr; · ipureintro; exact harg2.read_unread _
    iexact H2
  isplitl [H4]
  · iexists _; isplitr; · ipureintro; exact harg4.read_unread _
    iexact H4
  isplitl [H9]
  · iexists _; isplitr; · ipureintro; exact harg9.read_unread _
    iexact H9
  isplitl [H10]
  · iexists _; isplitr; · ipureintro; exact harg10.read_unread _
    iexact H10
  isplitl [H11]
  · iapply (Cert.Own.owns_store c arg11 _ _ (by decide) _ _ ?_) $$ H11
    simp only [View.readAt_eq_ld, harg2.read_unread, harg4.read_unread, harg9.read_unread, harg10.read_unread, harg15.read_unread, harg16.read_unread, harg17.read_unread]
    rw [View.ld_unit_lit _ x0 (by decide), View.ld_unit_lit _ x2 (by decide), View.ld_unit_lit _ wa (by decide), View.ld_unit_lit _ wb (by decide), View.ld_unit_lit _ cb (by decide)]
    rfl
  isplitl [H12]
  · iapply (Cert.Own.owns_store c arg12 _ _ (by decide) _ _ ?_) $$ H12
    simp only [View.readAt_eq_ld, harg2.read_unread, harg4.read_unread, harg9.read_unread, harg10.read_unread, harg15.read_unread, harg16.read_unread, harg17.read_unread]
    rw [View.ld_unit_lit _ x0 (by decide), View.ld_unit_lit _ x2 (by decide), View.ld_unit_lit _ wa (by decide)]
  isplitl [H15]
  · iexists _; isplitr; · ipureintro; exact harg15.read_unread _
    iexact H15
  isplitl [H16]
  · iexists _; isplitr; · ipureintro; exact harg16.read_unread _
    iexact H16
  iapply (Cert.Own.owns_store c arg17 _ _ (by decide) _ _ ?_) $$ H17
  simp only [View.readAt_eq_ld, harg2.read_unread, harg4.read_unread, harg9.read_unread, harg10.read_unread, harg15.read_unread, harg16.read_unread, harg17.read_unread]
  rw [View.ld_unit_lit _ x0 (by decide), View.ld_unit_lit _ x2 (by decide), View.ld_unit_lit _ wa (by decide)]

/-- A later point that begins a prompt. -/
theorem body_even (hc : ¬k0_cond1 i = 1#1) (hd : ¬k0_cond2 i = 1#1)
    (x0 : Vec F S1024x2048 .bf16) (x2 : Vec F S2x1024x128 .f32) (cw : Vec F S1x3x512 .f32) (cb : Vec F S1x1x512 .f32) (wa : Vec F S2048x512 .bf16) (wb : Vec F S2048x512 .bf16) (k : Vec F S8x512 .f32) (K : PUnit → sProp 𝕄) :
    iprop(owns (c : Thread nD τ) arg2 fullShare x0 ∗ owns (c : Thread nD τ) arg4 fullShare x2 ∗ owns (c : Thread nD τ) arg9 fullShare cw ∗ owns (c : Thread nD τ) arg10 fullShare cb ∗ (∃ d, owns (c : Thread nD τ) arg11 fullShare d) ∗ owns (c : Thread nD τ) arg15 fullShare wa ∗ owns (c : Thread nD τ) arg16 fullShare wb ∗ owns (c : Thread nD τ) arg17 fullShare k
        ∗ (iprop(owns (c : Thread nD τ) arg2 fullShare x0 ∗ owns (c : Thread nD τ) arg4 fullShare x2 ∗ owns (c : Thread nD τ) arg9 fullShare cw ∗ owns (c : Thread nD τ) arg10 fullShare cb ∗ owns (c : Thread nD τ) arg11 fullShare (rowsOut i (k0_pay14 x0 x2 wa) (k0_pay15 x0 x2 wb) k cw cb) ∗ owns (c : Thread nD τ) arg15 fullShare wa ∗ owns (c : Thread nD τ) arg16 fullShare wb ∗ owns (c : Thread nD τ) arg17 fullShare (k0_pay2 (k0_pay14 x0 x2 wa))) -∗ K ⟨⟩))
      ⊢ wp frame (wpE (defs₀ (F := F)) Variants.none c none) Set.univ
          (cc0_ffn_in_conv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_in_conv_eq_skeleton]; unfold cc0_ffn_in_conv_skel
  simp only [k0_part3_eq_skeleton, k0_part4_eq_skeleton, k0_part1_eq_skeleton, k0_part2_eq_skeleton]
  unfold owns
  iintro ⟨⟨%f2, %hf2, H2⟩, ⟨%f4, %hf4, H4⟩, ⟨%f9, %hf9, H9⟩, ⟨%f10, %hf10, H10⟩, ⟨%d11, %f11, -, H11⟩, ⟨%f15, %hf15, H15⟩, ⟨%f16, %hf16, H16⟩, ⟨%f17, %hf17, H17⟩, Hk⟩
  obtain rfl := harg2.eq_unread hf2; obtain rfl := harg4.eq_unread hf4; obtain rfl := harg9.eq_unread hf9; obtain rfl := harg10.eq_unread hf10; obtain rfl := harg15.eq_unread hf15; obtain rfl := harg16.eq_unread hf16; obtain rfl := harg17.eq_unread hf17
  sl_exec (disch := first | sl_exact hc | sl_exact hd)
  sl_step
  sl_unfold_words
  iapply Hk
  isplitl [H2]
  · iexists _; isplitr; · ipureintro; exact harg2.read_unread _
    iexact H2
  isplitl [H4]
  · iexists _; isplitr; · ipureintro; exact harg4.read_unread _
    iexact H4
  isplitl [H9]
  · iexists _; isplitr; · ipureintro; exact harg9.read_unread _
    iexact H9
  isplitl [H10]
  · iexists _; isplitr; · ipureintro; exact harg10.read_unread _
    iexact H10
  isplitl [H11]
  · iapply (Cert.Own.owns_store c arg11 _ _ (by decide) _ _ ?_) $$ H11
    simp only [View.readAt_eq_ld, harg2.read_unread, harg4.read_unread, harg9.read_unread, harg10.read_unread, harg15.read_unread, harg16.read_unread, harg17.read_unread]
    rw [View.ld_unit_lit _ x0 (by decide), View.ld_unit_lit _ x2 (by decide), View.ld_unit_lit _ wa (by decide), View.ld_unit_lit _ wb (by decide), View.ld_unit_lit _ cb (by decide)]
    rfl
  isplitl [H15]
  · iexists _; isplitr; · ipureintro; exact harg15.read_unread _
    iexact H15
  isplitl [H16]
  · iexists _; isplitr; · ipureintro; exact harg16.read_unread _
    iexact H16
  iapply (Cert.Own.owns_store c arg17 _ _ (by decide) _ _ ?_) $$ H17
  simp only [View.readAt_eq_ld, harg2.read_unread, harg4.read_unread, harg9.read_unread, harg10.read_unread, harg15.read_unread, harg16.read_unread, harg17.read_unread]
  rw [View.ld_unit_lit _ x0 (by decide), View.ld_unit_lit _ x2 (by decide), View.ld_unit_lit _ wa (by decide)]

end Cases

/-! ## The pipeline's data -/

/-- The sample step is made at the first point of each sweep of eight. -/
theorem cond_iff : ∀ t : Fin cfg0.N, k0_cond1 (grid0.coords t) = 1#1 ↔ t.val % 8 = 0 := by decide +kernel

/-- A prompt's last rows go out at the odd points. -/
theorem cond2_iff : ∀ t : Fin cfg0.N, k0_cond2 (grid0.coords t) = 1#1 ↔ t.val % 2 = 1 := by decide +kernel

/-- A prompt begins at the even points. -/
theorem fresh_even : ∀ t : Fin cfg0.N, t.val % 2 = 0 → fresh (grid0.coords t) = 1#1 := by decide +kernel

/-- The first point of the sweep `t` belongs to. -/
def start (t : Fin cfg0.N) : Fin cfg0.N := ⟨t.val - t.val % 8, lt_of_le_of_lt (Nat.sub_le _ _) t.isLt⟩

/-- The point before `t` (`t` itself if it is the first). -/
def prev (t : Fin cfg0.N) : Fin cfg0.N := ⟨t.val - 1, by omega⟩

theorem start_first (t : Fin cfg0.N) (h : t.val % 8 = 0) : start t = t := Fin.ext (by simp only [start]; omega)

theorem start_prev (t : Fin cfg0.N) (h : ¬t.val % 8 = 0) : start (prev t) = start t :=
  Fin.ext (by simp only [start, prev]; omega)

variable (m : (ℓ : Loc nD τ sig) → Buf (Elt F) ℓ) (ρ : Dev nD → PrngReg)

/-- The rounded weights a sweep works with, for the convolved half and for the gating half. -/
def wtA (c : Dev nD) (t : Fin cfg0.N) : Vec F S2048x512 .bf16 := k0_pay4 (iblk m c 5 (start t))
@[inherit_doc wtA]
def wtB (c : Dev nD) (t : Fin cfg0.N) : Vec F S2048x512 .bf16 := k0_pay5 (iblk m c 6 (start t))

/-- A point's two scaled products. -/
def upA (c : Dev nD) (t : Fin cfg0.N) : FVec F S1024x512 .f32 := k0_pay14 (iblk m c 0 t) (iblk m c 2 t) (wtA m c t)
@[inherit_doc upA]
def upB (c : Dev nD) (t : Fin cfg0.N) : FVec F S1024x512 .f32 := k0_pay15 (iblk m c 0 t) (iblk m c 2 t) (wtB m c t)

/-- What the three scratch buffers hold after point `t`. -/
def held (c : Dev nD) (t : Fin cfg0.N) : sProp 𝕄 :=
  iprop(owns (c : Thread nD τ) (Memref.whole cc0_scratch0) fullShare (wtA m c t) ∗ owns (c : Thread nD τ) (Memref.whole cc0_scratch1) fullShare (wtB m c t)
    ∗ owns (c : Thread nD τ) (Memref.whole cc0_scratch2) fullShare (k0_pay2 (upA m c t)) ∗ (∃ r, prngReg c r))

/-- The region's invariant before a point: the scratch buffers as the point before leaves them. -/
def PhiS (c : Dev nD) : (n : ℕ) → n ≤ cfg0.N → sProp 𝕄
  | 0, _ => Pipeline.ΦA spec0 c
  | n + 1, hn => held m c ⟨n, hn⟩

theorem PhiS_pos (c : Dev nD) (n : ℕ) (h : n ≤ cfg0.N) (hz : n ≠ 0) : PhiS m c n h = held m c ⟨n - 1, by omega⟩ := by
  cases n with
  | zero => exact absurd rfl hz
  | succ n => rfl

/-- The scratch buffers at any contents. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- The invariant with the scratch buffers' contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    unfold held
    iintro ⟨Ha, Hb, Hc, Hg⟩
    isplitl [Ha Hb Hc]
    · isplitl [Ha]; · iexists _; iexact Ha
      isplitl [Hb]; · iexists _; iexact Hb
      iexists _; iexact Hc
    iexact Hg

/-- What every buffer holds after each point: the inputs their blocks; the gated rows; a prompt's last two rows before
    the convolution, at the odd points; the gated sample rows and the sample's new convolution state, both made at the
    sweep's first point and kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsOut (grid0.coords t) (upA m c t) (upB m c t) (k0_pay2 (upA m c (prev t))) (iblk m c 7 t) (iblk m c 8 t)
    | ⟨10, _⟩ => k0_pay3 (upA m c t)
    | ⟨11, _⟩ => sampleOut (iblk m c 1 (start t)) (iblk m c 3 (start t)) (iblk m c 4 (start t)) (wtA m c t) (wtB m c t) (iblk m c 7 (start t)) (iblk m c 8 (start t))
    | ⟨12, _⟩ => stateOut (iblk m c 1 (start t)) (iblk m c 3 (start t)) (iblk m c 4 (start t)) (wtA m c t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d

/-- The sample rows are kept where nothing is stored into the block. -/
theorem kept_11 (c : Dev nD) (t : Fin cfg0.N) (h : ¬t.val % 8 = 0) :
    iprop(∃ d, owns (c : Thread nD τ) (st0_11 t) fullShare ((dats m 0 c).before 11 t d)) ⊢ (dats m 0 c).leavesExact 11 t :=
  Cert.Own.retained (dats m 0 c) 11 rfl (fun _ _ => rfl) (fun n => n % 8 == 0) rfl (by decide +kernel)
    (fun t h => by
      have h' : ¬t.val % 8 = 0 := by simpa using h
      dsimp only [dats, wtA, wtB]; rw [← start_prev t h']; rfl)
    t ((by decide +kernel : ∀ t : Fin cfg0.N, ¬t.val % 8 = 0 → cfg0.idle 11 (grid0.coords t) = true) t h)
    (fun _ => by simpa using h)

/-- The sample's state is kept where nothing is stored into the block. -/
theorem kept_12 (c : Dev nD) (t : Fin cfg0.N) (h : ¬t.val % 8 = 0) :
    iprop(∃ d, owns (c : Thread nD τ) (st0_12 t) fullShare ((dats m 0 c).before 12 t d)) ⊢ (dats m 0 c).leavesExact 12 t :=
  Cert.Own.retained (dats m 0 c) 12 rfl (fun _ _ => rfl) (fun n => n % 8 == 0) rfl (by decide +kernel)
    (fun t h => by
      have h' : ¬t.val % 8 = 0 := by simpa using h
      dsimp only [dats, wtA, wtB]; rw [← start_prev t h']; rfl)
    t ((by decide +kernel : ∀ t : Fin cfg0.N, ¬t.val % 8 = 0 → cfg0.idle 12 (grid0.coords t) = true) t h)
    (fun _ => by simpa using h)

/-- At the even points nothing is said of the block a prompt's last rows go to. -/
theorem loose_10 (c : Dev nD) (t : Fin cfg0.N) (h : t.val % 2 = 0) :
    (dats m 0 c).leavesExact 10 t = iprop(∃ d, owns (c : Thread nD τ) (st0_10 t) fullShare ((dats m 0 c).before 10 t d)) :=
  (dats m 0 c).leavesExact_idle 10 t
    ((by decide +kernel : ∀ t : Fin cfg0.N, t.val % 2 = 0 → cfg0.idle 10 (grid0.coords t) = true) t h)
    ((by decide +kernel : ∀ t : Fin cfg0.N, t.val % 2 = 0 → (cfg0.win 10).flush t = false) t h)

/-! ## The body at a point -/

set_option maxHeartbeats 3200000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)) := by
  unfold bodyAt0
  simp only [before_0, before_1, before_2, before_3, before_4, before_5, before_6, before_7, before_8]
  rw [show (dats m 0 c).owesAt () t.succ = (dats m 0 c).owesAt () t.castSucc from rfl,
    show (dats m 0 c).Φ t.succ = held m c t from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (iblk m c 5 t) from rfl,
    show (dats m 0 c).leavesExact 6 t = owns (c : Thread nD τ) (st0_6 t) fullShare (iblk m c 6 t) from rfl,
    show (dats m 0 c).leavesExact 7 t = owns (c : Thread nD τ) (st0_7 t) fullShare (iblk m c 7 t) from rfl,
    show (dats m 0 c).leavesExact 8 t = owns (c : Thread nD τ) (st0_8 t) fullShare (iblk m c 8 t) from rfl,
    show (dats m 0 c).leavesExact 9 t = owns (c : Thread nD τ) (st0_9 t) fullShare
      (rowsOut (grid0.coords t) (upA m c t) (upB m c t) (k0_pay2 (upA m c (prev t))) (iblk m c 7 t) (iblk m c 8 t)) from rfl]
  by_cases h : t.val % 8 = 0
  · have h2 : t.val % 2 = 0 := by omega
    have e11 : (dats m 0 c).leavesExact 11 t = owns (c : Thread nD τ) (st0_11 t) fullShare (sampleOut (iblk m c 1 t) (iblk m c 3 t) (iblk m c 4 t) (wtA m c t) (wtB m c t) (iblk m c 7 t) (iblk m c 8 t)) := by
      unfold Dat.leavesExact
      rw [(by decide +kernel : ∀ t : Fin cfg0.N, t.val % 8 = 0 → cfg0.idle 11 (grid0.coords t) = false) t h]
      dsimp only [dats]; rw [start_first t h]
    have e12 : (dats m 0 c).leavesExact 12 t = owns (c : Thread nD τ) (st0_12 t) fullShare (stateOut (iblk m c 1 t) (iblk m c 3 t) (iblk m c 4 t) (wtA m c t)) := by
      unfold Dat.leavesExact
      rw [(by decide +kernel : ∀ t : Fin cfg0.N, t.val % 8 = 0 → cfg0.idle 12 (grid0.coords t) = false) t h]
      dsimp only [dats]; rw [start_first t h]
    have key := PhiS_forget m c t.val (Nat.le_of_lt t.isLt)
    rw [PhiA_eq] at key
    rw [e11, e12, loose_10 m c t h2]
    unfold held upA upB
    rw [show wtA m c t = k0_pay4 (iblk m c 5 t) from by unfold wtA; rw [start_first t h],
      show wtB m c t = k0_pay5 (iblk m c 6 t) from by unfold wtB; rw [start_first t h]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩, ⟨%d12, H12⟩⟩
    ihave ⟨⟨Ha, Hb, %k, Hc⟩, Hg⟩ := key $$ HΦ
    rw [rowsOut_fresh (grid0.coords t) (fresh_even t h2) _ _ _ k]
    iapply (body_first c (grid0.coords t) _ _ _ _ _ _ _ _ _ _ _ _ _ _ _ _ _ _ _ _ _ _ _ _ _ _ _ _ _ _ _ _ ((cond_iff t).mpr h) (fun e => by have := (cond2_iff t).mp e; omega)
      (iblk m c 0 t) (iblk m c 1 t) (iblk m c 2 t) (iblk m c 3 t) (iblk m c 4 t) (iblk m c 5 t) (iblk m c 6 t) (iblk m c 7 t) (iblk m c 8 t) k _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H11]; · iexists _; iexact H11
    isplitl [H12]; · iexists _; iexact H12
    isplitl [Ha]; · iexact Ha
    isplitl [Hb]; · iexact Hb
    isplitl [Hc]; · iexact Hc
    iintro ⟨H0, H1, H2, H3, H4, H5, H6, H7, H8, H9, H11, H12, Ha, Hb, Hc⟩
    isplitl [Ha Hb Hc Hg]
    · isplitl [Ha]; · iexact Ha
      isplitl [Hb]; · iexact Hb
      isplitl [Hc]; · iexact Hc
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have hz : t.val ≠ 0 := fun e => h (by rw [e])
    rw [PhiS_pos m c _ _ hz, show (⟨t.val - 1, by omega⟩ : Fin cfg0.N) = prev t from rfl]
    unfold held
    rw [show wtA m c (prev t) = wtA m c t from by unfold wtA; rw [start_prev t h],
      show wtB m c (prev t) = wtB m c t from by unfold wtB; rw [start_prev t h]]
    have k11 := kept_11 m c t h
    have k12 := kept_12 m c t h
    by_cases h2 : t.val % 2 = 0
    · rw [loose_10 m c t h2]
      iintro ⟨⟨Ha, Hb, Hc, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12⟩
      iapply (body_even c (grid0.coords t) _ _ _ _ _ _ _ _ _ _ _ _ _ _ _ _ _ _ _ _ _ _ _ _ _ _ _ _ _ _ _ _ (fun e => h ((cond_iff t).mp e)) (fun e => by have := (cond2_iff t).mp e; omega)
        (iblk m c 0 t) (iblk m c 2 t) (iblk m c 7 t) (iblk m c 8 t) (wtA m c t) (wtB m c t) (k0_pay2 (upA m c (prev t))) _)
      isplitl [H0]; · iexact H0
      isplitl [H2]; · iexact H2
      isplitl [H7]; · iexact H7
      isplitl [H8]; · iexact H8
      isplitl [H9]; · iexists _; iexact H9
      isplitl [Ha]; · iexact Ha
      isplitl [Hb]; · iexact Hb
      isplitl [Hc]; · iexact Hc
      iintro ⟨H0, H2, H7, H8, H9, Ha, Hb, Hc⟩
      isplitl [Ha Hb Hc Hg]
      · isplitl [Ha]; · iexact Ha
        isplitl [Hb]; · iexact Hb
        isplitl [Hc]; · iexact Hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply k11 $$ H11
      iapply k12 $$ H12
    · have e10 : (dats m 0 c).leavesExact 10 t = owns (c : Thread nD τ) (st0_10 t) fullShare (k0_pay3 (upA m c t)) := by
        unfold Dat.leavesExact
        rw [(by decide +kernel : ∀ t : Fin cfg0.N, ¬t.val % 2 = 0 → cfg0.idle 10 (grid0.coords t) = false) t h2]
        dsimp only [dats]
      rw [e10]
      iintro ⟨⟨Ha, Hb, Hc, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
      iapply (body_odd c (grid0.coords t) _ _ _ _ _ _ _ _ _ _ _ _ _ _ _ _ _ _ _ _ _ _ _ _ _ _ _ _ _ _ _ _ (fun e => h ((cond_iff t).mp e)) ((cond2_iff t).mpr (by omega))
        (iblk m c 0 t) (iblk m c 2 t) (iblk m c 7 t) (iblk m c 8 t) (wtA m c t) (wtB m c t) (k0_pay2 (upA m c (prev t))) _)
      isplitl [H0]; · iexact H0
      isplitl [H2]; · iexact H2
      isplitl [H7]; · iexact H7
      isplitl [H8]; · iexact H8
      isplitl [H9]; · iexists _; iexact H9
      isplitl [H10]; · iexists _; iexact H10
      isplitl [Ha]; · iexact Ha
      isplitl [Hb]; · iexact Hb
      isplitl [Hc]; · iexact Hc
      iintro ⟨H0, H2, H7, H8, H9, H10, Ha, Hb, Hc⟩
      isplitl [Ha Hb Hc Hg]
      · isplitl [Ha]; · iexact Ha
        isplitl [Hb]; · iexact Hb
        isplitl [Hc]; · iexact Hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply k11 $$ H11
      iapply k12 $$ H12

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data and the closing host operation say, every semaphore at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.FfnInIdeal.Own

end
-- ==== Proof.Scale.lean ====
/- The scale of a row: the reciprocal root of its mean square, the sum of squares given in parts. A product whose rows are
   scaled afterwards is the product of the scaled rows. -/
module

public import Idealize.ShloMosaic.Lib.Pointwise
public import Idealize.ShloMosaic.Lib.ReduceAll
public import Idealize.ShloMosaic.Lib.Affine
public import Idealize.ShloMosaic.Lib.ValueLayout
public import Idealize.ShloMosaic.Lib.Tactic

@[expose] public section

noncomputable section

namespace Cert.Own

open Idealize.ShloMosaic Idealize.SL.Sem

/-- The scale of a row whose squares sum to `s`. -/
def scale (s : EReal) : EReal := Ideal.rsqrt (Ideal.div s (Ideal.ofBits .f32 0x45000000#32) + Ideal.ofBits .f32 0x358637BD#32)

/-- The literal 2048, the length of a row. -/
theorem width_lit : Ideal.ofBits .f32 0x45000000#32 = ((2048 : ℝ) : EReal) := by
  simp [Ideal.ofBits, Ideal.ieee, -EReal.coe_mul]; norm_num

/-- The literal added to the mean is positive. -/
theorem eps_lit : 0 < Ideal.ofBits .f32 0x358637BD#32 := by
  simp [Ideal.ofBits, Ideal.ieee, -EReal.coe_mul]

/-- The reciprocal root of a positive number is a number that is not negative. -/
theorem rsqrt_real (x : EReal) (h : 0 < x) : 0 ≤ Ideal.rsqrt x ∧ Ideal.rsqrt x ≠ ⊤ := by
  induction x with
  | bot => exact absurd h (by simp)
  | top =>
    have e : Ideal.rsqrt ⊤ = 0 := rfl
    rw [e]; exact ⟨le_rfl, EReal.zero_ne_top⟩
  | coe r =>
    have hr : 0 < r := EReal.coe_pos.1 h
    have e : Ideal.rsqrt (r : EReal) = (if r < 0 then (⊥ : EReal) else if r = 0 then ⊤ else ((Real.sqrt r)⁻¹ : ℝ)) := rfl
    rw [e, if_neg (not_lt.2 hr.le), if_neg hr.ne']
    exact ⟨EReal.coe_nonneg.2 (inv_nonneg.2 (Real.sqrt_nonneg r)), EReal.coe_ne_top _⟩

/-- Where the squares sum to a number that is not negative the scale is a number that is not negative. -/
theorem scale_real (s : EReal) (h : 0 ≤ s) : 0 ≤ scale s ∧ scale s ≠ ⊤ := by
  refine rsqrt_real _ (lt_of_lt_of_le eps_lit (le_add_of_nonneg_left ?_))
  rw [width_lit, Ideal.div, if_neg (by exact_mod_cast (by norm_num : (2048 : ℝ) ≠ 0))]
  exact mul_nonneg h (by rw [← EReal.coe_inv]; exact_mod_cast (by norm_num : (0 : ℝ) ≤ (2048 : ℝ)⁻¹))

/-- A sum over the first and the last of three axes. -/
theorem sum_outer {n0 n1 n2 : ℕ} (h : (⟨3, ![n0, n1, n2]⟩ : Shape).ReducesTo [0, 2] ⟨1, ![n1]⟩) (v : (⟨3, ![n0, n1, n2]⟩ : Shape).Idx → EReal)
    (init : EReal) (r : Fin n1) : Ideal.hostReduceAdd h v init (ix1 r) = init + ∑ k : Fin n2, ∑ p : Fin n0, v (ix3 p r k) := by
  refine congrArg (init + ·) ?_
  refine (Finset.sum_filter_eq_sum_of_fiber _ (fun k : Fin n2 × Fin n0 => (ix3 k.2 r k.1 : (⟨3, ![n0, n1, n2]⟩ : Shape).Idx))
    (fun _ _ e => Prod.ext (congrFun e 2) (congrFun e 0)) (fun i => ?_) v).trans ?_
  · constructor
    · intro e
      refine ⟨(i 2, i 0), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
      | ⟨_ + 1, hb⟩ => exact absurd hb (by simp)
  · simp only [Fintype.sum_prod_type]

/-- What comparing with zero says of a number. -/
theorem nonneg_of_cmp (x : EReal) (h : Ideal.cmp .oge x (Ideal.ofBits .f32 0x00000000#32) = 1#1) : 0 ≤ x := by
  have e : Ideal.ofBits .f32 0x00000000#32 = (0 : EReal) := by simp [Ideal.ofBits, Ideal.ieee]
  rw [e] at h
  by_contra hn
  simp [Ideal.cmp, hn] at h

/-- Scaling the sums of products is scaling one factor. -/
theorem scaled_sum {ι : Type} (s : Finset ι) (x y : ι → EReal) (c : EReal) (h : 0 ≤ c ∧ c ≠ ⊤) :
    (∑ k ∈ s, x k * y k) * c = ∑ k ∈ s, x k * c * y k := by
  classical
  induction s using Finset.induction_on with
  | empty => simp
  | insert a s ha ih =>
    rw [Finset.sum_insert ha, Finset.sum_insert ha, EReal.right_distrib_of_nonneg_of_ne_top h.1 h.2, ih, mul_right_comm]

end Cert.Own

end
-- ==== Proof.FfnInRef.lean ====
/- The reference of the first feed-forward product, taken apart: the product of the normalised rows, the rows the
   convolution reads, the convolution and the gate, each opened at an index. -/
module

public import proofs.«01_k».proof.Proof.Scale
public import proofs.«01_k».proof.Proof.Gen.FfnInReferenceIdeal.Run

@[expose] public section

set_option maxRecDepth 8192

noncomputable section

open Idealize.ShloMosaic Idealize.ShloMosaic.TcCoe Idealize.SL.Sem

namespace Cert.FfnInReferenceIdeal.Own

open Cert.FfnInReferenceIdeal Cert.FfnInReferenceIdeal.Gen

section Parts

variable {F : FTy → Type} [FloatOps F]

/-- The product of the prompt's normalised rows with the layer's weights. -/
def ups (h : FVec F S8192x2048 .bf16) (s : FVec F S2x8192x128 .f32) (w : FVec F S4x2048x11264 .f32) : FVec F S8192x11264 .f32 :=
  Host.dotGeneral dot_S8192x2048_S2048x11264_S8192x11264_1_0_0_1_n_n none (mulf (extf .f32 h bitsLt_bf16_f32) (broadcastInDim S8192x2048 ![0, 1] bcast_S8192x1_S8192x2048_0_1 (broadcastInDim S8192x1 ![0] bcast_S8192_S8192x1_0 (Host.rsqrt (addf (Host.divf (Host.reduceAdd s (constant S_ .f32 0x00000000#32) reducesTo_S2x8192x128_S8192_d0_2 h_S_) (broadcastInDim S8192 ![] bcast_S_S8192 (constant S_ .f32 0x45000000#32))) (broadcastInDim S8192 ![] bcast_S_S8192 (constant S_ .f32 0x358637BD#32))))))) (shapeCast _ (extractStridedSlice S1x2048x11264 ![1, 0, 0] w slices_S4x2048x11264_S1x2048x11264_1_0_0) shapeCasts_S1x2048x11264_S2048x11264)

/-- The same of the sample rows. -/
def sampleUps (hs : FVec F S8x2048 .bf16) (ss : FVec F S2x8x128 .f32) (w : FVec F S4x2048x11264 .f32) : FVec F S8x11264 .f32 :=
  Host.dotGeneral dot_S8x2048_S2048x11264_S8x11264_1_0_0_1_n_n none (mulf (extf .f32 hs bitsLt_bf16_f32) (broadcastInDim S8x2048 ![0, 1] bcast_S8x1_S8x2048_0_1 (broadcastInDim S8x1 ![0] bcast_S8_S8x1_0 (Host.rsqrt (addf (Host.divf (Host.reduceAdd ss (constant S_ .f32 0x00000000#32) reducesTo_S2x8x128_S8_d0_2 h_S_) (broadcastInDim S8 ![] bcast_S_S8 (constant S_ .f32 0x45000000#32))) (broadcastInDim S8 ![] bcast_S_S8 (constant S_ .f32 0x358637BD#32))))))) (shapeCast _ (extractStridedSlice S1x2048x11264 ![1, 0, 0] w slices_S4x2048x11264_S1x2048x11264_1_0_0) shapeCasts_S1x2048x11264_S2048x11264)

/-- The rows the convolution reads: two zero rows, then the prompt's. -/
def padded (u : FVec F S8192x11264 .f32) : FVec F S4x2050x5632 .f32 :=
  concatenate S4x2050x5632 1 [⟨S4x2x5632, (broadcastInDim S4x2x5632 ![] bcast_S_S4x2x5632 (constant S_ .f32 0x00000000#32))⟩, ⟨S4x2048x5632, (extractStridedSlice S4x2048x5632 ![0, 0, 0] (shapeCast _ u shapeCasts_S8192x11264_S4x2048x11264) slices_S4x2048x11264_S4x2048x5632_0_0_0)⟩] concatenates_S4x2x5632_S4x2048x5632_S4x2050x5632_d1

/-- The rows the sample's convolution reads: the state's two, then the step's. -/
def samplePadded (st : FVec F S4x8x2x5632 .f32) (u : FVec F S8x11264 .f32) : FVec F S8x3x5632 .f32 :=
  concatenate S8x3x5632 1 [⟨S8x2x5632, (shapeCast _ (extractStridedSlice S1x8x2x5632 ![1, 0, 0, 0] st slices_S4x8x2x5632_S1x8x2x5632_1_0_0_0) shapeCasts_S1x8x2x5632_S8x2x5632)⟩, ⟨S8x1x5632, (extractStridedSlice S8x1x5632 ![0, 0, 0] (shapeCast _ u shapeCasts_S8x11264_S8x1x11264) slices_S8x1x11264_S8x1x5632_0_0_0)⟩] concatenates_S8x2x5632_S8x1x5632_S8x3x5632_d1

/-- The convolution of the prompt's rows. -/
def conv (p : FVec F S4x2050x5632 .f32) (cw : FVec F S4x3x5632 .f32) (cb : FVec F S4x5632 .f32) : FVec F S4x2048x5632 .f32 :=
  addf (addf (addf (broadcastInDim S4x2048x5632 ![0, 1, 2] bcast_S1x1x5632_S4x2048x5632_0_1_2 (broadcastInDim S1x1x5632 ![2] bcast_S5632_S1x1x5632_2 (shapeCast _ (extractStridedSlice S1x5632 ![1, 0] cb slices_S4x5632_S1x5632_1_0) shapeCasts_S1x5632_S5632))) (mulf (broadcastInDim S4x2048x5632 ![0, 1, 2] bcast_S1x1x5632_S4x2048x5632_0_1_2 (broadcastInDim S1x1x5632 ![2] bcast_S5632_S1x1x5632_2 (shapeCast _ (extractStridedSlice S1x5632 ![0, 0] (shapeCast _ (extractStridedSlice S1x3x5632 ![1, 0, 0] cw slices_S4x3x5632_S1x3x5632_1_0_0) shapeCasts_S1x3x5632_S3x5632) slices_S3x5632_S1x5632_0_0) shapeCasts_S1x5632_S5632))) (extractStridedSlice S4x2048x5632 ![0, 0, 0] p slices_S4x2050x5632_S4x2048x5632_0_0_0))) (mulf (broadcastInDim S4x2048x5632 ![0, 1, 2] bcast_S1x1x5632_S4x2048x5632_0_1_2 (broadcastInDim S1x1x5632 ![2] bcast_S5632_S1x1x5632_2 (shapeCast _ (extractStridedSlice S1x5632 ![1, 0] (shapeCast _ (extractStridedSlice S1x3x5632 ![1, 0, 0] cw slices_S4x3x5632_S1x3x5632_1_0_0) shapeCasts_S1x3x5632_S3x5632) slices_S3x5632_S1x5632_1_0) shapeCasts_S1x5632_S5632))) (extractStridedSlice S4x2048x5632 ![0, 1, 0] p slices_S4x2050x5632_S4x2048x5632_0_1_0))) (mulf (broadcastInDim S4x2048x5632 ![0, 1, 2] bcast_S1x1x5632_S4x2048x5632_0_1_2 (broadcastInDim S1x1x5632 ![2] bcast_S5632_S1x1x5632_2 (shapeCast _ (extractStridedSlice S1x5632 ![2, 0] (shapeCast _ (extractStridedSlice S1x3x5632 ![1, 0, 0] cw slices_S4x3x5632_S1x3x5632_1_0_0) shapeCasts_S1x3x5632_S3x5632) slices_S3x5632_S1x5632_2_0) shapeCasts_S1x5632_S5632))) (extractStridedSlice S4x2048x5632 ![0, 2, 0] p slices_S4x2050x5632_S4x2048x5632_0_2_0))

/-- The convolution of the sample rows. -/
def sampleConv (p : FVec F S8x3x5632 .f32) (cw : FVec F S4x3x5632 .f32) (cb : FVec F S4x5632 .f32) : FVec F S8x1x5632 .f32 :=
  addf (addf (addf (broadcastInDim S8x1x5632 ![0, 1, 2] bcast_S1x1x5632_S8x1x5632_0_1_2 (broadcastInDim S1x1x5632 ![2] bcast_S5632_S1x1x5632_2 (shapeCast _ (extractStridedSlice S1x5632 ![1, 0] cb slices_S4x5632_S1x5632_1_0) shapeCasts_S1x5632_S5632))) (mulf (broadcastInDim S8x1x5632 ![0, 1, 2] bcast_S1x1x5632_S8x1x5632_0_1_2 (broadcastInDim S1x1x5632 ![2] bcast_S5632_S1x1x5632_2 (shapeCast _ (extractStridedSlice S1x5632 ![0, 0] (shapeCast _ (extractStridedSlice S1x3x5632 ![1, 0, 0] cw slices_S4x3x5632_S1x3x5632_1_0_0) shapeCasts_S1x3x5632_S3x5632) slices_S3x5632_S1x5632_0_0) shapeCasts_S1x5632_S5632))) (extractStridedSlice S8x1x5632 ![0, 0, 0] p slices_S8x3x5632_S8x1x5632_0_0_0))) (mulf (broadcastInDim S8x1x5632 ![0, 1, 2] bcast_S1x1x5632_S8x1x5632_0_1_2 (broadcastInDim S1x1x5632 ![2] bcast_S5632_S1x1x5632_2 (shapeCast _ (extractStridedSlice S1x5632 ![1, 0] (shapeCast _ (extractStridedSlice S1x3x5632 ![1, 0, 0] cw slices_S4x3x5632_S1x3x5632_1_0_0) shapeCasts_S1x3x5632_S3x5632) slices_S3x5632_S1x5632_1_0) shapeCasts_S1x5632_S5632))) (extractStridedSlice S8x1x5632 ![0, 1, 0] p slices_S8x3x5632_S8x1x5632_0_1_0))) (mulf (broadcastInDim S8x1x5632 ![0, 1, 2] bcast_S1x1x5632_S8x1x5632_0_1_2 (broadcastInDim S1x1x5632 ![2] bcast_S5632_S1x1x5632_2 (shapeCast _ (extractStridedSlice S1x5632 ![2, 0] (shapeCast _ (extractStridedSlice S1x3x5632 ![1, 0, 0] cw slices_S4x3x5632_S1x3x5632_1_0_0) shapeCasts_S1x3x5632_S3x5632) slices_S3x5632_S1x5632_2_0) shapeCasts_S1x5632_S5632))) (extractStridedSlice S8x1x5632 ![0, 2, 0] p slices_S8x3x5632_S8x1x5632_0_2_0))

/-- The convolution through its gate. -/
def gate (z : FVec F S4x2048x5632 .f32) (u : FVec F S8192x11264 .f32) : FVec F S8192x5632 .bf16 :=
  shapeCast _ (truncf .bf16 (mulf (mulf z (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf z))))) (extractStridedSlice S4x2048x5632 ![0, 0, 5632] (shapeCast _ u shapeCasts_S8192x11264_S4x2048x11264) slices_S4x2048x11264_S4x2048x5632_0_0_5632)) bitsLt_bf16_f32) shapeCasts_S4x2048x5632_S8192x5632

/-- The same of the sample rows. -/
def sampleGate (z : FVec F S8x1x5632 .f32) (u : FVec F S8x11264 .f32) : FVec F S8x5632 .bf16 :=
  shapeCast _ (truncf .bf16 (mulf (mulf z (Host.divf (broadcastInDim S8x1x5632 ![] bcast_S_S8x1x5632 (constant S_ .f32 0x3F800000#32)) (addf (broadcastInDim S8x1x5632 ![] bcast_S_S8x1x5632 (constant S_ .f32 0x3F800000#32)) (Host.exp (Host.negf z))))) (extractStridedSlice S8x1x5632 ![0, 0, 5632] (shapeCast _ u shapeCasts_S8x11264_S8x1x11264) slices_S8x1x11264_S8x1x5632_0_0_5632)) bitsLt_bf16_f32) shapeCasts_S8x1x5632_S8x5632

/-- A prompt's last two rows. -/
def lastRows (p : FVec F S4x2050x5632 .f32) : FVec F S4x2x5632 .f32 :=
  extractStridedSlice S4x2x5632 ![0, 2048, 0] p slices_S4x2050x5632_S4x2x5632_0_2048_0

/-- The sample's new state. -/
def newState (p : FVec F S8x3x5632 .f32) : FVec F S8x2x5632 .f32 :=
  extractStridedSlice S8x2x5632 ![0, 1, 0] p slices_S8x3x5632_S8x2x5632_0_1_0

end Parts

/-- The gate: a value times its logistic, times the other half. -/
def gated (z g : EReal) : EReal := z * Ideal.div 1 (1 + Ideal.exp (-z)) * g

theorem ups_at (h : FVec Ideal S8192x2048 .bf16) (s : FVec Ideal S2x8192x128 .f32) (w : FVec Ideal S4x2048x11264 .f32) (r : Fin 8192) (j : Fin 11264) :
    ups h s w (ix2 r j) = ∑ k : Fin 2048, h (ix2 r k) * Cert.Own.scale (∑ l : Fin 128, ∑ p : Fin 2, s (ix3 p r l)) * w (ix3 1 k j) := by
  pointwise [ups]
  rw [Cert.Own.sum_outer, zero_add]
  rfl

theorem sampleUps_at (h : FVec Ideal S8x2048 .bf16) (s : FVec Ideal S2x8x128 .f32) (w : FVec Ideal S4x2048x11264 .f32) (r : Fin 8) (j : Fin 11264) :
    sampleUps h s w (ix2 r j) = ∑ k : Fin 2048, h (ix2 r k) * Cert.Own.scale (∑ l : Fin 128, ∑ p : Fin 2, s (ix3 p r l)) * w (ix3 1 k j) := by
  pointwise [sampleUps]
  rw [Cert.Own.sum_outer, zero_add]
  rfl

/-- Column `J` of the product by row number, zero past its end. -/
def col (u : FVec Ideal S8192x11264 .f32) (J : Fin 11264) (R : ℕ) : EReal := if h : R < 8192 then u (ix2 ⟨R, h⟩ J) else 0

theorem padded_at (u : FVec Ideal S8192x11264 .f32) (n : Fin 4) (q : Fin 2050) (j : Fin 5632) :
    padded u (ix3 n q j) = if q.val < 2 then 0 else col u ⟨j.val, by omega⟩ (n.val * 2048 + q.val - 2) := by
  pointwise [padded]
  by_cases h : q.val < 2
  · exact (dif_pos h).trans (if_pos h).symm
  · refine (dif_neg h).trans (Eq.trans ?_ (if_neg h).symm)
    rw [col, dif_pos (by omega)]
    exact congrArg (fun R => u (ix2 R _)) (Fin.ext (by simp only; omega))

theorem conv_at (p : FVec Ideal S4x2050x5632 .f32) (cw : FVec Ideal S4x3x5632 .f32) (cb : FVec Ideal S4x5632 .f32) (n : Fin 4) (q : Fin 2048) (j : Fin 5632) :
    conv p cw cb (ix3 n q j) = cb (ix2 1 j) + cw (ix3 1 0 j) * p (ix3 n ⟨q.val, by omega⟩ j)
      + cw (ix3 1 1 j) * p (ix3 n ⟨1 + q.val, by omega⟩ j) + cw (ix3 1 2 j) * p (ix3 n ⟨2 + q.val, by omega⟩ j) := by
  pointwise [conv]

theorem gate_at (z : FVec Ideal S4x2048x5632 .f32) (u : FVec Ideal S8192x11264 .f32) (r : Fin 8192) (j : Fin 5632) :
    gate z u (ix2 r j) = gated (z (ix3 ⟨r.val / 2048, by omega⟩ ⟨r.val % 2048, by omega⟩ j)) (u (ix2 r ⟨5632 + j.val, by omega⟩)) := by
  pointwise [gate]
  rfl

theorem lastRows_at (p : FVec Ideal S4x2050x5632 .f32) (n : Fin 4) (q : Fin 2) (j : Fin 5632) :
    lastRows p (ix3 n q j) = p (ix3 n ⟨2048 + q.val, by omega⟩ j) := by
  pointwise [lastRows]

theorem sampleGate_at (st : FVec Ideal S4x8x2x5632 .f32) (u : FVec Ideal S8x11264 .f32) (cw : FVec Ideal S4x3x5632 .f32) (cb : FVec Ideal S4x5632 .f32) (r : Fin 8) (j : Fin 5632) :
    sampleGate (sampleConv (samplePadded st u) cw cb) u (ix2 r j) = gated (cb (ix2 1 j) + cw (ix3 1 0 j) * st (ix4 1 r 0 j) + cw (ix3 1 1 j) * st (ix4 1 r 1 j)
      + cw (ix3 1 2 j) * u (ix2 r ⟨j.val, by omega⟩)) (u (ix2 r ⟨5632 + j.val, by omega⟩)) := by
  pointwise [sampleGate, sampleConv, samplePadded]
  rfl

theorem newState_at (st : FVec Ideal S4x8x2x5632 .f32) (u : FVec Ideal S8x11264 .f32) (r : Fin 8) (p : Fin 2) (j : Fin 5632) :
    newState (samplePadded st u) (ix3 r p j) = if p.val = 0 then st (ix4 1 r 1 j) else u (ix2 r ⟨j.val, by omega⟩) := by
  pointwise [newState, samplePadded]
  by_cases h : p.val = 0
  · rw [dif_pos (by omega), if_pos h]
    exact congrArg (fun e => st (ix4 1 r e j)) (Fin.ext (by show 1 + p.val = 1; omega))
  · rw [dif_neg (by omega), if_neg h]

variable (m : (ℓ : Loc nD τ sig) → Buf (Elt Ideal) ℓ) (c : Dev nD)

theorem gate_eq : (Value.res_main_v99 (F := Ideal) m c : FVec Ideal S8192x5632 .bf16) = gate (F := Ideal) (conv (F := Ideal) (padded (F := Ideal) (ups (F := Ideal) (m ((c : Thread nD τ).loc main_arg0)) (m ((c : Thread nD τ).loc main_arg2)) (m ((c : Thread nD τ).loc main_arg5))))
    (m ((c : Thread nD τ).loc main_arg6)) (m ((c : Thread nD τ).loc main_arg7))) (ups (F := Ideal) (m ((c : Thread nD τ).loc main_arg0)) (m ((c : Thread nD τ).loc main_arg2)) (m ((c : Thread nD τ).loc main_arg5))) := by
  unfold Value.res_main_v99
  rfl

theorem sampleGate_eq : (Value.res_main_v100 (F := Ideal) m c : FVec Ideal S8x5632 .bf16) = sampleGate (F := Ideal) (sampleConv (F := Ideal) (samplePadded (F := Ideal) (m ((c : Thread nD τ).loc main_arg4)) (sampleUps (F := Ideal) (m ((c : Thread nD τ).loc main_arg1)) (m ((c : Thread nD τ).loc main_arg3)) (m ((c : Thread nD τ).loc main_arg5))))
    (m ((c : Thread nD τ).loc main_arg6)) (m ((c : Thread nD τ).loc main_arg7))) (sampleUps (F := Ideal) (m ((c : Thread nD τ).loc main_arg1)) (m ((c : Thread nD τ).loc main_arg3)) (m ((c : Thread nD τ).loc main_arg5))) := by
  unfold Value.res_main_v100
  rfl

end Cert.FfnInReferenceIdeal.Own

end
-- ==== Proof.FfnInValue.lean ====
/- The value of the first feed-forward product: under the precondition that the parts of the squares are not negative
   the four results are the reference's. -/
module

public import proofs.«01_k».proof.Proof.FfnInBody
public import proofs.«01_k».proof.Proof.FfnInRef
public import proofs.«01_k».proof.Pre_ffn_in_squares
public import Idealize.ShloMosaic.Lib.Pipeline.ValueKit.Geometry

@[expose] public section

set_option maxRecDepth 8192

noncomputable section

open Idealize.ShloMosaic Idealize.ShloMosaic.TcCoe Idealize.SL.Sem Idealize.ShloMosaic.Pipeline

namespace Cert.Pre_ffn_in_squares

/-- The shape relations of the precondition's operations. -/
theorem facts : Facts := ⟨by decide, by decide, by decide, by decide, by decide⟩

/-- Under the precondition no part of the squares is negative. -/
theorem parts_nonneg [Facts] (h : FVec Ideal S8192x2048 .bf16) (hs : FVec Ideal S8x2048 .bf16) (s : FVec Ideal S2x8192x128 .f32)
    (ss : FVec Ideal S2x8x128 .f32) (st : FVec Ideal S4x8x2x5632 .f32) (w : FVec Ideal S4x2048x11264 .f32) (cw : FVec Ideal S4x3x5632 .f32)
    (cb : FVec Ideal S4x5632 .f32) (e : fn h hs s ss st w cw cb = fun _ => 1#1) : (∀ i, 0 ≤ s i) ∧ ∀ i, 0 ≤ ss i := by
  have e := congrFun e ix0
  obtain ⟨e1, e2⟩ := IntOp.andi_eq_one.1 (show IntOp.andi _ _ = 1#1 from e)
  have : Subsingleton S_.Idx := ⟨fun a b => funext fun i => i.elim0⟩
  exact ⟨fun i => Cert.Own.nonneg_of_cmp _ (Host.reduce_andi_all _ _ _ _ _ e1 i), fun i => Cert.Own.nonneg_of_cmp _ (Host.reduce_andi_all _ _ _ _ _ e2 i)⟩

end Cert.Pre_ffn_in_squares

namespace Cert.FfnInIdeal.Own

open Cert.FfnInIdeal Cert.FfnInIdeal.Gen
open Cert.FfnInReferenceIdeal.Own (gated col ups sampleUps padded samplePadded conv sampleConv gate sampleGate lastRows newState)

/-- The rounded weights are the weights. -/
theorem pay4_at (w : FVec Ideal S1x2048x512 .f32) (k : Fin 2048) (j : Fin 512) : k0_pay4 (F := Ideal) w (ix2 k j) = w (ix3 0 k j) := by
  pointwise [k0_pay4]

/-- The same of the gate's weights. -/
theorem pay5_at (w : FVec Ideal S1x2048x512 .f32) (k : Fin 2048) (j : Fin 512) : k0_pay5 (F := Ideal) w (ix2 k j) = w (ix3 0 k j) := by
  pointwise [k0_pay5]

/-- A point's product, at a row and a column of the block. -/
theorem pay14_at (x : FVec Ideal S1024x2048 .bf16) (s : FVec Ideal S2x1024x128 .f32) (w : FVec Ideal S2048x512 .bf16) (r : Fin 1024) (j : Fin 512) :
    k0_pay14 (F := Ideal) x s w (ix2 r j) = (∑ k, x (ix2 r k) * w (ix2 k j)) * Cert.Own.scale (∑ l : Fin 128, ∑ p : Fin 2, s (ix3 p r l)) := by
  pointwise [k0_pay14, k0_pay13]
  rfl

/-- The same of the gate's half. -/
theorem pay15_at (x : FVec Ideal S1024x2048 .bf16) (s : FVec Ideal S2x1024x128 .f32) (w : FVec Ideal S2048x512 .bf16) (r : Fin 1024) (j : Fin 512) :
    k0_pay15 (F := Ideal) x s w (ix2 r j) = (∑ k, x (ix2 r k) * w (ix2 k j)) * Cert.Own.scale (∑ l : Fin 128, ∑ p : Fin 2, s (ix3 p r l)) := by
  pointwise [k0_pay15, k0_pay13]
  rfl

/-- The sample rows' product. -/
theorem pay7_at (x : FVec Ideal S8x2048 .bf16) (s : FVec Ideal S2x8x128 .f32) (w : FVec Ideal S2048x512 .bf16) (r : Fin 8) (j : Fin 512) :
    k0_pay7 (F := Ideal) x s w (ix2 r j) = (∑ k, x (ix2 r k) * w (ix2 k j)) * Cert.Own.scale (∑ l : Fin 128, ∑ p : Fin 2, s (ix3 p r l)) := by
  pointwise [k0_pay7, k0_pay6]
  rfl

/-- The rows kept for the next point are a block's last eight. -/
theorem pay2_at (v : FVec Ideal S1024x512 .f32) (r : Fin 8) (j : Fin 512) :
    k0_pay2 (F := Ideal) v (ix2 r j) = v (ix2 (⟨1016 + r.val, by omega⟩ : Fin 1024) j) := by
  pointwise [k0_pay2]

/-- A prompt's last two rows are a block's last two. -/
theorem pay3_at (v : FVec Ideal S1024x512 .f32) (q : Fin 2) (j : Fin 512) :
    k0_pay3 (F := Ideal) v (ix3 0 q j) = v (ix2 (⟨1022 + q.val, by omega⟩ : Fin 1024) j) := by
  pointwise [k0_pay3]

/-- A choice by a row number. -/
theorem select_row {α : Type} (r k : ℕ) (hr : r < 4294967296) (hk : k < 4294967296) (a b : α) :
    Scalar.select (IntOp.cmpi .eq (BitVec.ofNat 32 r) (BitVec.ofNat 32 k)) a b = if r = k then a else b := by
  by_cases h : r = k
  · rw [if_pos h, h]; simp [Scalar.select, IntOp.cmpi]
  · have : ¬BitVec.ofNat 32 r = BitVec.ofNat 32 k := fun e => h (by
      have := congrArg BitVec.toNat e
      simpa [BitVec.toNat_ofNat, Nat.mod_eq_of_lt hr, Nat.mod_eq_of_lt hk] using this)
    rw [if_neg h]; simp [Scalar.select, IntOp.cmpi, beq_eq_false_iff_ne.2 this]

/-- The convolution through its gate, at a row and a column of the block: the rows before the block's first come from the
    rows kept, or are zero where a prompt starts. -/
theorem rowsOut_at (i : grid0.Coords) (u g v : FVec Ideal S1024x512 .f32) (cw : FVec Ideal S1x3x512 .f32) (cb : FVec Ideal S1x1x512 .f32)
    (r : Fin 1024) (j : Fin 512) : rowsOut (F := Ideal) i u g (k0_pay2 v) cw cb (ix2 r j) =
      gated (cb (ix3 0 0 j)
        + cw (ix3 0 0 j) * (if r.val = 0 then Scalar.select (fresh i) 0 (v (ix2 1022 j)) else if r.val = 1 then Scalar.select (fresh i) 0 (v (ix2 1023 j))
            else u (ix2 (⟨(r.val + 1024 - 2) % 1024, Nat.mod_lt _ (by decide)⟩ : Fin 1024) j))
        + cw (ix3 0 1 j) * (if r.val = 0 then Scalar.select (fresh i) 0 (v (ix2 1023 j)) else u (ix2 (⟨(r.val + 1024 - 1) % 1024, Nat.mod_lt _ (by decide)⟩ : Fin 1024) j))
        + cw (ix3 0 2 j) * u (ix2 r j)) (g (ix2 r j)) := by
  have hr : r.val < 4294967296 := lt_trans r.isLt (by decide)
  have e0 : ∀ a b : EReal, Scalar.select (IntOp.cmpi .eq (BitVec.ofNat 32 r.val) 0#32) a b = if r.val = 0 then a else b := select_row r.val 0 hr (by decide)
  have e1 : ∀ a b : EReal, Scalar.select (IntOp.cmpi .eq (BitVec.ofNat 32 r.val) 1#32) a b = if r.val = 1 then a else b := select_row r.val 1 hr (by decide)
  have e6 : k0_pay2 (F := Ideal) v (ix2 6 j) = v (ix2 1022 j) := pay2_at v 6 j
  have e7 : k0_pay2 (F := Ideal) v (ix2 7 j) = v (ix2 1023 j) := pay2_at v 7 j
  rw [← e6, ← e7]
  generalize k0_pay2 (F := Ideal) v = k
  simp only [← e0, ← e1]
  pointwise [rowsOut, k0_pay1, k0_pay16, tap0, tap1, tap2]
  rw [zero_sub]
  rfl

/-- The same of the sample rows. -/
theorem sampleOut_at (a : FVec Ideal S8x2048 .bf16) (sq : FVec Ideal S2x8x128 .f32) (sc : FVec Ideal S1x2x8x512 .f32) (wa wb : FVec Ideal S2048x512 .bf16)
    (cw : FVec Ideal S1x3x512 .f32) (cb : FVec Ideal S1x1x512 .f32) (r : Fin 8) (j : Fin 512) :
    sampleOut (F := Ideal) a sq sc wa wb cw cb (ix2 r j) = gated (cb (ix3 0 0 j) + cw (ix3 0 0 j) * sc (ix4 0 0 r j) + cw (ix3 0 1 j) * sc (ix4 0 1 r j)
      + cw (ix3 0 2 j) * k0_pay7 (F := Ideal) a sq wa (ix2 r j)) (k0_pay7 (F := Ideal) a sq wb (ix2 r j)) := by
  rw [pay7_at, pay7_at]
  pointwise [sampleOut, k0_pay10, k0_pay7, k0_pay8, k0_pay9, k0_pay6, tap0, tap1, tap2, old0, old1]
  rw [zero_sub]
  rfl

/-- The new state: the older row is the one there was, the newer the step's product. -/
theorem stateOut_at (a : FVec Ideal S8x2048 .bf16) (sq : FVec Ideal S2x8x128 .f32) (sc : FVec Ideal S1x2x8x512 .f32) (wa : FVec Ideal S2048x512 .bf16)
    (p : Fin 2) (r : Fin 8) (j : Fin 512) :
    stateOut (F := Ideal) a sq sc wa (ix3 p r j) = if p.val = 0 then sc (ix4 0 1 r j) else k0_pay7 (F := Ideal) a sq wa (ix2 r j) := by
  have e1 : ∀ q : Fin 1, (Rect.unit (s := S2x8x512) ![1, 0, 0] S1x8x512.size inb_S2x8x512_S1x8x512_1_0_0).emb (ix3 q r j) = (ix3 1 r j : S2x8x512.Idx) := by
    intro q; funext a; apply Fin.ext
    match a with
    | ⟨0, _⟩ => show 1 + 1 * q.val = 1; omega
    | ⟨1, _⟩ => show 0 + 1 * r.val = r.val; omega
    | ⟨2, _⟩ => show 0 + 1 * j.val = j.val; omega
  have e0 : ∀ q : Fin 1, (Rect.unit (s := S2x8x512) ![0, 0, 0] S1x8x512.size inb_S2x8x512_S1x8x512_0_0_0).emb (ix3 q r j) = (ix3 0 r j : S2x8x512.Idx) := by
    intro q; funext a; apply Fin.ext
    match a with
    | ⟨0, _⟩ => show 0 + 1 * q.val = 0; omega
    | ⟨1, _⟩ => show 0 + 1 * r.val = r.val; omega
    | ⟨2, _⟩ => show 0 + 1 * j.val = j.val; omega
  unfold stateOut
  match p with
  | ⟨1, _⟩ =>
    refine (congrArg _ (e1 0).symm).trans ?_
    rw [View.canon_cons_emb]
    show k0_pay12 _ _ = _
    pointwise [k0_pay12]
  | ⟨0, _⟩ =>
    refine (congrArg _ (e0 0).symm).trans ?_
    rw [View.canon_cons_of_not_mem, View.canon_cons_emb]
    · show k0_pay11 _ _ = _
      pointwise [k0_pay11, old1]
    · rw [e0 0, Rect.mem_set_unit]
      intro h
      have h : 1 ≤ 0 := (h 0).1
      omega

/-- Where the windows' blocks lie. -/
theorem places : ∀ t : Fin cfg0.N, (win0_0.index t 0 = t.val % 8 ∧ win0_0.index t 1 = 0) ∧ (win0_1.index t 0 = 0 ∧ win0_1.index t 1 = 0)
    ∧ (win0_2.index t 0 = 0 ∧ win0_2.index t 1 = t.val % 8 ∧ win0_2.index t 2 = 0)
    ∧ (win0_3.index t 0 = 0 ∧ win0_3.index t 1 = 0 ∧ win0_3.index t 2 = 0)
    ∧ (win0_4.index t 0 = 1 ∧ win0_4.index t 1 = 0 ∧ win0_4.index t 2 = 0 ∧ win0_4.index t 3 = t.val / 8)
    ∧ (win0_5.index t 0 = 1 ∧ win0_5.index t 1 = 0 ∧ win0_5.index t 2 = t.val / 8)
    ∧ (win0_6.index t 0 = 1 ∧ win0_6.index t 1 = 0 ∧ win0_6.index t 2 = 11 + t.val / 8)
    ∧ (win0_7.index t 0 = 1 ∧ win0_7.index t 1 = 0 ∧ win0_7.index t 2 = t.val / 8)
    ∧ (win0_8.index t 0 = 1 ∧ win0_8.index t 1 = 0 ∧ win0_8.index t 2 = t.val / 8)
    ∧ (win0_9.index t 0 = t.val % 8 ∧ win0_9.index t 1 = t.val / 8)
    ∧ (win0_10.index t 0 = t.val % 8 / 2 ∧ win0_10.index t 1 = 0 ∧ win0_10.index t 2 = t.val / 8)
    ∧ (win0_11.index t 0 = 0 ∧ win0_11.index t 1 = t.val / 8)
    ∧ (win0_12.index t 0 = 0 ∧ win0_12.index t 1 = 0 ∧ win0_12.index t 2 = t.val / 8) := by
  decide +kernel

/-- The last point of a sweep's pair is odd where the prompt's rows are written back. -/
theorem flush_odd : ∀ t : Fin cfg0.N, (cfg0.win 10).flush t = true → t.val % 2 = 1 := by decide +kernel

/-- An odd point does not start a prompt. -/
theorem fresh_odd : ∀ t : Fin cfg0.N, t.val % 2 = 1 → fresh (grid0.coords t) = 0#1 := by decide +kernel

variable (m : (ℓ : Loc nD τ sig) → Buf (Elt Ideal) ℓ)

/-- The states as the region finds them: the rows of a state before the sequences. -/
theorem V_main_v0 (c : Dev nD) : (V m c main_v0 : FVec Ideal S4x2x8x5632 .f32) =
    transpose S4x2x8x5632 [0, 2, 1, 3] (m ((c : Thread nD τ).loc main_arg4) : FVec Ideal S4x8x2x5632 .f32) transposes_S4x8x2x5632_S4x2x8x5632_0_2_1_3 := by
  show StableHlo.after (List.flatten [hostOps0]) _ (Proc.devRef .tc main_v0) = _
  simp only [hostOps0, List.flatten_cons, List.flatten_nil, List.append_nil]
  after_results_simp

/-- The reshaped bias, at a layer and a column. -/
theorem bias_at (x : FVec Ideal S4x5632 .f32) (i : Fin 5632) : shapeCast S4x1x5632 x shapeCasts_S4x5632_S4x1x5632 (ix3 1 0 i) = x (ix2 1 i) := by
  pointwise []

/-- The convolution's bias as the region finds it. -/
theorem V_main_v1 (c : Dev nD) : (V m c main_v1 : FVec Ideal S4x1x5632 .f32) =
    shapeCast S4x1x5632 (m ((c : Thread nD τ).loc main_arg7) : FVec Ideal S4x5632 .f32) shapeCasts_S4x5632_S4x1x5632 := by
  show StableHlo.after (List.flatten [hostOps0]) _ (Proc.devRef .tc main_v1) = _
  simp only [hostOps0, List.flatten_cons, List.flatten_nil, List.append_nil]
  after_results_simp
  rfl

/-- The prompt's rows of a point. -/
theorem iblk_0 (c : Dev nD) (t : Fin cfg0.N) (r : Fin 1024) (k : Fin 2048) (i : Fin 8192) (hi : i.val = t.val % 8 * 1024 + r.val) :
    (iblk m c 0 t : Vec Ideal S1024x2048 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 1024 + 1 * r.val = i.val; omega
  | ⟨1, _⟩ => show win0_0.index t 1 * 2048 + 1 * k.val = k.val; omega

/-- The sample rows. -/
theorem iblk_1 (c : Dev nD) (t : Fin cfg0.N) (r : Fin 8) (k : Fin 2048) :
    (iblk m c 1 t : Vec Ideal S8x2048 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 2048 + 1 * k.val = k.val; omega

/-- The parts of the squares of a point's rows. -/
theorem iblk_2 (c : Dev nD) (t : Fin cfg0.N) (p : Fin 2) (r : Fin 1024) (l : Fin 128) (i : Fin 8192) (hi : i.val = t.val % 8 * 1024 + r.val) :
    (iblk m c 2 t : Vec Ideal S2x1024x128 .f32) (ix3 p r l) = m ((c : Thread nD τ).loc main_arg2) (ix3 p i l) := by
  obtain ⟨-, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_2.index t 0 * 2 + 1 * p.val = p.val; omega
  | ⟨1, _⟩ => show win0_2.index t 1 * 1024 + 1 * r.val = i.val; omega
  | ⟨2, _⟩ => show win0_2.index t 2 * 128 + 1 * l.val = l.val; omega

/-- The parts of the squares of the sample rows. -/
theorem iblk_3 (c : Dev nD) (t : Fin cfg0.N) (p : Fin 2) (r : Fin 8) (l : Fin 128) :
    (iblk m c 3 t : Vec Ideal S2x8x128 .f32) (ix3 p r l) = m ((c : Thread nD τ).loc main_arg3) (ix3 p r l) := by
  obtain ⟨-, -, -, ⟨h0, h1, h2⟩, -⟩ := places t
  unfold iblk
  rw [View.read_apply]
  show V m c main_arg3 _ = _
  rw [V_main_arg3]
  refine congrArg _ (funext fun a => Fin.ext ?_)
  match a with
  | ⟨0, _⟩ => show win0_3.index t 0 * 2 + 1 * p.val = p.val; omega
  | ⟨1, _⟩ => show win0_3.index t 1 * 8 + 1 * r.val = r.val; omega
  | ⟨2, _⟩ => show win0_3.index t 2 * 128 + 1 * l.val = l.val; omega

/-- The states' columns of a sweep. -/
theorem iblk_4 (c : Dev nD) (t : Fin cfg0.N) (p : Fin 2) (r : Fin 8) (j : Fin 512) (i : Fin 5632) (hi : i.val = t.val / 8 * 512 + j.val) :
    (iblk m c 4 t : Vec Ideal S1x2x8x512 .f32) (ix4 0 p r j) = m ((c : Thread nD τ).loc main_arg4) (ix4 1 r p i) := by
  obtain ⟨-, -, -, -, ⟨h0, h1, h2, h3⟩, -⟩ := places t
  unfold iblk
  rw [View.read_apply]
  show (V m c main_v0 : FVec Ideal S4x2x8x5632 .f32) _ = _
  rw [V_main_v0]
  refine (congrArg _ (?_ : _ = (ix4 1 p r i : S4x2x8x5632.Idx))).trans ?_
  · refine funext fun a => Fin.ext ?_
    match a with
    | ⟨0, _⟩ => show win0_4.index t 0 * 1 + 1 * 0 = 1; omega
    | ⟨1, _⟩ => show win0_4.index t 1 * 2 + 1 * p.val = p.val; omega
    | ⟨2, _⟩ => show win0_4.index t 2 * 8 + 1 * r.val = r.val; omega
    | ⟨3, _⟩ => show win0_4.index t 3 * 512 + 1 * j.val = i.val; omega
  · generalize m ((c : Thread nD τ).loc main_arg4) = x
    change FVec Ideal S4x8x2x5632 .f32 at x
    pointwise []

/-- The columns of the weights a sweep works with. -/
theorem iblk_5 (c : Dev nD) (t : Fin cfg0.N) (k : Fin 2048) (j : Fin 512) (i : Fin 11264) (hi : i.val = t.val / 8 * 512 + j.val) :
    (iblk m c 5 t : Vec Ideal S1x2048x512 .f32) (ix3 0 k j) = m ((c : Thread nD τ).loc main_arg5) (ix3 1 k i) := by
  obtain ⟨-, -, -, -, -, ⟨h0, h1, h2⟩, -⟩ := places t
  unfold iblk
  rw [View.read_apply]
  show V m c main_arg5 _ = _
  rw [V_main_arg5]
  refine congrArg _ (funext fun a => Fin.ext ?_)
  match a with
  | ⟨0, _⟩ => show win0_5.index t 0 * 1 + 1 * 0 = 1; omega
  | ⟨1, _⟩ => show win0_5.index t 1 * 2048 + 1 * k.val = k.val; omega
  | ⟨2, _⟩ => show win0_5.index t 2 * 512 + 1 * j.val = i.val; omega

/-- The columns of the gate's weights a sweep works with. -/
theorem iblk_6 (c : Dev nD) (t : Fin cfg0.N) (k : Fin 2048) (j : Fin 512) (i : Fin 11264) (hi : i.val = 5632 + (t.val / 8 * 512 + j.val)) :
    (iblk m c 6 t : Vec Ideal S1x2048x512 .f32) (ix3 0 k j) = m ((c : Thread nD τ).loc main_arg5) (ix3 1 k i) := by
  obtain ⟨-, -, -, -, -, -, ⟨h0, h1, h2⟩, -⟩ := places t
  unfold iblk
  rw [View.read_apply]
  show V m c main_arg5 _ = _
  rw [V_main_arg5]
  refine congrArg _ (funext fun a => Fin.ext ?_)
  match a with
  | ⟨0, _⟩ => show win0_6.index t 0 * 1 + 1 * 0 = 1; omega
  | ⟨1, _⟩ => show win0_6.index t 1 * 2048 + 1 * k.val = k.val; omega
  | ⟨2, _⟩ => show win0_6.index t 2 * 512 + 1 * j.val = i.val; omega

/-- The convolution's weights of a sweep. -/
theorem iblk_7 (c : Dev nD) (t : Fin cfg0.N) (p : Fin 3) (j : Fin 512) (i : Fin 5632) (hi : i.val = t.val / 8 * 512 + j.val) :
    (iblk m c 7 t : Vec Ideal S1x3x512 .f32) (ix3 0 p j) = m ((c : Thread nD τ).loc main_arg6) (ix3 1 p i) := by
  obtain ⟨-, -, -, -, -, -, -, ⟨h0, h1, h2⟩, -⟩ := places t
  unfold iblk
  rw [View.read_apply]
  show V m c main_arg6 _ = _
  rw [V_main_arg6]
  refine congrArg _ (funext fun a => Fin.ext ?_)
  match a with
  | ⟨0, _⟩ => show win0_7.index t 0 * 1 + 1 * 0 = 1; omega
  | ⟨1, _⟩ => show win0_7.index t 1 * 3 + 1 * p.val = p.val; omega
  | ⟨2, _⟩ => show win0_7.index t 2 * 512 + 1 * j.val = i.val; omega

/-- The convolution's bias of a sweep. -/
theorem iblk_8 (c : Dev nD) (t : Fin cfg0.N) (j : Fin 512) (i : Fin 5632) (hi : i.val = t.val / 8 * 512 + j.val) :
    (iblk m c 8 t : Vec Ideal S1x1x512 .f32) (ix3 0 0 j) = m ((c : Thread nD τ).loc main_arg7) (ix2 1 i) := by
  obtain ⟨-, -, -, -, -, -, -, -, ⟨h0, h1, h2⟩, -⟩ := places t
  unfold iblk
  rw [View.read_apply]
  show (V m c main_v1 : FVec Ideal S4x1x5632 .f32) _ = _
  rw [V_main_v1]
  refine (congrArg _ (?_ : _ = (ix3 1 0 i : S4x1x5632.Idx))).trans ?_
  · refine funext fun a => Fin.ext ?_
    match a with
    | ⟨0, _⟩ => show win0_8.index t 0 * 1 + 1 * 0 = 1; omega
    | ⟨1, _⟩ => show win0_8.index t 1 * 1 + 1 * 0 = 0; omega
    | ⟨2, _⟩ => show win0_8.index t 2 * 512 + 1 * j.val = i.val; omega
  · exact bias_at _ i

/-- The reference's product of the prompt's rows. -/
def prod (c : Dev nD) : FVec Ideal Cert.FfnInReferenceIdeal.S8192x11264 .f32 :=
  ups (F := Ideal) (m ((c : Thread nD τ).loc main_arg0)) (m ((c : Thread nD τ).loc main_arg2)) (m ((c : Thread nD τ).loc main_arg5))

/-- The reference's product of the sample rows. -/
def sampleProd (c : Dev nD) : FVec Ideal Cert.FfnInReferenceIdeal.S8x11264 .f32 :=
  sampleUps (F := Ideal) (m ((c : Thread nD τ).loc main_arg1)) (m ((c : Thread nD τ).loc main_arg3)) (m ((c : Thread nD τ).loc main_arg5))

/-- The weights of a sweep, at a row and a column. -/
theorem wtA_at (c : Dev nD) (t : Fin cfg0.N) (k : Fin 2048) (j : Fin 512) (i : Fin 11264) (hi : i.val = t.val / 8 * 512 + j.val) :
    (wtA m c t : Vec Ideal S2048x512 .bf16) (ix2 k j) = m ((c : Thread nD τ).loc main_arg5) (ix3 1 k i) :=
  (pay4_at _ k j).trans (iblk_5 m c (start t) k j i (by rw [hi]; simp only [start]; omega))

/-- The gate's weights of a sweep, at a row and a column. -/
theorem wtB_at (c : Dev nD) (t : Fin cfg0.N) (k : Fin 2048) (j : Fin 512) (i : Fin 11264) (hi : i.val = 5632 + (t.val / 8 * 512 + j.val)) :
    (wtB m c t : Vec Ideal S2048x512 .bf16) (ix2 k j) = m ((c : Thread nD τ).loc main_arg5) (ix3 1 k i) :=
  (pay5_at _ k j).trans (iblk_6 m c (start t) k j i (by rw [hi]; simp only [start]; omega))

/-- A point's product is the reference's. -/
theorem upA_at (c : Dev nD) (h : ∀ i, (0 : EReal) ≤ m ((c : Thread nD τ).loc main_arg2) i) (t : Fin cfg0.N) (r : Fin 1024) (j : Fin 512)
    (J : Fin 11264) (hJ : J.val = t.val / 8 * 512 + j.val) : (upA m c t : FVec Ideal S1024x512 .f32) (ix2 r j) = col (prod m c) J (t.val % 8 * 1024 + r.val) := by
  unfold upA
  rw [pay14_at, col, dif_pos (by omega), prod, Cert.FfnInReferenceIdeal.Own.ups_at, ← Cert.Own.scaled_sum _ _ _ _ (Cert.Own.scale_real _ (Finset.sum_nonneg fun l _ => Finset.sum_nonneg fun p _ => h _))]
  exact congrArg₂ _ (Finset.sum_congr rfl fun k _ => congrArg₂ _ (iblk_0 m c t _ k _ rfl) (wtA_at m c t k _ _ hJ)) (congrArg _ (Finset.sum_congr rfl fun l _ => Finset.sum_congr rfl fun p _ => iblk_2 m c t p _ l _ rfl))

/-- A row kept from the point before, zero where a prompt starts. -/
theorem carried (c : Dev nD) (h : ∀ i, (0 : EReal) ≤ m ((c : Thread nD τ).loc main_arg2) i) (t : Fin cfg0.N) (s : Fin 1024) (j : Fin 512)
    (J : Fin 11264) (hJ : J.val = t.val / 8 * 512 + j.val) :
    Scalar.select (fresh (grid0.coords t)) (0 : EReal) ((upA m c (prev t) : FVec Ideal S1024x512 .f32) (ix2 s j)) =
      if t.val % 2 = 0 then 0 else col (prod m c) J (t.val % 8 * 1024 + s.val - 1024) := by
  by_cases e : t.val % 2 = 0
  · rw [fresh_even t e, if_pos e]; rfl
  · rw [fresh_odd t (by omega), if_neg e, upA_at m c h (prev t) s j J (by rw [hJ]; simp only [prev]; omega)]
    exact congrArg (col _ J) (by simp only [prev]; omega)

/-- A point's other half is the reference's. -/
theorem upB_at (c : Dev nD) (h : ∀ i, (0 : EReal) ≤ m ((c : Thread nD τ).loc main_arg2) i) (t : Fin cfg0.N) (r : Fin 1024) (j : Fin 512)
    (J : Fin 11264) (hJ : J.val = 5632 + (t.val / 8 * 512 + j.val)) : (upB m c t : FVec Ideal S1024x512 .f32) (ix2 r j) = col (prod m c) J (t.val % 8 * 1024 + r.val) := by
  unfold upB
  rw [pay15_at, col, dif_pos (by omega), prod, Cert.FfnInReferenceIdeal.Own.ups_at, ← Cert.Own.scaled_sum _ _ _ _ (Cert.Own.scale_real _ (Finset.sum_nonneg fun l _ => Finset.sum_nonneg fun p _ => h _))]
  exact congrArg₂ _ (Finset.sum_congr rfl fun k _ => congrArg₂ _ (iblk_0 m c t _ k _ rfl) (wtB_at m c t k _ _ hJ)) (congrArg _ (Finset.sum_congr rfl fun l _ => Finset.sum_congr rfl fun p _ => iblk_2 m c t p _ l _ rfl))

/-- The sample rows' product with a sweep's weights is the reference's, for either half. -/
theorem sample_at (c : Dev nD) (h : ∀ i, (0 : EReal) ≤ m ((c : Thread nD τ).loc main_arg3) i) (t : Fin cfg0.N) (w : FVec Ideal S2048x512 .bf16) (r : Fin 8) (j : Fin 512)
    (J : Fin 11264) (hw : ∀ k, w (ix2 k j) = m ((c : Thread nD τ).loc main_arg5) (ix3 1 k J)) :
    k0_pay7 (F := Ideal) (iblk m c 1 t) (iblk m c 3 t) w (ix2 r j) = sampleProd m c (ix2 r J) := by
  rw [pay7_at, sampleProd, Cert.FfnInReferenceIdeal.Own.sampleUps_at, ← Cert.Own.scaled_sum _ _ _ _ (Cert.Own.scale_real _ (Finset.sum_nonneg fun l _ => Finset.sum_nonneg fun p _ => h _))]
  exact congrArg₂ _ (Finset.sum_congr rfl fun k _ => congrArg₂ _ (iblk_1 m c t _ k) (hw k)) (congrArg _ (Finset.sum_congr rfl fun l _ => Finset.sum_congr rfl fun p _ => iblk_3 m c t p _ l))

/-- What a point stores of the first result is the reference's, at a row and a column. -/
theorem rows_point (c : Dev nD) (h : ∀ i, (0 : EReal) ≤ m ((c : Thread nD τ).loc main_arg2) i) (t : Fin cfg0.N) (r : Fin 1024) (j : Fin 512)
    (R : Fin 8192) (hR : R.val = t.val % 8 * 1024 + r.val) (J : Fin 5632) (hJ : J.val = t.val / 8 * 512 + j.val) :
    rowsOut (F := Ideal) (grid0.coords t) (upA m c t) (upB m c t) (k0_pay2 (upA m c (prev t))) (iblk m c 7 t) (iblk m c 8 t) (ix2 r j) =
      gate (F := Ideal) (conv (F := Ideal) (padded (F := Ideal) (prod m c)) (m ((c : Thread nD τ).loc main_arg6)) (m ((c : Thread nD τ).loc main_arg7))) (prod m c) (ix2 R J) := by
  have row : ∀ K : Fin 11264, ∀ a b : ℕ, a = b → col (prod m c) K a = col (prod m c) K b := fun K a b e => by rw [e]
  have kept := fun s => carried m c h t s j ⟨J.val, by omega⟩ hJ
  have here := fun s => upA_at m c h t s j ⟨J.val, by omega⟩ hJ
  rw [Cert.FfnInReferenceIdeal.Own.gate_at, Cert.FfnInReferenceIdeal.Own.conv_at, Cert.FfnInReferenceIdeal.Own.padded_at,
    Cert.FfnInReferenceIdeal.Own.padded_at, Cert.FfnInReferenceIdeal.Own.padded_at, rowsOut_at]
  refine congrArg₂ gated (congrArg₂ _ (congrArg₂ _ (congrArg₂ _ (iblk_8 m c t _ _ hJ) (congrArg₂ _ (iblk_7 m c t _ _ _ hJ) ?_))
    (congrArg₂ _ (iblk_7 m c t _ _ _ hJ) ?_)) (congrArg₂ _ (iblk_7 m c t _ _ _ hJ) ?_)) ?_
  · rw [kept, kept, here]
    dsimp only
    split_ifs <;> first | (exfalso; omega) | exact row _ _ _ (by omega) | exact (rfl : (0 : EReal) = 0)
  · rw [kept, here]
    dsimp only
    split_ifs <;> first | (exfalso; omega) | exact row _ _ _ (by omega) | exact (rfl : (0 : EReal) = 0)
  · rw [here]
    dsimp only
    split_ifs <;> first | (exfalso; omega) | exact row _ _ _ (by omega) | exact (rfl : (0 : EReal) = 0)
  · rw [upB_at m c h t r j ⟨5632 + J.val, by omega⟩ (by simp only; omega), col, dif_pos (by omega)]
    exact congrArg (fun K => prod m c (ix2 K _)) (Fin.ext hR.symm)

/-- The first result after the run is the reference's. -/
theorem result_0 (c : Dev nD) (h : ∀ i, (0 : EReal) ≤ m ((c : Thread nD τ).loc main_arg2) i) :
    (dats m 0 c).arrAt 9 cfg0.N = gate (F := Ideal) (conv (F := Ideal) (padded (F := Ideal) (prod m c)) (m ((c : Thread nD τ).loc main_arg6)) (m ((c : Thread nD τ).loc main_arg7))) (prod m c) := by
  refine (dats m 0 c).arrAt_eq_of_covers 9 _ (by decide +kernel) fun t _ y => ?_
  obtain ⟨-, -, -, -, -, -, -, -, -, ⟨h0, h1⟩, -⟩ := places t
  have hy0 : (y 0).val < 1024 := (y 0).isLt
  have hy1 : (y 1).val < 512 := (y 1).isLt
  have ht : t.val < 88 := t.isLt
  have e : ((cfg0.win 9).blk t).view.emb y = ix2 (⟨t.val % 8 * 1024 + (y 0).val, by omega⟩ : Fin 8192) (⟨t.val / 8 * 512 + (y 1).val, by omega⟩ : Fin 5632) := by
    funext a; apply Fin.ext
    match a with
    | ⟨0, _⟩ => show win0_9.index t 0 * 1024 + 1 * (y 0).val = _; rw [h0]; simp
    | ⟨1, _⟩ => show win0_9.index t 1 * 512 + 1 * (y 1).val = _; rw [h1]; simp
  have ey : y = ix2 (⟨(y 0).val, hy0⟩ : Fin 1024) (⟨(y 1).val, hy1⟩ : Fin 512) := by
    funext a; match a with | ⟨0, _⟩ => rfl | ⟨1, _⟩ => rfl
  rw [e]
  show rowsOut (F := Ideal) (grid0.coords t) (upA m c t) (upB m c t) (k0_pay2 (upA m c (prev t))) (iblk m c 7 t) (iblk m c 8 t) y = _
  exact (congrArg _ ey).trans (rows_point m c h t _ _ _ rfl _ rfl)

/-- The second result after the run is the reference's. -/
theorem result_1 (c : Dev nD) (h : ∀ i, (0 : EReal) ≤ m ((c : Thread nD τ).loc main_arg2) i) :
    (dats m 0 c).arrAt 10 cfg0.N = lastRows (F := Ideal) (padded (F := Ideal) (prod m c)) := by
  refine (dats m 0 c).arrAt_eq_of_covers 10 _ (by decide +kernel) fun t hf y => ?_
  have odd := flush_odd t hf
  obtain ⟨-, -, -, -, -, -, -, -, -, -, ⟨h0, h1, h2⟩, -⟩ := places t
  have hy0 : (y 0).val < 1 := (y 0).isLt
  have hy1 : (y 1).val < 2 := (y 1).isLt
  have hy2 : (y 2).val < 512 := (y 2).isLt
  have ht : t.val < 88 := t.isLt
  have e : ((cfg0.win 10).blk t).view.emb y = ix3 (⟨t.val % 8 / 2, by omega⟩ : Fin 4) (⟨(y 1).val, hy1⟩ : Fin 2) (⟨t.val / 8 * 512 + (y 2).val, by omega⟩ : Fin 5632) := by
    funext a; apply Fin.ext
    match a with
    | ⟨0, _⟩ => show win0_10.index t 0 * 1 + 1 * (y 0).val = t.val % 8 / 2; rw [h0]; omega
    | ⟨1, _⟩ => show win0_10.index t 1 * 2 + 1 * (y 1).val = _; rw [h1]; simp
    | ⟨2, _⟩ => show win0_10.index t 2 * 512 + 1 * (y 2).val = _; rw [h2]; simp
  have ey : y = ix3 (0 : Fin 1) (⟨(y 1).val, hy1⟩ : Fin 2) (⟨(y 2).val, hy2⟩ : Fin 512) := by
    funext a; match a with | ⟨0, _⟩ => exact Fin.ext (by show (y 0).val = 0; omega) | ⟨1, _⟩ => rfl | ⟨2, _⟩ => rfl
  rw [e, Cert.FfnInReferenceIdeal.Own.lastRows_at, Cert.FfnInReferenceIdeal.Own.padded_at]
  show k0_pay3 (F := Ideal) (upA m c t) y = _
  refine (congrArg _ ey).trans ?_
  rw [pay3_at, upA_at m c h t ⟨1022 + (y 1).val, by omega⟩ ⟨(y 2).val, hy2⟩ ⟨t.val / 8 * 512 + (y 2).val, by omega⟩ rfl]
  refine Eq.trans ?_ (if_neg (by simp only; omega)).symm
  exact congrArg (col _ _) (by simp only; omega)

/-- The third result after the run is the reference's. -/
theorem result_2 (c : Dev nD) (h : ∀ i, (0 : EReal) ≤ m ((c : Thread nD τ).loc main_arg3) i) :
    (dats m 0 c).arrAt 11 cfg0.N = sampleGate (F := Ideal) (sampleConv (F := Ideal) (samplePadded (F := Ideal) (m ((c : Thread nD τ).loc main_arg4)) (sampleProd m c))
      (m ((c : Thread nD τ).loc main_arg6)) (m ((c : Thread nD τ).loc main_arg7))) (sampleProd m c) := by
  refine (dats m 0 c).arrAt_eq_of_covers 11 _ (by decide +kernel) fun t _ y => ?_
  obtain ⟨-, -, -, -, -, -, -, -, -, -, -, ⟨h0, h1⟩, -⟩ := places t
  have hy0 : (y 0).val < 8 := (y 0).isLt
  have hy1 : (y 1).val < 512 := (y 1).isLt
  have ht : t.val < 88 := t.isLt
  have e : ((cfg0.win 11).blk t).view.emb y = ix2 (⟨(y 0).val, hy0⟩ : Fin 8) (⟨t.val / 8 * 512 + (y 1).val, by omega⟩ : Fin 5632) := by
    funext a; apply Fin.ext
    match a with
    | ⟨0, _⟩ => show win0_11.index t 0 * 8 + 1 * (y 0).val = _; rw [h0]; simp
    | ⟨1, _⟩ => show win0_11.index t 1 * 512 + 1 * (y 1).val = _; rw [h1]; simp
  have ey : y = ix2 (⟨(y 0).val, hy0⟩ : Fin 8) (⟨(y 1).val, hy1⟩ : Fin 512) := by
    funext a; match a with | ⟨0, _⟩ => rfl | ⟨1, _⟩ => rfl
  have s : (start t).val / 8 = t.val / 8 := by simp only [start]; omega
  rw [e, Cert.FfnInReferenceIdeal.Own.sampleGate_at]
  show sampleOut (F := Ideal) (iblk m c 1 (start t)) (iblk m c 3 (start t)) (iblk m c 4 (start t)) (wtA m c t) (wtB m c t) (iblk m c 7 (start t)) (iblk m c 8 (start t)) y = _
  refine (congrArg _ ey).trans ?_
  rw [sampleOut_at]
  have at' : ∀ j : ℕ, t.val / 8 * 512 + j = (start t).val / 8 * 512 + j := fun j => by rw [s]
  refine congrArg₂ gated (congrArg₂ _ (congrArg₂ _ (congrArg₂ _ (iblk_8 m c _ _ _ (at' _)) (congrArg₂ _ (iblk_7 m c _ _ _ _ (at' _)) (iblk_4 m c _ _ _ _ _ (at' _))))
    (congrArg₂ _ (iblk_7 m c _ _ _ _ (at' _)) (iblk_4 m c _ _ _ _ _ (at' _)))) (congrArg₂ _ (iblk_7 m c _ _ _ _ (at' _)) ?_)) ?_
  · exact sample_at m c h _ _ _ _ _ fun k => wtA_at m c t k _ _ rfl
  · exact sample_at m c h _ _ _ _ _ fun k => wtB_at m c t k _ _ rfl

end Cert.FfnInIdeal.Own

end
-- ==== Proof.FfnInState.lean ====
/- The new convolution state of the first feed-forward product: the kernel's rows, put back in the order of the state, are
   the reference's. -/
module

public import proofs.«01_k».proof.Proof.FfnInValue

@[expose] public section

set_option maxRecDepth 8192

noncomputable section

open Idealize.ShloMosaic Idealize.ShloMosaic.TcCoe Idealize.SL.Sem Idealize.ShloMosaic.Pipeline

namespace Cert.FfnInIdeal.Own

open Cert.FfnInIdeal Cert.FfnInIdeal.Gen
open Cert.FfnInReferenceIdeal.Own (sampleUps samplePadded newState)

variable (m : (ℓ : Loc nD τ sig) → Buf (Elt Ideal) ℓ)

/-- The new state's rows before the sequences, as the kernel leaves them. -/
def stateRows (c : Dev nD) : FVec Ideal S2x8x5632 .f32 := fun i =>
  newState (F := Ideal) (samplePadded (F := Ideal) (m ((c : Thread nD τ).loc main_arg4)) (sampleProd m c)) (ix3 (i 1) (i 0) (i 2))

/-- What a sweep stores of the state is the reference's, at a row and a column. -/
theorem state_point (c : Dev nD) (h : ∀ i, (0 : EReal) ≤ m ((c : Thread nD τ).loc main_arg3) i) (t : Fin cfg0.N) (p : Fin 2) (r : Fin 8) (j : Fin 512)
    (J : Fin 5632) (hJ : J.val = t.val / 8 * 512 + j.val) :
    stateOut (F := Ideal) (iblk m c 1 (start t)) (iblk m c 3 (start t)) (iblk m c 4 (start t)) (wtA m c t) (ix3 p r j) = stateRows m c (ix3 p r J) := by
  refine Eq.trans ?_ (Cert.FfnInReferenceIdeal.Own.newState_at (m ((c : Thread nD τ).loc main_arg4)) (sampleProd m c) r p J).symm
  rw [stateOut_at, iblk_4 m c (start t) 1 r j J (by rw [hJ]; simp only [start]; omega),
    sample_at m c h (start t) (wtA m c t) r j ⟨J.val, by omega⟩ fun k => wtA_at m c t k j _ hJ]

/-- The state's rows after the run are the reference's. -/
theorem result_3 (c : Dev nD) (h : ∀ i, (0 : EReal) ≤ m ((c : Thread nD τ).loc main_arg3) i) :
    (dats m 0 c).arrAt 12 cfg0.N = stateRows m c := by
  refine (dats m 0 c).arrAt_eq_of_covers 12 _ (by decide +kernel) fun t _ y => ?_
  obtain ⟨-, -, -, -, -, -, -, -, -, -, -, -, ⟨h0, h1, h2⟩⟩ := places t
  have hy0 : (y 0).val < 2 := (y 0).isLt
  have hy1 : (y 1).val < 8 := (y 1).isLt
  have hy2 : (y 2).val < 512 := (y 2).isLt
  have ht : t.val < 88 := t.isLt
  have e : ((cfg0.win 12).blk t).view.emb y = ix3 (⟨(y 0).val, hy0⟩ : Fin 2) (⟨(y 1).val, hy1⟩ : Fin 8) (⟨t.val / 8 * 512 + (y 2).val, by omega⟩ : Fin 5632) := by
    funext a; apply Fin.ext
    match a with
    | ⟨0, _⟩ => show win0_12.index t 0 * 2 + 1 * (y 0).val = _; rw [h0]; simp
    | ⟨1, _⟩ => show win0_12.index t 1 * 8 + 1 * (y 1).val = _; rw [h1]; simp
    | ⟨2, _⟩ => show win0_12.index t 2 * 512 + 1 * (y 2).val = _; rw [h2]; simp
  have ey : y = ix3 (⟨(y 0).val, hy0⟩ : Fin 2) (⟨(y 1).val, hy1⟩ : Fin 8) (⟨(y 2).val, hy2⟩ : Fin 512) := by
    funext a; match a with | ⟨0, _⟩ => rfl | ⟨1, _⟩ => rfl | ⟨2, _⟩ => rfl
  have q : (dats m 0 c).after 12 t = stateOut (F := Ideal) (iblk m c 1 (start t)) (iblk m c 3 (start t)) (iblk m c 4 (start t)) (wtA m c t) := by
    dsimp only [dats]
  refine (congrFun q y).trans ?_
  rw [e]
  exact (congrArg _ ey).trans (state_point m c h t _ _ _ _ rfl)

/-- The state in the order of its argument after the host's last line. -/
theorem state_back (c : Dev nD) : transpose S8x2x5632 [1, 0, 2] (stateRows m c) transposes_S2x8x5632_S8x2x5632_1_0_2 =
    newState (F := Ideal) (samplePadded (F := Ideal) (m ((c : Thread nD τ).loc main_arg4)) (sampleProd m c)) := by
  refine funext fun i => ?_
  have ei : i = ix3 (i 0) (i 1) (i 2) := by
    funext a; match a with | ⟨0, _⟩ => rfl | ⟨1, _⟩ => rfl | ⟨2, _⟩ => rfl
  rw [ei]
  pointwise [stateRows]

/-- Two windows of one array are the two of the weights, which the kernel reads only. -/
theorem shared (c : Dev nD) (w w' : Fin 13) (hne : w ≠ w') (he : Pipeline.arrRef spec0 w = Pipeline.arrRef spec0 w') :
    (dats m 0 c).arrAt w cfg0.N = V0 m c (Proc.devRef .tc (Pipeline.arrRef spec0 w)) := by
  have : ∀ w w' : Fin 13, w ≠ w' → Pipeline.arrRef spec0 w = Pipeline.arrRef spec0 w' → w = 5 ∨ w = 6 := by decide
  rcases this w w' hne he with rfl | rfl
  · exact ((dats m 0 c).arrAt_in 5 rfl _).trans (A_eq m c 5)
  · exact ((dats m 0 c).arrAt_in 6 rfl _).trans (A_eq m c 6)

/-- The new state in the order of its argument. -/
def finalState (c : Dev nD) : Buf (Elt Ideal) ((c : Thread nD τ).loc main_v3) :=
  newState (F := Ideal) (samplePadded (F := Ideal) (m ((c : Thread nD τ).loc main_arg4)) (sampleProd m c))

/-- The fourth result is the state's rows, in the order of the state. -/
theorem after_state (c : Dev nD) (h : ∀ i, (0 : EReal) ≤ m ((c : Thread nD τ).loc main_arg3) i) :
    Pipeline.afterTail₀ cfgs (dats m) 0 (V0 m) [hostOps1] c main_v3 =
      finalState m c := by
  unfold Pipeline.afterTail₀
  simp only [hostOps1, List.flatten_cons, List.flatten_nil, List.append_nil]
  after_results_simp
  refine Eq.trans ?_ (state_back m c)
  exact congrArg (transpose S8x2x5632 [1, 0, 2] · transposes_S2x8x5632_S8x2x5632_1_0_2)
    ((Pipeline.withArrays_arr_shared spec0 c (V0 m c) _ (shared m c) 12).trans (result_3 m c h))

end Cert.FfnInIdeal.Own

end
-- ==== Proof.FfnInClaim.lean ====
/- The claims of the first feed-forward product. -/
module

public import proofs.«01_k».proof.Defs
public import proofs.«01_k».proof.Proof.Gen.FfnIn
public import proofs.«01_k».proof.Proof.FfnInState
public import Idealize.ShloMosaic.Lib.Quiescent
public import Idealize.ShloMosaic.Adequacy
public import Idealize.ShloMosaic.Init

@[expose] public section

noncomputable section

namespace Cert.FfnInClaim

open Idealize.ShloMosaic Idealize.SL.Sem

/-- The program and its idealisation run the same pieces. -/
theorem defs₀_same : @Cert.FfnIn.defs₀ Bits _ Cert.FfnIn.Gen.facts = @Cert.FfnInIdeal.defs₀ Bits _ Cert.FfnInIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.FfnIn.defs Bits _ Cert.FfnIn.Gen.facts = @Cert.FfnInIdeal.defs Bits _ Cert.FfnInIdeal.Gen.facts :=
  congrArg (Pipeline.defs _) defs₀_same

/-- The program runs and keeps its arguments. -/
theorem kernel_runs : Cert.quiescent_FfnIn (hFfnIn := Cert.FfnIn.Gen.facts) := by
  intro m g _
  rw [defs_same]
  exact Cert.FfnInIdeal.Own.unchanged (F := Bits) m g

/-- The idealised program runs and keeps its arguments. -/
theorem ideal_runs : Cert.quiescent_FfnInIdeal (hFfnInIdeal := Cert.FfnInIdeal.Gen.facts) := fun m g _ =>
  Cert.FfnInIdeal.Own.unchanged (F := Ideal) m g

/-- The reference runs and keeps its arguments; it has no semaphores. -/
theorem reference_runs : Cert.quiescent_FfnInReferenceIdeal (hFfnInReferenceIdeal := Cert.FfnInReferenceIdeal.Gen.facts) := fun m g _ =>
  (θ_run Cert.FfnInReferenceIdeal.defs _ _).mono (fun r h => ⟨fun c => (h c).2.2.2.2, sem_eq_zero_of_no_sems (by decide) r.2⟩)
    (Cert.FfnInReferenceIdeal.Value.run m g)

/-- Where no part of the squares is negative the kernel's results are the reference's. -/
theorem equal : Cert.algebraic_FfnInIdeal_FfnInReferenceIdeal_pre_ffn_in_squares (hFfnInIdeal := Cert.FfnInIdeal.Gen.facts)
    (hFfnInReferenceIdeal := Cert.FfnInReferenceIdeal.Gen.facts) (hPre_ffn_in_squares := Cert.Pre_ffn_in_squares.facts) := by
  intro m g m' g' hpre hargs
  have hn := fun c => @Cert.Pre_ffn_in_squares.parts_nonneg Cert.Pre_ffn_in_squares.facts _ _ _ _ _ _ _ _ (hpre c)
  refine ⟨fun c => (Cert.FfnInIdeal.Own.dats m 0 c).arrAt 9 Cert.FfnInIdeal.cfg0.N, fun c => (Cert.FfnInIdeal.Own.dats m 0 c).arrAt 10 Cert.FfnInIdeal.cfg0.N,
    fun c => (Cert.FfnInIdeal.Own.dats m 0 c).arrAt 11 Cert.FfnInIdeal.cfg0.N,
    fun c => Cert.FfnInIdeal.Own.finalState m c, ?_, ?_⟩
  · exact (θ_run Cert.FfnInIdeal.defs _ _).mono (fun r h c => ⟨(h.1 c).1 9, (h.1 c).1 10, (h.1 c).1 11,
        ((h.1 c).2 Cert.FfnInIdeal.main_v3 (Pipeline.mem_restRefs_of Cert.FfnInIdeal.main_v3 (by decide) (by decide))).trans (Cert.FfnInIdeal.Own.after_state m c (hn c).2), h.2.1 c⟩)
      (θ_run_and ((θ_run Cert.FfnInIdeal.defs _ _).mono (fun _ h => h.1) (Cert.FfnInIdeal.Own.run m g)) (Cert.FfnInIdeal.Own.unchanged (F := Ideal) m g))
  · refine (θ_run Cert.FfnInReferenceIdeal.defs _ _).mono (fun r h c => ?_) (Cert.FfnInReferenceIdeal.Value.run m' g')
    obtain ⟨h0, h1, h2, h3, hk⟩ := h c
    obtain ⟨a0, a1, a2, a3, a4, a5, a6, a7⟩ := hargs c
    refine ⟨h0.trans ?_, h1.trans ?_, h2.trans ?_, h3.trans ?_, hk⟩
    · refine (Cert.FfnInReferenceIdeal.Own.gate_eq m' c).trans ?_
      rw [a0, a2, a5, a6, a7]
      exact (Cert.FfnInIdeal.Own.result_0 m c (hn c).1).symm
    · rw [a0, a2, a5]
      exact (Cert.FfnInIdeal.Own.result_1 m c (hn c).1).symm
    · refine (Cert.FfnInReferenceIdeal.Own.sampleGate_eq m' c).trans ?_
      rw [a1, a3, a4, a5, a6, a7]
      exact (Cert.FfnInIdeal.Own.result_2 m c (hn c).2).symm
    · rw [a1, a3, a4, a5]
      rfl

end Cert.FfnInClaim

end
-- ==== Proof.InOddBody.lean ====
/- The odd layers' input product, point by point: what each run of the kernel body leaves in the scratch
   buffer and in the two output blocks, the pipeline's data built on that, and the run of the whole program. -/
module

public import proofs.«01_k».proof.Proof.Gen.InOddIdeal.Skeleton
public import proofs.«01_k».proof.Proof.Gen.InOddIdeal.Frame
public import proofs.«01_k».proof.Proof.Store
public import Idealize.ShloMosaic.Lib.Claim

@[expose] public section

set_option maxRecDepth 16384

noncomputable section

namespace Cert.InOddIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InOddIdeal.Gen

variable {F : FTy → Type} [FloatOps F]

local notation "𝕄" => MT nD τ sig Unit (Elt F) ℕ (UR sig nD τ) ℕ

/-- A point that begins a sweep over the row blocks: weights are rounded into the scratch buffer and the sample
    rows multiplied, then the point's own rows. -/
theorem body_first (c : Dev nD) (i : grid0.Coords) (arg2 : Memref sig .tc .vmem S1024x2048 .bf16) (harg2 : arg2.IsWhole)
    (arg3 : Memref sig .tc .vmem S8x2048 .bf16) (harg3 : arg3.IsWhole) (arg4 : Memref sig .tc .vmem S1x2048x1024 .f32) (harg4 : arg4.IsWhole)
    (arg5 : Memref sig .tc .vmem S4x1024x128 .f32) (harg5 : arg5.IsWhole) (arg6 : Memref sig .tc .vmem S4x8x128 .f32) (harg6 : arg6.IsWhole)
    (arg7 : Memref sig .tc .vmem S1024x1024 .f32) (harg7 : arg7.IsWhole) (arg8 : Memref sig .tc .vmem S8x1024 .f32) (harg8 : arg8.IsWhole)
    (arg9 : Memref sig .tc .vmem S2048x1024 .bf16) (harg9 : arg9.IsWhole) (hc : k0_cond1 i = 1#1)
    (x0 : Vec F S1024x2048 .bf16) (x1 : Vec F S8x2048 .bf16) (x2 : Vec F S1x2048x1024 .f32) (x3 : Vec F S4x1024x128 .f32) (x4 : Vec F S4x8x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 x0 (k0_pay1 x2) x3) ∗ owns (c : Thread nD τ) arg8 fullShare (k0_pay2 x1 (k0_pay1 x2) x4)
            ∗ owns (c : Thread nD τ) arg9 fullShare (k0_pay1 x2)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iapply (Cert.Own.owns_store c arg7 _ _ (by decide) _ _ ?_) $$ H7
    sl_unfold_words
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H8]
  · iapply (Cert.Own.owns_store c arg8 _ _ (by decide) _ _ ?_) $$ H8
    sl_unfold_words
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  sl_unfold_words
  iapply (Cert.Own.owns_store c arg9 _ _ (by decide) _ _ ?_) $$ H9
  simp only [View.readAt_eq_ld, harg4.read_unread]
  rw [View.ld_unit_lit _ x2 (by decide)]

/-- Any other point of a sweep: the point's own rows times the rounded weights of the scratch buffer. -/
theorem body_next (c : Dev nD) (i : grid0.Coords) (arg2 : Memref sig .tc .vmem S1024x2048 .bf16) (harg2 : arg2.IsWhole)
    (arg3 : Memref sig .tc .vmem S8x2048 .bf16) (harg3 : arg3.IsWhole) (arg4 : Memref sig .tc .vmem S1x2048x1024 .f32) (harg4 : arg4.IsWhole)
    (arg5 : Memref sig .tc .vmem S4x1024x128 .f32) (harg5 : arg5.IsWhole) (arg6 : Memref sig .tc .vmem S4x8x128 .f32) (harg6 : arg6.IsWhole)
    (arg7 : Memref sig .tc .vmem S1024x1024 .f32) (harg7 : arg7.IsWhole) (arg8 : Memref sig .tc .vmem S8x1024 .f32) (harg8 : arg8.IsWhole)
    (arg9 : Memref sig .tc .vmem S2048x1024 .bf16) (harg9 : arg9.IsWhole) (hc : ¬k0_cond1 i = 1#1)
    (x0 : Vec F S1024x2048 .bf16) (x3 : Vec F S4x1024x128 .f32) (w : Vec F S2048x1024 .bf16)
    (K : PUnit → sProp 𝕄) :
    iprop(owns (c : Thread nD τ) arg2 fullShare x0 ∗ owns (c : Thread nD τ) arg5 fullShare x3
        ∗ (∃ d, owns (c : Thread nD τ) arg7 fullShare d) ∗ owns (c : Thread nD τ) arg9 fullShare w
        ∗ (iprop(owns (c : Thread nD τ) arg2 fullShare x0 ∗ owns (c : Thread nD τ) arg5 fullShare x3
            ∗ owns (c : Thread nD τ) arg7 fullShare (k0_pay3 x0 w x3) ∗ owns (c : Thread nD τ) arg9 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f3, %hf3, H3⟩, ⟨%d7, %f7, -, H7⟩, ⟨%f9, %hf9, H9⟩, Hk⟩
  obtain rfl := harg2.eq_unread hf0; obtain rfl := harg5.eq_unread hf3; obtain rfl := harg9.eq_unread hf9
  sl_exec (disch := sl_exact hc)
  sl_step
  iapply Hk
  isplitl [H0]
  · iexists _; isplitr; · ipureintro; exact harg2.read_unread _
    iexact H0
  isplitl [H3]
  · iexists _; isplitr; · ipureintro; exact harg5.read_unread _
    iexact H3
  isplitl [H7]
  · iapply (Cert.Own.owns_store c arg7 _ _ (by decide) _ _ ?_) $$ H7
    sl_unfold_words
    simp only [View.readAt_eq_ld, harg2.read_unread, harg5.read_unread, harg9.read_unread]
    rw [View.ld_unit_lit _ x0 (by decide), View.ld_unit_lit _ w (by decide), View.ld_unit_lit _ x3 (by decide)]
  iexists _; isplitr; · ipureintro; exact harg9.read_unread _
  iexact H9

/-! ## The pipeline's data -/

/-- The body's condition holds at the first point of each sweep of eight. -/
theorem cond_iff : ∀ t : Fin cfg0.N, k0_cond1 (grid0.coords t) = 1#1 ↔ t.val % 8 = 0 := by decide +kernel

/-- The first point of the sweep `t` belongs to. -/
def start (t : Fin cfg0.N) : Fin cfg0.N := ⟨t.val - t.val % 8, lt_of_le_of_lt (Nat.sub_le _ _) t.isLt⟩

theorem start_first (t : Fin cfg0.N) (h : t.val % 8 = 0) : start t = t := Fin.ext (by simp only [start]; omega)

theorem start_pred (t : Fin cfg0.N) (h : ¬t.val % 8 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S2048x1024 .bf16 := k0_pay1 (iblk m c 2 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the first result the product of the point's
    rows, the second the product of the sample rows, made at the sweep's first point and kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (wts m c t) (iblk m c 3 t)
    | ⟨6, _⟩ => k0_pay2 (iblk m c 1 (start t)) (wts m c t) (iblk m c 4 (start t))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d

/-- The second result's block is kept where nothing is stored into it. -/
theorem kept_6 (c : Dev nD) (t : Fin cfg0.N) (h : ¬t.val % 8 = 0) :
    iprop(∃ d, owns (c : Thread nD τ) (st0_6 t) fullShare ((dats m 0 c).before 6 t d)) ⊢ (dats m 0 c).leavesExact 6 t :=
  Cert.Own.retained (dats m 0 c) 6 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 6 (grid0.coords t) = true) t h)
    (fun _ => by simpa using h)

/-! ## The body at a point -/

set_option maxHeartbeats 1600000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t
        ∗ (dats m 0 c).leavesExact 4 t ∗ (dats m 0 c).leavesExact 5 t ∗ (dats m 0 c).leavesExact 6 t)) := by
  unfold bodyAt0
  simp only [before_0, before_1, before_2, before_3, before_4]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (k0_pay3 (iblk m c 0 t) (wts m c t) (iblk m c 3 t)) from rfl]
  by_cases h : t.val % 8 = 0
  · have e6 : (dats m 0 c).leavesExact 6 t = owns (c : Thread nD τ) (st0_6 t) fullShare (k0_pay2 (iblk m c 1 t) (wts m c t) (iblk m c 4 t)) := by
      unfold Dat.leavesExact
      rw [(by decide +kernel : ∀ t : Fin cfg0.N, t.val % 8 = 0 → cfg0.idle 6 (grid0.coords t) = false) t h]
      dsimp only [dats]; rw [start_first t h]
    rw [e6, show wts m c t = k0_pay1 (iblk m c 2 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩⟩
    ihave ⟨HS, Hg⟩ := key $$ HΦ
    iapply (body_first c (grid0.coords t) _ _ _ _ _ _ _ _ _ _ _ _ _ _ _ _ ((cond_iff t).mpr h)
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, H6⟩
    iapply (body_next c (grid0.coords t) _ _ _ _ _ _ _ _ _ _ _ _ _ _ _ _ (fun e => h ((cond_iff t).mp e))
      (iblk m c 0 t) (iblk m c 3 t) (wts m c t) _)
    isplitl [H0]; · iexact H0
    isplitl [H3]; · iexact H3
    isplitl [H5]; · iexists _; iexact H5
    isplitl [HS]; · iexact HS
    iintro ⟨H0, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (kept_6 m c t h) $$ H6

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.InOddIdeal.Own

end
-- ==== Proof.InOddValue.lean ====
/- The value of the odd layers' input projection: under the precondition that the parts of the squares are not negative
   both results are the reference's, the normalised rows times the layer's weights. -/
module

public import proofs.«01_k».proof.Proof.InOddBody
public import proofs.«01_k».proof.Proof.Scale
public import proofs.«01_k».proof.Proof.Gen.InOddReferenceIdeal.Run
public import proofs.«01_k».proof.Pre_in_odd_squares
public import Idealize.ShloMosaic.Lib.Pipeline.ValueKit.Geometry

@[expose] public section

noncomputable section

open Idealize.ShloMosaic Idealize.ShloMosaic.TcCoe Idealize.SL.Sem Idealize.ShloMosaic.Pipeline

namespace Cert.Pre_in_odd_squares

/-- The shape relations of the precondition's operations. -/
theorem facts : Facts := ⟨by decide, by decide, by decide, by decide, by decide⟩

/-- Under the precondition no part of the squares is negative. -/
theorem parts_nonneg [Facts] (h : FVec Ideal S8192x2048 .bf16) (hs : FVec Ideal S8x2048 .bf16) (s : FVec Ideal S4x8192x128 .f32)
    (ss : FVec Ideal S4x8x128 .f32) (w : FVec Ideal S2x2048x8192 .f32) (e : fn h hs s ss w = fun _ => 1#1) :
    (∀ i, 0 ≤ s i) ∧ ∀ i, 0 ≤ ss i := by
  have e := congrFun e ix0
  obtain ⟨e1, e2⟩ := IntOp.andi_eq_one.1 (show IntOp.andi _ _ = 1#1 from e)
  have : Subsingleton S_.Idx := ⟨fun a b => funext fun i => i.elim0⟩
  exact ⟨fun i => Cert.Own.nonneg_of_cmp _ (Host.reduce_andi_all _ _ _ _ _ e1 i), fun i => Cert.Own.nonneg_of_cmp _ (Host.reduce_andi_all _ _ _ _ _ e2 i)⟩

end Cert.Pre_in_odd_squares

namespace Cert.InOddReferenceIdeal.Own

open Cert.InOddReferenceIdeal Cert.InOddReferenceIdeal.Gen

/-- The reference's product of the normalised rows of the prompt with the layer's weights. -/
def rows {F : FTy → Type} [FloatOps F] (h : FVec F S8192x2048 .bf16) (s : FVec F S4x8192x128 .f32) (w : FVec F S2x2048x8192 .f32) : FVec F S8192x8192 .f32 :=
  Host.dotGeneral dot_S8192x2048_S2048x8192_S8192x8192_1_0_0_1_n_n none (mulf (extf .f32 h bitsLt_bf16_f32) (broadcastInDim S8192x2048 ![0, 1] bcast_S8192x1_S8192x2048_0_1 (broadcastInDim S8192x1 ![0] bcast_S8192_S8192x1_0 (Host.rsqrt (addf (Host.divf (Host.reduceAdd s (constant S_ .f32 0x00000000#32) reducesTo_S4x8192x128_S8192_d0_2 h_S_) (broadcastInDim S8192 ![] bcast_S_S8192 (constant S_ .f32 0x45000000#32))) (broadcastInDim S8192 ![] bcast_S_S8192 (constant S_ .f32 0x358637BD#32))))))) (shapeCast _ (extractStridedSlice S1x2048x8192 ![1, 0, 0] w slices_S2x2048x8192_S1x2048x8192_1_0_0) shapeCasts_S1x2048x8192_S2048x8192)

/-- The same of the sample rows. -/
def sampleRows {F : FTy → Type} [FloatOps F] (h : FVec F S8x2048 .bf16) (s : FVec F S4x8x128 .f32) (w : FVec F S2x2048x8192 .f32) : FVec F S8x8192 .f32 :=
  Host.dotGeneral dot_S8x2048_S2048x8192_S8x8192_1_0_0_1_n_n none (mulf (extf .f32 h bitsLt_bf16_f32) (broadcastInDim S8x2048 ![0, 1] bcast_S8x1_S8x2048_0_1 (broadcastInDim S8x1 ![0] bcast_S8_S8x1_0 (Host.rsqrt (addf (Host.divf (Host.reduceAdd s (constant S_ .f32 0x00000000#32) reducesTo_S4x8x128_S8_d0_2 h_S_) (broadcastInDim S8 ![] bcast_S_S8 (constant S_ .f32 0x45000000#32))) (broadcastInDim S8 ![] bcast_S_S8 (constant S_ .f32 0x358637BD#32))))))) (shapeCast _ (extractStridedSlice S1x2048x8192 ![1, 0, 0] w slices_S2x2048x8192_S1x2048x8192_1_0_0) shapeCasts_S1x2048x8192_S2048x8192)

/-- The reference's product at a row and a column. -/
theorem rows_at (h : FVec Ideal S8192x2048 .bf16) (s : FVec Ideal S4x8192x128 .f32) (w : FVec Ideal S2x2048x8192 .f32) (r : Fin 8192) (j : Fin 8192) :
    rows h s w (ix2 r j) = ∑ k : Fin 2048, h (ix2 r k) * Cert.Own.scale (∑ l : Fin 128, ∑ p : Fin 4, s (ix3 p r l)) * w (ix3 1 k j) := by
  pointwise [rows]
  rw [Cert.Own.sum_outer, zero_add]
  rfl

/-- The same of the sample rows. -/
theorem sampleRows_at (h : FVec Ideal S8x2048 .bf16) (s : FVec Ideal S4x8x128 .f32) (w : FVec Ideal S2x2048x8192 .f32) (r : Fin 8) (j : Fin 8192) :
    sampleRows h s w (ix2 r j) = ∑ k : Fin 2048, h (ix2 r k) * Cert.Own.scale (∑ l : Fin 128, ∑ p : Fin 4, s (ix3 p r l)) * w (ix3 1 k j) := by
  pointwise [sampleRows]
  rw [Cert.Own.sum_outer, zero_add]
  rfl

end Cert.InOddReferenceIdeal.Own

namespace Cert.InOddIdeal.Own

open Cert.InOddIdeal Cert.InOddIdeal.Gen

/-- The rounded weights are the weights. -/
theorem pay1_at (w : FVec Ideal S1x2048x1024 .f32) (k : Fin 2048) (j : Fin 1024) :
    k0_pay1 (F := Ideal) w (ix2 k j) = w (ix3 0 k j) := by
  pointwise [k0_pay1]

/-- What a point stores, at a row and a column of the block. -/
theorem pay3_at (x : FVec Ideal S1024x2048 .bf16) (w : FVec Ideal S2048x1024 .bf16) (s : FVec Ideal S4x1024x128 .f32) (r j : Fin 1024) :
    k0_pay3 (F := Ideal) x w s (ix2 r j) = (∑ k, x (ix2 r k) * w (ix2 k j)) * Cert.Own.scale (∑ l : Fin 128, ∑ p : Fin 4, s (ix3 p r l)) := by
  pointwise [k0_pay3]
  rfl

/-- What a sweep's first point stores of the sample rows. -/
theorem pay2_at (x : FVec Ideal S8x2048 .bf16) (w : FVec Ideal S2048x1024 .bf16) (s : FVec Ideal S4x8x128 .f32) (r : Fin 8) (j : Fin 1024) :
    k0_pay2 (F := Ideal) x w s (ix2 r j) = (∑ k, x (ix2 r k) * w (ix2 k j)) * Cert.Own.scale (∑ l : Fin 128, ∑ p : Fin 4, s (ix3 p r l)) := by
  pointwise [k0_pay2]
  rfl

/-- Where the windows' blocks lie. -/
theorem places : ∀ t : Fin cfg0.N, (win0_0.index t 0 = t.val % 8 ∧ win0_0.index t 1 = 0) ∧ (win0_1.index t 0 = 0 ∧ win0_1.index t 1 = 0)
    ∧ (win0_2.index t 0 = 1 ∧ win0_2.index t 1 = 0 ∧ win0_2.index t 2 = t.val / 8)
    ∧ (win0_3.index t 0 = 0 ∧ win0_3.index t 1 = t.val % 8 ∧ win0_3.index t 2 = 0)
    ∧ (win0_4.index t 0 = 0 ∧ win0_4.index t 1 = 0 ∧ win0_4.index t 2 = 0)
    ∧ (win0_5.index t 0 = t.val % 8 ∧ win0_5.index t 1 = t.val / 8) ∧ (win0_6.index t 0 = 0 ∧ win0_6.index t 1 = t.val / 8) := by
  decide +kernel

variable (m : (ℓ : Loc nD τ sig) → Buf (Elt Ideal) ℓ)

/-- The prompt's rows of a point. -/
theorem iblk_0 (c : Dev nD) (t : Fin cfg0.N) (r : Fin 1024) (k : Fin 2048) (i : Fin 8192) (hi : i.val = t.val % 8 * 1024 + r.val) :
    (iblk m c 0 t : Vec Ideal S1024x2048 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 1024 + 1 * r.val = i.val; omega
  | ⟨1, _⟩ => show win0_0.index t 1 * 2048 + 1 * k.val = k.val; omega

/-- The sample rows. -/
theorem iblk_1 (c : Dev nD) (t : Fin cfg0.N) (r : Fin 8) (k : Fin 2048) :
    (iblk m c 1 t : Vec Ideal S8x2048 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 2048 + 1 * k.val = k.val; omega

/-- The columns of the weights a point works with. -/
theorem iblk_2 (c : Dev nD) (t : Fin cfg0.N) (k : Fin 2048) (j : Fin 1024) (i : Fin 8192) (hi : i.val = t.val / 8 * 1024 + j.val) :
    (iblk m c 2 t : Vec Ideal S1x2048x1024 .f32) (ix3 0 k j) = m ((c : Thread nD τ).loc main_arg4) (ix3 1 k i) := by
  obtain ⟨-, -, ⟨h0, h1, h2⟩, -⟩ := places t
  unfold iblk
  rw [View.read_apply]
  show V m c main_arg4 _ = _
  rw [V_main_arg4]
  refine congrArg _ (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 1024 + 1 * j.val = i.val; omega

/-- The parts of the squares of a point's rows. -/
theorem iblk_3 (c : Dev nD) (t : Fin cfg0.N) (p : Fin 4) (r : Fin 1024) (l : Fin 128) (i : Fin 8192) (hi : i.val = t.val % 8 * 1024 + r.val) :
    (iblk m c 3 t : Vec Ideal S4x1024x128 .f32) (ix3 p r l) = m ((c : Thread nD τ).loc main_arg2) (ix3 p i l) := by
  obtain ⟨-, -, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_3.index t 0 * 4 + 1 * p.val = p.val; omega
  | ⟨1, _⟩ => show win0_3.index t 1 * 1024 + 1 * r.val = i.val; omega
  | ⟨2, _⟩ => show win0_3.index t 2 * 128 + 1 * l.val = l.val; omega

/-- The parts of the squares of the sample rows. -/
theorem iblk_4 (c : Dev nD) (t : Fin cfg0.N) (p : Fin 4) (r : Fin 8) (l : Fin 128) :
    (iblk m c 4 t : Vec Ideal S4x8x128 .f32) (ix3 p r l) = m ((c : Thread nD τ).loc main_arg3) (ix3 p r l) := by
  obtain ⟨-, -, -, -, ⟨h0, h1, h2⟩, -⟩ := places t
  unfold iblk
  rw [View.read_apply]
  show V m c main_arg3 _ = _
  rw [V_main_arg3]
  refine congrArg _ (funext fun a => Fin.ext ?_)
  match a with
  | ⟨0, _⟩ => show win0_4.index t 0 * 4 + 1 * p.val = p.val; omega
  | ⟨1, _⟩ => show win0_4.index t 1 * 8 + 1 * r.val = r.val; omega
  | ⟨2, _⟩ => show win0_4.index t 2 * 128 + 1 * l.val = l.val; omega

/-- The weights of a sweep, at a row and a column. -/
theorem wts_at (c : Dev nD) (t : Fin cfg0.N) (k : Fin 2048) (j : Fin 1024) (i : Fin 8192) (hi : i.val = t.val / 8 * 1024 + j.val) :
    (wts m c t : Vec Ideal S2048x1024 .bf16) (ix2 k j) = m ((c : Thread nD τ).loc main_arg4) (ix3 1 k i) :=
  (pay1_at _ k j).trans (iblk_2 m c (start t) k j i (by rw [hi]; simp only [start]; omega))

/-- The first result after the run is the reference's. -/
theorem result_0 (c : Dev nD) (h : ∀ i, (0 : EReal) ≤ m ((c : Thread nD τ).loc main_arg2) i) :
    (dats m 0 c).arrAt 5 cfg0.N = Cert.InOddReferenceIdeal.Own.rows (F := Ideal) (m ((c : Thread nD τ).loc main_arg0)) (m ((c : Thread nD τ).loc main_arg2)) (m ((c : Thread nD τ).loc main_arg4)) := by
  refine (dats m 0 c).arrAt_eq_of_covers 5 _ (by decide +kernel) fun t _ y => ?_
  obtain ⟨-, -, -, -, -, ⟨h0, h1⟩, -⟩ := places t
  have hy0 : (y 0).val < 1024 := (y 0).isLt
  have hy1 : (y 1).val < 1024 := (y 1).isLt
  have ht : t.val < 64 := t.isLt
  have e : ((cfg0.win 5).blk t).view.emb y = ix2 (⟨t.val % 8 * 1024 + (y 0).val, by omega⟩ : Fin 8192) (⟨t.val / 8 * 1024 + (y 1).val, by omega⟩ : Fin 8192) := by
    funext a; apply Fin.ext
    match a with
    | ⟨0, _⟩ => show win0_5.index t 0 * 1024 + 1 * (y 0).val = _; rw [h0]; simp
    | ⟨1, _⟩ => show win0_5.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  rw [e, Cert.InOddReferenceIdeal.Own.rows_at]
  show k0_pay3 (F := Ideal) (iblk m c 0 t) (wts m c t) (iblk m c 3 t) y = _
  refine (congrArg _ ey).trans ?_
  rw [pay3_at, ← Cert.Own.scaled_sum _ _ _ _ (Cert.Own.scale_real _ (Finset.sum_nonneg fun l _ => Finset.sum_nonneg fun p _ => h _))]
  refine congrArg₂ _ (Finset.sum_congr rfl fun k _ => congrArg₂ _ (iblk_0 m c t _ k _ rfl) (wts_at m c t k _ _ rfl)) (congrArg _ (Finset.sum_congr rfl fun l _ => Finset.sum_congr rfl fun p _ => iblk_3 m c t p _ l _ rfl))

/-- The second result after the run is the reference's. -/
theorem result_1 (c : Dev nD) (h : ∀ i, (0 : EReal) ≤ m ((c : Thread nD τ).loc main_arg3) i) :
    (dats m 0 c).arrAt 6 cfg0.N = Cert.InOddReferenceIdeal.Own.sampleRows (F := Ideal) (m ((c : Thread nD τ).loc main_arg1)) (m ((c : Thread nD τ).loc main_arg3)) (m ((c : Thread nD τ).loc main_arg4)) := by
  refine (dats m 0 c).arrAt_eq_of_covers 6 _ (by decide +kernel) fun t _ y => ?_
  obtain ⟨-, -, -, -, -, -, ⟨h0, h1⟩⟩ := places t
  have hy0 : (y 0).val < 8 := (y 0).isLt
  have hy1 : (y 1).val < 1024 := (y 1).isLt
  have ht : t.val < 64 := t.isLt
  have e : ((cfg0.win 6).blk t).view.emb y = ix2 (⟨(y 0).val, hy0⟩ : Fin 8) (⟨t.val / 8 * 1024 + (y 1).val, by omega⟩ : Fin 8192) := by
    funext a; apply Fin.ext
    match a with
    | ⟨0, _⟩ => show win0_6.index t 0 * 8 + 1 * (y 0).val = _; rw [h0]; simp
    | ⟨1, _⟩ => show win0_6.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  rw [e, Cert.InOddReferenceIdeal.Own.sampleRows_at]
  show k0_pay2 (F := Ideal) (iblk m c 1 (start t)) (wts m c t) (iblk m c 4 (start t)) y = _
  refine (congrArg _ ey).trans ?_
  rw [pay2_at, ← Cert.Own.scaled_sum _ _ _ _ (Cert.Own.scale_real _ (Finset.sum_nonneg fun l _ => Finset.sum_nonneg fun p _ => h _))]
  refine congrArg₂ _ (Finset.sum_congr rfl fun k _ => congrArg₂ _ (iblk_1 m c _ _ k) (wts_at m c t k _ _ rfl)) (congrArg _ (Finset.sum_congr rfl fun l _ => Finset.sum_congr rfl fun p _ => iblk_4 m c _ p _ l))

end Cert.InOddIdeal.Own

end
-- ==== Proof.InOddClaim.lean ====
/- The claims of the odd layers' input projection. -/
module

public import proofs.«01_k».proof.Defs
public import proofs.«01_k».proof.Proof.Gen.InOdd
public import proofs.«01_k».proof.Proof.InOddValue
public import Idealize.ShloMosaic.Lib.Quiescent
public import Idealize.ShloMosaic.Adequacy
public import Idealize.ShloMosaic.Init

@[expose] public section

noncomputable section

namespace Cert.InOddClaim

open Idealize.ShloMosaic Idealize.SL.Sem

/-- The program and its idealisation run the same pieces. -/
theorem defs₀_same : @Cert.InOdd.defs₀ Bits _ Cert.InOdd.Gen.facts = @Cert.InOddIdeal.defs₀ Bits _ Cert.InOddIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.InOdd.defs Bits _ Cert.InOdd.Gen.facts = @Cert.InOddIdeal.defs Bits _ Cert.InOddIdeal.Gen.facts :=
  congrArg (Pipeline.defs _) defs₀_same

/-- The program runs and keeps its arguments. -/
theorem kernel_runs : Cert.quiescent_InOdd (hInOdd := Cert.InOdd.Gen.facts) := by
  intro m g _
  rw [defs_same]
  exact Cert.InOddIdeal.Own.unchanged (F := Bits) m g

/-- The idealised program runs and keeps its arguments. -/
theorem ideal_runs : Cert.quiescent_InOddIdeal (hInOddIdeal := Cert.InOddIdeal.Gen.facts) := fun m g _ =>
  Cert.InOddIdeal.Own.unchanged (F := Ideal) m g

/-- The reference runs and keeps its arguments; it has no semaphores. -/
theorem reference_runs : Cert.quiescent_InOddReferenceIdeal (hInOddReferenceIdeal := Cert.InOddReferenceIdeal.Gen.facts) := fun m g _ =>
  (θ_run Cert.InOddReferenceIdeal.defs _ _).mono (fun r h => ⟨fun c => (h c).2.2, sem_eq_zero_of_no_sems (by decide) r.2⟩)
    (Cert.InOddReferenceIdeal.Value.run m g)

/-- Where no part of the squares is negative the kernel's results are the reference's. -/
theorem equal : Cert.algebraic_InOddIdeal_InOddReferenceIdeal_pre_in_odd_squares (hInOddIdeal := Cert.InOddIdeal.Gen.facts)
    (hInOddReferenceIdeal := Cert.InOddReferenceIdeal.Gen.facts) (hPre_in_odd_squares := Cert.Pre_in_odd_squares.facts) := by
  intro m g m' g' hpre hargs
  have hn := fun c => @Cert.Pre_in_odd_squares.parts_nonneg Cert.Pre_in_odd_squares.facts _ _ _ _ _ (hpre c)
  refine ⟨fun c => (Cert.InOddIdeal.Own.dats m 0 c).arrAt 5 Cert.InOddIdeal.cfg0.N, fun c => (Cert.InOddIdeal.Own.dats m 0 c).arrAt 6 Cert.InOddIdeal.cfg0.N, ?_, ?_⟩
  · exact (θ_run Cert.InOddIdeal.defs _ _).mono (fun r h c => ⟨(h.1 c).1 5, (h.1 c).1 6, h.2.1 c⟩)
      (θ_run_and ((θ_run Cert.InOddIdeal.defs _ _).mono (fun _ h => h.1) (Cert.InOddIdeal.Own.run m g)) (Cert.InOddIdeal.Own.unchanged (F := Ideal) m g))
  · refine (θ_run Cert.InOddReferenceIdeal.defs _ _).mono (fun r h c => ?_) (Cert.InOddReferenceIdeal.Value.run m' g')
    obtain ⟨h0, h1, hk⟩ := h c
    obtain ⟨a0, a1, a2, a3, a4⟩ := hargs c
    refine ⟨h0.trans ?_, h1.trans ?_, hk⟩
    · rw [a0, a2, a4]
      exact (Cert.InOddIdeal.Own.result_0 m c (hn c).1).symm
    · rw [a1, a3, a4]
      exact (Cert.InOddIdeal.Own.result_1 m c (hn c).2).symm

end Cert.InOddClaim

end
-- ==== Proof.InEvenBody.lean ====
/- The even layers' input product, point by point: what each run of the kernel body leaves in the scratch
   buffer and in the two output blocks, the pipeline's data built on that, and the run of the whole program. -/
module

public import proofs.«01_k».proof.Proof.Gen.InEvenIdeal.Skeleton
public import proofs.«01_k».proof.Proof.Gen.InEvenIdeal.Frame
public import proofs.«01_k».proof.Proof.Store
public import Idealize.ShloMosaic.Lib.Claim

@[expose] public section

set_option maxRecDepth 16384

noncomputable section

namespace Cert.InEvenIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InEvenIdeal.Gen

variable {F : FTy → Type} [FloatOps F]

local notation "𝕄" => MT nD τ sig Unit (Elt F) ℕ (UR sig nD τ) ℕ

/-- A point that begins a sweep over the row blocks: weights are rounded into the scratch buffer and the sample
    rows multiplied, then the point's own rows. -/
theorem body_first (c : Dev nD) (i : grid0.Coords) (arg2 : Memref sig .tc .vmem S1024x2048 .bf16) (harg2 : arg2.IsWhole)
    (arg3 : Memref sig .tc .vmem S8x2048 .bf16) (harg3 : arg3.IsWhole) (arg4 : Memref sig .tc .vmem S1x2048x1024 .f32) (harg4 : arg4.IsWhole)
    (arg5 : Memref sig .tc .vmem S4x1024x128 .f32) (harg5 : arg5.IsWhole) (arg6 : Memref sig .tc .vmem S4x8x128 .f32) (harg6 : arg6.IsWhole)
    (arg7 : Memref sig .tc .vmem S1024x1024 .f32) (harg7 : arg7.IsWhole) (arg8 : Memref sig .tc .vmem S8x1024 .f32) (harg8 : arg8.IsWhole)
    (arg9 : Memref sig .tc .vmem S2048x1024 .bf16) (harg9 : arg9.IsWhole) (hc : k0_cond1 i = 1#1)
    (x0 : Vec F S1024x2048 .bf16) (x1 : Vec F S8x2048 .bf16) (x2 : Vec F S1x2048x1024 .f32) (x3 : Vec F S4x1024x128 .f32) (x4 : Vec F S4x8x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 x0 (k0_pay1 x2) x3) ∗ owns (c : Thread nD τ) arg8 fullShare (k0_pay2 x1 (k0_pay1 x2) x4)
            ∗ owns (c : Thread nD τ) arg9 fullShare (k0_pay1 x2)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iapply (Cert.Own.owns_store c arg7 _ _ (by decide) _ _ ?_) $$ H7
    sl_unfold_words
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H8]
  · iapply (Cert.Own.owns_store c arg8 _ _ (by decide) _ _ ?_) $$ H8
    sl_unfold_words
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  sl_unfold_words
  iapply (Cert.Own.owns_store c arg9 _ _ (by decide) _ _ ?_) $$ H9
  simp only [View.readAt_eq_ld, harg4.read_unread]
  rw [View.ld_unit_lit _ x2 (by decide)]

/-- Any other point of a sweep: the point's own rows times the rounded weights of the scratch buffer. -/
theorem body_next (c : Dev nD) (i : grid0.Coords) (arg2 : Memref sig .tc .vmem S1024x2048 .bf16) (harg2 : arg2.IsWhole)
    (arg3 : Memref sig .tc .vmem S8x2048 .bf16) (harg3 : arg3.IsWhole) (arg4 : Memref sig .tc .vmem S1x2048x1024 .f32) (harg4 : arg4.IsWhole)
    (arg5 : Memref sig .tc .vmem S4x1024x128 .f32) (harg5 : arg5.IsWhole) (arg6 : Memref sig .tc .vmem S4x8x128 .f32) (harg6 : arg6.IsWhole)
    (arg7 : Memref sig .tc .vmem S1024x1024 .f32) (harg7 : arg7.IsWhole) (arg8 : Memref sig .tc .vmem S8x1024 .f32) (harg8 : arg8.IsWhole)
    (arg9 : Memref sig .tc .vmem S2048x1024 .bf16) (harg9 : arg9.IsWhole) (hc : ¬k0_cond1 i = 1#1)
    (x0 : Vec F S1024x2048 .bf16) (x3 : Vec F S4x1024x128 .f32) (w : Vec F S2048x1024 .bf16)
    (K : PUnit → sProp 𝕄) :
    iprop(owns (c : Thread nD τ) arg2 fullShare x0 ∗ owns (c : Thread nD τ) arg5 fullShare x3
        ∗ (∃ d, owns (c : Thread nD τ) arg7 fullShare d) ∗ owns (c : Thread nD τ) arg9 fullShare w
        ∗ (iprop(owns (c : Thread nD τ) arg2 fullShare x0 ∗ owns (c : Thread nD τ) arg5 fullShare x3
            ∗ owns (c : Thread nD τ) arg7 fullShare (k0_pay3 x0 w x3) ∗ owns (c : Thread nD τ) arg9 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f3, %hf3, H3⟩, ⟨%d7, %f7, -, H7⟩, ⟨%f9, %hf9, H9⟩, Hk⟩
  obtain rfl := harg2.eq_unread hf0; obtain rfl := harg5.eq_unread hf3; obtain rfl := harg9.eq_unread hf9
  sl_exec (disch := sl_exact hc)
  sl_step
  iapply Hk
  isplitl [H0]
  · iexists _; isplitr; · ipureintro; exact harg2.read_unread _
    iexact H0
  isplitl [H3]
  · iexists _; isplitr; · ipureintro; exact harg5.read_unread _
    iexact H3
  isplitl [H7]
  · iapply (Cert.Own.owns_store c arg7 _ _ (by decide) _ _ ?_) $$ H7
    sl_unfold_words
    simp only [View.readAt_eq_ld, harg2.read_unread, harg5.read_unread, harg9.read_unread]
    rw [View.ld_unit_lit _ x0 (by decide), View.ld_unit_lit _ w (by decide), View.ld_unit_lit _ x3 (by decide)]
  iexists _; isplitr; · ipureintro; exact harg9.read_unread _
  iexact H9

/-! ## The pipeline's data -/

/-- The body's condition holds at the first point of each sweep of eight. -/
theorem cond_iff : ∀ t : Fin cfg0.N, k0_cond1 (grid0.coords t) = 1#1 ↔ t.val % 8 = 0 := by decide +kernel

/-- The first point of the sweep `t` belongs to. -/
def start (t : Fin cfg0.N) : Fin cfg0.N := ⟨t.val - t.val % 8, lt_of_le_of_lt (Nat.sub_le _ _) t.isLt⟩

theorem start_first (t : Fin cfg0.N) (h : t.val % 8 = 0) : start t = t := Fin.ext (by simp only [start]; omega)

theorem start_pred (t : Fin cfg0.N) (h : ¬t.val % 8 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S2048x1024 .bf16 := k0_pay1 (iblk m c 2 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the first result the product of the point's
    rows, the second the product of the sample rows, made at the sweep's first point and kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (wts m c t) (iblk m c 3 t)
    | ⟨6, _⟩ => k0_pay2 (iblk m c 1 (start t)) (wts m c t) (iblk m c 4 (start t))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d

/-- The second result's block is kept where nothing is stored into it. -/
theorem kept_6 (c : Dev nD) (t : Fin cfg0.N) (h : ¬t.val % 8 = 0) :
    iprop(∃ d, owns (c : Thread nD τ) (st0_6 t) fullShare ((dats m 0 c).before 6 t d)) ⊢ (dats m 0 c).leavesExact 6 t :=
  Cert.Own.retained (dats m 0 c) 6 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 6 (grid0.coords t) = true) t h)
    (fun _ => by simpa using h)

/-! ## The body at a point -/

set_option maxHeartbeats 1600000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t
        ∗ (dats m 0 c).leavesExact 4 t ∗ (dats m 0 c).leavesExact 5 t ∗ (dats m 0 c).leavesExact 6 t)) := by
  unfold bodyAt0
  simp only [before_0, before_1, before_2, before_3, before_4]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (k0_pay3 (iblk m c 0 t) (wts m c t) (iblk m c 3 t)) from rfl]
  by_cases h : t.val % 8 = 0
  · have e6 : (dats m 0 c).leavesExact 6 t = owns (c : Thread nD τ) (st0_6 t) fullShare (k0_pay2 (iblk m c 1 t) (wts m c t) (iblk m c 4 t)) := by
      unfold Dat.leavesExact
      rw [(by decide +kernel : ∀ t : Fin cfg0.N, t.val % 8 = 0 → cfg0.idle 6 (grid0.coords t) = false) t h]
      dsimp only [dats]; rw [start_first t h]
    rw [e6, show wts m c t = k0_pay1 (iblk m c 2 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩⟩
    ihave ⟨HS, Hg⟩ := key $$ HΦ
    iapply (body_first c (grid0.coords t) _ _ _ _ _ _ _ _ _ _ _ _ _ _ _ _ ((cond_iff t).mpr h)
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, H6⟩
    iapply (body_next c (grid0.coords t) _ _ _ _ _ _ _ _ _ _ _ _ _ _ _ _ (fun e => h ((cond_iff t).mp e))
      (iblk m c 0 t) (iblk m c 3 t) (wts m c t) _)
    isplitl [H0]; · iexact H0
    isplitl [H3]; · iexact H3
    isplitl [H5]; · iexists _; iexact H5
    isplitl [HS]; · iexact HS
    iintro ⟨H0, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (kept_6 m c t h) $$ H6

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.InEvenIdeal.Own

end
-- ==== Proof.InEvenValue.lean ====
/- The value of the even layers' input projection: under the precondition that the parts of the squares are not negative
   both results are the reference's, the normalised rows times the layer's weights. -/
module

public import proofs.«01_k».proof.Proof.InEvenBody
public import proofs.«01_k».proof.Proof.Scale
public import proofs.«01_k».proof.Proof.Gen.InEvenReferenceIdeal.Run
public import proofs.«01_k».proof.Pre_in_even_squares
public import Idealize.ShloMosaic.Lib.Pipeline.ValueKit.Geometry

@[expose] public section

noncomputable section

open Idealize.ShloMosaic Idealize.ShloMosaic.TcCoe Idealize.SL.Sem Idealize.ShloMosaic.Pipeline

namespace Cert.Pre_in_even_squares

/-- The shape relations of the precondition's operations. -/
theorem facts : Facts := ⟨by decide, by decide, by decide, by decide, by decide⟩

/-- Under the precondition no part of the squares is negative. -/
theorem parts_nonneg [Facts] (h : FVec Ideal S8192x2048 .bf16) (hs : FVec Ideal S8x2048 .bf16) (s : FVec Ideal S4x8192x128 .f32)
    (ss : FVec Ideal S4x8x128 .f32) (w : FVec Ideal S2x2048x7168 .f32) (e : fn h hs s ss w = fun _ => 1#1) :
    (∀ i, 0 ≤ s i) ∧ ∀ i, 0 ≤ ss i := by
  have e := congrFun e ix0
  obtain ⟨e1, e2⟩ := IntOp.andi_eq_one.1 (show IntOp.andi _ _ = 1#1 from e)
  have : Subsingleton S_.Idx := ⟨fun a b => funext fun i => i.elim0⟩
  exact ⟨fun i => Cert.Own.nonneg_of_cmp _ (Host.reduce_andi_all _ _ _ _ _ e1 i), fun i => Cert.Own.nonneg_of_cmp _ (Host.reduce_andi_all _ _ _ _ _ e2 i)⟩

end Cert.Pre_in_even_squares

namespace Cert.InEvenReferenceIdeal.Own

open Cert.InEvenReferenceIdeal Cert.InEvenReferenceIdeal.Gen

/-- The reference's product of the normalised rows of the prompt with the layer's weights. -/
def rows {F : FTy → Type} [FloatOps F] (h : FVec F S8192x2048 .bf16) (s : FVec F S4x8192x128 .f32) (w : FVec F S2x2048x7168 .f32) : FVec F S8192x7168 .f32 :=
  Host.dotGeneral dot_S8192x2048_S2048x7168_S8192x7168_1_0_0_1_n_n none (mulf (extf .f32 h bitsLt_bf16_f32) (broadcastInDim S8192x2048 ![0, 1] bcast_S8192x1_S8192x2048_0_1 (broadcastInDim S8192x1 ![0] bcast_S8192_S8192x1_0 (Host.rsqrt (addf (Host.divf (Host.reduceAdd s (constant S_ .f32 0x00000000#32) reducesTo_S4x8192x128_S8192_d0_2 h_S_) (broadcastInDim S8192 ![] bcast_S_S8192 (constant S_ .f32 0x45000000#32))) (broadcastInDim S8192 ![] bcast_S_S8192 (constant S_ .f32 0x358637BD#32))))))) (shapeCast _ (extractStridedSlice S1x2048x7168 ![1, 0, 0] w slices_S2x2048x7168_S1x2048x7168_1_0_0) shapeCasts_S1x2048x7168_S2048x7168)

/-- The same of the sample rows. -/
def sampleRows {F : FTy → Type} [FloatOps F] (h : FVec F S8x2048 .bf16) (s : FVec F S4x8x128 .f32) (w : FVec F S2x2048x7168 .f32) : FVec F S8x7168 .f32 :=
  Host.dotGeneral dot_S8x2048_S2048x7168_S8x7168_1_0_0_1_n_n none (mulf (extf .f32 h bitsLt_bf16_f32) (broadcastInDim S8x2048 ![0, 1] bcast_S8x1_S8x2048_0_1 (broadcastInDim S8x1 ![0] bcast_S8_S8x1_0 (Host.rsqrt (addf (Host.divf (Host.reduceAdd s (constant S_ .f32 0x00000000#32) reducesTo_S4x8x128_S8_d0_2 h_S_) (broadcastInDim S8 ![] bcast_S_S8 (constant S_ .f32 0x45000000#32))) (broadcastInDim S8 ![] bcast_S_S8 (constant S_ .f32 0x358637BD#32))))))) (shapeCast _ (extractStridedSlice S1x2048x7168 ![1, 0, 0] w slices_S2x2048x7168_S1x2048x7168_1_0_0) shapeCasts_S1x2048x7168_S2048x7168)

/-- The reference's product at a row and a column. -/
theorem rows_at (h : FVec Ideal S8192x2048 .bf16) (s : FVec Ideal S4x8192x128 .f32) (w : FVec Ideal S2x2048x7168 .f32) (r : Fin 8192) (j : Fin 7168) :
    rows h s w (ix2 r j) = ∑ k : Fin 2048, h (ix2 r k) * Cert.Own.scale (∑ l : Fin 128, ∑ p : Fin 4, s (ix3 p r l)) * w (ix3 1 k j) := by
  pointwise [rows]
  rw [Cert.Own.sum_outer, zero_add]
  rfl

/-- The same of the sample rows. -/
theorem sampleRows_at (h : FVec Ideal S8x2048 .bf16) (s : FVec Ideal S4x8x128 .f32) (w : FVec Ideal S2x2048x7168 .f32) (r : Fin 8) (j : Fin 7168) :
    sampleRows h s w (ix2 r j) = ∑ k : Fin 2048, h (ix2 r k) * Cert.Own.scale (∑ l : Fin 128, ∑ p : Fin 4, s (ix3 p r l)) * w (ix3 1 k j) := by
  pointwise [sampleRows]
  rw [Cert.Own.sum_outer, zero_add]
  rfl

end Cert.InEvenReferenceIdeal.Own

namespace Cert.InEvenIdeal.Own

open Cert.InEvenIdeal Cert.InEvenIdeal.Gen

/-- The rounded weights are the weights. -/
theorem pay1_at (w : FVec Ideal S1x2048x1024 .f32) (k : Fin 2048) (j : Fin 1024) :
    k0_pay1 (F := Ideal) w (ix2 k j) = w (ix3 0 k j) := by
  pointwise [k0_pay1]

/-- What a point stores, at a row and a column of the block. -/
theorem pay3_at (x : FVec Ideal S1024x2048 .bf16) (w : FVec Ideal S2048x1024 .bf16) (s : FVec Ideal S4x1024x128 .f32) (r j : Fin 1024) :
    k0_pay3 (F := Ideal) x w s (ix2 r j) = (∑ k, x (ix2 r k) * w (ix2 k j)) * Cert.Own.scale (∑ l : Fin 128, ∑ p : Fin 4, s (ix3 p r l)) := by
  pointwise [k0_pay3]
  rfl

/-- What a sweep's first point stores of the sample rows. -/
theorem pay2_at (x : FVec Ideal S8x2048 .bf16) (w : FVec Ideal S2048x1024 .bf16) (s : FVec Ideal S4x8x128 .f32) (r : Fin 8) (j : Fin 1024) :
    k0_pay2 (F := Ideal) x w s (ix2 r j) = (∑ k, x (ix2 r k) * w (ix2 k j)) * Cert.Own.scale (∑ l : Fin 128, ∑ p : Fin 4, s (ix3 p r l)) := by
  pointwise [k0_pay2]
  rfl

/-- Where the windows' blocks lie. -/
theorem places : ∀ t : Fin cfg0.N, (win0_0.index t 0 = t.val % 8 ∧ win0_0.index t 1 = 0) ∧ (win0_1.index t 0 = 0 ∧ win0_1.index t 1 = 0)
    ∧ (win0_2.index t 0 = 1 ∧ win0_2.index t 1 = 0 ∧ win0_2.index t 2 = t.val / 8)
    ∧ (win0_3.index t 0 = 0 ∧ win0_3.index t 1 = t.val % 8 ∧ win0_3.index t 2 = 0)
    ∧ (win0_4.index t 0 = 0 ∧ win0_4.index t 1 = 0 ∧ win0_4.index t 2 = 0)
    ∧ (win0_5.index t 0 = t.val % 8 ∧ win0_5.index t 1 = t.val / 8) ∧ (win0_6.index t 0 = 0 ∧ win0_6.index t 1 = t.val / 8) := by
  decide +kernel

variable (m : (ℓ : Loc nD τ sig) → Buf (Elt Ideal) ℓ)

/-- The prompt's rows of a point. -/
theorem iblk_0 (c : Dev nD) (t : Fin cfg0.N) (r : Fin 1024) (k : Fin 2048) (i : Fin 8192) (hi : i.val = t.val % 8 * 1024 + r.val) :
    (iblk m c 0 t : Vec Ideal S1024x2048 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 1024 + 1 * r.val = i.val; omega
  | ⟨1, _⟩ => show win0_0.index t 1 * 2048 + 1 * k.val = k.val; omega

/-- The sample rows. -/
theorem iblk_1 (c : Dev nD) (t : Fin cfg0.N) (r : Fin 8) (k : Fin 2048) :
    (iblk m c 1 t : Vec Ideal S8x2048 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 2048 + 1 * k.val = k.val; omega

/-- The columns of the weights a point works with. -/
theorem iblk_2 (c : Dev nD) (t : Fin cfg0.N) (k : Fin 2048) (j : Fin 1024) (i : Fin 7168) (hi : i.val = t.val / 8 * 1024 + j.val) :
    (iblk m c 2 t : Vec Ideal S1x2048x1024 .f32) (ix3 0 k j) = m ((c : Thread nD τ).loc main_arg4) (ix3 1 k i) := by
  obtain ⟨-, -, ⟨h0, h1, h2⟩, -⟩ := places t
  unfold iblk
  rw [View.read_apply]
  show V m c main_arg4 _ = _
  rw [V_main_arg4]
  refine congrArg _ (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 1024 + 1 * j.val = i.val; omega

/-- The parts of the squares of a point's rows. -/
theorem iblk_3 (c : Dev nD) (t : Fin cfg0.N) (p : Fin 4) (r : Fin 1024) (l : Fin 128) (i : Fin 8192) (hi : i.val = t.val % 8 * 1024 + r.val) :
    (iblk m c 3 t : Vec Ideal S4x1024x128 .f32) (ix3 p r l) = m ((c : Thread nD τ).loc main_arg2) (ix3 p i l) := by
  obtain ⟨-, -, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_3.index t 0 * 4 + 1 * p.val = p.val; omega
  | ⟨1, _⟩ => show win0_3.index t 1 * 1024 + 1 * r.val = i.val; omega
  | ⟨2, _⟩ => show win0_3.index t 2 * 128 + 1 * l.val = l.val; omega

/-- The parts of the squares of the sample rows. -/
theorem iblk_4 (c : Dev nD) (t : Fin cfg0.N) (p : Fin 4) (r : Fin 8) (l : Fin 128) :
    (iblk m c 4 t : Vec Ideal S4x8x128 .f32) (ix3 p r l) = m ((c : Thread nD τ).loc main_arg3) (ix3 p r l) := by
  obtain ⟨-, -, -, -, ⟨h0, h1, h2⟩, -⟩ := places t
  unfold iblk
  rw [View.read_apply]
  show V m c main_arg3 _ = _
  rw [V_main_arg3]
  refine congrArg _ (funext fun a => Fin.ext ?_)
  match a with
  | ⟨0, _⟩ => show win0_4.index t 0 * 4 + 1 * p.val = p.val; omega
  | ⟨1, _⟩ => show win0_4.index t 1 * 8 + 1 * r.val = r.val; omega
  | ⟨2, _⟩ => show win0_4.index t 2 * 128 + 1 * l.val = l.val; omega

/-- The weights of a sweep, at a row and a column. -/
theorem wts_at (c : Dev nD) (t : Fin cfg0.N) (k : Fin 2048) (j : Fin 1024) (i : Fin 7168) (hi : i.val = t.val / 8 * 1024 + j.val) :
    (wts m c t : Vec Ideal S2048x1024 .bf16) (ix2 k j) = m ((c : Thread nD τ).loc main_arg4) (ix3 1 k i) :=
  (pay1_at _ k j).trans (iblk_2 m c (start t) k j i (by rw [hi]; simp only [start]; omega))

/-- The first result after the run is the reference's. -/
theorem result_0 (c : Dev nD) (h : ∀ i, (0 : EReal) ≤ m ((c : Thread nD τ).loc main_arg2) i) :
    (dats m 0 c).arrAt 5 cfg0.N = Cert.InEvenReferenceIdeal.Own.rows (F := Ideal) (m ((c : Thread nD τ).loc main_arg0)) (m ((c : Thread nD τ).loc main_arg2)) (m ((c : Thread nD τ).loc main_arg4)) := by
  refine (dats m 0 c).arrAt_eq_of_covers 5 _ (by decide +kernel) fun t _ y => ?_
  obtain ⟨-, -, -, -, -, ⟨h0, h1⟩, -⟩ := places t
  have hy0 : (y 0).val < 1024 := (y 0).isLt
  have hy1 : (y 1).val < 1024 := (y 1).isLt
  have ht : t.val < 56 := t.isLt
  have e : ((cfg0.win 5).blk t).view.emb y = ix2 (⟨t.val % 8 * 1024 + (y 0).val, by omega⟩ : Fin 8192) (⟨t.val / 8 * 1024 + (y 1).val, by omega⟩ : Fin 7168) := by
    funext a; apply Fin.ext
    match a with
    | ⟨0, _⟩ => show win0_5.index t 0 * 1024 + 1 * (y 0).val = _; rw [h0]; simp
    | ⟨1, _⟩ => show win0_5.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  rw [e, Cert.InEvenReferenceIdeal.Own.rows_at]
  show k0_pay3 (F := Ideal) (iblk m c 0 t) (wts m c t) (iblk m c 3 t) y = _
  refine (congrArg _ ey).trans ?_
  rw [pay3_at, ← Cert.Own.scaled_sum _ _ _ _ (Cert.Own.scale_real _ (Finset.sum_nonneg fun l _ => Finset.sum_nonneg fun p _ => h _))]
  refine congrArg₂ _ (Finset.sum_congr rfl fun k _ => congrArg₂ _ (iblk_0 m c t _ k _ rfl) (wts_at m c t k _ _ rfl)) (congrArg _ (Finset.sum_congr rfl fun l _ => Finset.sum_congr rfl fun p _ => iblk_3 m c t p _ l _ rfl))

/-- The second result after the run is the reference's. -/
theorem result_1 (c : Dev nD) (h : ∀ i, (0 : EReal) ≤ m ((c : Thread nD τ).loc main_arg3) i) :
    (dats m 0 c).arrAt 6 cfg0.N = Cert.InEvenReferenceIdeal.Own.sampleRows (F := Ideal) (m ((c : Thread nD τ).loc main_arg1)) (m ((c : Thread nD τ).loc main_arg3)) (m ((c : Thread nD τ).loc main_arg4)) := by
  refine (dats m 0 c).arrAt_eq_of_covers 6 _ (by decide +kernel) fun t _ y => ?_
  obtain ⟨-, -, -, -, -, -, ⟨h0, h1⟩⟩ := places t
  have hy0 : (y 0).val < 8 := (y 0).isLt
  have hy1 : (y 1).val < 1024 := (y 1).isLt
  have ht : t.val < 56 := t.isLt
  have e : ((cfg0.win 6).blk t).view.emb y = ix2 (⟨(y 0).val, hy0⟩ : Fin 8) (⟨t.val / 8 * 1024 + (y 1).val, by omega⟩ : Fin 7168) := by
    funext a; apply Fin.ext
    match a with
    | ⟨0, _⟩ => show win0_6.index t 0 * 8 + 1 * (y 0).val = _; rw [h0]; simp
    | ⟨1, _⟩ => show win0_6.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  rw [e, Cert.InEvenReferenceIdeal.Own.sampleRows_at]
  show k0_pay2 (F := Ideal) (iblk m c 1 (start t)) (wts m c t) (iblk m c 4 (start t)) y = _
  refine (congrArg _ ey).trans ?_
  rw [pay2_at, ← Cert.Own.scaled_sum _ _ _ _ (Cert.Own.scale_real _ (Finset.sum_nonneg fun l _ => Finset.sum_nonneg fun p _ => h _))]
  refine congrArg₂ _ (Finset.sum_congr rfl fun k _ => congrArg₂ _ (iblk_1 m c _ _ k) (wts_at m c t k _ _ rfl)) (congrArg _ (Finset.sum_congr rfl fun l _ => Finset.sum_congr rfl fun p _ => iblk_4 m c _ p _ l))

end Cert.InEvenIdeal.Own

end
-- ==== Proof.InEvenClaim.lean ====
/- The claims of the even layers' input projection. -/
module

public import proofs.«01_k».proof.Defs
public import proofs.«01_k».proof.Proof.Gen.InEven
public import proofs.«01_k».proof.Proof.InEvenValue
public import Idealize.ShloMosaic.Lib.Quiescent
public import Idealize.ShloMosaic.Adequacy
public import Idealize.ShloMosaic.Init

@[expose] public section

noncomputable section

namespace Cert.InEvenClaim

open Idealize.ShloMosaic Idealize.SL.Sem

/-- The program and its idealisation run the same pieces. -/
theorem defs₀_same : @Cert.InEven.defs₀ Bits _ Cert.InEven.Gen.facts = @Cert.InEvenIdeal.defs₀ Bits _ Cert.InEvenIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.InEven.defs Bits _ Cert.InEven.Gen.facts = @Cert.InEvenIdeal.defs Bits _ Cert.InEvenIdeal.Gen.facts :=
  congrArg (Pipeline.defs _) defs₀_same

/-- The program runs and keeps its arguments. -/
theorem kernel_runs : Cert.quiescent_InEven (hInEven := Cert.InEven.Gen.facts) := by
  intro m g _
  rw [defs_same]
  exact Cert.InEvenIdeal.Own.unchanged (F := Bits) m g

/-- The idealised program runs and keeps its arguments. -/
theorem ideal_runs : Cert.quiescent_InEvenIdeal (hInEvenIdeal := Cert.InEvenIdeal.Gen.facts) := fun m g _ =>
  Cert.InEvenIdeal.Own.unchanged (F := Ideal) m g

/-- The reference runs and keeps its arguments; it has no semaphores. -/
theorem reference_runs : Cert.quiescent_InEvenReferenceIdeal (hInEvenReferenceIdeal := Cert.InEvenReferenceIdeal.Gen.facts) := fun m g _ =>
  (θ_run Cert.InEvenReferenceIdeal.defs _ _).mono (fun r h => ⟨fun c => (h c).2.2, sem_eq_zero_of_no_sems (by decide) r.2⟩)
    (Cert.InEvenReferenceIdeal.Value.run m g)

/-- Where no part of the squares is negative the kernel's results are the reference's. -/
theorem equal : Cert.algebraic_InEvenIdeal_InEvenReferenceIdeal_pre_in_even_squares (hInEvenIdeal := Cert.InEvenIdeal.Gen.facts)
    (hInEvenReferenceIdeal := Cert.InEvenReferenceIdeal.Gen.facts) (hPre_in_even_squares := Cert.Pre_in_even_squares.facts) := by
  intro m g m' g' hpre hargs
  have hn := fun c => @Cert.Pre_in_even_squares.parts_nonneg Cert.Pre_in_even_squares.facts _ _ _ _ _ (hpre c)
  refine ⟨fun c => (Cert.InEvenIdeal.Own.dats m 0 c).arrAt 5 Cert.InEvenIdeal.cfg0.N, fun c => (Cert.InEvenIdeal.Own.dats m 0 c).arrAt 6 Cert.InEvenIdeal.cfg0.N, ?_, ?_⟩
  · exact (θ_run Cert.InEvenIdeal.defs _ _).mono (fun r h c => ⟨(h.1 c).1 5, (h.1 c).1 6, h.2.1 c⟩)
      (θ_run_and ((θ_run Cert.InEvenIdeal.defs _ _).mono (fun _ h => h.1) (Cert.InEvenIdeal.Own.run m g)) (Cert.InEvenIdeal.Own.unchanged (F := Ideal) m g))
  · refine (θ_run Cert.InEvenReferenceIdeal.defs _ _).mono (fun r h c => ?_) (Cert.InEvenReferenceIdeal.Value.run m' g')
    obtain ⟨h0, h1, hk⟩ := h c
    obtain ⟨a0, a1, a2, a3, a4⟩ := hargs c
    refine ⟨h0.trans ?_, h1.trans ?_, hk⟩
    · rw [a0, a2, a4]
      exact (Cert.InEvenIdeal.Own.result_0 m c (hn c).1).symm
    · rw [a1, a3, a4]
      exact (Cert.InEvenIdeal.Own.result_1 m c (hn c).2).symm

end Cert.InEvenClaim

end
-- ==== Proof.FfnOutBody.lean ====
/- The product that ends the feed-forward layer,
   point by point: what each run of the kernel body leaves in the scratch buffer and in the six output blocks, the
   pipeline's data built on that, and the run of the whole program. -/
module

public import proofs.«01_k».proof.Proof.Gen.FfnOutIdeal.Skeleton
public import proofs.«01_k».proof.Proof.Gen.FfnOutIdeal.Frame
public import proofs.«01_k».proof.Proof.Store
public import Idealize.ShloMosaic.Lib.Claim

@[expose] public section

set_option maxRecDepth 16384

noncomputable section

namespace Cert.FfnOutIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnOutIdeal.Gen

variable {F : FTy → Type} [FloatOps F]

local notation "𝕄" => MT nD τ sig Unit (Elt F) ℕ (UR sig nD τ) ℕ

set_option maxHeartbeats 1600000 in
/-- A point that begins a sweep over the row blocks: the weights are rounded into the scratch buffer and the sample
    rows are multiplied, then the point's own rows. -/
theorem body_first (c : Dev nD) (i : grid0.Coords) (arg2 : Memref sig .tc .vmem S512x5632 .bf16) (harg2 : arg2.IsWhole) (arg3 : Memref sig .tc .vmem S8x5632 .bf16) (harg3 : arg3.IsWhole)
    (arg4 : Memref sig .tc .vmem S1x5632x512 .f32) (harg4 : arg4.IsWhole) (arg5 : Memref sig .tc .vmem S512x512 .f32) (harg5 : arg5.IsWhole)
    (arg6 : Memref sig .tc .vmem S8x512 .f32) (harg6 : arg6.IsWhole) (arg7 : Memref sig .tc .vmem S1x1x512 .f32) (harg7 : arg7.IsWhole)
    (arg8 : Memref sig .tc .vmem S512x512 .f32) (harg8 : arg8.IsWhole) (arg9 : Memref sig .tc .vmem S8x512 .f32) (harg9 : arg9.IsWhole)
    (arg10 : Memref sig .tc .vmem S512x512 .bf16) (harg10 : arg10.IsWhole) (arg11 : Memref sig .tc .vmem S8x512 .bf16) (harg11 : arg11.IsWhole)
    (arg12 : Memref sig .tc .vmem S1x512x128 .f32) (harg12 : arg12.IsWhole) (arg13 : Memref sig .tc .vmem S1x8x128 .f32) (harg13 : arg13.IsWhole)
    (arg14 : Memref sig .tc .vmem S5632x512 .bf16) (harg14 : arg14.IsWhole) (hc : k0_cond1 i = 1#1)
    (x0 : Vec F S512x5632 .bf16) (x1 : Vec F S8x5632 .bf16) (x2 : Vec F S1x5632x512 .f32) (x3 : Vec F S512x512 .f32) (x4 : Vec F S8x512 .f32) (x5 : Vec F S1x1x512 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay5 x0 (k0_pay1 x2) x3)
            ∗ owns (c : Thread nD τ) arg9 fullShare (k0_pay2 x1 (k0_pay1 x2) x4)
            ∗ owns (c : Thread nD τ) arg10 fullShare (k0_pay6 x0 (k0_pay1 x2) x3 x5)
            ∗ owns (c : Thread nD τ) arg11 fullShare (k0_pay3 x1 (k0_pay1 x2) x4 x5)
            ∗ owns (c : Thread nD τ) arg12 fullShare (k0_pay7 x0 (k0_pay1 x2) x3)
            ∗ owns (c : Thread nD τ) arg13 fullShare (k0_pay4 x1 (k0_pay1 x2) x4)
            ∗ owns (c : Thread nD τ) arg14 fullShare (k0_pay1 x2)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9 arg10 harg10 arg11 harg11 arg12 harg12 arg13 harg13 arg14 harg14) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := sl_exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iapply (Cert.Own.owns_store c arg8 _ _ (by decide) _ _ ?_) $$ H6
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H7]
  · iapply (Cert.Own.owns_store c arg9 _ _ (by decide) _ _ ?_) $$ H7
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  isplitl [H8]
  · iapply (Cert.Own.owns_store c arg10 _ _ (by decide) _ _ ?_) $$ H8
    simp only [View.readAt_eq_ld, harg2.read_unread, harg4.read_unread, harg5.read_unread, harg7.read_unread]
    rw [View.readCov_unit_lit _ _ _ (by decide), View.ld_unit_lit _ x0 (by decide), View.ld_unit_lit _ x2 (by decide), View.ld_unit_lit _ x3 (by decide), View.ld_unit_lit _ x5 (by decide)]
  isplitl [H9]
  · iapply (Cert.Own.owns_store c arg11 _ _ (by decide) _ _ ?_) $$ H9
    simp only [View.readAt_eq_ld, harg3.read_unread, harg4.read_unread, harg6.read_unread, harg7.read_unread]
    rw [View.readCov_unit_lit _ _ _ (by decide), View.ld_unit_lit _ x1 (by decide), View.ld_unit_lit _ x2 (by decide), View.ld_unit_lit _ x4 (by decide), View.ld_unit_lit _ x5 (by decide)]
  isplitl [H10]
  · iapply (Cert.Own.owns_store c arg12 _ _ (by decide) _ _ ?_) $$ H10
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H11]
  · iapply (Cert.Own.owns_store c arg13 _ _ (by decide) _ _ ?_) $$ H11
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  iapply (Cert.Own.owns_store c arg14 _ _ (by decide) _ _ ?_) $$ HS
  simp only [View.readAt_eq_ld, harg4.read_unread]
  rw [View.ld_unit_lit _ x2 (by decide)]

set_option maxHeartbeats 1600000 in
/-- Any other point of a sweep: the point's own rows times the rounded weights of the scratch buffer. -/
theorem body_next (c : Dev nD) (i : grid0.Coords) (arg2 : Memref sig .tc .vmem S512x5632 .bf16) (harg2 : arg2.IsWhole) (arg3 : Memref sig .tc .vmem S8x5632 .bf16) (harg3 : arg3.IsWhole)
    (arg4 : Memref sig .tc .vmem S1x5632x512 .f32) (harg4 : arg4.IsWhole) (arg5 : Memref sig .tc .vmem S512x512 .f32) (harg5 : arg5.IsWhole)
    (arg6 : Memref sig .tc .vmem S8x512 .f32) (harg6 : arg6.IsWhole) (arg7 : Memref sig .tc .vmem S1x1x512 .f32) (harg7 : arg7.IsWhole)
    (arg8 : Memref sig .tc .vmem S512x512 .f32) (harg8 : arg8.IsWhole) (arg9 : Memref sig .tc .vmem S8x512 .f32) (harg9 : arg9.IsWhole)
    (arg10 : Memref sig .tc .vmem S512x512 .bf16) (harg10 : arg10.IsWhole) (arg11 : Memref sig .tc .vmem S8x512 .bf16) (harg11 : arg11.IsWhole)
    (arg12 : Memref sig .tc .vmem S1x512x128 .f32) (harg12 : arg12.IsWhole) (arg13 : Memref sig .tc .vmem S1x8x128 .f32) (harg13 : arg13.IsWhole)
    (arg14 : Memref sig .tc .vmem S5632x512 .bf16) (harg14 : arg14.IsWhole) (hc : ¬k0_cond1 i = 1#1)
    (x0 : Vec F S512x5632 .bf16) (x3 : Vec F S512x512 .f32) (x5 : Vec F S1x1x512 .f32) (w : Vec F S5632x512 .bf16)
    (K : PUnit → sProp 𝕄) :
    iprop(owns (c : Thread nD τ) arg2 fullShare x0 ∗ owns (c : Thread nD τ) arg5 fullShare x3 ∗ owns (c : Thread nD τ) arg7 fullShare x5
        ∗ (∃ d, owns (c : Thread nD τ) arg8 fullShare d) ∗ (∃ d, owns (c : Thread nD τ) arg10 fullShare d) ∗ (∃ d, owns (c : Thread nD τ) arg12 fullShare d)
        ∗ owns (c : Thread nD τ) arg14 fullShare w
        ∗ (iprop(owns (c : Thread nD τ) arg2 fullShare x0 ∗ owns (c : Thread nD τ) arg5 fullShare x3 ∗ owns (c : Thread nD τ) arg7 fullShare x5
            ∗ owns (c : Thread nD τ) arg8 fullShare (k0_pay5 x0 w x3)
            ∗ owns (c : Thread nD τ) arg10 fullShare (k0_pay6 x0 w x3 x5)
            ∗ owns (c : Thread nD τ) arg12 fullShare (k0_pay7 x0 w x3)
            ∗ owns (c : Thread nD τ) arg14 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9 arg10 harg10 arg11 harg11 arg12 harg12 arg13 harg13 arg14 harg14) K := by
  simp only [cc0_matmul_eq_skeleton]; unfold cc0_matmul_skel
  unfold owns
  iintro ⟨⟨%f0, %hf0, H0⟩, ⟨%f3, %hf3, H3⟩, ⟨%f5, %hf5, H5⟩, ⟨%d6, %f6, -, H6⟩, ⟨%d8, %f8, -, H8⟩, ⟨%d10, %f10, -, H10⟩, ⟨%fs, %hfs, HS⟩, Hk⟩
  obtain rfl := harg2.eq_unread hf0; obtain rfl := harg5.eq_unread hf3; obtain rfl := harg7.eq_unread hf5; obtain rfl := harg14.eq_unread hfs
  sl_exec (disch := sl_exact hc)
  sl_step
  sl_unfold_words
  iapply Hk
  isplitl [H0]
  · iexists _; isplitr; · ipureintro; exact harg2.read_unread _
    iexact H0
  isplitl [H3]
  · iexists _; isplitr; · ipureintro; exact harg5.read_unread _
    iexact H3
  isplitl [H5]
  · iexists _; isplitr; · ipureintro; exact harg7.read_unread _
    iexact H5
  isplitl [H6]
  · iapply (Cert.Own.owns_store c arg8 _ _ (by decide) _ _ ?_) $$ H6
    simp only [View.readAt_eq_ld, harg2.read_unread, harg5.read_unread, harg14.read_unread]
    rw [View.ld_unit_lit _ x0 (by decide), View.ld_unit_lit _ x3 (by decide), View.ld_unit_lit _ w (by decide)]
  isplitl [H8]
  · iapply (Cert.Own.owns_store c arg10 _ _ (by decide) _ _ ?_) $$ H8
    simp only [View.readAt_eq_ld, harg2.read_unread, harg5.read_unread, harg7.read_unread, harg14.read_unread]
    rw [View.ld_unit_lit _ x0 (by decide), View.ld_unit_lit _ x3 (by decide), View.ld_unit_lit _ x5 (by decide), View.ld_unit_lit _ w (by decide)]
  isplitl [H10]
  · iapply (Cert.Own.owns_store c arg12 _ _ (by decide) _ _ ?_) $$ H10
    simp only [View.readAt_eq_ld, harg2.read_unread, harg5.read_unread, harg14.read_unread]
    rw [View.ld_unit_lit _ x0 (by decide), View.ld_unit_lit _ x3 (by decide), View.ld_unit_lit _ w (by decide)]
  iexists _; isplitr; · ipureintro; exact harg14.read_unread _
  iexact HS

/-! ## The pipeline's data -/

/-- The body's condition holds at the first point of each sweep. -/
theorem cond_iff : ∀ t : Fin cfg0.N, k0_cond1 (grid0.coords t) = 1#1 ↔ t.val % 16 = 0 := by decide +kernel

/-- The first point of the sweep `t` belongs to. -/
def start (t : Fin cfg0.N) : Fin cfg0.N := ⟨t.val - t.val % 16, lt_of_le_of_lt (Nat.sub_le _ _) t.isLt⟩

theorem start_first (t : Fin cfg0.N) (h : t.val % 16 = 0) : start t = t := Fin.ext (by simp only [start]; omega)

theorem start_pred (t : Fin cfg0.N) (h : ¬t.val % 16 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S5632x512 .bf16 := k0_pay1 (iblk m c 2 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the results of the prompt's rows what the point
    stores, those of the sample rows what the sweep's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (iblk m c 0 t) (wts m c t) (iblk m c 3 t)
    | ⟨7, _⟩ => k0_pay2 (iblk m c 1 (start t)) (wts m c t) (iblk m c 4 (start t))
    | ⟨8, _⟩ => k0_pay6 (iblk m c 0 t) (wts m c t) (iblk m c 3 t) (iblk m c 5 t)
    | ⟨9, _⟩ => k0_pay3 (iblk m c 1 (start t)) (wts m c t) (iblk m c 4 (start t)) (iblk m c 5 (start t))
    | ⟨10, _⟩ => k0_pay7 (iblk m c 0 t) (wts m c t) (iblk m c 3 t)
    | ⟨11, _⟩ => k0_pay4 (iblk m c 1 (start t)) (wts m c t) (iblk m c 4 (start t))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d

/-- Output block 8 is kept where nothing is stored into it. -/
theorem kept_7 (c : Dev nD) (t : Fin cfg0.N) (h : ¬t.val % 16 = 0) :
    iprop(∃ d, owns (c : Thread nD τ) (st0_7 t) fullShare ((dats m 0 c).before 7 t d)) ⊢ (dats m 0 c).leavesExact 7 t :=
  Cert.Own.retained (dats m 0 c) 7 rfl (fun _ _ => rfl) (fun n => n % 16 == 0) rfl (by decide +kernel)
    (fun t h => by
      have h' : ¬t.val % 16 = 0 := by simpa using h
      dsimp only [dats, wts]; rw [start_pred t h'])
    t ((by decide +kernel : ∀ t : Fin cfg0.N, ¬t.val % 16 = 0 → cfg0.idle 7 (grid0.coords t) = true) t h)
    (fun _ => by simpa using h)

/-- Output block 10 is kept where nothing is stored into it. -/
theorem kept_9 (c : Dev nD) (t : Fin cfg0.N) (h : ¬t.val % 16 = 0) :
    iprop(∃ d, owns (c : Thread nD τ) (st0_9 t) fullShare ((dats m 0 c).before 9 t d)) ⊢ (dats m 0 c).leavesExact 9 t :=
  Cert.Own.retained (dats m 0 c) 9 rfl (fun _ _ => rfl) (fun n => n % 16 == 0) rfl (by decide +kernel)
    (fun t h => by
      have h' : ¬t.val % 16 = 0 := by simpa using h
      dsimp only [dats, wts]; rw [start_pred t h'])
    t ((by decide +kernel : ∀ t : Fin cfg0.N, ¬t.val % 16 = 0 → cfg0.idle 9 (grid0.coords t) = true) t h)
    (fun _ => by simpa using h)

/-- Output block 12 is kept where nothing is stored into it. -/
theorem kept_11 (c : Dev nD) (t : Fin cfg0.N) (h : ¬t.val % 16 = 0) :
    iprop(∃ d, owns (c : Thread nD τ) (st0_11 t) fullShare ((dats m 0 c).before 11 t d)) ⊢ (dats m 0 c).leavesExact 11 t :=
  Cert.Own.retained (dats m 0 c) 11 rfl (fun _ _ => rfl) (fun n => n % 16 == 0) rfl (by decide +kernel)
    (fun t h => by
      have h' : ¬t.val % 16 = 0 := by simpa using h
      dsimp only [dats, wts]; rw [start_pred t h'])
    t ((by decide +kernel : ∀ t : Fin cfg0.N, ¬t.val % 16 = 0 → cfg0.idle 11 (grid0.coords t) = true) t h)
    (fun _ => by simpa using h)

/-! ## The body at a point -/

set_option maxHeartbeats 3200000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)) := by
  unfold bodyAt0
  simp only [before_0, before_1, before_2, before_3, before_4, before_5]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (iblk m c 5 t) from rfl,
    show (dats m 0 c).leavesExact 6 t = owns (c : Thread nD τ) (st0_6 t) fullShare (k0_pay5 (iblk m c 0 t) (wts m c t) (iblk m c 3 t)) from rfl,
    show (dats m 0 c).leavesExact 8 t = owns (c : Thread nD τ) (st0_8 t) fullShare (k0_pay6 (iblk m c 0 t) (wts m c t) (iblk m c 3 t) (iblk m c 5 t)) from rfl,
    show (dats m 0 c).leavesExact 10 t = owns (c : Thread nD τ) (st0_10 t) fullShare (k0_pay7 (iblk m c 0 t) (wts m c t) (iblk m c 3 t)) from rfl]
  by_cases h : t.val % 16 = 0
  · have e7 : (dats m 0 c).leavesExact 7 t = owns (c : Thread nD τ) (st0_7 t) fullShare (k0_pay2 (iblk m c 1 t) (wts m c t) (iblk m c 4 t)) := by
      unfold Dat.leavesExact
      rw [(by decide +kernel : ∀ t : Fin cfg0.N, t.val % 16 = 0 → cfg0.idle 7 (grid0.coords t) = false) t h]
      dsimp only [dats]; rw [start_first t h]
    have e9 : (dats m 0 c).leavesExact 9 t = owns (c : Thread nD τ) (st0_9 t) fullShare (k0_pay3 (iblk m c 1 t) (wts m c t) (iblk m c 4 t) (iblk m c 5 t)) := by
      unfold Dat.leavesExact
      rw [(by decide +kernel : ∀ t : Fin cfg0.N, t.val % 16 = 0 → cfg0.idle 9 (grid0.coords t) = false) t h]
      dsimp only [dats]; rw [start_first t h]
    have e11 : (dats m 0 c).leavesExact 11 t = owns (c : Thread nD τ) (st0_11 t) fullShare (k0_pay4 (iblk m c 1 t) (wts m c t) (iblk m c 4 t)) := by
      unfold Dat.leavesExact
      rw [(by decide +kernel : ∀ t : Fin cfg0.N, t.val % 16 = 0 → cfg0.idle 11 (grid0.coords t) = false) t h]
      dsimp only [dats]; rw [start_first t h]
    rw [e7, e9, e11, show wts m c t = k0_pay1 (iblk m c 2 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave ⟨HS, Hg⟩ := key $$ HΦ
    iapply (body_first c (grid0.coords t) _ _ _ _ _ _ _ _ _ _ _ _ _ _ _ _ _ _ _ _ _ _ _ _ _ _ ((cond_iff t).mpr h)
      (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, H9, ⟨%d10, H10⟩, H11⟩
    iapply (body_next c (grid0.coords t) _ _ _ _ _ _ _ _ _ _ _ _ _ _ _ _ _ _ _ _ _ _ _ _ _ _ (fun e => h ((cond_iff t).mp e))
      (iblk m c 0 t) (iblk m c 3 t) (iblk m c 5 t) (wts m c t) _)
    isplitl [H0]; · iexact H0
    isplitl [H3]; · iexact H3
    isplitl [H5]; · iexact H5
    isplitl [H6]; · iexists _; iexact H6
    isplitl [H8]; · iexists _; iexact H8
    isplitl [H10]; · iexists _; iexact H10
    isplitl [HS]; · iexact HS
    iintro ⟨H0, H3, H5, H6, H8, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (kept_7 m c t h) $$ H7
    isplitl [H8]; · iexact H8
    isplitl [H9]; · iapply (kept_9 m c t h) $$ H9
    isplitl [H10]; · iexact H10
    iapply (kept_11 m c t h) $$ H11

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.FfnOutIdeal.Own

end
-- ==== Proof.FfnOutValue.lean ====
/- The value of the product that ends the feed-forward layer: every result is the reference's. -/
module

public import proofs.«01_k».proof.Proof.FfnOutBody
public import proofs.«01_k».proof.Proof.Gen.FfnOutReferenceIdeal.Run
public import Idealize.ShloMosaic.Lib.Pipeline.ValueKit.Geometry
public import Idealize.ShloMosaic.Lib.Pointwise
public import Idealize.ShloMosaic.Lib.ReduceAll
public import Idealize.ShloMosaic.Lib.Affine
public import Idealize.ShloMosaic.Lib.ValueLayout
public import Idealize.ShloMosaic.Lib.Tactic

@[expose] public section

noncomputable section

open Idealize.ShloMosaic Idealize.ShloMosaic.TcCoe Idealize.SL.Sem Idealize.ShloMosaic.Pipeline

namespace Cert.FfnOutReferenceIdeal.Own

open Cert.FfnOutReferenceIdeal Cert.FfnOutReferenceIdeal.Gen

/-- The residual rows of the prompt: the rows that came in and the product with the layer's weights. -/
def rows {F : FTy → Type} [FloatOps F] (a : FVec F S8192x5632 .bf16) (w : FVec F S4x5632x2048 .f32) (res : FVec F S8192x2048 .f32) : FVec F S8192x2048 .f32 :=
  addf res (Host.dotGeneral dot_S8192x5632_S5632x2048_S8192x2048_1_0_0_1_n_n none (extf .f32 a bitsLt_bf16_f32) (shapeCast _ (extractStridedSlice S1x5632x2048 ![1, 0, 0] w slices_S4x5632x2048_S1x5632x2048_1_0_0) shapeCasts_S1x5632x2048_S5632x2048))

/-- Rows of the prompt times the next layer's gains. -/
def gained {F : FTy → Type} [FloatOps F] (x : FVec F S8192x2048 .f32) (g : FVec F S4x2048 .f32) : FVec F S8192x2048 .bf16 :=
  truncf .bf16 (mulf x (broadcastInDim S8192x2048 ![0, 1] bcast_S1x2048_S8192x2048_0_1 (broadcastInDim S1x2048 ![1] bcast_S2048_S1x2048_1 (shapeCast _ (extractStridedSlice S1x2048 ![2, 0] g slices_S4x2048_S1x2048_2_0) shapeCasts_S1x2048_S2048)))) bitsLt_bf16_f32

/-- The sums of the squares of the rows of the prompt, in parts. -/
def parts {F : FTy → Type} [FloatOps F] (x : FVec F S8192x2048 .f32) : FVec F S4x8192x128 .f32 :=
  transpose S4x8192x128 [1, 0, 2] (Host.reduceAdd (shapeCast _ (mulf x x) shapeCasts_S8192x2048_S8192x4x4x128) (constant S_ .f32 0x00000000#32) reducesTo_S8192x4x4x128_S8192x4x128_d2 h_S_) transposes_S8192x4x128_S4x8192x128_1_0_2

/-- A residual row of the prompt at a column. -/
theorem rows_at (a : FVec Ideal S8192x5632 .bf16) (w : FVec Ideal S4x5632x2048 .f32) (res : FVec Ideal S8192x2048 .f32) (r : Fin 8192) (j : Fin 2048) :
    rows a w res (ix2 r j) = res (ix2 r j) + ∑ k : Fin 5632, a (ix2 r k) * w (ix3 1 k j) := by
  pointwise [rows]

/-- The same times the gain of the column. -/
theorem gained_at (x : FVec Ideal S8192x2048 .f32) (g : FVec Ideal S4x2048 .f32) (r : Fin 8192) (j : Fin 2048) :
    gained x g (ix2 r j) = x (ix2 r j) * g (ix2 2 j) := by
  pointwise [gained]

/-- A part of a row's squares: those of every 128th column of a block of 512. -/
theorem parts_at (x : FVec Ideal S8192x2048 .f32) (p : Fin 4) (r : Fin 8192) (l : Fin 128) :
    parts x (ix3 p r l) = ∑ q : Fin 4, x (ix2 r ⟨p.val * 512 + q.val * 128 + l.val, by omega⟩) * x (ix2 r ⟨p.val * 512 + q.val * 128 + l.val, by omega⟩) := by
  pointwise [parts]

/-- The residual rows of the sample: the rows that came in and the product with the layer's weights. -/
def sampleRows {F : FTy → Type} [FloatOps F] (a : FVec F S8x5632 .bf16) (w : FVec F S4x5632x2048 .f32) (res : FVec F S8x2048 .f32) : FVec F S8x2048 .f32 :=
  addf res (Host.dotGeneral dot_S8x5632_S5632x2048_S8x2048_1_0_0_1_n_n none (extf .f32 a bitsLt_bf16_f32) (shapeCast _ (extractStridedSlice S1x5632x2048 ![1, 0, 0] w slices_S4x5632x2048_S1x5632x2048_1_0_0) shapeCasts_S1x5632x2048_S5632x2048))

/-- Rows of the sample times the next layer's gains. -/
def sampleGained {F : FTy → Type} [FloatOps F] (x : FVec F S8x2048 .f32) (g : FVec F S4x2048 .f32) : FVec F S8x2048 .bf16 :=
  truncf .bf16 (mulf x (broadcastInDim S8x2048 ![0, 1] bcast_S1x2048_S8x2048_0_1 (broadcastInDim S1x2048 ![1] bcast_S2048_S1x2048_1 (shapeCast _ (extractStridedSlice S1x2048 ![2, 0] g slices_S4x2048_S1x2048_2_0) shapeCasts_S1x2048_S2048)))) bitsLt_bf16_f32

/-- The sums of the squares of the rows of the sample, in parts. -/
def sampleParts {F : FTy → Type} [FloatOps F] (x : FVec F S8x2048 .f32) : FVec F S4x8x128 .f32 :=
  transpose S4x8x128 [1, 0, 2] (Host.reduceAdd (shapeCast _ (mulf x x) shapeCasts_S8x2048_S8x4x4x128) (constant S_ .f32 0x00000000#32) reducesTo_S8x4x4x128_S8x4x128_d2 h_S_) transposes_S8x4x128_S4x8x128_1_0_2

/-- A residual row of the sample at a column. -/
theorem sampleRows_at (a : FVec Ideal S8x5632 .bf16) (w : FVec Ideal S4x5632x2048 .f32) (res : FVec Ideal S8x2048 .f32) (r : Fin 8) (j : Fin 2048) :
    sampleRows a w res (ix2 r j) = res (ix2 r j) + ∑ k : Fin 5632, a (ix2 r k) * w (ix3 1 k j) := by
  pointwise [sampleRows]

/-- The same times the gain of the column. -/
theorem sampleGained_at (x : FVec Ideal S8x2048 .f32) (g : FVec Ideal S4x2048 .f32) (r : Fin 8) (j : Fin 2048) :
    sampleGained x g (ix2 r j) = x (ix2 r j) * g (ix2 2 j) := by
  pointwise [sampleGained]

/-- A part of a row's squares: those of every 128th column of a block of 512. -/
theorem sampleParts_at (x : FVec Ideal S8x2048 .f32) (p : Fin 4) (r : Fin 8) (l : Fin 128) :
    sampleParts x (ix3 p r l) = ∑ q : Fin 4, x (ix2 r ⟨p.val * 512 + q.val * 128 + l.val, by omega⟩) * x (ix2 r ⟨p.val * 512 + q.val * 128 + l.val, by omega⟩) := by
  pointwise [sampleParts]

end Cert.FfnOutReferenceIdeal.Own

namespace Cert.FfnOutIdeal.Own

open Cert.FfnOutIdeal Cert.FfnOutIdeal.Gen Cert.FfnOutReferenceIdeal.Own

/-- The rounded weights are the weights. -/
theorem wpay_at (w : FVec Ideal S1x5632x512 .f32) (k : Fin 5632) (j : Fin 512) :
    k0_pay1 (F := Ideal) w (ix2 k j) = w (ix3 0 k j) := by
  pointwise [k0_pay1]

/-- The residual rows a point stores, at a row and a column of the block. -/
theorem pt_row (x : FVec Ideal S512x5632 .bf16) (w : FVec Ideal S5632x512 .bf16) (s : FVec Ideal S512x512 .f32) (r : Fin 512) (j : Fin 512) :
    k0_pay5 (F := Ideal) x w s (ix2 r j) = s (ix2 r j) + ∑ k, x (ix2 r k) * w (ix2 k j) := by
  pointwise [k0_pay5]

/-- The same times the gain of the column. -/
theorem pt_gain (x : FVec Ideal S512x5632 .bf16) (w : FVec Ideal S5632x512 .bf16) (s : FVec Ideal S512x512 .f32) (g : FVec Ideal S1x1x512 .f32) (r : Fin 512) (j : Fin 512) :
    k0_pay6 (F := Ideal) x w s g (ix2 r j) = k0_pay5 (F := Ideal) x w s (ix2 r j) * g (ix3 0 0 j) := by
  unfold k0_pay6
  generalize k0_pay5 (F := Ideal) x w s = y
  pointwise []

/-- The sums of the squares of the residual rows a point stores, every 128th column of the block together. -/
theorem pt_squares (x : FVec Ideal S512x5632 .bf16) (w : FVec Ideal S5632x512 .bf16) (s : FVec Ideal S512x512 .f32) (r : Fin 512) (l : Fin 128) :
    k0_pay7 (F := Ideal) x w s (ix3 0 r l) = ∑ q : Fin 4, k0_pay5 (F := Ideal) x w s (ix2 r ⟨q.val * 128 + l.val, by omega⟩) * k0_pay5 (F := Ideal) x w s (ix2 r ⟨q.val * 128 + l.val, by omega⟩) := by
  unfold k0_pay7
  generalize k0_pay5 (F := Ideal) x w s = y
  pointwise []
  have z : (⟨(0 : Fin 4).val * 128 + l.val, by omega⟩ : Fin 512) = ⟨l.val, by omega⟩ := Fin.ext (by simp)
  rw [Fin.sum_univ_four, z]
  rfl

/-- The residual rows a sweep's first point stores of the sample rows, at a row and a column of the block. -/
theorem first_row (x : FVec Ideal S8x5632 .bf16) (w : FVec Ideal S5632x512 .bf16) (s : FVec Ideal S8x512 .f32) (r : Fin 8) (j : Fin 512) :
    k0_pay2 (F := Ideal) x w s (ix2 r j) = s (ix2 r j) + ∑ k, x (ix2 r k) * w (ix2 k j) := by
  pointwise [k0_pay2]

/-- The same times the gain of the column. -/
theorem first_gain (x : FVec Ideal S8x5632 .bf16) (w : FVec Ideal S5632x512 .bf16) (s : FVec Ideal S8x512 .f32) (g : FVec Ideal S1x1x512 .f32) (r : Fin 8) (j : Fin 512) :
    k0_pay3 (F := Ideal) x w s g (ix2 r j) = k0_pay2 (F := Ideal) x w s (ix2 r j) * g (ix3 0 0 j) := by
  unfold k0_pay3
  generalize k0_pay2 (F := Ideal) x w s = y
  pointwise []

/-- The sums of the squares of the residual rows a sweep's first point stores of the sample rows, every 128th column of the block together. -/
theorem first_squares (x : FVec Ideal S8x5632 .bf16) (w : FVec Ideal S5632x512 .bf16) (s : FVec Ideal S8x512 .f32) (r : Fin 8) (l : Fin 128) :
    k0_pay4 (F := Ideal) x w s (ix3 0 r l) = ∑ q : Fin 4, k0_pay2 (F := Ideal) x w s (ix2 r ⟨q.val * 128 + l.val, by omega⟩) * k0_pay2 (F := Ideal) x w s (ix2 r ⟨q.val * 128 + l.val, by omega⟩) := by
  unfold k0_pay4
  generalize k0_pay2 (F := Ideal) x w s = y
  pointwise []
  have z : (⟨(0 : Fin 4).val * 128 + l.val, by omega⟩ : Fin 512) = ⟨l.val, by omega⟩ := Fin.ext (by simp)
  rw [Fin.sum_univ_four, z]
  rfl

/-- Where the windows' blocks lie. -/
theorem places : ∀ t : Fin cfg0.N, (win0_0.index t 0 = t.val % 16 ∧ win0_0.index t 1 = 0)
    ∧ (win0_1.index t 0 = 0 ∧ win0_1.index t 1 = 0)
    ∧ (win0_2.index t 0 = 1 ∧ win0_2.index t 1 = 0 ∧ win0_2.index t 2 = t.val / 16)
    ∧ (win0_3.index t 0 = t.val % 16 ∧ win0_3.index t 1 = t.val / 16)
    ∧ (win0_4.index t 0 = 0 ∧ win0_4.index t 1 = t.val / 16)
    ∧ (win0_5.index t 0 = 2 ∧ win0_5.index t 1 = 0 ∧ win0_5.index t 2 = t.val / 16)
    ∧ (win0_6.index t 0 = t.val % 16 ∧ win0_6.index t 1 = t.val / 16)
    ∧ (win0_7.index t 0 = 0 ∧ win0_7.index t 1 = t.val / 16)
    ∧ (win0_8.index t 0 = t.val % 16 ∧ win0_8.index t 1 = t.val / 16)
    ∧ (win0_9.index t 0 = 0 ∧ win0_9.index t 1 = t.val / 16)
    ∧ (win0_10.index t 0 = t.val / 16 ∧ win0_10.index t 1 = t.val % 16 ∧ win0_10.index t 2 = 0)
    ∧ (win0_11.index t 0 = t.val / 16 ∧ win0_11.index t 1 = 0 ∧ win0_11.index t 2 = 0) := by
  decide +kernel

variable (m : (ℓ : Loc nD τ sig) → Buf (Elt Ideal) ℓ)

/-- The gains reshaped for the kernel, at a column. -/
theorem gain_at (x : FVec Ideal S4x2048 .f32) (i : Fin 2048) : shapeCast S4x1x2048 x shapeCasts_S4x2048_S4x1x2048 (ix3 2 0 i) = x (ix2 2 i) := by
  pointwise []

/-- The gains as the region finds them. -/
theorem V_main_v0 (c : Dev nD) : (V m c main_v0 : FVec Ideal S4x1x2048 .f32) =
    shapeCast S4x1x2048 (m ((c : Thread nD τ).loc main_arg5) : FVec Ideal S4x2048 .f32) shapeCasts_S4x2048_S4x1x2048 := by
  show StableHlo.after hostOps0 _ (Proc.devRef .tc main_v0) = _
  simp only [hostOps0]
  after_results_simp
  rfl

/-- Rows of the prompt a point multiplies. -/
theorem iblk_0 (c : Dev nD) (t : Fin cfg0.N) (r : Fin 512) (k : Fin 5632) (i : Fin 8192) (hi : i.val = t.val % 16 * 512 + r.val) :
    (iblk m c 0 t : Vec Ideal S512x5632 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 512 + 1 * r.val = i.val; omega
  | ⟨1, _⟩ => show win0_0.index t 1 * 5632 + 1 * k.val = k.val; omega

/-- The sample rows. -/
theorem iblk_1 (c : Dev nD) (t : Fin cfg0.N) (r : Fin 8) (k : Fin 5632) :
    (iblk m c 1 t : Vec Ideal S8x5632 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 5632 + 1 * k.val = k.val; omega

/-- The columns of the weights a point works with. -/
theorem iblk_2 (c : Dev nD) (t : Fin cfg0.N) (k : Fin 5632) (j : Fin 512) (i : Fin 2048) (hi : i.val = t.val / 16 * 512 + j.val) :
    (iblk m c 2 t : Vec Ideal S1x5632x512 .f32) (ix3 0 k j) = m ((c : Thread nD τ).loc main_arg2) (ix3 1 k i) := by
  obtain ⟨-, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_2.index t 0 * 1 + 1 * 0 = 1; omega
  | ⟨1, _⟩ => show win0_2.index t 1 * 5632 + 1 * k.val = k.val; omega
  | ⟨2, _⟩ => show win0_2.index t 2 * 512 + 1 * j.val = i.val; omega

/-- The block of rows that came in. -/
theorem iblk_3 (c : Dev nD) (t : Fin cfg0.N) (r : Fin 512) (j : Fin 512) (p : Fin 8192) (i : Fin 2048) (hp : p.val = t.val % 16 * 512 + r.val) (hi : i.val = t.val / 16 * 512 + j.val) :
    (iblk m c 3 t : Vec Ideal S512x512 .f32) (ix2 r j) = m ((c : Thread nD τ).loc main_arg3) (ix2 p i) := by
  obtain ⟨-, -, -, ⟨h0, h1⟩, -⟩ := places t
  unfold iblk
  rw [View.read_apply]
  show V m c main_arg3 _ = _
  rw [V_main_arg3]
  refine congrArg _ (funext fun a => Fin.ext ?_)
  match a with
  | ⟨0, _⟩ => show win0_3.index t 0 * 512 + 1 * r.val = p.val; omega
  | ⟨1, _⟩ => show win0_3.index t 1 * 512 + 1 * j.val = i.val; omega

/-- The columns of the sample rows that came in. -/
theorem iblk_4 (c : Dev nD) (t : Fin cfg0.N) (r : Fin 8) (j : Fin 512) (i : Fin 2048) (hi : i.val = t.val / 16 * 512 + j.val) :
    (iblk m c 4 t : Vec Ideal S8x512 .f32) (ix2 r j) = m ((c : Thread nD τ).loc main_arg4) (ix2 r i) := by
  obtain ⟨-, -, -, -, ⟨h0, h1⟩, -⟩ := places t
  unfold iblk
  rw [View.read_apply]
  show V m c main_arg4 _ = _
  rw [V_main_arg4]
  refine congrArg _ (funext fun a => Fin.ext ?_)
  match a with
  | ⟨0, _⟩ => show win0_4.index t 0 * 8 + 1 * r.val = r.val; omega
  | ⟨1, _⟩ => show win0_4.index t 1 * 512 + 1 * j.val = i.val; omega

/-- The gains of a point's columns. -/
theorem iblk_5 (c : Dev nD) (t : Fin cfg0.N) (j : Fin 512) (i : Fin 2048) (hi : i.val = t.val / 16 * 512 + j.val) :
    (iblk m c 5 t : Vec Ideal S1x1x512 .f32) (ix3 0 0 j) = m ((c : Thread nD τ).loc main_arg5) (ix2 2 i) := by
  obtain ⟨-, -, -, -, -, ⟨h0, h1, h2⟩, -⟩ := places t
  unfold iblk
  rw [View.read_apply]
  show (V m c main_v0 : FVec Ideal S4x1x2048 .f32) _ = _
  rw [V_main_v0]
  refine (congrArg _ (?_ : _ = (ix3 2 0 i : S4x1x2048.Idx))).trans ?_
  · refine funext fun a => Fin.ext ?_
    match a with
    | ⟨0, _⟩ => show win0_5.index t 0 * 1 + 1 * 0 = 2; omega
    | ⟨1, _⟩ => show win0_5.index t 1 * 1 + 1 * 0 = 0; omega
    | ⟨2, _⟩ => show win0_5.index t 2 * 512 + 1 * j.val = i.val; omega
  · exact gain_at _ i

/-- The weights of a sweep, at a row and a column. -/
theorem wts_at (c : Dev nD) (t : Fin cfg0.N) (k : Fin 5632) (j : Fin 512) (i : Fin 2048) (hi : i.val = t.val / 16 * 512 + j.val) :
    (wts m c t : Vec Ideal S5632x512 .bf16) (ix2 k j) = m ((c : Thread nD τ).loc main_arg2) (ix3 1 k i) :=
  (wpay_at _ k j).trans (iblk_2 m c (start t) k j i (by rw [hi]; simp only [start]; omega))

/-- The reference's residual rows of the prompt. -/
def refRows (c : Dev nD) : FVec Ideal Cert.FfnOutReferenceIdeal.S8192x2048 .f32 :=
  rows (F := Ideal) (m ((c : Thread nD τ).loc main_arg0)) (m ((c : Thread nD τ).loc main_arg2)) (m ((c : Thread nD τ).loc main_arg3))

/-- The reference's residual rows of the sample. -/
def refSampleRows (c : Dev nD) : FVec Ideal Cert.FfnOutReferenceIdeal.S8x2048 .f32 :=
  sampleRows (F := Ideal) (m ((c : Thread nD τ).loc main_arg1)) (m ((c : Thread nD τ).loc main_arg2)) (m ((c : Thread nD τ).loc main_arg4))

/-- The residual rows a point makes are the reference's. -/
theorem point_rows (c : Dev nD) (t : Fin cfg0.N) (r : Fin 512) (j : Fin 512) (p : Fin 8192) (i : Fin 2048) (hp : p.val = t.val % 16 * 512 + r.val) (hi : i.val = t.val / 16 * 512 + j.val) :
    k0_pay5 (F := Ideal) (iblk m c 0 t) (wts m c t) (iblk m c 3 t) (ix2 r j) = refRows m c (ix2 p i) := by
  rw [pt_row, refRows, rows_at]
  refine congrArg₂ _ (iblk_3 m c t r j p i hp hi) (Finset.sum_congr rfl fun k _ => congrArg₂ _ (iblk_0 m c t r k p hp) (wts_at m c t k j i hi))

/-- The residual rows of the sample a sweep makes are the reference's. -/
theorem point_sampleRows (c : Dev nD) (t : Fin cfg0.N) (r : Fin 8) (j : Fin 512) (i : Fin 2048) (hi : i.val = t.val / 16 * 512 + j.val) :
    k0_pay2 (F := Ideal) (iblk m c 1 (start t)) (wts m c t) (iblk m c 4 (start t)) (ix2 r j) = refSampleRows m c (ix2 r i) := by
  rw [first_row, refSampleRows, sampleRows_at]
  refine congrArg₂ _ (iblk_4 m c (start t) r j i (by rw [hi]; simp only [start]; omega)) (Finset.sum_congr rfl fun k _ => congrArg₂ _ (iblk_1 m c (start t) r k) (wts_at m c t k j i hi))

/-- The first result after the run is the reference's. -/
theorem result_0 (c : Dev nD) : (dats m 0 c).arrAt 6 cfg0.N = refRows m c := by
  refine (dats m 0 c).arrAt_eq_of_covers 6 _ (by decide +kernel) fun t _ y => ?_
  obtain ⟨-, -, -, -, -, -, ⟨h0, h1⟩, -⟩ := places t
  have hy0 : (y 0).val < 512 := (y 0).isLt
  have hy1 : (y 1).val < 512 := (y 1).isLt
  have ht : t.val < 64 := t.isLt
  have e : ((cfg0.win 6).blk t).view.emb y = ix2 (⟨t.val % 16 * 512 + (y 0).val, by omega⟩ : Fin 8192) (⟨t.val / 16 * 512 + (y 1).val, by omega⟩ : Fin 2048) := by
    funext a; apply Fin.ext
    match a with
    | ⟨0, _⟩ => show win0_6.index t 0 * 512 + 1 * (y 0).val = _; rw [h0]; simp
    | ⟨1, _⟩ => show win0_6.index t 1 * 512 + 1 * (y 1).val = _; rw [h1]; simp
  have ey : y = ix2 (⟨(y 0).val, hy0⟩ : Fin 512) (⟨(y 1).val, hy1⟩ : Fin 512) := by
    funext a; match a with | ⟨0, _⟩ => rfl | ⟨1, _⟩ => rfl
  have q : (dats m 0 c).after 6 t = k0_pay5 (F := Ideal) (iblk m c 0 t) (wts m c t) (iblk m c 3 t) := by dsimp only [dats]
  refine (congrFun q y).trans ?_
  rw [e]
  refine (congrArg _ ey).trans ?_
  exact point_rows m c t _ _ _ _ rfl rfl

/-- The second result after the run is the reference's. -/
theorem result_1 (c : Dev nD) : (dats m 0 c).arrAt 7 cfg0.N = refSampleRows m c := by
  refine (dats m 0 c).arrAt_eq_of_covers 7 _ (by decide +kernel) fun t _ y => ?_
  obtain ⟨-, -, -, -, -, -, -, ⟨h0, h1⟩, -⟩ := places t
  have hy0 : (y 0).val < 8 := (y 0).isLt
  have hy1 : (y 1).val < 512 := (y 1).isLt
  have ht : t.val < 64 := t.isLt
  have e : ((cfg0.win 7).blk t).view.emb y = ix2 (⟨(y 0).val, hy0⟩ : Fin 8) (⟨t.val / 16 * 512 + (y 1).val, by omega⟩ : Fin 2048) := by
    funext a; apply Fin.ext
    match a with
    | ⟨0, _⟩ => show win0_7.index t 0 * 8 + 1 * (y 0).val = _; rw [h0]; simp
    | ⟨1, _⟩ => show win0_7.index t 1 * 512 + 1 * (y 1).val = _; rw [h1]; simp
  have ey : y = ix2 (⟨(y 0).val, hy0⟩ : Fin 8) (⟨(y 1).val, hy1⟩ : Fin 512) := by
    funext a; match a with | ⟨0, _⟩ => rfl | ⟨1, _⟩ => rfl
  have q : (dats m 0 c).after 7 t = k0_pay2 (F := Ideal) (iblk m c 1 (start t)) (wts m c t) (iblk m c 4 (start t)) := by dsimp only [dats]
  refine (congrFun q y).trans ?_
  rw [e]
  refine (congrArg _ ey).trans ?_
  exact point_sampleRows m c t _ _ _ rfl

/-- The third result after the run is the reference's. -/
theorem result_2 (c : Dev nD) : (dats m 0 c).arrAt 8 cfg0.N = gained (F := Ideal) (refRows m c) (m ((c : Thread nD τ).loc main_arg5)) := by
  refine (dats m 0 c).arrAt_eq_of_covers 8 _ (by decide +kernel) fun t _ y => ?_
  obtain ⟨-, -, -, -, -, -, -, -, ⟨h0, h1⟩, -⟩ := places t
  have hy0 : (y 0).val < 512 := (y 0).isLt
  have hy1 : (y 1).val < 512 := (y 1).isLt
  have ht : t.val < 64 := t.isLt
  have e : ((cfg0.win 8).blk t).view.emb y = ix2 (⟨t.val % 16 * 512 + (y 0).val, by omega⟩ : Fin 8192) (⟨t.val / 16 * 512 + (y 1).val, by omega⟩ : Fin 2048) := by
    funext a; apply Fin.ext
    match a with
    | ⟨0, _⟩ => show win0_8.index t 0 * 512 + 1 * (y 0).val = _; rw [h0]; simp
    | ⟨1, _⟩ => show win0_8.index t 1 * 512 + 1 * (y 1).val = _; rw [h1]; simp
  have ey : y = ix2 (⟨(y 0).val, hy0⟩ : Fin 512) (⟨(y 1).val, hy1⟩ : Fin 512) := by
    funext a; match a with | ⟨0, _⟩ => rfl | ⟨1, _⟩ => rfl
  have q : (dats m 0 c).after 8 t = k0_pay6 (F := Ideal) (iblk m c 0 t) (wts m c t) (iblk m c 3 t) (iblk m c 5 t) := by dsimp only [dats]
  refine (congrFun q y).trans ?_
  rw [e, gained_at]
  refine (congrArg _ ey).trans ?_
  rw [pt_gain]
  exact congrArg₂ _ (point_rows m c t _ _ _ _ rfl rfl) (iblk_5 m c _ _ _ rfl)

/-- The fourth result after the run is the reference's. -/
theorem result_3 (c : Dev nD) : (dats m 0 c).arrAt 9 cfg0.N = sampleGained (F := Ideal) (refSampleRows m c) (m ((c : Thread nD τ).loc main_arg5)) := by
  refine (dats m 0 c).arrAt_eq_of_covers 9 _ (by decide +kernel) fun t _ y => ?_
  obtain ⟨-, -, -, -, -, -, -, -, -, ⟨h0, h1⟩, -⟩ := places t
  have hy0 : (y 0).val < 8 := (y 0).isLt
  have hy1 : (y 1).val < 512 := (y 1).isLt
  have ht : t.val < 64 := t.isLt
  have e : ((cfg0.win 9).blk t).view.emb y = ix2 (⟨(y 0).val, hy0⟩ : Fin 8) (⟨t.val / 16 * 512 + (y 1).val, by omega⟩ : Fin 2048) := by
    funext a; apply Fin.ext
    match a with
    | ⟨0, _⟩ => show win0_9.index t 0 * 8 + 1 * (y 0).val = _; rw [h0]; simp
    | ⟨1, _⟩ => show win0_9.index t 1 * 512 + 1 * (y 1).val = _; rw [h1]; simp
  have ey : y = ix2 (⟨(y 0).val, hy0⟩ : Fin 8) (⟨(y 1).val, hy1⟩ : Fin 512) := by
    funext a; match a with | ⟨0, _⟩ => rfl | ⟨1, _⟩ => rfl
  have q : (dats m 0 c).after 9 t = k0_pay3 (F := Ideal) (iblk m c 1 (start t)) (wts m c t) (iblk m c 4 (start t)) (iblk m c 5 (start t)) := by dsimp only [dats]
  refine (congrFun q y).trans ?_
  rw [e, sampleGained_at]
  refine (congrArg _ ey).trans ?_
  rw [first_gain]
  exact congrArg₂ _ (point_sampleRows m c t _ _ _ rfl) (iblk_5 m c _ _ _ (by simp only [start]; omega))

/-- The fifth result after the run is the reference's. -/
theorem result_4 (c : Dev nD) : (dats m 0 c).arrAt 10 cfg0.N = parts (F := Ideal) (refRows m c) := by
  refine (dats m 0 c).arrAt_eq_of_covers 10 _ (by decide +kernel) fun t _ y => ?_
  obtain ⟨-, -, -, -, -, -, -, -, -, -, ⟨h0, h1, h2⟩, -⟩ := places t
  have hy0 : (y 0).val < 1 := (y 0).isLt
  have hy1 : (y 1).val < 512 := (y 1).isLt
  have hy2 : (y 2).val < 128 := (y 2).isLt
  have ht : t.val < 64 := t.isLt
  have e : ((cfg0.win 10).blk t).view.emb y = ix3 (⟨t.val / 16, by omega⟩ : Fin 4) (⟨t.val % 16 * 512 + (y 1).val, by omega⟩ : Fin 8192) (⟨(y 2).val, hy2⟩ : Fin 128) := by
    funext a; apply Fin.ext
    match a with
    | ⟨0, _⟩ => show win0_10.index t 0 * 1 + 1 * (y 0).val = t.val / 16; omega
    | ⟨1, _⟩ => show win0_10.index t 1 * 512 + 1 * (y 1).val = _; rw [h1]; simp
    | ⟨2, _⟩ => show win0_10.index t 2 * 128 + 1 * (y 2).val = (y 2).val; omega
  have ey : y = ix3 (0 : Fin 1) (⟨(y 1).val, hy1⟩ : Fin 512) (⟨(y 2).val, hy2⟩ : Fin 128) := by
    funext a; match a with | ⟨0, _⟩ => exact Fin.ext (show (y 0).val = 0 by omega) | ⟨1, _⟩ => rfl | ⟨2, _⟩ => rfl
  have q : (dats m 0 c).after 10 t = k0_pay7 (F := Ideal) (iblk m c 0 t) (wts m c t) (iblk m c 3 t) := by dsimp only [dats]
  refine (congrFun q y).trans ?_
  rw [e, parts_at]
  refine (congrArg _ ey).trans ?_
  rw [pt_squares]
  refine (Finset.sum_congr rfl fun q _ => congrArg₂ _ (point_rows m c t _ _ _ _ ?_ ?_) (point_rows m c t _ _ _ _ ?_ ?_) : (_ : EReal) = _) <;> first | rfl | exact Nat.add_assoc ..

/-- The sixth result after the run is the reference's. -/
theorem result_5 (c : Dev nD) : (dats m 0 c).arrAt 11 cfg0.N = sampleParts (F := Ideal) (refSampleRows m c) := by
  refine (dats m 0 c).arrAt_eq_of_covers 11 _ (by decide +kernel) fun t _ y => ?_
  obtain ⟨-, -, -, -, -, -, -, -, -, -, -, ⟨h0, h1, h2⟩⟩ := places t
  have hy0 : (y 0).val < 1 := (y 0).isLt
  have hy1 : (y 1).val < 8 := (y 1).isLt
  have hy2 : (y 2).val < 128 := (y 2).isLt
  have ht : t.val < 64 := t.isLt
  have e : ((cfg0.win 11).blk t).view.emb y = ix3 (⟨t.val / 16, by omega⟩ : Fin 4) (⟨(y 1).val, hy1⟩ : Fin 8) (⟨(y 2).val, hy2⟩ : Fin 128) := by
    funext a; apply Fin.ext
    match a with
    | ⟨0, _⟩ => show win0_11.index t 0 * 1 + 1 * (y 0).val = t.val / 16; omega
    | ⟨1, _⟩ => show win0_11.index t 1 * 8 + 1 * (y 1).val = _; rw [h1]; simp
    | ⟨2, _⟩ => show win0_11.index t 2 * 128 + 1 * (y 2).val = (y 2).val; omega
  have ey : y = ix3 (0 : Fin 1) (⟨(y 1).val, hy1⟩ : Fin 8) (⟨(y 2).val, hy2⟩ : Fin 128) := by
    funext a; match a with | ⟨0, _⟩ => exact Fin.ext (show (y 0).val = 0 by omega) | ⟨1, _⟩ => rfl | ⟨2, _⟩ => rfl
  have q : (dats m 0 c).after 11 t = k0_pay4 (F := Ideal) (iblk m c 1 (start t)) (wts m c t) (iblk m c 4 (start t)) := by dsimp only [dats]
  refine (congrFun q y).trans ?_
  rw [e, sampleParts_at]
  refine (congrArg _ ey).trans ?_
  rw [first_squares]
  refine (Finset.sum_congr rfl fun q _ => congrArg₂ _ (point_sampleRows m c t _ _ _ ?_) (point_sampleRows m c t _ _ _ ?_) : (_ : EReal) = _) <;> exact Nat.add_assoc ..

end Cert.FfnOutIdeal.Own

end
-- ==== Proof.FfnOutClaim.lean ====
/- The claims of the product that ends the feed-forward layer. -/
module

public import proofs.«01_k».proof.Defs
public import proofs.«01_k».proof.Proof.Gen.FfnOut
public import proofs.«01_k».proof.Proof.FfnOutValue
public import Idealize.ShloMosaic.Lib.Quiescent
public import Idealize.ShloMosaic.Adequacy
public import Idealize.ShloMosaic.Init

@[expose] public section

noncomputable section

namespace Cert.FfnOutClaim

open Idealize.ShloMosaic Idealize.SL.Sem

/-- The program and its idealisation run the same pieces. -/
theorem defs₀_same : @Cert.FfnOut.defs₀ Bits _ Cert.FfnOut.Gen.facts = @Cert.FfnOutIdeal.defs₀ Bits _ Cert.FfnOutIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.FfnOut.defs Bits _ Cert.FfnOut.Gen.facts = @Cert.FfnOutIdeal.defs Bits _ Cert.FfnOutIdeal.Gen.facts :=
  congrArg (Pipeline.defs _) defs₀_same

/-- The program runs and keeps its arguments. -/
theorem kernel_runs : Cert.quiescent_FfnOut (hFfnOut := Cert.FfnOut.Gen.facts) := by
  intro m g _
  rw [defs_same]
  exact Cert.FfnOutIdeal.Own.unchanged (F := Bits) m g

/-- The idealised program runs and keeps its arguments. -/
theorem ideal_runs : Cert.quiescent_FfnOutIdeal (hFfnOutIdeal := Cert.FfnOutIdeal.Gen.facts) := fun m g _ =>
  Cert.FfnOutIdeal.Own.unchanged (F := Ideal) m g

/-- The reference runs and keeps its arguments; it has no semaphores. -/
theorem reference_runs : Cert.quiescent_FfnOutReferenceIdeal (hFfnOutReferenceIdeal := Cert.FfnOutReferenceIdeal.Gen.facts) := fun m g _ =>
  (θ_run Cert.FfnOutReferenceIdeal.defs _ _).mono (fun r h => ⟨fun c => (h c).2.2.2.2.2.2, sem_eq_zero_of_no_sems (by decide) r.2⟩)
    (Cert.FfnOutReferenceIdeal.Value.run m g)

/-- The kernel's results are the reference's. -/
theorem equal : Cert.algebraic_FfnOutIdeal_FfnOutReferenceIdeal (hFfnOutIdeal := Cert.FfnOutIdeal.Gen.facts) (hFfnOutReferenceIdeal := Cert.FfnOutReferenceIdeal.Gen.facts) := by
  intro m g m' g' _ hargs
  refine ⟨fun c => (Cert.FfnOutIdeal.Own.dats m 0 c).arrAt 6 Cert.FfnOutIdeal.cfg0.N, fun c => (Cert.FfnOutIdeal.Own.dats m 0 c).arrAt 7 Cert.FfnOutIdeal.cfg0.N, fun c => (Cert.FfnOutIdeal.Own.dats m 0 c).arrAt 8 Cert.FfnOutIdeal.cfg0.N, fun c => (Cert.FfnOutIdeal.Own.dats m 0 c).arrAt 9 Cert.FfnOutIdeal.cfg0.N, fun c => (Cert.FfnOutIdeal.Own.dats m 0 c).arrAt 10 Cert.FfnOutIdeal.cfg0.N, fun c => (Cert.FfnOutIdeal.Own.dats m 0 c).arrAt 11 Cert.FfnOutIdeal.cfg0.N, ?_, ?_⟩
  · exact (θ_run Cert.FfnOutIdeal.defs _ _).mono (fun r h c => ⟨(h.1 c).1 6, (h.1 c).1 7, (h.1 c).1 8, (h.1 c).1 9, (h.1 c).1 10, (h.1 c).1 11, h.2.1 c⟩)
      (θ_run_and ((θ_run Cert.FfnOutIdeal.defs _ _).mono (fun _ h => h.1) (Cert.FfnOutIdeal.Own.run m g)) (Cert.FfnOutIdeal.Own.unchanged (F := Ideal) m g))
  · refine (θ_run Cert.FfnOutReferenceIdeal.defs _ _).mono (fun r h c => ?_) (Cert.FfnOutReferenceIdeal.Value.run m' g')
    obtain ⟨h0, h1, h2, h3, h4, h5, hk⟩ := h c
    obtain ⟨a0, a1, a2, a3, a4, a5⟩ := hargs c
    refine ⟨h0.trans ?_, h1.trans ?_, h2.trans ?_, h3.trans ?_, h4.trans ?_, h5.trans ?_, hk⟩
    · rw [a0, a2, a3]
      exact (Cert.FfnOutIdeal.Own.result_0 m c).symm
    · rw [a1, a2, a4]
      exact (Cert.FfnOutIdeal.Own.result_1 m c).symm
    · rw [a0, a2, a3, a5]
      exact (Cert.FfnOutIdeal.Own.result_2 m c).symm
    · rw [a1, a2, a4, a5]
      exact (Cert.FfnOutIdeal.Own.result_3 m c).symm
    · rw [a0, a2, a3]
      exact (Cert.FfnOutIdeal.Own.result_4 m c).symm
    · rw [a1, a2, a4]
      exact (Cert.FfnOutIdeal.Own.result_5 m c).symm

end Cert.FfnOutClaim

end
-- ==== Proof.OutOddBody.lean ====
/- The product that ends the odd layers' mixer,
   point by point: what each run of the kernel body leaves in the scratch buffer and in the six output blocks, the
   pipeline's data built on that, and the run of the whole program. -/
module

public import proofs.«01_k».proof.Proof.Gen.OutOddIdeal.Skeleton
public import proofs.«01_k».proof.Proof.Gen.OutOddIdeal.Frame
public import proofs.«01_k».proof.Proof.Store
public import Idealize.ShloMosaic.Lib.Claim

@[expose] public section

set_option maxRecDepth 16384

noncomputable section

namespace Cert.OutOddIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutOddIdeal.Gen

variable {F : FTy → Type} [FloatOps F]

local notation "𝕄" => MT nD τ sig Unit (Elt F) ℕ (UR sig nD τ) ℕ

set_option maxHeartbeats 1600000 in
/-- A point that begins a sweep over the row blocks: the weights are rounded into the scratch buffer and the sample
    rows are multiplied, then the point's own rows. -/
theorem body_first (c : Dev nD) (i : grid0.Coords) (arg2 : Memref sig .tc .vmem S1024x2048 .bf16) (harg2 : arg2.IsWhole) (arg3 : Memref sig .tc .vmem S8x2048 .bf16) (harg3 : arg3.IsWhole)
    (arg4 : Memref sig .tc .vmem S1x2048x1024 .f32) (harg4 : arg4.IsWhole) (arg5 : Memref sig .tc .vmem S1024x1024 .f32) (harg5 : arg5.IsWhole)
    (arg6 : Memref sig .tc .vmem S8x1024 .f32) (harg6 : arg6.IsWhole) (arg7 : Memref sig .tc .vmem S1x1x1024 .f32) (harg7 : arg7.IsWhole)
    (arg8 : Memref sig .tc .vmem S1024x1024 .f32) (harg8 : arg8.IsWhole) (arg9 : Memref sig .tc .vmem S8x1024 .f32) (harg9 : arg9.IsWhole)
    (arg10 : Memref sig .tc .vmem S1024x1024 .bf16) (harg10 : arg10.IsWhole) (arg11 : Memref sig .tc .vmem S8x1024 .bf16) (harg11 : arg11.IsWhole)
    (arg12 : Memref sig .tc .vmem S1x1024x128 .f32) (harg12 : arg12.IsWhole) (arg13 : Memref sig .tc .vmem S1x8x128 .f32) (harg13 : arg13.IsWhole)
    (arg14 : Memref sig .tc .vmem S2048x1024 .bf16) (harg14 : arg14.IsWhole) (hc : k0_cond1 i = 1#1)
    (x0 : Vec F S1024x2048 .bf16) (x1 : Vec F S8x2048 .bf16) (x2 : Vec F S1x2048x1024 .f32) (x3 : Vec F S1024x1024 .f32) (x4 : Vec F S8x1024 .f32) (x5 : Vec F S1x1x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay2 x0 (k0_pay5 x2) x3)
            ∗ owns (c : Thread nD τ) arg9 fullShare (k0_pay6 x1 (k0_pay5 x2) x4)
            ∗ owns (c : Thread nD τ) arg10 fullShare (k0_pay3 x0 (k0_pay5 x2) x3 x5)
            ∗ owns (c : Thread nD τ) arg11 fullShare (k0_pay7 x1 (k0_pay5 x2) x4 x5)
            ∗ owns (c : Thread nD τ) arg12 fullShare (k0_pay4 x0 (k0_pay5 x2) x3)
            ∗ owns (c : Thread nD τ) arg13 fullShare (k0_pay1 (k0_pay8 x1 (k0_pay5 x2) x4))
            ∗ owns (c : Thread nD τ) arg14 fullShare (k0_pay5 x2)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9 arg10 harg10 arg11 harg11 arg12 harg12 arg13 harg13 arg14 harg14) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := sl_exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iapply (Cert.Own.owns_store c arg8 _ _ (by decide) _ _ ?_) $$ H6
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H7]
  · iapply (Cert.Own.owns_store c arg9 _ _ (by decide) _ _ ?_) $$ H7
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  isplitl [H8]
  · iapply (Cert.Own.owns_store c arg10 _ _ (by decide) _ _ ?_) $$ H8
    simp only [View.readAt_eq_ld, harg2.read_unread, harg4.read_unread, harg5.read_unread, harg7.read_unread]
    rw [View.readCov_unit_lit _ _ _ (by decide), View.ld_unit_lit _ x0 (by decide), View.ld_unit_lit _ x2 (by decide), View.ld_unit_lit _ x3 (by decide), View.ld_unit_lit _ x5 (by decide)]
  isplitl [H9]
  · iapply (Cert.Own.owns_store c arg11 _ _ (by decide) _ _ ?_) $$ H9
    simp only [View.readAt_eq_ld, harg3.read_unread, harg4.read_unread, harg6.read_unread, harg7.read_unread]
    rw [View.readCov_unit_lit _ _ _ (by decide), View.ld_unit_lit _ x1 (by decide), View.ld_unit_lit _ x2 (by decide), View.ld_unit_lit _ x4 (by decide), View.ld_unit_lit _ x5 (by decide)]
  isplitl [H10]
  · iapply (Cert.Own.owns_store c arg12 _ _ (by decide) _ _ ?_) $$ H10
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H11]
  · iapply (Cert.Own.owns_store c arg13 _ _ (by decide) _ _ ?_) $$ H11
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  iapply (Cert.Own.owns_store c arg14 _ _ (by decide) _ _ ?_) $$ HS
  simp only [View.readAt_eq_ld, harg4.read_unread]
  rw [View.ld_unit_lit _ x2 (by decide)]

set_option maxHeartbeats 1600000 in
/-- Any other point of a sweep: the point's own rows times the rounded weights of the scratch buffer. -/
theorem body_next (c : Dev nD) (i : grid0.Coords) (arg2 : Memref sig .tc .vmem S1024x2048 .bf16) (harg2 : arg2.IsWhole) (arg3 : Memref sig .tc .vmem S8x2048 .bf16) (harg3 : arg3.IsWhole)
    (arg4 : Memref sig .tc .vmem S1x2048x1024 .f32) (harg4 : arg4.IsWhole) (arg5 : Memref sig .tc .vmem S1024x1024 .f32) (harg5 : arg5.IsWhole)
    (arg6 : Memref sig .tc .vmem S8x1024 .f32) (harg6 : arg6.IsWhole) (arg7 : Memref sig .tc .vmem S1x1x1024 .f32) (harg7 : arg7.IsWhole)
    (arg8 : Memref sig .tc .vmem S1024x1024 .f32) (harg8 : arg8.IsWhole) (arg9 : Memref sig .tc .vmem S8x1024 .f32) (harg9 : arg9.IsWhole)
    (arg10 : Memref sig .tc .vmem S1024x1024 .bf16) (harg10 : arg10.IsWhole) (arg11 : Memref sig .tc .vmem S8x1024 .bf16) (harg11 : arg11.IsWhole)
    (arg12 : Memref sig .tc .vmem S1x1024x128 .f32) (harg12 : arg12.IsWhole) (arg13 : Memref sig .tc .vmem S1x8x128 .f32) (harg13 : arg13.IsWhole)
    (arg14 : Memref sig .tc .vmem S2048x1024 .bf16) (harg14 : arg14.IsWhole) (hc : ¬k0_cond1 i = 1#1)
    (x0 : Vec F S1024x2048 .bf16) (x3 : Vec F S1024x1024 .f32) (x5 : Vec F S1x1x1024 .f32) (w : Vec F S2048x1024 .bf16)
    (K : PUnit → sProp 𝕄) :
    iprop(owns (c : Thread nD τ) arg2 fullShare x0 ∗ owns (c : Thread nD τ) arg5 fullShare x3 ∗ owns (c : Thread nD τ) arg7 fullShare x5
        ∗ (∃ d, owns (c : Thread nD τ) arg8 fullShare d) ∗ (∃ d, owns (c : Thread nD τ) arg10 fullShare d) ∗ (∃ d, owns (c : Thread nD τ) arg12 fullShare d)
        ∗ owns (c : Thread nD τ) arg14 fullShare w
        ∗ (iprop(owns (c : Thread nD τ) arg2 fullShare x0 ∗ owns (c : Thread nD τ) arg5 fullShare x3 ∗ owns (c : Thread nD τ) arg7 fullShare x5
            ∗ owns (c : Thread nD τ) arg8 fullShare (k0_pay2 x0 w x3)
            ∗ owns (c : Thread nD τ) arg10 fullShare (k0_pay3 x0 w x3 x5)
            ∗ owns (c : Thread nD τ) arg12 fullShare (k0_pay4 x0 w x3)
            ∗ owns (c : Thread nD τ) arg14 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9 arg10 harg10 arg11 harg11 arg12 harg12 arg13 harg13 arg14 harg14) K := by
  simp only [cc0_matmul_eq_skeleton]; unfold cc0_matmul_skel
  unfold owns
  iintro ⟨⟨%f0, %hf0, H0⟩, ⟨%f3, %hf3, H3⟩, ⟨%f5, %hf5, H5⟩, ⟨%d6, %f6, -, H6⟩, ⟨%d8, %f8, -, H8⟩, ⟨%d10, %f10, -, H10⟩, ⟨%fs, %hfs, HS⟩, Hk⟩
  obtain rfl := harg2.eq_unread hf0; obtain rfl := harg5.eq_unread hf3; obtain rfl := harg7.eq_unread hf5; obtain rfl := harg14.eq_unread hfs
  sl_exec (disch := sl_exact hc)
  sl_step
  sl_unfold_words
  iapply Hk
  isplitl [H0]
  · iexists _; isplitr; · ipureintro; exact harg2.read_unread _
    iexact H0
  isplitl [H3]
  · iexists _; isplitr; · ipureintro; exact harg5.read_unread _
    iexact H3
  isplitl [H5]
  · iexists _; isplitr; · ipureintro; exact harg7.read_unread _
    iexact H5
  isplitl [H6]
  · iapply (Cert.Own.owns_store c arg8 _ _ (by decide) _ _ ?_) $$ H6
    simp only [View.readAt_eq_ld, harg2.read_unread, harg5.read_unread, harg14.read_unread]
    rw [View.ld_unit_lit _ x0 (by decide), View.ld_unit_lit _ x3 (by decide), View.ld_unit_lit _ w (by decide)]
  isplitl [H8]
  · iapply (Cert.Own.owns_store c arg10 _ _ (by decide) _ _ ?_) $$ H8
    simp only [View.readAt_eq_ld, harg2.read_unread, harg5.read_unread, harg7.read_unread, harg14.read_unread]
    rw [View.ld_unit_lit _ x0 (by decide), View.ld_unit_lit _ x3 (by decide), View.ld_unit_lit _ x5 (by decide), View.ld_unit_lit _ w (by decide)]
  isplitl [H10]
  · iapply (Cert.Own.owns_store c arg12 _ _ (by decide) _ _ ?_) $$ H10
    simp only [View.readAt_eq_ld, harg2.read_unread, harg5.read_unread, harg14.read_unread]
    rw [View.ld_unit_lit _ x0 (by decide), View.ld_unit_lit _ x3 (by decide), View.ld_unit_lit _ w (by decide)]
  iexists _; isplitr; · ipureintro; exact harg14.read_unread _
  iexact HS

/-! ## The pipeline's data -/

/-- The body's condition holds at the first point of each sweep. -/
theorem cond_iff : ∀ t : Fin cfg0.N, k0_cond1 (grid0.coords t) = 1#1 ↔ t.val % 8 = 0 := by decide +kernel

/-- The first point of the sweep `t` belongs to. -/
def start (t : Fin cfg0.N) : Fin cfg0.N := ⟨t.val - t.val % 8, lt_of_le_of_lt (Nat.sub_le _ _) t.isLt⟩

theorem start_first (t : Fin cfg0.N) (h : t.val % 8 = 0) : start t = t := Fin.ext (by simp only [start]; omega)

theorem start_pred (t : Fin cfg0.N) (h : ¬t.val % 8 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S2048x1024 .bf16 := k0_pay5 (iblk m c 2 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the results of the prompt's rows what the point
    stores, those of the sample rows what the sweep's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (iblk m c 0 t) (wts m c t) (iblk m c 3 t)
    | ⟨7, _⟩ => k0_pay6 (iblk m c 1 (start t)) (wts m c t) (iblk m c 4 (start t))
    | ⟨8, _⟩ => k0_pay3 (iblk m c 0 t) (wts m c t) (iblk m c 3 t) (iblk m c 5 t)
    | ⟨9, _⟩ => k0_pay7 (iblk m c 1 (start t)) (wts m c t) (iblk m c 4 (start t)) (iblk m c 5 (start t))
    | ⟨10, _⟩ => k0_pay4 (iblk m c 0 t) (wts m c t) (iblk m c 3 t)
    | ⟨11, _⟩ => k0_pay1 (k0_pay8 (iblk m c 1 (start t)) (wts m c t) (iblk m c 4 (start t)))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d

/-- Output block 8 is kept where nothing is stored into it. -/
theorem kept_7 (c : Dev nD) (t : Fin cfg0.N) (h : ¬t.val % 8 = 0) :
    iprop(∃ d, owns (c : Thread nD τ) (st0_7 t) fullShare ((dats m 0 c).before 7 t d)) ⊢ (dats m 0 c).leavesExact 7 t :=
  Cert.Own.retained (dats m 0 c) 7 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 7 (grid0.coords t) = true) t h)
    (fun _ => by simpa using h)

/-- Output block 10 is kept where nothing is stored into it. -/
theorem kept_9 (c : Dev nD) (t : Fin cfg0.N) (h : ¬t.val % 8 = 0) :
    iprop(∃ d, owns (c : Thread nD τ) (st0_9 t) fullShare ((dats m 0 c).before 9 t d)) ⊢ (dats m 0 c).leavesExact 9 t :=
  Cert.Own.retained (dats m 0 c) 9 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 9 (grid0.coords t) = true) t h)
    (fun _ => by simpa using h)

/-- Output block 12 is kept where nothing is stored into it. -/
theorem kept_11 (c : Dev nD) (t : Fin cfg0.N) (h : ¬t.val % 8 = 0) :
    iprop(∃ d, owns (c : Thread nD τ) (st0_11 t) fullShare ((dats m 0 c).before 11 t d)) ⊢ (dats m 0 c).leavesExact 11 t :=
  Cert.Own.retained (dats m 0 c) 11 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 11 (grid0.coords t) = true) t h)
    (fun _ => by simpa using h)

/-! ## The body at a point -/

set_option maxHeartbeats 3200000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)) := by
  unfold bodyAt0
  simp only [before_0, before_1, before_2, before_3, before_4, before_5]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (iblk m c 5 t) from rfl,
    show (dats m 0 c).leavesExact 6 t = owns (c : Thread nD τ) (st0_6 t) fullShare (k0_pay2 (iblk m c 0 t) (wts m c t) (iblk m c 3 t)) from rfl,
    show (dats m 0 c).leavesExact 8 t = owns (c : Thread nD τ) (st0_8 t) fullShare (k0_pay3 (iblk m c 0 t) (wts m c t) (iblk m c 3 t) (iblk m c 5 t)) from rfl,
    show (dats m 0 c).leavesExact 10 t = owns (c : Thread nD τ) (st0_10 t) fullShare (k0_pay4 (iblk m c 0 t) (wts m c t) (iblk m c 3 t)) from rfl]
  by_cases h : t.val % 8 = 0
  · have e7 : (dats m 0 c).leavesExact 7 t = owns (c : Thread nD τ) (st0_7 t) fullShare (k0_pay6 (iblk m c 1 t) (wts m c t) (iblk m c 4 t)) := by
      unfold Dat.leavesExact
      rw [(by decide +kernel : ∀ t : Fin cfg0.N, t.val % 8 = 0 → cfg0.idle 7 (grid0.coords t) = false) t h]
      dsimp only [dats]; rw [start_first t h]
    have e9 : (dats m 0 c).leavesExact 9 t = owns (c : Thread nD τ) (st0_9 t) fullShare (k0_pay7 (iblk m c 1 t) (wts m c t) (iblk m c 4 t) (iblk m c 5 t)) := by
      unfold Dat.leavesExact
      rw [(by decide +kernel : ∀ t : Fin cfg0.N, t.val % 8 = 0 → cfg0.idle 9 (grid0.coords t) = false) t h]
      dsimp only [dats]; rw [start_first t h]
    have e11 : (dats m 0 c).leavesExact 11 t = owns (c : Thread nD τ) (st0_11 t) fullShare (k0_pay1 (k0_pay8 (iblk m c 1 t) (wts m c t) (iblk m c 4 t))) := by
      unfold Dat.leavesExact
      rw [(by decide +kernel : ∀ t : Fin cfg0.N, t.val % 8 = 0 → cfg0.idle 11 (grid0.coords t) = false) t h]
      dsimp only [dats]; rw [start_first t h]
    rw [e7, e9, e11, show wts m c t = k0_pay5 (iblk m c 2 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave ⟨HS, Hg⟩ := key $$ HΦ
    iapply (body_first c (grid0.coords t) _ _ _ _ _ _ _ _ _ _ _ _ _ _ _ _ _ _ _ _ _ _ _ _ _ _ ((cond_iff t).mpr h)
      (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, H9, ⟨%d10, H10⟩, H11⟩
    iapply (body_next c (grid0.coords t) _ _ _ _ _ _ _ _ _ _ _ _ _ _ _ _ _ _ _ _ _ _ _ _ _ _ (fun e => h ((cond_iff t).mp e))
      (iblk m c 0 t) (iblk m c 3 t) (iblk m c 5 t) (wts m c t) _)
    isplitl [H0]; · iexact H0
    isplitl [H3]; · iexact H3
    isplitl [H5]; · iexact H5
    isplitl [H6]; · iexists _; iexact H6
    isplitl [H8]; · iexists _; iexact H8
    isplitl [H10]; · iexists _; iexact H10
    isplitl [HS]; · iexact HS
    iintro ⟨H0, H3, H5, H6, H8, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (kept_7 m c t h) $$ H7
    isplitl [H8]; · iexact H8
    isplitl [H9]; · iapply (kept_9 m c t h) $$ H9
    isplitl [H10]; · iexact H10
    iapply (kept_11 m c t h) $$ H11

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.OutOddIdeal.Own

end
-- ==== Proof.OutOddValue.lean ====
/- The value of the product that ends the odd layers' mixer: every result is the reference's. -/
module

public import proofs.«01_k».proof.Proof.OutOddBody
public import proofs.«01_k».proof.Proof.Gen.OutOddReferenceIdeal.Run
public import Idealize.ShloMosaic.Lib.Pipeline.ValueKit.Geometry
public import Idealize.ShloMosaic.Lib.Pointwise
public import Idealize.ShloMosaic.Lib.ReduceAll
public import Idealize.ShloMosaic.Lib.Affine
public import Idealize.ShloMosaic.Lib.ValueLayout
public import Idealize.ShloMosaic.Lib.Tactic

@[expose] public section

noncomputable section

open Idealize.ShloMosaic Idealize.ShloMosaic.TcCoe Idealize.SL.Sem Idealize.ShloMosaic.Pipeline

namespace Cert.OutOddReferenceIdeal.Own

open Cert.OutOddReferenceIdeal Cert.OutOddReferenceIdeal.Gen

/-- The residual rows of the prompt: the rows that came in and the product with the layer's weights. -/
def rows {F : FTy → Type} [FloatOps F] (a : FVec F S8192x2048 .bf16) (w : FVec F S2x2048x2048 .f32) (res : FVec F S8192x2048 .f32) : FVec F S8192x2048 .f32 :=
  addf res (Host.dotGeneral dot_S8192x2048_S2048x2048_S8192x2048_1_0_0_1_n_n none (extf .f32 a bitsLt_bf16_f32) (shapeCast _ (extractStridedSlice S1x2048x2048 ![1, 0, 0] w slices_S2x2048x2048_S1x2048x2048_1_0_0) shapeCasts_S1x2048x2048_S2048x2048))

/-- Rows of the prompt times the next layer's gains. -/
def gained {F : FTy → Type} [FloatOps F] (x : FVec F S8192x2048 .f32) (g : FVec F S4x2048 .f32) : FVec F S8192x2048 .bf16 :=
  truncf .bf16 (mulf x (broadcastInDim S8192x2048 ![0, 1] bcast_S1x2048_S8192x2048_0_1 (broadcastInDim S1x2048 ![1] bcast_S2048_S1x2048_1 (shapeCast _ (extractStridedSlice S1x2048 ![3, 0] g slices_S4x2048_S1x2048_3_0) shapeCasts_S1x2048_S2048)))) bitsLt_bf16_f32

/-- The sums of the squares of the rows of the prompt, in parts. -/
def parts {F : FTy → Type} [FloatOps F] (x : FVec F S8192x2048 .f32) : FVec F S2x8192x128 .f32 :=
  transpose S2x8192x128 [1, 0, 2] (Host.reduceAdd (shapeCast _ (mulf x x) shapeCasts_S8192x2048_S8192x2x8x128) (constant S_ .f32 0x00000000#32) reducesTo_S8192x2x8x128_S8192x2x128_d2 h_S_) transposes_S8192x2x128_S2x8192x128_1_0_2

/-- A residual row of the prompt at a column. -/
theorem rows_at (a : FVec Ideal S8192x2048 .bf16) (w : FVec Ideal S2x2048x2048 .f32) (res : FVec Ideal S8192x2048 .f32) (r : Fin 8192) (j : Fin 2048) :
    rows a w res (ix2 r j) = res (ix2 r j) + ∑ k : Fin 2048, a (ix2 r k) * w (ix3 1 k j) := by
  pointwise [rows]

/-- The same times the gain of the column. -/
theorem gained_at (x : FVec Ideal S8192x2048 .f32) (g : FVec Ideal S4x2048 .f32) (r : Fin 8192) (j : Fin 2048) :
    gained x g (ix2 r j) = x (ix2 r j) * g (ix2 3 j) := by
  pointwise [gained]

/-- A part of a row's squares: those of every 128th column of a block of 1024. -/
theorem parts_at (x : FVec Ideal S8192x2048 .f32) (p : Fin 2) (r : Fin 8192) (l : Fin 128) :
    parts x (ix3 p r l) = ∑ q : Fin 8, x (ix2 r ⟨p.val * 1024 + q.val * 128 + l.val, by omega⟩) * x (ix2 r ⟨p.val * 1024 + q.val * 128 + l.val, by omega⟩) := by
  pointwise [parts]

/-- The residual rows of the sample: the rows that came in and the product with the layer's weights. -/
def sampleRows {F : FTy → Type} [FloatOps F] (a : FVec F S8x2048 .bf16) (w : FVec F S2x2048x2048 .f32) (res : FVec F S8x2048 .f32) : FVec F S8x2048 .f32 :=
  addf res (Host.dotGeneral dot_S8x2048_S2048x2048_S8x2048_1_0_0_1_n_n none (extf .f32 a bitsLt_bf16_f32) (shapeCast _ (extractStridedSlice S1x2048x2048 ![1, 0, 0] w slices_S2x2048x2048_S1x2048x2048_1_0_0) shapeCasts_S1x2048x2048_S2048x2048))

/-- Rows of the sample times the next layer's gains. -/
def sampleGained {F : FTy → Type} [FloatOps F] (x : FVec F S8x2048 .f32) (g : FVec F S4x2048 .f32) : FVec F S8x2048 .bf16 :=
  truncf .bf16 (mulf x (broadcastInDim S8x2048 ![0, 1] bcast_S1x2048_S8x2048_0_1 (broadcastInDim S1x2048 ![1] bcast_S2048_S1x2048_1 (shapeCast _ (extractStridedSlice S1x2048 ![3, 0] g slices_S4x2048_S1x2048_3_0) shapeCasts_S1x2048_S2048)))) bitsLt_bf16_f32

/-- The sums of the squares of the rows of the sample, in parts. -/
def sampleParts {F : FTy → Type} [FloatOps F] (x : FVec F S8x2048 .f32) : FVec F S2x8x128 .f32 :=
  transpose S2x8x128 [1, 0, 2] (Host.reduceAdd (shapeCast _ (mulf x x) shapeCasts_S8x2048_S8x2x8x128) (constant S_ .f32 0x00000000#32) reducesTo_S8x2x8x128_S8x2x128_d2 h_S_) transposes_S8x2x128_S2x8x128_1_0_2

/-- A residual row of the sample at a column. -/
theorem sampleRows_at (a : FVec Ideal S8x2048 .bf16) (w : FVec Ideal S2x2048x2048 .f32) (res : FVec Ideal S8x2048 .f32) (r : Fin 8) (j : Fin 2048) :
    sampleRows a w res (ix2 r j) = res (ix2 r j) + ∑ k : Fin 2048, a (ix2 r k) * w (ix3 1 k j) := by
  pointwise [sampleRows]

/-- The same times the gain of the column. -/
theorem sampleGained_at (x : FVec Ideal S8x2048 .f32) (g : FVec Ideal S4x2048 .f32) (r : Fin 8) (j : Fin 2048) :
    sampleGained x g (ix2 r j) = x (ix2 r j) * g (ix2 3 j) := by
  pointwise [sampleGained]

/-- A part of a row's squares: those of every 128th column of a block of 1024. -/
theorem sampleParts_at (x : FVec Ideal S8x2048 .f32) (p : Fin 2) (r : Fin 8) (l : Fin 128) :
    sampleParts x (ix3 p r l) = ∑ q : Fin 8, x (ix2 r ⟨p.val * 1024 + q.val * 128 + l.val, by omega⟩) * x (ix2 r ⟨p.val * 1024 + q.val * 128 + l.val, by omega⟩) := by
  pointwise [sampleParts]

end Cert.OutOddReferenceIdeal.Own

namespace Cert.OutOddIdeal.Own

open Cert.OutOddIdeal Cert.OutOddIdeal.Gen Cert.OutOddReferenceIdeal.Own

/-- The rounded weights are the weights. -/
theorem wpay_at (w : FVec Ideal S1x2048x1024 .f32) (k : Fin 2048) (j : Fin 1024) :
    k0_pay5 (F := Ideal) w (ix2 k j) = w (ix3 0 k j) := by
  pointwise [k0_pay5]

/-- The residual rows a point stores, at a row and a column of the block. -/
theorem pt_row (x : FVec Ideal S1024x2048 .bf16) (w : FVec Ideal S2048x1024 .bf16) (s : FVec Ideal S1024x1024 .f32) (r : Fin 1024) (j : Fin 1024) :
    k0_pay2 (F := Ideal) x w s (ix2 r j) = s (ix2 r j) + ∑ k, x (ix2 r k) * w (ix2 k j) := by
  pointwise [k0_pay2]

/-- The same times the gain of the column. -/
theorem pt_gain (x : FVec Ideal S1024x2048 .bf16) (w : FVec Ideal S2048x1024 .bf16) (s : FVec Ideal S1024x1024 .f32) (g : FVec Ideal S1x1x1024 .f32) (r : Fin 1024) (j : Fin 1024) :
    k0_pay3 (F := Ideal) x w s g (ix2 r j) = k0_pay2 (F := Ideal) x w s (ix2 r j) * g (ix3 0 0 j) := by
  unfold k0_pay3
  generalize k0_pay2 (F := Ideal) x w s = y
  pointwise []

/-- The sums of the squares of the residual rows a point stores, every 128th column of the block together. -/
theorem pt_squares (x : FVec Ideal S1024x2048 .bf16) (w : FVec Ideal S2048x1024 .bf16) (s : FVec Ideal S1024x1024 .f32) (r : Fin 1024) (l : Fin 128) :
    k0_pay4 (F := Ideal) x w s (ix3 0 r l) = ∑ q : Fin 8, k0_pay2 (F := Ideal) x w s (ix2 r ⟨q.val * 128 + l.val, by omega⟩) * k0_pay2 (F := Ideal) x w s (ix2 r ⟨q.val * 128 + l.val, by omega⟩) := by
  unfold k0_pay4
  generalize k0_pay2 (F := Ideal) x w s = y
  pointwise []
  have z : (⟨(0 : Fin 8).val * 128 + l.val, by omega⟩ : Fin 1024) = ⟨l.val, by omega⟩ := Fin.ext (by simp)
  rw [Fin.sum_univ_eight, z]
  rfl

/-- The residual rows a sweep's first point stores of the sample rows, at a row and a column of the block. -/
theorem first_row (x : FVec Ideal S8x2048 .bf16) (w : FVec Ideal S2048x1024 .bf16) (s : FVec Ideal S8x1024 .f32) (r : Fin 8) (j : Fin 1024) :
    k0_pay6 (F := Ideal) x w s (ix2 r j) = s (ix2 r j) + ∑ k, x (ix2 r k) * w (ix2 k j) := by
  pointwise [k0_pay6]

/-- The same times the gain of the column. -/
theorem first_gain (x : FVec Ideal S8x2048 .bf16) (w : FVec Ideal S2048x1024 .bf16) (s : FVec Ideal S8x1024 .f32) (g : FVec Ideal S1x1x1024 .f32) (r : Fin 8) (j : Fin 1024) :
    k0_pay7 (F := Ideal) x w s g (ix2 r j) = k0_pay6 (F := Ideal) x w s (ix2 r j) * g (ix3 0 0 j) := by
  unfold k0_pay7
  generalize k0_pay6 (F := Ideal) x w s = y
  pointwise []

/-- The sums of the squares of the residual rows a sweep's first point stores of the sample rows, every 128th column of the block together. -/
theorem first_squares (x : FVec Ideal S8x2048 .bf16) (w : FVec Ideal S2048x1024 .bf16) (s : FVec Ideal S8x1024 .f32) (r : Fin 8) (l : Fin 128) :
    k0_pay1 (F := Ideal) (k0_pay8 (F := Ideal) x w s) (ix3 0 r l) = ∑ q : Fin 8, k0_pay6 (F := Ideal) x w s (ix2 r ⟨q.val * 128 + l.val, by omega⟩) * k0_pay6 (F := Ideal) x w s (ix2 r ⟨q.val * 128 + l.val, by omega⟩) := by
  unfold k0_pay1 k0_pay8
  generalize k0_pay6 (F := Ideal) x w s = y
  pointwise []
  have z : (⟨(0 : Fin 8).val * 128 + l.val, by omega⟩ : Fin 1024) = ⟨l.val, by omega⟩ := Fin.ext (by simp)
  rw [Fin.sum_univ_eight, z]
  rfl

/-- Where the windows' blocks lie. -/
theorem places : ∀ t : Fin cfg0.N, (win0_0.index t 0 = t.val % 8 ∧ win0_0.index t 1 = 0)
    ∧ (win0_1.index t 0 = 0 ∧ win0_1.index t 1 = 0)
    ∧ (win0_2.index t 0 = 1 ∧ win0_2.index t 1 = 0 ∧ win0_2.index t 2 = t.val / 8)
    ∧ (win0_3.index t 0 = t.val % 8 ∧ win0_3.index t 1 = t.val / 8)
    ∧ (win0_4.index t 0 = 0 ∧ win0_4.index t 1 = t.val / 8)
    ∧ (win0_5.index t 0 = 3 ∧ win0_5.index t 1 = 0 ∧ win0_5.index t 2 = t.val / 8)
    ∧ (win0_6.index t 0 = t.val % 8 ∧ win0_6.index t 1 = t.val / 8)
    ∧ (win0_7.index t 0 = 0 ∧ win0_7.index t 1 = t.val / 8)
    ∧ (win0_8.index t 0 = t.val % 8 ∧ win0_8.index t 1 = t.val / 8)
    ∧ (win0_9.index t 0 = 0 ∧ win0_9.index t 1 = t.val / 8)
    ∧ (win0_10.index t 0 = t.val / 8 ∧ win0_10.index t 1 = t.val % 8 ∧ win0_10.index t 2 = 0)
    ∧ (win0_11.index t 0 = t.val / 8 ∧ win0_11.index t 1 = 0 ∧ win0_11.index t 2 = 0) := by
  decide +kernel

variable (m : (ℓ : Loc nD τ sig) → Buf (Elt Ideal) ℓ)

/-- The gains reshaped for the kernel, at a column. -/
theorem gain_at (x : FVec Ideal S4x2048 .f32) (i : Fin 2048) : shapeCast S4x1x2048 x shapeCasts_S4x2048_S4x1x2048 (ix3 3 0 i) = x (ix2 3 i) := by
  pointwise []

/-- The gains as the region finds them. -/
theorem V_main_v0 (c : Dev nD) : (V m c main_v0 : FVec Ideal S4x1x2048 .f32) =
    shapeCast S4x1x2048 (m ((c : Thread nD τ).loc main_arg5) : FVec Ideal S4x2048 .f32) shapeCasts_S4x2048_S4x1x2048 := by
  show StableHlo.after hostOps0 _ (Proc.devRef .tc main_v0) = _
  simp only [hostOps0]
  after_results_simp
  rfl

/-- Rows of the prompt a point multiplies. -/
theorem iblk_0 (c : Dev nD) (t : Fin cfg0.N) (r : Fin 1024) (k : Fin 2048) (i : Fin 8192) (hi : i.val = t.val % 8 * 1024 + r.val) :
    (iblk m c 0 t : Vec Ideal S1024x2048 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 1024 + 1 * r.val = i.val; omega
  | ⟨1, _⟩ => show win0_0.index t 1 * 2048 + 1 * k.val = k.val; omega

/-- The sample rows. -/
theorem iblk_1 (c : Dev nD) (t : Fin cfg0.N) (r : Fin 8) (k : Fin 2048) :
    (iblk m c 1 t : Vec Ideal S8x2048 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 2048 + 1 * k.val = k.val; omega

/-- The columns of the weights a point works with. -/
theorem iblk_2 (c : Dev nD) (t : Fin cfg0.N) (k : Fin 2048) (j : Fin 1024) (i : Fin 2048) (hi : i.val = t.val / 8 * 1024 + j.val) :
    (iblk m c 2 t : Vec Ideal S1x2048x1024 .f32) (ix3 0 k j) = m ((c : Thread nD τ).loc main_arg2) (ix3 1 k i) := by
  obtain ⟨-, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 1024 + 1 * j.val = i.val; omega

/-- The block of rows that came in. -/
theorem iblk_3 (c : Dev nD) (t : Fin cfg0.N) (r : Fin 1024) (j : Fin 1024) (p : Fin 8192) (i : Fin 2048) (hp : p.val = t.val % 8 * 1024 + r.val) (hi : i.val = t.val / 8 * 1024 + j.val) :
    (iblk m c 3 t : Vec Ideal S1024x1024 .f32) (ix2 r j) = m ((c : Thread nD τ).loc main_arg3) (ix2 p i) := by
  obtain ⟨-, -, -, ⟨h0, h1⟩, -⟩ := places t
  unfold iblk
  rw [View.read_apply]
  show V m c main_arg3 _ = _
  rw [V_main_arg3]
  refine congrArg _ (funext fun a => Fin.ext ?_)
  match a with
  | ⟨0, _⟩ => show win0_3.index t 0 * 1024 + 1 * r.val = p.val; omega
  | ⟨1, _⟩ => show win0_3.index t 1 * 1024 + 1 * j.val = i.val; omega

/-- The columns of the sample rows that came in. -/
theorem iblk_4 (c : Dev nD) (t : Fin cfg0.N) (r : Fin 8) (j : Fin 1024) (i : Fin 2048) (hi : i.val = t.val / 8 * 1024 + j.val) :
    (iblk m c 4 t : Vec Ideal S8x1024 .f32) (ix2 r j) = m ((c : Thread nD τ).loc main_arg4) (ix2 r i) := by
  obtain ⟨-, -, -, -, ⟨h0, h1⟩, -⟩ := places t
  unfold iblk
  rw [View.read_apply]
  show V m c main_arg4 _ = _
  rw [V_main_arg4]
  refine congrArg _ (funext fun a => Fin.ext ?_)
  match a with
  | ⟨0, _⟩ => show win0_4.index t 0 * 8 + 1 * r.val = r.val; omega
  | ⟨1, _⟩ => show win0_4.index t 1 * 1024 + 1 * j.val = i.val; omega

/-- The gains of a point's columns. -/
theorem iblk_5 (c : Dev nD) (t : Fin cfg0.N) (j : Fin 1024) (i : Fin 2048) (hi : i.val = t.val / 8 * 1024 + j.val) :
    (iblk m c 5 t : Vec Ideal S1x1x1024 .f32) (ix3 0 0 j) = m ((c : Thread nD τ).loc main_arg5) (ix2 3 i) := by
  obtain ⟨-, -, -, -, -, ⟨h0, h1, h2⟩, -⟩ := places t
  unfold iblk
  rw [View.read_apply]
  show (V m c main_v0 : FVec Ideal S4x1x2048 .f32) _ = _
  rw [V_main_v0]
  refine (congrArg _ (?_ : _ = (ix3 3 0 i : S4x1x2048.Idx))).trans ?_
  · refine funext fun a => Fin.ext ?_
    match a with
    | ⟨0, _⟩ => show win0_5.index t 0 * 1 + 1 * 0 = 3; omega
    | ⟨1, _⟩ => show win0_5.index t 1 * 1 + 1 * 0 = 0; omega
    | ⟨2, _⟩ => show win0_5.index t 2 * 1024 + 1 * j.val = i.val; omega
  · exact gain_at _ i

/-- The weights of a sweep, at a row and a column. -/
theorem wts_at (c : Dev nD) (t : Fin cfg0.N) (k : Fin 2048) (j : Fin 1024) (i : Fin 2048) (hi : i.val = t.val / 8 * 1024 + j.val) :
    (wts m c t : Vec Ideal S2048x1024 .bf16) (ix2 k j) = m ((c : Thread nD τ).loc main_arg2) (ix3 1 k i) :=
  (wpay_at _ k j).trans (iblk_2 m c (start t) k j i (by rw [hi]; simp only [start]; omega))

/-- The reference's residual rows of the prompt. -/
def refRows (c : Dev nD) : FVec Ideal Cert.OutOddReferenceIdeal.S8192x2048 .f32 :=
  rows (F := Ideal) (m ((c : Thread nD τ).loc main_arg0)) (m ((c : Thread nD τ).loc main_arg2)) (m ((c : Thread nD τ).loc main_arg3))

/-- The reference's residual rows of the sample. -/
def refSampleRows (c : Dev nD) : FVec Ideal Cert.OutOddReferenceIdeal.S8x2048 .f32 :=
  sampleRows (F := Ideal) (m ((c : Thread nD τ).loc main_arg1)) (m ((c : Thread nD τ).loc main_arg2)) (m ((c : Thread nD τ).loc main_arg4))

/-- The residual rows a point makes are the reference's. -/
theorem point_rows (c : Dev nD) (t : Fin cfg0.N) (r : Fin 1024) (j : Fin 1024) (p : Fin 8192) (i : Fin 2048) (hp : p.val = t.val % 8 * 1024 + r.val) (hi : i.val = t.val / 8 * 1024 + j.val) :
    k0_pay2 (F := Ideal) (iblk m c 0 t) (wts m c t) (iblk m c 3 t) (ix2 r j) = refRows m c (ix2 p i) := by
  rw [pt_row, refRows, rows_at]
  refine congrArg₂ _ (iblk_3 m c t r j p i hp hi) (Finset.sum_congr rfl fun k _ => congrArg₂ _ (iblk_0 m c t r k p hp) (wts_at m c t k j i hi))

/-- The residual rows of the sample a sweep makes are the reference's. -/
theorem point_sampleRows (c : Dev nD) (t : Fin cfg0.N) (r : Fin 8) (j : Fin 1024) (i : Fin 2048) (hi : i.val = t.val / 8 * 1024 + j.val) :
    k0_pay6 (F := Ideal) (iblk m c 1 (start t)) (wts m c t) (iblk m c 4 (start t)) (ix2 r j) = refSampleRows m c (ix2 r i) := by
  rw [first_row, refSampleRows, sampleRows_at]
  refine congrArg₂ _ (iblk_4 m c (start t) r j i (by rw [hi]; simp only [start]; omega)) (Finset.sum_congr rfl fun k _ => congrArg₂ _ (iblk_1 m c (start t) r k) (wts_at m c t k j i hi))

/-- The first result after the run is the reference's. -/
theorem result_0 (c : Dev nD) : (dats m 0 c).arrAt 6 cfg0.N = refRows m c := by
  refine (dats m 0 c).arrAt_eq_of_covers 6 _ (by decide +kernel) fun t _ y => ?_
  obtain ⟨-, -, -, -, -, -, ⟨h0, h1⟩, -⟩ := places t
  have hy0 : (y 0).val < 1024 := (y 0).isLt
  have hy1 : (y 1).val < 1024 := (y 1).isLt
  have ht : t.val < 16 := t.isLt
  have e : ((cfg0.win 6).blk t).view.emb y = ix2 (⟨t.val % 8 * 1024 + (y 0).val, by omega⟩ : Fin 8192) (⟨t.val / 8 * 1024 + (y 1).val, by omega⟩ : Fin 2048) := by
    funext a; apply Fin.ext
    match a with
    | ⟨0, _⟩ => show win0_6.index t 0 * 1024 + 1 * (y 0).val = _; rw [h0]; simp
    | ⟨1, _⟩ => show win0_6.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  have q : (dats m 0 c).after 6 t = k0_pay2 (F := Ideal) (iblk m c 0 t) (wts m c t) (iblk m c 3 t) := by dsimp only [dats]
  refine (congrFun q y).trans ?_
  rw [e]
  refine (congrArg _ ey).trans ?_
  exact point_rows m c t _ _ _ _ rfl rfl

/-- The second result after the run is the reference's. -/
theorem result_1 (c : Dev nD) : (dats m 0 c).arrAt 7 cfg0.N = refSampleRows m c := by
  refine (dats m 0 c).arrAt_eq_of_covers 7 _ (by decide +kernel) fun t _ y => ?_
  obtain ⟨-, -, -, -, -, -, -, ⟨h0, h1⟩, -⟩ := places t
  have hy0 : (y 0).val < 8 := (y 0).isLt
  have hy1 : (y 1).val < 1024 := (y 1).isLt
  have ht : t.val < 16 := t.isLt
  have e : ((cfg0.win 7).blk t).view.emb y = ix2 (⟨(y 0).val, hy0⟩ : Fin 8) (⟨t.val / 8 * 1024 + (y 1).val, by omega⟩ : Fin 2048) := by
    funext a; apply Fin.ext
    match a with
    | ⟨0, _⟩ => show win0_7.index t 0 * 8 + 1 * (y 0).val = _; rw [h0]; simp
    | ⟨1, _⟩ => show win0_7.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  have q : (dats m 0 c).after 7 t = k0_pay6 (F := Ideal) (iblk m c 1 (start t)) (wts m c t) (iblk m c 4 (start t)) := by dsimp only [dats]
  refine (congrFun q y).trans ?_
  rw [e]
  refine (congrArg _ ey).trans ?_
  exact point_sampleRows m c t _ _ _ rfl

/-- The third result after the run is the reference's. -/
theorem result_2 (c : Dev nD) : (dats m 0 c).arrAt 8 cfg0.N = gained (F := Ideal) (refRows m c) (m ((c : Thread nD τ).loc main_arg5)) := by
  refine (dats m 0 c).arrAt_eq_of_covers 8 _ (by decide +kernel) fun t _ y => ?_
  obtain ⟨-, -, -, -, -, -, -, -, ⟨h0, h1⟩, -⟩ := places t
  have hy0 : (y 0).val < 1024 := (y 0).isLt
  have hy1 : (y 1).val < 1024 := (y 1).isLt
  have ht : t.val < 16 := t.isLt
  have e : ((cfg0.win 8).blk t).view.emb y = ix2 (⟨t.val % 8 * 1024 + (y 0).val, by omega⟩ : Fin 8192) (⟨t.val / 8 * 1024 + (y 1).val, by omega⟩ : Fin 2048) := by
    funext a; apply Fin.ext
    match a with
    | ⟨0, _⟩ => show win0_8.index t 0 * 1024 + 1 * (y 0).val = _; rw [h0]; simp
    | ⟨1, _⟩ => show win0_8.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  have q : (dats m 0 c).after 8 t = k0_pay3 (F := Ideal) (iblk m c 0 t) (wts m c t) (iblk m c 3 t) (iblk m c 5 t) := by dsimp only [dats]
  refine (congrFun q y).trans ?_
  rw [e, gained_at]
  refine (congrArg _ ey).trans ?_
  rw [pt_gain]
  exact congrArg₂ _ (point_rows m c t _ _ _ _ rfl rfl) (iblk_5 m c _ _ _ rfl)

/-- The fourth result after the run is the reference's. -/
theorem result_3 (c : Dev nD) : (dats m 0 c).arrAt 9 cfg0.N = sampleGained (F := Ideal) (refSampleRows m c) (m ((c : Thread nD τ).loc main_arg5)) := by
  refine (dats m 0 c).arrAt_eq_of_covers 9 _ (by decide +kernel) fun t _ y => ?_
  obtain ⟨-, -, -, -, -, -, -, -, -, ⟨h0, h1⟩, -⟩ := places t
  have hy0 : (y 0).val < 8 := (y 0).isLt
  have hy1 : (y 1).val < 1024 := (y 1).isLt
  have ht : t.val < 16 := t.isLt
  have e : ((cfg0.win 9).blk t).view.emb y = ix2 (⟨(y 0).val, hy0⟩ : Fin 8) (⟨t.val / 8 * 1024 + (y 1).val, by omega⟩ : Fin 2048) := by
    funext a; apply Fin.ext
    match a with
    | ⟨0, _⟩ => show win0_9.index t 0 * 8 + 1 * (y 0).val = _; rw [h0]; simp
    | ⟨1, _⟩ => show win0_9.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  have q : (dats m 0 c).after 9 t = k0_pay7 (F := Ideal) (iblk m c 1 (start t)) (wts m c t) (iblk m c 4 (start t)) (iblk m c 5 (start t)) := by dsimp only [dats]
  refine (congrFun q y).trans ?_
  rw [e, sampleGained_at]
  refine (congrArg _ ey).trans ?_
  rw [first_gain]
  exact congrArg₂ _ (point_sampleRows m c t _ _ _ rfl) (iblk_5 m c _ _ _ (by simp only [start]; omega))

/-- The fifth result after the run is the reference's. -/
theorem result_4 (c : Dev nD) : (dats m 0 c).arrAt 10 cfg0.N = parts (F := Ideal) (refRows m c) := by
  refine (dats m 0 c).arrAt_eq_of_covers 10 _ (by decide +kernel) fun t _ y => ?_
  obtain ⟨-, -, -, -, -, -, -, -, -, -, ⟨h0, h1, h2⟩, -⟩ := places t
  have hy0 : (y 0).val < 1 := (y 0).isLt
  have hy1 : (y 1).val < 1024 := (y 1).isLt
  have hy2 : (y 2).val < 128 := (y 2).isLt
  have ht : t.val < 16 := t.isLt
  have e : ((cfg0.win 10).blk t).view.emb y = ix3 (⟨t.val / 8, by omega⟩ : Fin 2) (⟨t.val % 8 * 1024 + (y 1).val, by omega⟩ : Fin 8192) (⟨(y 2).val, hy2⟩ : Fin 128) := by
    funext a; apply Fin.ext
    match a with
    | ⟨0, _⟩ => show win0_10.index t 0 * 1 + 1 * (y 0).val = t.val / 8; omega
    | ⟨1, _⟩ => show win0_10.index t 1 * 1024 + 1 * (y 1).val = _; rw [h1]; simp
    | ⟨2, _⟩ => show win0_10.index t 2 * 128 + 1 * (y 2).val = (y 2).val; omega
  have ey : y = ix3 (0 : Fin 1) (⟨(y 1).val, hy1⟩ : Fin 1024) (⟨(y 2).val, hy2⟩ : Fin 128) := by
    funext a; match a with | ⟨0, _⟩ => exact Fin.ext (show (y 0).val = 0 by omega) | ⟨1, _⟩ => rfl | ⟨2, _⟩ => rfl
  have q : (dats m 0 c).after 10 t = k0_pay4 (F := Ideal) (iblk m c 0 t) (wts m c t) (iblk m c 3 t) := by dsimp only [dats]
  refine (congrFun q y).trans ?_
  rw [e, parts_at]
  refine (congrArg _ ey).trans ?_
  rw [pt_squares]
  refine (Finset.sum_congr rfl fun q _ => congrArg₂ _ (point_rows m c t _ _ _ _ ?_ ?_) (point_rows m c t _ _ _ _ ?_ ?_) : (_ : EReal) = _) <;> first | rfl | exact Nat.add_assoc ..

/-- The sixth result after the run is the reference's. -/
theorem result_5 (c : Dev nD) : (dats m 0 c).arrAt 11 cfg0.N = sampleParts (F := Ideal) (refSampleRows m c) := by
  refine (dats m 0 c).arrAt_eq_of_covers 11 _ (by decide +kernel) fun t _ y => ?_
  obtain ⟨-, -, -, -, -, -, -, -, -, -, -, ⟨h0, h1, h2⟩⟩ := places t
  have hy0 : (y 0).val < 1 := (y 0).isLt
  have hy1 : (y 1).val < 8 := (y 1).isLt
  have hy2 : (y 2).val < 128 := (y 2).isLt
  have ht : t.val < 16 := t.isLt
  have e : ((cfg0.win 11).blk t).view.emb y = ix3 (⟨t.val / 8, by omega⟩ : Fin 2) (⟨(y 1).val, hy1⟩ : Fin 8) (⟨(y 2).val, hy2⟩ : Fin 128) := by
    funext a; apply Fin.ext
    match a with
    | ⟨0, _⟩ => show win0_11.index t 0 * 1 + 1 * (y 0).val = t.val / 8; omega
    | ⟨1, _⟩ => show win0_11.index t 1 * 8 + 1 * (y 1).val = _; rw [h1]; simp
    | ⟨2, _⟩ => show win0_11.index t 2 * 128 + 1 * (y 2).val = (y 2).val; omega
  have ey : y = ix3 (0 : Fin 1) (⟨(y 1).val, hy1⟩ : Fin 8) (⟨(y 2).val, hy2⟩ : Fin 128) := by
    funext a; match a with | ⟨0, _⟩ => exact Fin.ext (show (y 0).val = 0 by omega) | ⟨1, _⟩ => rfl | ⟨2, _⟩ => rfl
  have q : (dats m 0 c).after 11 t = k0_pay1 (F := Ideal) (k0_pay8 (F := Ideal) (iblk m c 1 (start t)) (wts m c t) (iblk m c 4 (start t))) := by dsimp only [dats]
  refine (congrFun q y).trans ?_
  rw [e, sampleParts_at]
  refine (congrArg _ ey).trans ?_
  rw [first_squares]
  refine (Finset.sum_congr rfl fun q _ => congrArg₂ _ (point_sampleRows m c t _ _ _ ?_) (point_sampleRows m c t _ _ _ ?_) : (_ : EReal) = _) <;> exact Nat.add_assoc ..

end Cert.OutOddIdeal.Own

end
-- ==== Proof.OutOddClaim.lean ====
/- The claims of the product that ends the odd layers' mixer. -/
module

public import proofs.«01_k».proof.Defs
public import proofs.«01_k».proof.Proof.Gen.OutOdd
public import proofs.«01_k».proof.Proof.OutOddValue
public import Idealize.ShloMosaic.Lib.Quiescent
public import Idealize.ShloMosaic.Adequacy
public import Idealize.ShloMosaic.Init

@[expose] public section

noncomputable section

namespace Cert.OutOddClaim

open Idealize.ShloMosaic Idealize.SL.Sem

/-- The program and its idealisation run the same pieces. -/
theorem defs₀_same : @Cert.OutOdd.defs₀ Bits _ Cert.OutOdd.Gen.facts = @Cert.OutOddIdeal.defs₀ Bits _ Cert.OutOddIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.OutOdd.defs Bits _ Cert.OutOdd.Gen.facts = @Cert.OutOddIdeal.defs Bits _ Cert.OutOddIdeal.Gen.facts :=
  congrArg (Pipeline.defs _) defs₀_same

/-- The program runs and keeps its arguments. -/
theorem kernel_runs : Cert.quiescent_OutOdd (hOutOdd := Cert.OutOdd.Gen.facts) := by
  intro m g _
  rw [defs_same]
  exact Cert.OutOddIdeal.Own.unchanged (F := Bits) m g

/-- The idealised program runs and keeps its arguments. -/
theorem ideal_runs : Cert.quiescent_OutOddIdeal (hOutOddIdeal := Cert.OutOddIdeal.Gen.facts) := fun m g _ =>
  Cert.OutOddIdeal.Own.unchanged (F := Ideal) m g

/-- The reference runs and keeps its arguments; it has no semaphores. -/
theorem reference_runs : Cert.quiescent_OutOddReferenceIdeal (hOutOddReferenceIdeal := Cert.OutOddReferenceIdeal.Gen.facts) := fun m g _ =>
  (θ_run Cert.OutOddReferenceIdeal.defs _ _).mono (fun r h => ⟨fun c => (h c).2.2.2.2.2.2, sem_eq_zero_of_no_sems (by decide) r.2⟩)
    (Cert.OutOddReferenceIdeal.Value.run m g)

/-- The kernel's results are the reference's. -/
theorem equal : Cert.algebraic_OutOddIdeal_OutOddReferenceIdeal (hOutOddIdeal := Cert.OutOddIdeal.Gen.facts) (hOutOddReferenceIdeal := Cert.OutOddReferenceIdeal.Gen.facts) := by
  intro m g m' g' _ hargs
  refine ⟨fun c => (Cert.OutOddIdeal.Own.dats m 0 c).arrAt 6 Cert.OutOddIdeal.cfg0.N, fun c => (Cert.OutOddIdeal.Own.dats m 0 c).arrAt 7 Cert.OutOddIdeal.cfg0.N, fun c => (Cert.OutOddIdeal.Own.dats m 0 c).arrAt 8 Cert.OutOddIdeal.cfg0.N, fun c => (Cert.OutOddIdeal.Own.dats m 0 c).arrAt 9 Cert.OutOddIdeal.cfg0.N, fun c => (Cert.OutOddIdeal.Own.dats m 0 c).arrAt 10 Cert.OutOddIdeal.cfg0.N, fun c => (Cert.OutOddIdeal.Own.dats m 0 c).arrAt 11 Cert.OutOddIdeal.cfg0.N, ?_, ?_⟩
  · exact (θ_run Cert.OutOddIdeal.defs _ _).mono (fun r h c => ⟨(h.1 c).1 6, (h.1 c).1 7, (h.1 c).1 8, (h.1 c).1 9, (h.1 c).1 10, (h.1 c).1 11, h.2.1 c⟩)
      (θ_run_and ((θ_run Cert.OutOddIdeal.defs _ _).mono (fun _ h => h.1) (Cert.OutOddIdeal.Own.run m g)) (Cert.OutOddIdeal.Own.unchanged (F := Ideal) m g))
  · refine (θ_run Cert.OutOddReferenceIdeal.defs _ _).mono (fun r h c => ?_) (Cert.OutOddReferenceIdeal.Value.run m' g')
    obtain ⟨h0, h1, h2, h3, h4, h5, hk⟩ := h c
    obtain ⟨a0, a1, a2, a3, a4, a5⟩ := hargs c
    refine ⟨h0.trans ?_, h1.trans ?_, h2.trans ?_, h3.trans ?_, h4.trans ?_, h5.trans ?_, hk⟩
    · rw [a0, a2, a3]
      exact (Cert.OutOddIdeal.Own.result_0 m c).symm
    · rw [a1, a2, a4]
      exact (Cert.OutOddIdeal.Own.result_1 m c).symm
    · rw [a0, a2, a3, a5]
      exact (Cert.OutOddIdeal.Own.result_2 m c).symm
    · rw [a1, a2, a4, a5]
      exact (Cert.OutOddIdeal.Own.result_3 m c).symm
    · rw [a0, a2, a3]
      exact (Cert.OutOddIdeal.Own.result_4 m c).symm
    · rw [a1, a2, a4]
      exact (Cert.OutOddIdeal.Own.result_5 m c).symm

end Cert.OutOddClaim

end
-- ==== Proof.OutEvenBody.lean ====
/- The product that ends the even layers' mixer,
   point by point: what each run of the kernel body leaves in the scratch buffer and in the six output blocks, the
   pipeline's data built on that, and the run of the whole program. -/
module

public import proofs.«01_k».proof.Proof.Gen.OutEvenIdeal.Skeleton
public import proofs.«01_k».proof.Proof.Gen.OutEvenIdeal.Frame
public import proofs.«01_k».proof.Proof.Store
public import Idealize.ShloMosaic.Lib.Claim

@[expose] public section

set_option maxRecDepth 16384

noncomputable section

namespace Cert.OutEvenIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutEvenIdeal.Gen

variable {F : FTy → Type} [FloatOps F]

local notation "𝕄" => MT nD τ sig Unit (Elt F) ℕ (UR sig nD τ) ℕ

/-- The upper half of the weights, which the first of the two row blocks meets. -/
abbrev top (W : Vec F S2048x1024 .bf16) : Vec F S1024x1024 .bf16 :=
  View.ld W (Rect.unit (s := S2048x1024) ![0, 0] S1024x1024.size inb_S2048x1024_S1024x1024_0_0)

/-- The lower half, which the second meets. -/
abbrev bot (W : Vec F S2048x1024 .bf16) : Vec F S1024x1024 .bf16 :=
  View.ld W (Rect.unit (s := S2048x1024) ![1024, 0] S1024x1024.size inb_S2048x1024_S1024x1024_1024_0)

/-- After one store over the whole scratch buffer a read of a part of it finds that part of what was stored. -/
theorem half_read (v : View sig .tc .vmem S2048x1024 .bf16) (W : Vec F S2048x1024 .bf16) (r : Rect S2048x1024) :
    v.readCov [⟨Rect.unit (s := S2048x1024) ![0, 0] S2048x1024.size inb_S2048x1024_S2048x1024_0_0, W⟩] r.toLoadRect = View.ld W r := by
  rw [View.readCov_eq_canon', View.canon_cons_unit_lit _ _ _ (by decide)]

set_option maxHeartbeats 1600000 in
/-- A point that begins a sweep over the row blocks: the weights are rounded into the scratch buffer and the sample
    rows are multiplied, then the point's own rows. -/
theorem body_first (c : Dev nD) (i : grid0.Coords) (arg2 : Memref sig .tc .vmem S1024x1024 .bf16) (harg2 : arg2.IsWhole) (arg3 : Memref sig .tc .vmem S1024x1024 .bf16) (harg3 : arg3.IsWhole)
    (arg4 : Memref sig .tc .vmem S8x1024 .bf16) (harg4 : arg4.IsWhole) (arg5 : Memref sig .tc .vmem S8x1024 .bf16) (harg5 : arg5.IsWhole)
    (arg6 : Memref sig .tc .vmem S1x2048x1024 .f32) (harg6 : arg6.IsWhole) (arg7 : Memref sig .tc .vmem S1024x1024 .f32) (harg7 : arg7.IsWhole)
    (arg8 : Memref sig .tc .vmem S8x1024 .f32) (harg8 : arg8.IsWhole) (arg9 : Memref sig .tc .vmem S1x1x1024 .f32) (harg9 : arg9.IsWhole)
    (arg10 : Memref sig .tc .vmem S1024x1024 .f32) (harg10 : arg10.IsWhole) (arg11 : Memref sig .tc .vmem S8x1024 .f32) (harg11 : arg11.IsWhole)
    (arg12 : Memref sig .tc .vmem S1024x1024 .bf16) (harg12 : arg12.IsWhole) (arg13 : Memref sig .tc .vmem S8x1024 .bf16) (harg13 : arg13.IsWhole)
    (arg14 : Memref sig .tc .vmem S1x1024x128 .f32) (harg14 : arg14.IsWhole) (arg15 : Memref sig .tc .vmem S1x8x128 .f32) (harg15 : arg15.IsWhole)
    (arg16 : Memref sig .tc .vmem S2048x1024 .bf16) (harg16 : arg16.IsWhole) (hc : k0_cond1 i = 1#1)
    (x0 : Vec F S1024x1024 .bf16) (x1 : Vec F S1024x1024 .bf16) (x2 : Vec F S8x1024 .bf16) (x3 : Vec F S8x1024 .bf16) (x4 : Vec F S1x2048x1024 .f32) (x5 : Vec F S1024x1024 .f32) (x6 : Vec F S8x1024 .f32) (x7 : Vec F S1x1x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay9 x0 (top (k0_pay2 x4)) x1 (bot (k0_pay2 x4)) x5)
            ∗ owns (c : Thread nD τ) arg11 fullShare (k0_pay3 x2 (top (k0_pay2 x4)) x3 (bot (k0_pay2 x4)) x6)
            ∗ owns (c : Thread nD τ) arg12 fullShare (k0_pay10 x0 (top (k0_pay2 x4)) x1 (bot (k0_pay2 x4)) x5 x7)
            ∗ owns (c : Thread nD τ) arg13 fullShare (k0_pay4 x2 (top (k0_pay2 x4)) x3 (bot (k0_pay2 x4)) x6 x7)
            ∗ owns (c : Thread nD τ) arg14 fullShare (k0_pay1 (k0_pay12 x0 (top (k0_pay2 x4)) x1 (bot (k0_pay2 x4)) x5) (k0_pay13 x0 (top (k0_pay2 x4)) x1 (bot (k0_pay2 x4)) x5))
            ∗ owns (c : Thread nD τ) arg15 fullShare (k0_pay8 (k0_pay5 x2 (top (k0_pay2 x4)) x3 (bot (k0_pay2 x4)) x6) (k0_pay6 x2 (top (k0_pay2 x4)) x3 (bot (k0_pay2 x4)) x6) (k0_pay7 x2 (top (k0_pay2 x4)) x3 (bot (k0_pay2 x4)) x6))
            ∗ owns (c : Thread nD τ) arg16 fullShare (k0_pay2 x4)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_matmul_eq_skeleton]; unfold cc0_matmul_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := sl_exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iapply (Cert.Own.owns_store c arg10 _ _ (by decide) _ _ ?_) $$ H8
    simp only [View.readAt_eq_ld, harg2.read_unread, harg6.read_unread, harg3.read_unread, harg7.read_unread]
    rw [half_read, half_read, View.ld_unit_lit _ x0 (by decide), View.ld_unit_lit _ x4 (by decide), View.ld_unit_lit _ x1 (by decide), View.ld_unit_lit _ x5 (by decide)]
  isplitl [H9]
  · iapply (Cert.Own.owns_store c arg11 _ _ (by decide) _ _ ?_) $$ H9
    simp only [View.readAt_eq_ld, harg4.read_unread, harg6.read_unread, harg5.read_unread, harg8.read_unread]
    rw [half_read, half_read, View.ld_unit_lit _ x2 (by decide), View.ld_unit_lit _ x4 (by decide), View.ld_unit_lit _ x3 (by decide), View.ld_unit_lit _ x6 (by decide)]
  isplitl [H10]
  · iapply (Cert.Own.owns_store c arg12 _ _ (by decide) _ _ ?_) $$ H10
    simp only [View.readAt_eq_ld, harg2.read_unread, harg6.read_unread, harg3.read_unread, harg7.read_unread, harg9.read_unread]
    rw [half_read, half_read, View.ld_unit_lit _ x0 (by decide), View.ld_unit_lit _ x4 (by decide), View.ld_unit_lit _ x1 (by decide), View.ld_unit_lit _ x5 (by decide), View.ld_unit_lit _ x7 (by decide)]
  isplitl [H11]
  · iapply (Cert.Own.owns_store c arg13 _ _ (by decide) _ _ ?_) $$ H11
    simp only [View.readAt_eq_ld, harg4.read_unread, harg6.read_unread, harg5.read_unread, harg8.read_unread, harg9.read_unread]
    rw [half_read, half_read, View.ld_unit_lit _ x2 (by decide), View.ld_unit_lit _ x4 (by decide), View.ld_unit_lit _ x3 (by decide), View.ld_unit_lit _ x6 (by decide), View.ld_unit_lit _ x7 (by decide)]
  isplitl [H12]
  · iapply (Cert.Own.owns_store c arg14 _ _ (by decide) _ _ ?_) $$ H12
    simp only [View.readAt_eq_ld, harg2.read_unread, harg6.read_unread, harg3.read_unread, harg7.read_unread]
    rw [half_read, half_read, View.ld_unit_lit _ x0 (by decide), View.ld_unit_lit _ x4 (by decide), View.ld_unit_lit _ x1 (by decide), View.ld_unit_lit _ x5 (by decide)]
  isplitl [H13]
  · iapply (Cert.Own.owns_store c arg15 _ _ (by decide) _ _ ?_) $$ H13
    simp only [View.readAt_eq_ld, harg4.read_unread, harg6.read_unread, harg5.read_unread, harg8.read_unread]
    rw [half_read, half_read, View.ld_unit_lit _ x2 (by decide), View.ld_unit_lit _ x4 (by decide), View.ld_unit_lit _ x3 (by decide), View.ld_unit_lit _ x6 (by decide)]
  iapply (Cert.Own.owns_store c arg16 _ _ (by decide) _ _ ?_) $$ HS
  simp only [View.readAt_eq_ld, harg6.read_unread]
  rw [View.ld_unit_lit _ x4 (by decide)]

set_option maxHeartbeats 1600000 in
/-- Any other point of a sweep: the point's own rows times the rounded weights of the scratch buffer. -/
theorem body_next (c : Dev nD) (i : grid0.Coords) (arg2 : Memref sig .tc .vmem S1024x1024 .bf16) (harg2 : arg2.IsWhole) (arg3 : Memref sig .tc .vmem S1024x1024 .bf16) (harg3 : arg3.IsWhole)
    (arg4 : Memref sig .tc .vmem S8x1024 .bf16) (harg4 : arg4.IsWhole) (arg5 : Memref sig .tc .vmem S8x1024 .bf16) (harg5 : arg5.IsWhole)
    (arg6 : Memref sig .tc .vmem S1x2048x1024 .f32) (harg6 : arg6.IsWhole) (arg7 : Memref sig .tc .vmem S1024x1024 .f32) (harg7 : arg7.IsWhole)
    (arg8 : Memref sig .tc .vmem S8x1024 .f32) (harg8 : arg8.IsWhole) (arg9 : Memref sig .tc .vmem S1x1x1024 .f32) (harg9 : arg9.IsWhole)
    (arg10 : Memref sig .tc .vmem S1024x1024 .f32) (harg10 : arg10.IsWhole) (arg11 : Memref sig .tc .vmem S8x1024 .f32) (harg11 : arg11.IsWhole)
    (arg12 : Memref sig .tc .vmem S1024x1024 .bf16) (harg12 : arg12.IsWhole) (arg13 : Memref sig .tc .vmem S8x1024 .bf16) (harg13 : arg13.IsWhole)
    (arg14 : Memref sig .tc .vmem S1x1024x128 .f32) (harg14 : arg14.IsWhole) (arg15 : Memref sig .tc .vmem S1x8x128 .f32) (harg15 : arg15.IsWhole)
    (arg16 : Memref sig .tc .vmem S2048x1024 .bf16) (harg16 : arg16.IsWhole) (hc : ¬k0_cond1 i = 1#1)
    (x0 : Vec F S1024x1024 .bf16) (x1 : Vec F S1024x1024 .bf16) (x5 : Vec F S1024x1024 .f32) (x7 : Vec F S1x1x1024 .f32) (w : Vec F S2048x1024 .bf16)
    (K : PUnit → sProp 𝕄) :
    iprop(owns (c : Thread nD τ) arg2 fullShare x0 ∗ owns (c : Thread nD τ) arg3 fullShare x1 ∗ owns (c : Thread nD τ) arg7 fullShare x5 ∗ owns (c : Thread nD τ) arg9 fullShare x7
        ∗ (∃ d, owns (c : Thread nD τ) arg10 fullShare d) ∗ (∃ d, owns (c : Thread nD τ) arg12 fullShare d) ∗ (∃ d, owns (c : Thread nD τ) arg14 fullShare d)
        ∗ owns (c : Thread nD τ) arg16 fullShare w
        ∗ (iprop(owns (c : Thread nD τ) arg2 fullShare x0 ∗ owns (c : Thread nD τ) arg3 fullShare x1 ∗ owns (c : Thread nD τ) arg7 fullShare x5 ∗ owns (c : Thread nD τ) arg9 fullShare x7
            ∗ owns (c : Thread nD τ) arg10 fullShare (k0_pay9 x0 (top w) x1 (bot w) x5)
            ∗ owns (c : Thread nD τ) arg12 fullShare (k0_pay10 x0 (top w) x1 (bot w) x5 x7)
            ∗ owns (c : Thread nD τ) arg14 fullShare (k0_pay1 (k0_pay12 x0 (top w) x1 (bot w) x5) (k0_pay13 x0 (top w) x1 (bot w) x5))
            ∗ owns (c : Thread nD τ) arg16 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_matmul_eq_skeleton]; unfold cc0_matmul_skel
  simp only [k0_part2_eq_skeleton]; unfold k0_part2_skel
  unfold owns
  iintro ⟨⟨%f0, %hf0, H0⟩, ⟨%f1, %hf1, H1⟩, ⟨%f5, %hf5, H5⟩, ⟨%f7, %hf7, H7⟩, ⟨%d8, %f8, -, H8⟩, ⟨%d10, %f10, -, H10⟩, ⟨%d12, %f12, -, H12⟩, ⟨%fs, %hfs, HS⟩, Hk⟩
  obtain rfl := harg2.eq_unread hf0; obtain rfl := harg3.eq_unread hf1; obtain rfl := harg7.eq_unread hf5; obtain rfl := harg9.eq_unread hf7; obtain rfl := harg16.eq_unread hfs
  sl_exec (disch := sl_exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H5]
  · iexists _; isplitr; · ipureintro; exact harg7.read_unread _
    iexact H5
  isplitl [H7]
  · iexists _; isplitr; · ipureintro; exact harg9.read_unread _
    iexact H7
  isplitl [H8]
  · iapply (Cert.Own.owns_store c arg10 _ _ (by decide) _ _ ?_) $$ H8
    simp only [View.readAt_eq_ld, harg2.read_unread, harg3.read_unread, harg7.read_unread, harg16.read_unread]
    rw [View.ld_unit_lit _ x0 (by decide), View.ld_unit_lit _ x1 (by decide), View.ld_unit_lit _ x5 (by decide)]
  isplitl [H10]
  · iapply (Cert.Own.owns_store c arg12 _ _ (by decide) _ _ ?_) $$ H10
    simp only [View.readAt_eq_ld, harg2.read_unread, harg3.read_unread, harg7.read_unread, harg9.read_unread, harg16.read_unread]
    rw [View.ld_unit_lit _ x0 (by decide), View.ld_unit_lit _ x1 (by decide), View.ld_unit_lit _ x5 (by decide), View.ld_unit_lit _ x7 (by decide)]
  isplitl [H12]
  · iapply (Cert.Own.owns_store c arg14 _ _ (by decide) _ _ ?_) $$ H12
    simp only [View.readAt_eq_ld, harg2.read_unread, harg3.read_unread, harg7.read_unread, harg16.read_unread]
    rw [View.ld_unit_lit _ x0 (by decide), View.ld_unit_lit _ x1 (by decide), View.ld_unit_lit _ x5 (by decide)]
  iexists _; isplitr; · ipureintro; exact harg16.read_unread _
  iexact HS

/-! ## The pipeline's data -/

/-- The body's condition holds at the first point of each sweep. -/
theorem cond_iff : ∀ t : Fin cfg0.N, k0_cond1 (grid0.coords t) = 1#1 ↔ t.val % 8 = 0 := by decide +kernel

/-- The first point of the sweep `t` belongs to. -/
def start (t : Fin cfg0.N) : Fin cfg0.N := ⟨t.val - t.val % 8, lt_of_le_of_lt (Nat.sub_le _ _) t.isLt⟩

theorem start_first (t : Fin cfg0.N) (h : t.val % 8 = 0) : start t = t := Fin.ext (by simp only [start]; omega)

theorem start_pred (t : Fin cfg0.N) (h : ¬t.val % 8 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S2048x1024 .bf16 := k0_pay2 (iblk m c 4 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the results of the prompt's rows what the point
    stores, those of the sample rows what the sweep's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay9 (iblk m c 0 t) (top (wts m c t)) (iblk m c 1 t) (bot (wts m c t)) (iblk m c 5 t)
    | ⟨9, _⟩ => k0_pay3 (iblk m c 2 (start t)) (top (wts m c t)) (iblk m c 3 (start t)) (bot (wts m c t)) (iblk m c 6 (start t))
    | ⟨10, _⟩ => k0_pay10 (iblk m c 0 t) (top (wts m c t)) (iblk m c 1 t) (bot (wts m c t)) (iblk m c 5 t) (iblk m c 7 t)
    | ⟨11, _⟩ => k0_pay4 (iblk m c 2 (start t)) (top (wts m c t)) (iblk m c 3 (start t)) (bot (wts m c t)) (iblk m c 6 (start t)) (iblk m c 7 (start t))
    | ⟨12, _⟩ => k0_pay1 (k0_pay12 (iblk m c 0 t) (top (wts m c t)) (iblk m c 1 t) (bot (wts m c t)) (iblk m c 5 t)) (k0_pay13 (iblk m c 0 t) (top (wts m c t)) (iblk m c 1 t) (bot (wts m c t)) (iblk m c 5 t))
    | ⟨13, _⟩ => k0_pay8 (k0_pay5 (iblk m c 2 (start t)) (top (wts m c t)) (iblk m c 3 (start t)) (bot (wts m c t)) (iblk m c 6 (start t))) (k0_pay6 (iblk m c 2 (start t)) (top (wts m c t)) (iblk m c 3 (start t)) (bot (wts m c t)) (iblk m c 6 (start t))) (k0_pay7 (iblk m c 2 (start t)) (top (wts m c t)) (iblk m c 3 (start t)) (bot (wts m c t)) (iblk m c 6 (start t)))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d

/-- Output block 10 is kept where nothing is stored into it. -/
theorem kept_9 (c : Dev nD) (t : Fin cfg0.N) (h : ¬t.val % 8 = 0) :
    iprop(∃ d, owns (c : Thread nD τ) (st0_9 t) fullShare ((dats m 0 c).before 9 t d)) ⊢ (dats m 0 c).leavesExact 9 t :=
  Cert.Own.retained (dats m 0 c) 9 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 9 (grid0.coords t) = true) t h)
    (fun _ => by simpa using h)

/-- Output block 12 is kept where nothing is stored into it. -/
theorem kept_11 (c : Dev nD) (t : Fin cfg0.N) (h : ¬t.val % 8 = 0) :
    iprop(∃ d, owns (c : Thread nD τ) (st0_11 t) fullShare ((dats m 0 c).before 11 t d)) ⊢ (dats m 0 c).leavesExact 11 t :=
  Cert.Own.retained (dats m 0 c) 11 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 11 (grid0.coords t) = true) t h)
    (fun _ => by simpa using h)

/-- Output block 14 is kept where nothing is stored into it. -/
theorem kept_13 (c : Dev nD) (t : Fin cfg0.N) (h : ¬t.val % 8 = 0) :
    iprop(∃ d, owns (c : Thread nD τ) (st0_13 t) fullShare ((dats m 0 c).before 13 t d)) ⊢ (dats m 0 c).leavesExact 13 t :=
  Cert.Own.retained (dats m 0 c) 13 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 13 (grid0.coords t) = true) t h)
    (fun _ => by simpa using h)

/-! ## The body at a point -/

set_option maxHeartbeats 3200000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d))
      ∗ (∃ d, owns (c : Thread nD τ) (st0_13 t) fullShare ((dats m 0 c).before 13 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)) := by
  unfold bodyAt0
  simp only [before_0, before_1, before_2, before_3, before_4, before_5, before_6, before_7]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (iblk m c 5 t) from rfl,
    show (dats m 0 c).leavesExact 6 t = owns (c : Thread nD τ) (st0_6 t) fullShare (iblk m c 6 t) from rfl,
    show (dats m 0 c).leavesExact 7 t = owns (c : Thread nD τ) (st0_7 t) fullShare (iblk m c 7 t) from rfl,
    show (dats m 0 c).leavesExact 8 t = owns (c : Thread nD τ) (st0_8 t) fullShare (k0_pay9 (iblk m c 0 t) (top (wts m c t)) (iblk m c 1 t) (bot (wts m c t)) (iblk m c 5 t)) from rfl,
    show (dats m 0 c).leavesExact 10 t = owns (c : Thread nD τ) (st0_10 t) fullShare (k0_pay10 (iblk m c 0 t) (top (wts m c t)) (iblk m c 1 t) (bot (wts m c t)) (iblk m c 5 t) (iblk m c 7 t)) from rfl,
    show (dats m 0 c).leavesExact 12 t = owns (c : Thread nD τ) (st0_12 t) fullShare (k0_pay1 (k0_pay12 (iblk m c 0 t) (top (wts m c t)) (iblk m c 1 t) (bot (wts m c t)) (iblk m c 5 t)) (k0_pay13 (iblk m c 0 t) (top (wts m c t)) (iblk m c 1 t) (bot (wts m c t)) (iblk m c 5 t))) from rfl]
  by_cases h : t.val % 8 = 0
  · have e9 : (dats m 0 c).leavesExact 9 t = owns (c : Thread nD τ) (st0_9 t) fullShare (k0_pay3 (iblk m c 2 t) (top (wts m c t)) (iblk m c 3 t) (bot (wts m c t)) (iblk m c 6 t)) := by
      unfold Dat.leavesExact
      rw [(by decide +kernel : ∀ t : Fin cfg0.N, t.val % 8 = 0 → cfg0.idle 9 (grid0.coords t) = false) t h]
      dsimp only [dats]; rw [start_first t h]
    have e11 : (dats m 0 c).leavesExact 11 t = owns (c : Thread nD τ) (st0_11 t) fullShare (k0_pay4 (iblk m c 2 t) (top (wts m c t)) (iblk m c 3 t) (bot (wts m c t)) (iblk m c 6 t) (iblk m c 7 t)) := by
      unfold Dat.leavesExact
      rw [(by decide +kernel : ∀ t : Fin cfg0.N, t.val % 8 = 0 → cfg0.idle 11 (grid0.coords t) = false) t h]
      dsimp only [dats]; rw [start_first t h]
    have e13 : (dats m 0 c).leavesExact 13 t = owns (c : Thread nD τ) (st0_13 t) fullShare (k0_pay8 (k0_pay5 (iblk m c 2 t) (top (wts m c t)) (iblk m c 3 t) (bot (wts m c t)) (iblk m c 6 t)) (k0_pay6 (iblk m c 2 t) (top (wts m c t)) (iblk m c 3 t) (bot (wts m c t)) (iblk m c 6 t)) (k0_pay7 (iblk m c 2 t) (top (wts m c t)) (iblk m c 3 t) (bot (wts m c t)) (iblk m c 6 t))) := by
      unfold Dat.leavesExact
      rw [(by decide +kernel : ∀ t : Fin cfg0.N, t.val % 8 = 0 → cfg0.idle 13 (grid0.coords t) = false) t h]
      dsimp only [dats]; rw [start_first t h]
    rw [e9, e11, e13, show wts m c t = k0_pay2 (iblk m c 4 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave ⟨HS, Hg⟩ := key $$ HΦ
    iapply (body_first c (grid0.coords t) _ _ _ _ _ _ _ _ _ _ _ _ _ _ _ _ _ _ _ _ _ _ _ _ _ _ _ _ _ _ ((cond_iff t).mpr h)
      (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, H11, ⟨%d12, H12⟩, H13⟩
    iapply (body_next c (grid0.coords t) _ _ _ _ _ _ _ _ _ _ _ _ _ _ _ _ _ _ _ _ _ _ _ _ _ _ _ _ _ _ (fun e => h ((cond_iff t).mp e))
      (iblk m c 0 t) (iblk m c 1 t) (iblk m c 5 t) (iblk m c 7 t) (wts m c t) _)
    isplitl [H0]; · iexact H0
    isplitl [H1]; · iexact H1
    isplitl [H5]; · iexact H5
    isplitl [H7]; · iexact H7
    isplitl [H8]; · iexists _; iexact H8
    isplitl [H10]; · iexists _; iexact H10
    isplitl [H12]; · iexists _; iexact H12
    isplitl [HS]; · iexact HS
    iintro ⟨H0, H1, H5, H7, H8, H10, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (kept_9 m c t h) $$ H9
    isplitl [H10]; · iexact H10
    isplitl [H11]; · iapply (kept_11 m c t h) $$ H11
    isplitl [H12]; · iexact H12
    iapply (kept_13 m c t h) $$ H13

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.OutEvenIdeal.Own

end
-- ==== Proof.OutEvenValue.lean ====
/- The value of the product that ends the even layers' mixer: every result is the reference's. -/
module

public import proofs.«01_k».proof.Proof.OutEvenBody
public import proofs.«01_k».proof.Proof.Gen.OutEvenReferenceIdeal.Run
public import Idealize.ShloMosaic.Lib.Pipeline.ValueKit.Geometry
public import Idealize.ShloMosaic.Lib.Pipeline.ValueKit.Tiles
public import Idealize.ShloMosaic.Lib.Pointwise
public import Idealize.ShloMosaic.Lib.ReduceAll
public import Idealize.ShloMosaic.Lib.Affine
public import Idealize.ShloMosaic.Lib.ValueLayout
public import Idealize.ShloMosaic.Lib.Tactic

@[expose] public section

noncomputable section

open Idealize.ShloMosaic Idealize.ShloMosaic.TcCoe Idealize.SL.Sem Idealize.ShloMosaic.Pipeline

namespace Cert.OutEvenReferenceIdeal.Own

open Cert.OutEvenReferenceIdeal Cert.OutEvenReferenceIdeal.Gen

/-- The residual rows of the prompt: the rows that came in and the product with the layer's weights. -/
def rows {F : FTy → Type} [FloatOps F] (a b : FVec F S8192x1024 .bf16) (w : FVec F S2x2048x2048 .f32) (res : FVec F S8192x2048 .f32) : FVec F S8192x2048 .f32 :=
  addf res (Host.dotGeneral dot_S8192x2048_S2048x2048_S8192x2048_1_0_0_1_n_n none (extf .f32 (concatenate S8192x2048 1 [⟨S8192x1024, a⟩, ⟨S8192x1024, b⟩] concatenates_S8192x1024_S8192x1024_S8192x2048_d1) bitsLt_bf16_f32) (shapeCast _ (extractStridedSlice S1x2048x2048 ![1, 0, 0] w slices_S2x2048x2048_S1x2048x2048_1_0_0) shapeCasts_S1x2048x2048_S2048x2048))

/-- Rows of the prompt times the next layer's gains. -/
def gained {F : FTy → Type} [FloatOps F] (x : FVec F S8192x2048 .f32) (g : FVec F S4x2048 .f32) : FVec F S8192x2048 .bf16 :=
  truncf .bf16 (mulf x (broadcastInDim S8192x2048 ![0, 1] bcast_S1x2048_S8192x2048_0_1 (broadcastInDim S1x2048 ![1] bcast_S2048_S1x2048_1 (shapeCast _ (extractStridedSlice S1x2048 ![2, 0] g slices_S4x2048_S1x2048_2_0) shapeCasts_S1x2048_S2048)))) bitsLt_bf16_f32

/-- The sums of the squares of the rows of the prompt, in parts. -/
def parts {F : FTy → Type} [FloatOps F] (x : FVec F S8192x2048 .f32) : FVec F S2x8192x128 .f32 :=
  transpose S2x8192x128 [1, 0, 2] (Host.reduceAdd (shapeCast _ (mulf x x) shapeCasts_S8192x2048_S8192x2x8x128) (constant S_ .f32 0x00000000#32) reducesTo_S8192x2x8x128_S8192x2x128_d2 h_S_) transposes_S8192x2x128_S2x8192x128_1_0_2

/-- A residual row of the prompt at a column: the two halves' products apart. -/
theorem rows_at (a b : FVec Ideal S8192x1024 .bf16) (w : FVec Ideal S2x2048x2048 .f32) (res : FVec Ideal S8192x2048 .f32) (r : Fin 8192) (j : Fin 2048) :
    rows a b w res (ix2 r j) = res (ix2 r j) + ((∑ k : Fin 1024, a (ix2 r k) * w (ix3 1 ⟨k.val, by omega⟩ j)) + ∑ k : Fin 1024, b (ix2 r k) * w (ix3 1 ⟨1024 + k.val, by omega⟩ j)) := by
  pointwise [rows]

/-- The same times the gain of the column. -/
theorem gained_at (x : FVec Ideal S8192x2048 .f32) (g : FVec Ideal S4x2048 .f32) (r : Fin 8192) (j : Fin 2048) :
    gained x g (ix2 r j) = x (ix2 r j) * g (ix2 2 j) := by
  pointwise [gained]

/-- A part of a row's squares: those of every 128th column of a block of 1024. -/
theorem parts_at (x : FVec Ideal S8192x2048 .f32) (p : Fin 2) (r : Fin 8192) (l : Fin 128) :
    parts x (ix3 p r l) = ∑ q : Fin 8, x (ix2 r ⟨p.val * 1024 + q.val * 128 + l.val, by omega⟩) * x (ix2 r ⟨p.val * 1024 + q.val * 128 + l.val, by omega⟩) := by
  pointwise [parts]

/-- The residual rows of the sample: the rows that came in and the product with the layer's weights. -/
def sampleRows {F : FTy → Type} [FloatOps F] (a b : FVec F S8x1024 .bf16) (w : FVec F S2x2048x2048 .f32) (res : FVec F S8x2048 .f32) : FVec F S8x2048 .f32 :=
  addf res (Host.dotGeneral dot_S8x2048_S2048x2048_S8x2048_1_0_0_1_n_n none (extf .f32 (concatenate S8x2048 1 [⟨S8x1024, a⟩, ⟨S8x1024, b⟩] concatenates_S8x1024_S8x1024_S8x2048_d1) bitsLt_bf16_f32) (shapeCast _ (extractStridedSlice S1x2048x2048 ![1, 0, 0] w slices_S2x2048x2048_S1x2048x2048_1_0_0) shapeCasts_S1x2048x2048_S2048x2048))

/-- Rows of the sample times the next layer's gains. -/
def sampleGained {F : FTy → Type} [FloatOps F] (x : FVec F S8x2048 .f32) (g : FVec F S4x2048 .f32) : FVec F S8x2048 .bf16 :=
  truncf .bf16 (mulf x (broadcastInDim S8x2048 ![0, 1] bcast_S1x2048_S8x2048_0_1 (broadcastInDim S1x2048 ![1] bcast_S2048_S1x2048_1 (shapeCast _ (extractStridedSlice S1x2048 ![2, 0] g slices_S4x2048_S1x2048_2_0) shapeCasts_S1x2048_S2048)))) bitsLt_bf16_f32

/-- The sums of the squares of the rows of the sample, in parts. -/
def sampleParts {F : FTy → Type} [FloatOps F] (x : FVec F S8x2048 .f32) : FVec F S2x8x128 .f32 :=
  transpose S2x8x128 [1, 0, 2] (Host.reduceAdd (shapeCast _ (mulf x x) shapeCasts_S8x2048_S8x2x8x128) (constant S_ .f32 0x00000000#32) reducesTo_S8x2x8x128_S8x2x128_d2 h_S_) transposes_S8x2x128_S2x8x128_1_0_2

/-- A residual row of the sample at a column: the two halves' products apart. -/
theorem sampleRows_at (a b : FVec Ideal S8x1024 .bf16) (w : FVec Ideal S2x2048x2048 .f32) (res : FVec Ideal S8x2048 .f32) (r : Fin 8) (j : Fin 2048) :
    sampleRows a b w res (ix2 r j) = res (ix2 r j) + ((∑ k : Fin 1024, a (ix2 r k) * w (ix3 1 ⟨k.val, by omega⟩ j)) + ∑ k : Fin 1024, b (ix2 r k) * w (ix3 1 ⟨1024 + k.val, by omega⟩ j)) := by
  pointwise [sampleRows]

/-- The same times the gain of the column. -/
theorem sampleGained_at (x : FVec Ideal S8x2048 .f32) (g : FVec Ideal S4x2048 .f32) (r : Fin 8) (j : Fin 2048) :
    sampleGained x g (ix2 r j) = x (ix2 r j) * g (ix2 2 j) := by
  pointwise [sampleGained]

/-- A part of a row's squares: those of every 128th column of a block of 1024. -/
theorem sampleParts_at (x : FVec Ideal S8x2048 .f32) (p : Fin 2) (r : Fin 8) (l : Fin 128) :
    sampleParts x (ix3 p r l) = ∑ q : Fin 8, x (ix2 r ⟨p.val * 1024 + q.val * 128 + l.val, by omega⟩) * x (ix2 r ⟨p.val * 1024 + q.val * 128 + l.val, by omega⟩) := by
  pointwise [sampleParts]

end Cert.OutEvenReferenceIdeal.Own

namespace Cert.OutEvenIdeal.Own

open Cert.OutEvenIdeal Cert.OutEvenIdeal.Gen Cert.OutEvenReferenceIdeal.Own

/-- The rounded weights are the weights. -/
theorem wpay_at (w : FVec Ideal S1x2048x1024 .f32) (k : Fin 2048) (j : Fin 1024) :
    k0_pay2 (F := Ideal) w (ix2 k j) = w (ix3 0 k j) := by
  pointwise [k0_pay2]

/-- The upper half of the weights, at a row and a column. -/
theorem top_at (W : FVec Ideal S2048x1024 .bf16) (k j : Fin 1024) : (top (F := Ideal) W : FVec Ideal S1024x1024 .bf16) (ix2 k j) = W (ix2 (⟨k.val, by omega⟩ : Fin 2048) j) :=
  View.ld_unit_apply_of _ _ _ _ _ _ fun a => by
    match a with
    | ⟨0, _⟩ => exact (Nat.zero_add _).symm
    | ⟨1, _⟩ => exact (Nat.zero_add _).symm

/-- The lower half of the weights, at a row and a column. -/
theorem bot_at (W : FVec Ideal S2048x1024 .bf16) (k j : Fin 1024) : (bot (F := Ideal) W : FVec Ideal S1024x1024 .bf16) (ix2 k j) = W (ix2 (⟨1024 + k.val, by omega⟩ : Fin 2048) j) :=
  View.ld_unit_apply_of _ _ _ _ _ _ fun a => by
    match a with
    | ⟨0, _⟩ => rfl
    | ⟨1, _⟩ => exact (Nat.zero_add _).symm

/-- The residual rows a point stores, at a row and a column of the block. -/
theorem pt_row (x : FVec Ideal S1024x1024 .bf16) (w : FVec Ideal S1024x1024 .bf16) (x2 : FVec Ideal S1024x1024 .bf16) (w2 : FVec Ideal S1024x1024 .bf16) (s : FVec Ideal S1024x1024 .f32) (r : Fin 1024) (j : Fin 1024) :
    k0_pay9 (F := Ideal) x w x2 w2 s (ix2 r j) = s (ix2 r j) + ((∑ k, x (ix2 r k) * w (ix2 k j)) + ∑ k, x2 (ix2 r k) * w2 (ix2 k j)) := by
  pointwise [k0_pay9]

/-- The same times the gain of the column. -/
theorem pt_gain (x : FVec Ideal S1024x1024 .bf16) (w : FVec Ideal S1024x1024 .bf16) (x2 : FVec Ideal S1024x1024 .bf16) (w2 : FVec Ideal S1024x1024 .bf16) (s : FVec Ideal S1024x1024 .f32) (g : FVec Ideal S1x1x1024 .f32) (r : Fin 1024) (j : Fin 1024) :
    k0_pay10 (F := Ideal) x w x2 w2 s g (ix2 r j) = k0_pay9 (F := Ideal) x w x2 w2 s (ix2 r j) * g (ix3 0 0 j) := by
  unfold k0_pay10
  generalize k0_pay9 (F := Ideal) x w x2 w2 s = y
  pointwise []

/-- The sums of the squares of the residual rows a point stores, every 128th column of the block together. -/
theorem pt_squares (x : FVec Ideal S1024x1024 .bf16) (w : FVec Ideal S1024x1024 .bf16) (x2 : FVec Ideal S1024x1024 .bf16) (w2 : FVec Ideal S1024x1024 .bf16) (s : FVec Ideal S1024x1024 .f32) (r : Fin 1024) (l : Fin 128) :
    k0_pay1 (F := Ideal) (k0_pay12 (F := Ideal) x w x2 w2 s) (k0_pay13 (F := Ideal) x w x2 w2 s) (ix3 0 r l) = ∑ q : Fin 8, k0_pay9 (F := Ideal) x w x2 w2 s (ix2 r ⟨q.val * 128 + l.val, by omega⟩) * k0_pay9 (F := Ideal) x w x2 w2 s (ix2 r ⟨q.val * 128 + l.val, by omega⟩) := by
  unfold k0_pay1 k0_pay12 k0_pay13 k0_pay11
  generalize k0_pay9 (F := Ideal) x w x2 w2 s = y
  pointwise []
  have z : (⟨(0 : Fin 8).val * 128 + l.val, by omega⟩ : Fin 1024) = ⟨l.val, by omega⟩ := Fin.ext (by simp)
  rw [Fin.sum_univ_eight, z]
  rfl

/-- The residual rows a sweep's first point stores of the sample rows, at a row and a column of the block. -/
theorem first_row (x : FVec Ideal S8x1024 .bf16) (w : FVec Ideal S1024x1024 .bf16) (x2 : FVec Ideal S8x1024 .bf16) (w2 : FVec Ideal S1024x1024 .bf16) (s : FVec Ideal S8x1024 .f32) (r : Fin 8) (j : Fin 1024) :
    k0_pay3 (F := Ideal) x w x2 w2 s (ix2 r j) = s (ix2 r j) + ((∑ k, x (ix2 r k) * w (ix2 k j)) + ∑ k, x2 (ix2 r k) * w2 (ix2 k j)) := by
  pointwise [k0_pay3]

/-- The same times the gain of the column. -/
theorem first_gain (x : FVec Ideal S8x1024 .bf16) (w : FVec Ideal S1024x1024 .bf16) (x2 : FVec Ideal S8x1024 .bf16) (w2 : FVec Ideal S1024x1024 .bf16) (s : FVec Ideal S8x1024 .f32) (g : FVec Ideal S1x1x1024 .f32) (r : Fin 8) (j : Fin 1024) :
    k0_pay4 (F := Ideal) x w x2 w2 s g (ix2 r j) = k0_pay3 (F := Ideal) x w x2 w2 s (ix2 r j) * g (ix3 0 0 j) := by
  unfold k0_pay4
  generalize k0_pay3 (F := Ideal) x w x2 w2 s = y
  pointwise []

/-- The sums of the squares of the residual rows a sweep's first point stores of the sample rows, every 128th column of the block together. -/
theorem first_squares (x : FVec Ideal S8x1024 .bf16) (w : FVec Ideal S1024x1024 .bf16) (x2 : FVec Ideal S8x1024 .bf16) (w2 : FVec Ideal S1024x1024 .bf16) (s : FVec Ideal S8x1024 .f32) (r : Fin 8) (l : Fin 128) :
    k0_pay8 (F := Ideal) (k0_pay5 (F := Ideal) x w x2 w2 s) (k0_pay6 (F := Ideal) x w x2 w2 s) (k0_pay7 (F := Ideal) x w x2 w2 s) (ix3 0 r l) = ∑ q : Fin 8, k0_pay3 (F := Ideal) x w x2 w2 s (ix2 r ⟨q.val * 128 + l.val, by omega⟩) * k0_pay3 (F := Ideal) x w x2 w2 s (ix2 r ⟨q.val * 128 + l.val, by omega⟩) := by
  unfold k0_pay8 k0_pay6 k0_pay7 k0_pay5
  generalize k0_pay3 (F := Ideal) x w x2 w2 s = y
  pointwise []
  have z : (⟨(0 : Fin 8).val * 128 + l.val, by omega⟩ : Fin 1024) = ⟨l.val, by omega⟩ := Fin.ext (by simp)
  rw [Fin.sum_univ_eight, z]
  rfl

/-- Where the windows' blocks lie. -/
theorem places : ∀ t : Fin cfg0.N, (win0_0.index t 0 = t.val % 8 ∧ win0_0.index t 1 = 0)
    ∧ (win0_1.index t 0 = t.val % 8 ∧ win0_1.index t 1 = 0)
    ∧ (win0_2.index t 0 = 0 ∧ win0_2.index t 1 = 0)
    ∧ (win0_3.index t 0 = 0 ∧ win0_3.index t 1 = 0)
    ∧ (win0_4.index t 0 = 1 ∧ win0_4.index t 1 = 0 ∧ win0_4.index t 2 = t.val / 8)
    ∧ (win0_5.index t 0 = t.val % 8 ∧ win0_5.index t 1 = t.val / 8)
    ∧ (win0_6.index t 0 = 0 ∧ win0_6.index t 1 = t.val / 8)
    ∧ (win0_7.index t 0 = 2 ∧ win0_7.index t 1 = 0 ∧ win0_7.index t 2 = t.val / 8)
    ∧ (win0_8.index t 0 = t.val % 8 ∧ win0_8.index t 1 = t.val / 8)
    ∧ (win0_9.index t 0 = 0 ∧ win0_9.index t 1 = t.val / 8)
    ∧ (win0_10.index t 0 = t.val % 8 ∧ win0_10.index t 1 = t.val / 8)
    ∧ (win0_11.index t 0 = 0 ∧ win0_11.index t 1 = t.val / 8)
    ∧ (win0_12.index t 0 = t.val / 8 ∧ win0_12.index t 1 = t.val % 8 ∧ win0_12.index t 2 = 0)
    ∧ (win0_13.index t 0 = t.val / 8 ∧ win0_13.index t 1 = 0 ∧ win0_13.index t 2 = 0) := by
  decide +kernel

variable (m : (ℓ : Loc nD τ sig) → Buf (Elt Ideal) ℓ)

/-- The gains reshaped for the kernel, at a column. -/
theorem gain_at (x : FVec Ideal S4x2048 .f32) (i : Fin 2048) : shapeCast S4x1x2048 x shapeCasts_S4x2048_S4x1x2048 (ix3 2 0 i) = x (ix2 2 i) := by
  pointwise []

/-- The gains as the region finds them. -/
theorem V_main_v0 (c : Dev nD) : (V m c main_v0 : FVec Ideal S4x1x2048 .f32) =
    shapeCast S4x1x2048 (m ((c : Thread nD τ).loc main_arg7) : FVec Ideal S4x2048 .f32) shapeCasts_S4x2048_S4x1x2048 := by
  show StableHlo.after hostOps0 _ (Proc.devRef .tc main_v0) = _
  simp only [hostOps0]
  after_results_simp
  rfl

/-- Rows of the prompt a point multiplies. -/
theorem iblk_0 (c : Dev nD) (t : Fin cfg0.N) (r : Fin 1024) (k : Fin 1024) (i : Fin 8192) (hi : i.val = t.val % 8 * 1024 + r.val) :
    (iblk m c 0 t : Vec Ideal S1024x1024 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 1024 + 1 * r.val = i.val; omega
  | ⟨1, _⟩ => show win0_0.index t 1 * 1024 + 1 * k.val = k.val; omega

/-- Rows of the prompt a point multiplies. -/
theorem iblk_1 (c : Dev nD) (t : Fin cfg0.N) (r : Fin 1024) (k : Fin 1024) (i : Fin 8192) (hi : i.val = t.val % 8 * 1024 + r.val) :
    (iblk m c 1 t : Vec Ideal S1024x1024 .bf16) (ix2 r k) = m ((c : Thread nD τ).loc main_arg1) (ix2 i k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 1024 + 1 * r.val = i.val; omega
  | ⟨1, _⟩ => show win0_1.index t 1 * 1024 + 1 * k.val = k.val; omega

/-- The sample rows. -/
theorem iblk_2 (c : Dev nD) (t : Fin cfg0.N) (r : Fin 8) (k : Fin 1024) :
    (iblk m c 2 t : Vec Ideal S8x1024 .bf16) (ix2 r k) = m ((c : Thread nD τ).loc main_arg2) (ix2 r k) := by
  obtain ⟨-, -, ⟨h0, h1⟩, -⟩ := places t
  unfold iblk
  rw [View.read_apply]
  show V m c main_arg2 _ = _
  rw [V_main_arg2]
  refine congrArg _ (funext fun a => Fin.ext ?_)
  match a with
  | ⟨0, _⟩ => show win0_2.index t 0 * 8 + 1 * r.val = r.val; omega
  | ⟨1, _⟩ => show win0_2.index t 1 * 1024 + 1 * k.val = k.val; omega

/-- The sample rows. -/
theorem iblk_3 (c : Dev nD) (t : Fin cfg0.N) (r : Fin 8) (k : Fin 1024) :
    (iblk m c 3 t : Vec Ideal S8x1024 .bf16) (ix2 r k) = m ((c : Thread nD τ).loc main_arg3) (ix2 r k) := by
  obtain ⟨-, -, -, ⟨h0, h1⟩, -⟩ := places t
  unfold iblk
  rw [View.read_apply]
  show V m c main_arg3 _ = _
  rw [V_main_arg3]
  refine congrArg _ (funext fun a => Fin.ext ?_)
  match a with
  | ⟨0, _⟩ => show win0_3.index t 0 * 8 + 1 * r.val = r.val; omega
  | ⟨1, _⟩ => show win0_3.index t 1 * 1024 + 1 * k.val = k.val; omega

/-- The columns of the weights a point works with. -/
theorem iblk_4 (c : Dev nD) (t : Fin cfg0.N) (k : Fin 2048) (j : Fin 1024) (i : Fin 2048) (hi : i.val = t.val / 8 * 1024 + j.val) :
    (iblk m c 4 t : Vec Ideal S1x2048x1024 .f32) (ix3 0 k j) = m ((c : Thread nD τ).loc main_arg4) (ix3 1 k i) := by
  obtain ⟨-, -, -, -, ⟨h0, h1, h2⟩, -⟩ := places t
  unfold iblk
  rw [View.read_apply]
  show V m c main_arg4 _ = _
  rw [V_main_arg4]
  refine congrArg _ (funext fun a => Fin.ext ?_)
  match a with
  | ⟨0, _⟩ => show win0_4.index t 0 * 1 + 1 * 0 = 1; omega
  | ⟨1, _⟩ => show win0_4.index t 1 * 2048 + 1 * k.val = k.val; omega
  | ⟨2, _⟩ => show win0_4.index t 2 * 1024 + 1 * j.val = i.val; omega

/-- The block of rows that came in. -/
theorem iblk_5 (c : Dev nD) (t : Fin cfg0.N) (r : Fin 1024) (j : Fin 1024) (p : Fin 8192) (i : Fin 2048) (hp : p.val = t.val % 8 * 1024 + r.val) (hi : i.val = t.val / 8 * 1024 + j.val) :
    (iblk m c 5 t : Vec Ideal S1024x1024 .f32) (ix2 r j) = m ((c : Thread nD τ).loc main_arg5) (ix2 p i) := by
  obtain ⟨-, -, -, -, -, ⟨h0, h1⟩, -⟩ := places t
  unfold iblk
  rw [View.read_apply]
  show V m c main_arg5 _ = _
  rw [V_main_arg5]
  refine congrArg _ (funext fun a => Fin.ext ?_)
  match a with
  | ⟨0, _⟩ => show win0_5.index t 0 * 1024 + 1 * r.val = p.val; omega
  | ⟨1, _⟩ => show win0_5.index t 1 * 1024 + 1 * j.val = i.val; omega

/-- The columns of the sample rows that came in. -/
theorem iblk_6 (c : Dev nD) (t : Fin cfg0.N) (r : Fin 8) (j : Fin 1024) (i : Fin 2048) (hi : i.val = t.val / 8 * 1024 + j.val) :
    (iblk m c 6 t : Vec Ideal S8x1024 .f32) (ix2 r j) = m ((c : Thread nD τ).loc main_arg6) (ix2 r i) := by
  obtain ⟨-, -, -, -, -, -, ⟨h0, h1⟩, -⟩ := places t
  unfold iblk
  rw [View.read_apply]
  show V m c main_arg6 _ = _
  rw [V_main_arg6]
  refine congrArg _ (funext fun a => Fin.ext ?_)
  match a with
  | ⟨0, _⟩ => show win0_6.index t 0 * 8 + 1 * r.val = r.val; omega
  | ⟨1, _⟩ => show win0_6.index t 1 * 1024 + 1 * j.val = i.val; omega

/-- The gains of a point's columns. -/
theorem iblk_7 (c : Dev nD) (t : Fin cfg0.N) (j : Fin 1024) (i : Fin 2048) (hi : i.val = t.val / 8 * 1024 + j.val) :
    (iblk m c 7 t : Vec Ideal S1x1x1024 .f32) (ix3 0 0 j) = m ((c : Thread nD τ).loc main_arg7) (ix2 2 i) := by
  obtain ⟨-, -, -, -, -, -, -, ⟨h0, h1, h2⟩, -⟩ := places t
  unfold iblk
  rw [View.read_apply]
  show (V m c main_v0 : FVec Ideal S4x1x2048 .f32) _ = _
  rw [V_main_v0]
  refine (congrArg _ (?_ : _ = (ix3 2 0 i : S4x1x2048.Idx))).trans ?_
  · refine funext fun a => Fin.ext ?_
    match a with
    | ⟨0, _⟩ => show win0_7.index t 0 * 1 + 1 * 0 = 2; omega
    | ⟨1, _⟩ => show win0_7.index t 1 * 1 + 1 * 0 = 0; omega
    | ⟨2, _⟩ => show win0_7.index t 2 * 1024 + 1 * j.val = i.val; omega
  · exact gain_at _ i

/-- The weights of a sweep, at a row and a column. -/
theorem wts_at (c : Dev nD) (t : Fin cfg0.N) (k : Fin 2048) (j : Fin 1024) (i : Fin 2048) (hi : i.val = t.val / 8 * 1024 + j.val) :
    (wts m c t : Vec Ideal S2048x1024 .bf16) (ix2 k j) = m ((c : Thread nD τ).loc main_arg4) (ix3 1 k i) :=
  (wpay_at _ k j).trans (iblk_4 m c (start t) k j i (by rw [hi]; simp only [start]; omega))

/-- The reference's residual rows of the prompt. -/
def refRows (c : Dev nD) : FVec Ideal Cert.OutEvenReferenceIdeal.S8192x2048 .f32 :=
  rows (F := Ideal) (m ((c : Thread nD τ).loc main_arg0)) (m ((c : Thread nD τ).loc main_arg1)) (m ((c : Thread nD τ).loc main_arg4)) (m ((c : Thread nD τ).loc main_arg5))

/-- The reference's residual rows of the sample. -/
def refSampleRows (c : Dev nD) : FVec Ideal Cert.OutEvenReferenceIdeal.S8x2048 .f32 :=
  sampleRows (F := Ideal) (m ((c : Thread nD τ).loc main_arg2)) (m ((c : Thread nD τ).loc main_arg3)) (m ((c : Thread nD τ).loc main_arg4)) (m ((c : Thread nD τ).loc main_arg6))

/-- The residual rows a point makes are the reference's. -/
theorem point_rows (c : Dev nD) (t : Fin cfg0.N) (r : Fin 1024) (j : Fin 1024) (p : Fin 8192) (i : Fin 2048) (hp : p.val = t.val % 8 * 1024 + r.val) (hi : i.val = t.val / 8 * 1024 + j.val) :
    k0_pay9 (F := Ideal) (iblk m c 0 t) (top (wts m c t)) (iblk m c 1 t) (bot (wts m c t)) (iblk m c 5 t) (ix2 r j) = refRows m c (ix2 p i) := by
  rw [pt_row, refRows, rows_at]
  refine congrArg₂ _ (iblk_5 m c t r j p i hp hi) (congrArg₂ _ (Finset.sum_congr rfl fun k _ => congrArg₂ _ (iblk_0 m c t r k p hp) ((top_at _ k j).trans (wts_at m c t _ j i hi))) (Finset.sum_congr rfl fun k _ => congrArg₂ _ (iblk_1 m c t r k p hp) ((bot_at _ k j).trans (wts_at m c t _ j i hi))))

/-- The residual rows of the sample a sweep makes are the reference's. -/
theorem point_sampleRows (c : Dev nD) (t : Fin cfg0.N) (r : Fin 8) (j : Fin 1024) (i : Fin 2048) (hi : i.val = t.val / 8 * 1024 + j.val) :
    k0_pay3 (F := Ideal) (iblk m c 2 (start t)) (top (wts m c t)) (iblk m c 3 (start t)) (bot (wts m c t)) (iblk m c 6 (start t)) (ix2 r j) = refSampleRows m c (ix2 r i) := by
  rw [first_row, refSampleRows, sampleRows_at]
  refine congrArg₂ _ (iblk_6 m c (start t) r j i (by rw [hi]; simp only [start]; omega)) (congrArg₂ _ (Finset.sum_congr rfl fun k _ => congrArg₂ _ (iblk_2 m c (start t) r k) ((top_at _ k j).trans (wts_at m c t _ j i hi))) (Finset.sum_congr rfl fun k _ => congrArg₂ _ (iblk_3 m c (start t) r k) ((bot_at _ k j).trans (wts_at m c t _ j i hi))))

/-- The first result after the run is the reference's. -/
theorem result_0 (c : Dev nD) : (dats m 0 c).arrAt 8 cfg0.N = refRows m c := by
  refine (dats m 0 c).arrAt_eq_of_covers 8 _ (by decide +kernel) fun t _ y => ?_
  obtain ⟨-, -, -, -, -, -, -, -, ⟨h0, h1⟩, -⟩ := places t
  have hy0 : (y 0).val < 1024 := (y 0).isLt
  have hy1 : (y 1).val < 1024 := (y 1).isLt
  have ht : t.val < 16 := t.isLt
  have e : ((cfg0.win 8).blk t).view.emb y = ix2 (⟨t.val % 8 * 1024 + (y 0).val, by omega⟩ : Fin 8192) (⟨t.val / 8 * 1024 + (y 1).val, by omega⟩ : Fin 2048) := by
    funext a; apply Fin.ext
    match a with
    | ⟨0, _⟩ => show win0_8.index t 0 * 1024 + 1 * (y 0).val = _; rw [h0]; simp
    | ⟨1, _⟩ => show win0_8.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  have q : (dats m 0 c).after 8 t = k0_pay9 (F := Ideal) (iblk m c 0 t) (top (wts m c t)) (iblk m c 1 t) (bot (wts m c t)) (iblk m c 5 t) := by dsimp only [dats]
  refine (congrFun q y).trans ?_
  rw [e]
  refine (congrArg _ ey).trans ?_
  exact point_rows m c t _ _ _ _ rfl rfl

/-- The second result after the run is the reference's. -/
theorem result_1 (c : Dev nD) : (dats m 0 c).arrAt 9 cfg0.N = refSampleRows m c := by
  refine (dats m 0 c).arrAt_eq_of_covers 9 _ (by decide +kernel) fun t _ y => ?_
  obtain ⟨-, -, -, -, -, -, -, -, -, ⟨h0, h1⟩, -⟩ := places t
  have hy0 : (y 0).val < 8 := (y 0).isLt
  have hy1 : (y 1).val < 1024 := (y 1).isLt
  have ht : t.val < 16 := t.isLt
  have e : ((cfg0.win 9).blk t).view.emb y = ix2 (⟨(y 0).val, hy0⟩ : Fin 8) (⟨t.val / 8 * 1024 + (y 1).val, by omega⟩ : Fin 2048) := by
    funext a; apply Fin.ext
    match a with
    | ⟨0, _⟩ => show win0_9.index t 0 * 8 + 1 * (y 0).val = _; rw [h0]; simp
    | ⟨1, _⟩ => show win0_9.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  have q : (dats m 0 c).after 9 t = k0_pay3 (F := Ideal) (iblk m c 2 (start t)) (top (wts m c t)) (iblk m c 3 (start t)) (bot (wts m c t)) (iblk m c 6 (start t)) := by dsimp only [dats]
  refine (congrFun q y).trans ?_
  rw [e]
  refine (congrArg _ ey).trans ?_
  exact point_sampleRows m c t _ _ _ rfl

/-- The third result after the run is the reference's. -/
theorem result_2 (c : Dev nD) : (dats m 0 c).arrAt 10 cfg0.N = gained (F := Ideal) (refRows m c) (m ((c : Thread nD τ).loc main_arg7)) := by
  refine (dats m 0 c).arrAt_eq_of_covers 10 _ (by decide +kernel) fun t _ y => ?_
  obtain ⟨-, -, -, -, -, -, -, -, -, -, ⟨h0, h1⟩, -⟩ := places t
  have hy0 : (y 0).val < 1024 := (y 0).isLt
  have hy1 : (y 1).val < 1024 := (y 1).isLt
  have ht : t.val < 16 := t.isLt
  have e : ((cfg0.win 10).blk t).view.emb y = ix2 (⟨t.val % 8 * 1024 + (y 0).val, by omega⟩ : Fin 8192) (⟨t.val / 8 * 1024 + (y 1).val, by omega⟩ : Fin 2048) := by
    funext a; apply Fin.ext
    match a with
    | ⟨0, _⟩ => show win0_10.index t 0 * 1024 + 1 * (y 0).val = _; rw [h0]; simp
    | ⟨1, _⟩ => show win0_10.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  have q : (dats m 0 c).after 10 t = k0_pay10 (F := Ideal) (iblk m c 0 t) (top (wts m c t)) (iblk m c 1 t) (bot (wts m c t)) (iblk m c 5 t) (iblk m c 7 t) := by dsimp only [dats]
  refine (congrFun q y).trans ?_
  rw [e, gained_at]
  refine (congrArg _ ey).trans ?_
  rw [pt_gain]
  exact congrArg₂ _ (point_rows m c t _ _ _ _ rfl rfl) (iblk_7 m c _ _ _ rfl)

/-- The fourth result after the run is the reference's. -/
theorem result_3 (c : Dev nD) : (dats m 0 c).arrAt 11 cfg0.N = sampleGained (F := Ideal) (refSampleRows m c) (m ((c : Thread nD τ).loc main_arg7)) := by
  refine (dats m 0 c).arrAt_eq_of_covers 11 _ (by decide +kernel) fun t _ y => ?_
  obtain ⟨-, -, -, -, -, -, -, -, -, -, -, ⟨h0, h1⟩, -⟩ := places t
  have hy0 : (y 0).val < 8 := (y 0).isLt
  have hy1 : (y 1).val < 1024 := (y 1).isLt
  have ht : t.val < 16 := t.isLt
  have e : ((cfg0.win 11).blk t).view.emb y = ix2 (⟨(y 0).val, hy0⟩ : Fin 8) (⟨t.val / 8 * 1024 + (y 1).val, by omega⟩ : Fin 2048) := by
    funext a; apply Fin.ext
    match a with
    | ⟨0, _⟩ => show win0_11.index t 0 * 8 + 1 * (y 0).val = _; rw [h0]; simp
    | ⟨1, _⟩ => show win0_11.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  have q : (dats m 0 c).after 11 t = k0_pay4 (F := Ideal) (iblk m c 2 (start t)) (top (wts m c t)) (iblk m c 3 (start t)) (bot (wts m c t)) (iblk m c 6 (start t)) (iblk m c 7 (start t)) := by dsimp only [dats]
  refine (congrFun q y).trans ?_
  rw [e, sampleGained_at]
  refine (congrArg _ ey).trans ?_
  rw [first_gain]
  exact congrArg₂ _ (point_sampleRows m c t _ _ _ rfl) (iblk_7 m c _ _ _ (by simp only [start]; omega))

/-- The fifth result after the run is the reference's. -/
theorem result_4 (c : Dev nD) : (dats m 0 c).arrAt 12 cfg0.N = parts (F := Ideal) (refRows m c) := by
  refine (dats m 0 c).arrAt_eq_of_covers 12 _ (by decide +kernel) fun t _ y => ?_
  obtain ⟨-, -, -, -, -, -, -, -, -, -, -, -, ⟨h0, h1, h2⟩, -⟩ := places t
  have hy0 : (y 0).val < 1 := (y 0).isLt
  have hy1 : (y 1).val < 1024 := (y 1).isLt
  have hy2 : (y 2).val < 128 := (y 2).isLt
  have ht : t.val < 16 := t.isLt
  have e : ((cfg0.win 12).blk t).view.emb y = ix3 (⟨t.val / 8, by omega⟩ : Fin 2) (⟨t.val % 8 * 1024 + (y 1).val, by omega⟩ : Fin 8192) (⟨(y 2).val, hy2⟩ : Fin 128) := by
    funext a; apply Fin.ext
    match a with
    | ⟨0, _⟩ => show win0_12.index t 0 * 1 + 1 * (y 0).val = t.val / 8; omega
    | ⟨1, _⟩ => show win0_12.index t 1 * 1024 + 1 * (y 1).val = _; rw [h1]; simp
    | ⟨2, _⟩ => show win0_12.index t 2 * 128 + 1 * (y 2).val = (y 2).val; omega
  have ey : y = ix3 (0 : Fin 1) (⟨(y 1).val, hy1⟩ : Fin 1024) (⟨(y 2).val, hy2⟩ : Fin 128) := by
    funext a; match a with | ⟨0, _⟩ => exact Fin.ext (show (y 0).val = 0 by omega) | ⟨1, _⟩ => rfl | ⟨2, _⟩ => rfl
  have q : (dats m 0 c).after 12 t = k0_pay1 (F := Ideal) (k0_pay12 (F := Ideal) (iblk m c 0 t) (top (wts m c t)) (iblk m c 1 t) (bot (wts m c t)) (iblk m c 5 t)) (k0_pay13 (F := Ideal) (iblk m c 0 t) (top (wts m c t)) (iblk m c 1 t) (bot (wts m c t)) (iblk m c 5 t)) := by dsimp only [dats]
  refine (congrFun q y).trans ?_
  rw [e, parts_at]
  refine (congrArg _ ey).trans ?_
  rw [pt_squares]
  refine (Finset.sum_congr rfl fun q _ => congrArg₂ _ (point_rows m c t _ _ _ _ ?_ ?_) (point_rows m c t _ _ _ _ ?_ ?_) : (_ : EReal) = _) <;> first | rfl | exact Nat.add_assoc ..

/-- The sixth result after the run is the reference's. -/
theorem result_5 (c : Dev nD) : (dats m 0 c).arrAt 13 cfg0.N = sampleParts (F := Ideal) (refSampleRows m c) := by
  refine (dats m 0 c).arrAt_eq_of_covers 13 _ (by decide +kernel) fun t _ y => ?_
  obtain ⟨-, -, -, -, -, -, -, -, -, -, -, -, -, ⟨h0, h1, h2⟩⟩ := places t
  have hy0 : (y 0).val < 1 := (y 0).isLt
  have hy1 : (y 1).val < 8 := (y 1).isLt
  have hy2 : (y 2).val < 128 := (y 2).isLt
  have ht : t.val < 16 := t.isLt
  have e : ((cfg0.win 13).blk t).view.emb y = ix3 (⟨t.val / 8, by omega⟩ : Fin 2) (⟨(y 1).val, hy1⟩ : Fin 8) (⟨(y 2).val, hy2⟩ : Fin 128) := by
    funext a; apply Fin.ext
    match a with
    | ⟨0, _⟩ => show win0_13.index t 0 * 1 + 1 * (y 0).val = t.val / 8; omega
    | ⟨1, _⟩ => show win0_13.index t 1 * 8 + 1 * (y 1).val = _; rw [h1]; simp
    | ⟨2, _⟩ => show win0_13.index t 2 * 128 + 1 * (y 2).val = (y 2).val; omega
  have ey : y = ix3 (0 : Fin 1) (⟨(y 1).val, hy1⟩ : Fin 8) (⟨(y 2).val, hy2⟩ : Fin 128) := by
    funext a; match a with | ⟨0, _⟩ => exact Fin.ext (show (y 0).val = 0 by omega) | ⟨1, _⟩ => rfl | ⟨2, _⟩ => rfl
  have q : (dats m 0 c).after 13 t = k0_pay8 (F := Ideal) (k0_pay5 (F := Ideal) (iblk m c 2 (start t)) (top (wts m c t)) (iblk m c 3 (start t)) (bot (wts m c t)) (iblk m c 6 (start t))) (k0_pay6 (F := Ideal) (iblk m c 2 (start t)) (top (wts m c t)) (iblk m c 3 (start t)) (bot (wts m c t)) (iblk m c 6 (start t))) (k0_pay7 (F := Ideal) (iblk m c 2 (start t)) (top (wts m c t)) (iblk m c 3 (start t)) (bot (wts m c t)) (iblk m c 6 (start t))) := by dsimp only [dats]
  refine (congrFun q y).trans ?_
  rw [e, sampleParts_at]
  refine (congrArg _ ey).trans ?_
  rw [first_squares]
  refine (Finset.sum_congr rfl fun q _ => congrArg₂ _ (point_sampleRows m c t _ _ _ ?_) (point_sampleRows m c t _ _ _ ?_) : (_ : EReal) = _) <;> exact Nat.add_assoc ..

end Cert.OutEvenIdeal.Own

end
-- ==== Proof.OutEvenClaim.lean ====
/- The claims of the product that ends the even layers' mixer. -/
module

public import proofs.«01_k».proof.Defs
public import proofs.«01_k».proof.Proof.Gen.OutEven
public import proofs.«01_k».proof.Proof.OutEvenValue
public import Idealize.ShloMosaic.Lib.Quiescent
public import Idealize.ShloMosaic.Adequacy
public import Idealize.ShloMosaic.Init

@[expose] public section

noncomputable section

namespace Cert.OutEvenClaim

open Idealize.ShloMosaic Idealize.SL.Sem

/-- The program and its idealisation run the same pieces. -/
theorem defs₀_same : @Cert.OutEven.defs₀ Bits _ Cert.OutEven.Gen.facts = @Cert.OutEvenIdeal.defs₀ Bits _ Cert.OutEvenIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.OutEven.defs Bits _ Cert.OutEven.Gen.facts = @Cert.OutEvenIdeal.defs Bits _ Cert.OutEvenIdeal.Gen.facts :=
  congrArg (Pipeline.defs _) defs₀_same

/-- The program runs and keeps its arguments. -/
theorem kernel_runs : Cert.quiescent_OutEven (hOutEven := Cert.OutEven.Gen.facts) := by
  intro m g _
  rw [defs_same]
  exact Cert.OutEvenIdeal.Own.unchanged (F := Bits) m g

/-- The idealised program runs and keeps its arguments. -/
theorem ideal_runs : Cert.quiescent_OutEvenIdeal (hOutEvenIdeal := Cert.OutEvenIdeal.Gen.facts) := fun m g _ =>
  Cert.OutEvenIdeal.Own.unchanged (F := Ideal) m g

/-- The reference runs and keeps its arguments; it has no semaphores. -/
theorem reference_runs : Cert.quiescent_OutEvenReferenceIdeal (hOutEvenReferenceIdeal := Cert.OutEvenReferenceIdeal.Gen.facts) := fun m g _ =>
  (θ_run Cert.OutEvenReferenceIdeal.defs _ _).mono (fun r h => ⟨fun c => (h c).2.2.2.2.2.2, sem_eq_zero_of_no_sems (by decide) r.2⟩)
    (Cert.OutEvenReferenceIdeal.Value.run m g)

/-- The kernel's results are the reference's. -/
theorem equal : Cert.algebraic_OutEvenIdeal_OutEvenReferenceIdeal (hOutEvenIdeal := Cert.OutEvenIdeal.Gen.facts) (hOutEvenReferenceIdeal := Cert.OutEvenReferenceIdeal.Gen.facts) := by
  intro m g m' g' _ hargs
  refine ⟨fun c => (Cert.OutEvenIdeal.Own.dats m 0 c).arrAt 8 Cert.OutEvenIdeal.cfg0.N, fun c => (Cert.OutEvenIdeal.Own.dats m 0 c).arrAt 9 Cert.OutEvenIdeal.cfg0.N, fun c => (Cert.OutEvenIdeal.Own.dats m 0 c).arrAt 10 Cert.OutEvenIdeal.cfg0.N, fun c => (Cert.OutEvenIdeal.Own.dats m 0 c).arrAt 11 Cert.OutEvenIdeal.cfg0.N, fun c => (Cert.OutEvenIdeal.Own.dats m 0 c).arrAt 12 Cert.OutEvenIdeal.cfg0.N, fun c => (Cert.OutEvenIdeal.Own.dats m 0 c).arrAt 13 Cert.OutEvenIdeal.cfg0.N, ?_, ?_⟩
  · exact (θ_run Cert.OutEvenIdeal.defs _ _).mono (fun r h c => ⟨(h.1 c).1 8, (h.1 c).1 9, (h.1 c).1 10, (h.1 c).1 11, (h.1 c).1 12, (h.1 c).1 13, h.2.1 c⟩)
      (θ_run_and ((θ_run Cert.OutEvenIdeal.defs _ _).mono (fun _ h => h.1) (Cert.OutEvenIdeal.Own.run m g)) (Cert.OutEvenIdeal.Own.unchanged (F := Ideal) m g))
  · refine (θ_run Cert.OutEvenReferenceIdeal.defs _ _).mono (fun r h c => ?_) (Cert.OutEvenReferenceIdeal.Value.run m' g')
    obtain ⟨h0, h1, h2, h3, h4, h5, hk⟩ := h c
    obtain ⟨a0, a1, a2, a3, a4, a5, a6, a7⟩ := hargs c
    refine ⟨h0.trans ?_, h1.trans ?_, h2.trans ?_, h3.trans ?_, h4.trans ?_, h5.trans ?_, hk⟩
    · rw [a0, a1, a4, a5]
      exact (Cert.OutEvenIdeal.Own.result_0 m c).symm
    · rw [a2, a3, a4, a6]
      exact (Cert.OutEvenIdeal.Own.result_1 m c).symm
    · rw [a0, a1, a4, a5, a7]
      exact (Cert.OutEvenIdeal.Own.result_2 m c).symm
    · rw [a2, a3, a4, a6, a7]
      exact (Cert.OutEvenIdeal.Own.result_3 m c).symm
    · rw [a0, a1, a4, a5]
      exact (Cert.OutEvenIdeal.Own.result_4 m c).symm
    · rw [a2, a3, a4, a6]
      exact (Cert.OutEvenIdeal.Own.result_5 m c).symm

end Cert.OutEvenClaim

end
-- ==== Proof.FfnLastBody.lean ====
/- The product that ends the last layer,
   point by point: what each run of the kernel body leaves in the scratch buffer and in the two output blocks, the
   pipeline's data built on that, and the run of the whole program. -/
module

public import proofs.«01_k».proof.Proof.Gen.FfnLastIdeal.Skeleton
public import proofs.«01_k».proof.Proof.Gen.FfnLastIdeal.Frame
public import proofs.«01_k».proof.Proof.Store
public import Idealize.ShloMosaic.Lib.Claim

@[expose] public section

set_option maxRecDepth 16384

noncomputable section

namespace Cert.FfnLastIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLastIdeal.Gen

variable {F : FTy → Type} [FloatOps F]

local notation "𝕄" => MT nD τ sig Unit (Elt F) ℕ (UR sig nD τ) ℕ

set_option maxHeartbeats 1600000 in
/-- A point that begins a sweep over the row blocks: the weights are rounded into the scratch buffer and the sample
    rows are multiplied, then the point's own rows. -/
theorem body_first (c : Dev nD) (i : grid0.Coords) (arg2 : Memref sig .tc .vmem S512x5632 .bf16) (harg2 : arg2.IsWhole) (arg3 : Memref sig .tc .vmem S8x5632 .bf16) (harg3 : arg3.IsWhole)
    (arg4 : Memref sig .tc .vmem S1x5632x512 .f32) (harg4 : arg4.IsWhole) (arg5 : Memref sig .tc .vmem S512x512 .f32) (harg5 : arg5.IsWhole)
    (arg6 : Memref sig .tc .vmem S8x512 .f32) (harg6 : arg6.IsWhole) (arg7 : Memref sig .tc .vmem S512x512 .f32) (harg7 : arg7.IsWhole)
    (arg8 : Memref sig .tc .vmem S8x512 .f32) (harg8 : arg8.IsWhole) (arg9 : Memref sig .tc .vmem S5632x512 .bf16) (harg9 : arg9.IsWhole) (hc : k0_cond1 i = 1#1)
    (x0 : Vec F S512x5632 .bf16) (x1 : Vec F S8x5632 .bf16) (x2 : Vec F S1x5632x512 .f32) (x3 : Vec F S512x512 .f32) (x4 : Vec F S8x512 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 x0 (k0_pay1 x2) x3)
            ∗ owns (c : Thread nD τ) arg8 fullShare (k0_pay2 x1 (k0_pay1 x2) x4)
            ∗ owns (c : Thread nD τ) arg9 fullShare (k0_pay1 x2)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iapply (Cert.Own.owns_store c arg7 _ _ (by decide) _ _ ?_) $$ H5
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H6]
  · iapply (Cert.Own.owns_store c arg8 _ _ (by decide) _ _ ?_) $$ H6
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  iapply (Cert.Own.owns_store c arg9 _ _ (by decide) _ _ ?_) $$ HS
  simp only [View.readAt_eq_ld, harg4.read_unread]
  rw [View.ld_unit_lit _ x2 (by decide)]

set_option maxHeartbeats 1600000 in
/-- Any other point of a sweep: the point's own rows times the rounded weights of the scratch buffer. -/
theorem body_next (c : Dev nD) (i : grid0.Coords) (arg2 : Memref sig .tc .vmem S512x5632 .bf16) (harg2 : arg2.IsWhole) (arg3 : Memref sig .tc .vmem S8x5632 .bf16) (harg3 : arg3.IsWhole)
    (arg4 : Memref sig .tc .vmem S1x5632x512 .f32) (harg4 : arg4.IsWhole) (arg5 : Memref sig .tc .vmem S512x512 .f32) (harg5 : arg5.IsWhole)
    (arg6 : Memref sig .tc .vmem S8x512 .f32) (harg6 : arg6.IsWhole) (arg7 : Memref sig .tc .vmem S512x512 .f32) (harg7 : arg7.IsWhole)
    (arg8 : Memref sig .tc .vmem S8x512 .f32) (harg8 : arg8.IsWhole) (arg9 : Memref sig .tc .vmem S5632x512 .bf16) (harg9 : arg9.IsWhole) (hc : ¬k0_cond1 i = 1#1)
    (x0 : Vec F S512x5632 .bf16) (x3 : Vec F S512x512 .f32) (w : Vec F S5632x512 .bf16)
    (K : PUnit → sProp 𝕄) :
    iprop(owns (c : Thread nD τ) arg2 fullShare x0 ∗ owns (c : Thread nD τ) arg5 fullShare x3
        ∗ (∃ d, owns (c : Thread nD τ) arg7 fullShare d)
        ∗ owns (c : Thread nD τ) arg9 fullShare w
        ∗ (iprop(owns (c : Thread nD τ) arg2 fullShare x0 ∗ owns (c : Thread nD τ) arg5 fullShare x3
            ∗ owns (c : Thread nD τ) arg7 fullShare (k0_pay3 x0 w x3)
            ∗ owns (c : Thread nD τ) arg9 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f3, %hf3, H3⟩, ⟨%d5, %f5, -, H5⟩, ⟨%fs, %hfs, HS⟩, Hk⟩
  obtain rfl := harg2.eq_unread hf0; obtain rfl := harg5.eq_unread hf3; obtain rfl := harg9.eq_unread hfs
  sl_exec (disch := sl_exact hc)
  sl_step
  sl_unfold_words
  iapply Hk
  isplitl [H0]
  · iexists _; isplitr; · ipureintro; exact harg2.read_unread _
    iexact H0
  isplitl [H3]
  · iexists _; isplitr; · ipureintro; exact harg5.read_unread _
    iexact H3
  isplitl [H5]
  · iapply (Cert.Own.owns_store c arg7 _ _ (by decide) _ _ ?_) $$ H5
    simp only [View.readAt_eq_ld, harg2.read_unread, harg5.read_unread, harg9.read_unread]
    rw [View.ld_unit_lit _ x0 (by decide), View.ld_unit_lit _ x3 (by decide), View.ld_unit_lit _ w (by decide)]
  iexists _; isplitr; · ipureintro; exact harg9.read_unread _
  iexact HS

/-! ## The pipeline's data -/

/-- The body's condition holds at the first point of each sweep. -/
theorem cond_iff : ∀ t : Fin cfg0.N, k0_cond1 (grid0.coords t) = 1#1 ↔ t.val % 16 = 0 := by decide +kernel

/-- The first point of the sweep `t` belongs to. -/
def start (t : Fin cfg0.N) : Fin cfg0.N := ⟨t.val - t.val % 16, lt_of_le_of_lt (Nat.sub_le _ _) t.isLt⟩

theorem start_first (t : Fin cfg0.N) (h : t.val % 16 = 0) : start t = t := Fin.ext (by simp only [start]; omega)

theorem start_pred (t : Fin cfg0.N) (h : ¬t.val % 16 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S5632x512 .bf16 := k0_pay1 (iblk m c 2 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the prompt's rows what the point stores, the
    sample rows what the sweep's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (wts m c t) (iblk m c 3 t)
    | ⟨6, _⟩ => k0_pay2 (iblk m c 1 (start t)) (wts m c t) (iblk m c 4 (start t))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d

/-- Output block 7 is kept where nothing is stored into it. -/
theorem kept_6 (c : Dev nD) (t : Fin cfg0.N) (h : ¬t.val % 16 = 0) :
    iprop(∃ d, owns (c : Thread nD τ) (st0_6 t) fullShare ((dats m 0 c).before 6 t d)) ⊢ (dats m 0 c).leavesExact 6 t :=
  Cert.Own.retained (dats m 0 c) 6 rfl (fun _ _ => rfl) (fun n => n % 16 == 0) rfl (by decide +kernel)
    (fun t h => by
      have h' : ¬t.val % 16 = 0 := by simpa using h
      dsimp only [dats, wts]; rw [start_pred t h'])
    t ((by decide +kernel : ∀ t : Fin cfg0.N, ¬t.val % 16 = 0 → cfg0.idle 6 (grid0.coords t) = true) t h)
    (fun _ => by simpa using h)

/-! ## The body at a point -/

set_option maxHeartbeats 3200000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)) := by
  unfold bodyAt0
  simp only [before_0, before_1, before_2, before_3, before_4]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (k0_pay3 (iblk m c 0 t) (wts m c t) (iblk m c 3 t)) from rfl]
  by_cases h : t.val % 16 = 0
  · have e6 : (dats m 0 c).leavesExact 6 t = owns (c : Thread nD τ) (st0_6 t) fullShare (k0_pay2 (iblk m c 1 t) (wts m c t) (iblk m c 4 t)) := by
      unfold Dat.leavesExact
      rw [(by decide +kernel : ∀ t : Fin cfg0.N, t.val % 16 = 0 → cfg0.idle 6 (grid0.coords t) = false) t h]
      dsimp only [dats]; rw [start_first t h]
    rw [e6, show wts m c t = k0_pay1 (iblk m c 2 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩⟩
    ihave ⟨HS, Hg⟩ := key $$ HΦ
    iapply (body_first c (grid0.coords t) _ _ _ _ _ _ _ _ _ _ _ _ _ _ _ _ ((cond_iff t).mpr h)
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, H6⟩
    iapply (body_next c (grid0.coords t) _ _ _ _ _ _ _ _ _ _ _ _ _ _ _ _ (fun e => h ((cond_iff t).mp e))
      (iblk m c 0 t) (iblk m c 3 t) (wts m c t) _)
    isplitl [H0]; · iexact H0
    isplitl [H3]; · iexact H3
    isplitl [H5]; · iexists _; iexact H5
    isplitl [HS]; · iexact HS
    iintro ⟨H0, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (kept_6 m c t h) $$ H6

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.FfnLastIdeal.Own

end
-- ==== Proof.FfnLastValue.lean ====
/- The value of the product that ends the last layer: every result is the reference's. -/
module

public import proofs.«01_k».proof.Proof.FfnLastBody
public import proofs.«01_k».proof.Proof.Gen.FfnLastReferenceIdeal.Run
public import Idealize.ShloMosaic.Lib.Pipeline.ValueKit.Geometry
public import Idealize.ShloMosaic.Lib.Pointwise
public import Idealize.ShloMosaic.Lib.ReduceAll
public import Idealize.ShloMosaic.Lib.Affine
public import Idealize.ShloMosaic.Lib.ValueLayout
public import Idealize.ShloMosaic.Lib.Tactic

@[expose] public section

noncomputable section

open Idealize.ShloMosaic Idealize.ShloMosaic.TcCoe Idealize.SL.Sem Idealize.ShloMosaic.Pipeline

namespace Cert.FfnLastReferenceIdeal.Own

open Cert.FfnLastReferenceIdeal Cert.FfnLastReferenceIdeal.Gen

/-- The residual rows of the prompt: the rows that came in and the product with the layer's weights. -/
def rows {F : FTy → Type} [FloatOps F] (a : FVec F S8192x5632 .bf16) (w : FVec F S4x5632x2048 .f32) (res : FVec F S8192x2048 .f32) : FVec F S8192x2048 .f32 :=
  addf res (Host.dotGeneral dot_S8192x5632_S5632x2048_S8192x2048_1_0_0_1_n_n none (extf .f32 a bitsLt_bf16_f32) (shapeCast _ (extractStridedSlice S1x5632x2048 ![3, 0, 0] w slices_S4x5632x2048_S1x5632x2048_3_0_0) shapeCasts_S1x5632x2048_S5632x2048))

/-- A residual row of the prompt at a column. -/
theorem rows_at (a : FVec Ideal S8192x5632 .bf16) (w : FVec Ideal S4x5632x2048 .f32) (res : FVec Ideal S8192x2048 .f32) (r : Fin 8192) (j : Fin 2048) :
    rows a w res (ix2 r j) = res (ix2 r j) + ∑ k : Fin 5632, a (ix2 r k) * w (ix3 3 k j) := by
  pointwise [rows]

/-- The residual rows of the sample: the rows that came in and the product with the layer's weights. -/
def sampleRows {F : FTy → Type} [FloatOps F] (a : FVec F S8x5632 .bf16) (w : FVec F S4x5632x2048 .f32) (res : FVec F S8x2048 .f32) : FVec F S8x2048 .f32 :=
  addf res (Host.dotGeneral dot_S8x5632_S5632x2048_S8x2048_1_0_0_1_n_n none (extf .f32 a bitsLt_bf16_f32) (shapeCast _ (extractStridedSlice S1x5632x2048 ![3, 0, 0] w slices_S4x5632x2048_S1x5632x2048_3_0_0) shapeCasts_S1x5632x2048_S5632x2048))

/-- A residual row of the sample at a column. -/
theorem sampleRows_at (a : FVec Ideal S8x5632 .bf16) (w : FVec Ideal S4x5632x2048 .f32) (res : FVec Ideal S8x2048 .f32) (r : Fin 8) (j : Fin 2048) :
    sampleRows a w res (ix2 r j) = res (ix2 r j) + ∑ k : Fin 5632, a (ix2 r k) * w (ix3 3 k j) := by
  pointwise [sampleRows]

end Cert.FfnLastReferenceIdeal.Own

namespace Cert.FfnLastIdeal.Own

open Cert.FfnLastIdeal Cert.FfnLastIdeal.Gen Cert.FfnLastReferenceIdeal.Own

/-- The rounded weights are the weights. -/
theorem wpay_at (w : FVec Ideal S1x5632x512 .f32) (k : Fin 5632) (j : Fin 512) :
    k0_pay1 (F := Ideal) w (ix2 k j) = w (ix3 0 k j) := by
  pointwise [k0_pay1]

/-- The residual rows a point stores, at a row and a column of the block. -/
theorem pt_row (x : FVec Ideal S512x5632 .bf16) (w : FVec Ideal S5632x512 .bf16) (s : FVec Ideal S512x512 .f32) (r : Fin 512) (j : Fin 512) :
    k0_pay3 (F := Ideal) x w s (ix2 r j) = s (ix2 r j) + ∑ k, x (ix2 r k) * w (ix2 k j) := by
  pointwise [k0_pay3]

/-- The residual rows a sweep's first point stores of the sample rows, at a row and a column of the block. -/
theorem first_row (x : FVec Ideal S8x5632 .bf16) (w : FVec Ideal S5632x512 .bf16) (s : FVec Ideal S8x512 .f32) (r : Fin 8) (j : Fin 512) :
    k0_pay2 (F := Ideal) x w s (ix2 r j) = s (ix2 r j) + ∑ k, x (ix2 r k) * w (ix2 k j) := by
  pointwise [k0_pay2]

/-- Where the windows' blocks lie. -/
theorem places : ∀ t : Fin cfg0.N, (win0_0.index t 0 = t.val % 16 ∧ win0_0.index t 1 = 0)
    ∧ (win0_1.index t 0 = 0 ∧ win0_1.index t 1 = 0)
    ∧ (win0_2.index t 0 = 3 ∧ win0_2.index t 1 = 0 ∧ win0_2.index t 2 = t.val / 16)
    ∧ (win0_3.index t 0 = t.val % 16 ∧ win0_3.index t 1 = t.val / 16)
    ∧ (win0_4.index t 0 = 0 ∧ win0_4.index t 1 = t.val / 16)
    ∧ (win0_5.index t 0 = t.val % 16 ∧ win0_5.index t 1 = t.val / 16)
    ∧ (win0_6.index t 0 = 0 ∧ win0_6.index t 1 = t.val / 16) := by
  decide +kernel

variable (m : (ℓ : Loc nD τ sig) → Buf (Elt Ideal) ℓ)

/-- Rows of the prompt a point multiplies. -/
theorem iblk_0 (c : Dev nD) (t : Fin cfg0.N) (r : Fin 512) (k : Fin 5632) (i : Fin 8192) (hi : i.val = t.val % 16 * 512 + r.val) :
    (iblk m c 0 t : Vec Ideal S512x5632 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 512 + 1 * r.val = i.val; omega
  | ⟨1, _⟩ => show win0_0.index t 1 * 5632 + 1 * k.val = k.val; omega

/-- The sample rows. -/
theorem iblk_1 (c : Dev nD) (t : Fin cfg0.N) (r : Fin 8) (k : Fin 5632) :
    (iblk m c 1 t : Vec Ideal S8x5632 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 5632 + 1 * k.val = k.val; omega

/-- The columns of the weights a point works with. -/
theorem iblk_2 (c : Dev nD) (t : Fin cfg0.N) (k : Fin 5632) (j : Fin 512) (i : Fin 2048) (hi : i.val = t.val / 16 * 512 + j.val) :
    (iblk m c 2 t : Vec Ideal S1x5632x512 .f32) (ix3 0 k j) = m ((c : Thread nD τ).loc main_arg2) (ix3 3 k i) := by
  obtain ⟨-, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_2.index t 0 * 1 + 1 * 0 = 3; omega
  | ⟨1, _⟩ => show win0_2.index t 1 * 5632 + 1 * k.val = k.val; omega
  | ⟨2, _⟩ => show win0_2.index t 2 * 512 + 1 * j.val = i.val; omega

/-- The block of rows that came in. -/
theorem iblk_3 (c : Dev nD) (t : Fin cfg0.N) (r : Fin 512) (j : Fin 512) (p : Fin 8192) (i : Fin 2048) (hp : p.val = t.val % 16 * 512 + r.val) (hi : i.val = t.val / 16 * 512 + j.val) :
    (iblk m c 3 t : Vec Ideal S512x512 .f32) (ix2 r j) = m ((c : Thread nD τ).loc main_arg3) (ix2 p i) := by
  obtain ⟨-, -, -, ⟨h0, h1⟩, -⟩ := places t
  unfold iblk
  rw [View.read_apply]
  show V m c main_arg3 _ = _
  rw [V_main_arg3]
  refine congrArg _ (funext fun a => Fin.ext ?_)
  match a with
  | ⟨0, _⟩ => show win0_3.index t 0 * 512 + 1 * r.val = p.val; omega
  | ⟨1, _⟩ => show win0_3.index t 1 * 512 + 1 * j.val = i.val; omega

/-- The columns of the sample rows that came in. -/
theorem iblk_4 (c : Dev nD) (t : Fin cfg0.N) (r : Fin 8) (j : Fin 512) (i : Fin 2048) (hi : i.val = t.val / 16 * 512 + j.val) :
    (iblk m c 4 t : Vec Ideal S8x512 .f32) (ix2 r j) = m ((c : Thread nD τ).loc main_arg4) (ix2 r i) := by
  obtain ⟨-, -, -, -, ⟨h0, h1⟩, -⟩ := places t
  unfold iblk
  rw [View.read_apply]
  show V m c main_arg4 _ = _
  rw [V_main_arg4]
  refine congrArg _ (funext fun a => Fin.ext ?_)
  match a with
  | ⟨0, _⟩ => show win0_4.index t 0 * 8 + 1 * r.val = r.val; omega
  | ⟨1, _⟩ => show win0_4.index t 1 * 512 + 1 * j.val = i.val; omega

/-- The weights of a sweep, at a row and a column. -/
theorem wts_at (c : Dev nD) (t : Fin cfg0.N) (k : Fin 5632) (j : Fin 512) (i : Fin 2048) (hi : i.val = t.val / 16 * 512 + j.val) :
    (wts m c t : Vec Ideal S5632x512 .bf16) (ix2 k j) = m ((c : Thread nD τ).loc main_arg2) (ix3 3 k i) :=
  (wpay_at _ k j).trans (iblk_2 m c (start t) k j i (by rw [hi]; simp only [start]; omega))

/-- The reference's residual rows of the prompt. -/
def refRows (c : Dev nD) : FVec Ideal Cert.FfnLastReferenceIdeal.S8192x2048 .f32 :=
  rows (F := Ideal) (m ((c : Thread nD τ).loc main_arg0)) (m ((c : Thread nD τ).loc main_arg2)) (m ((c : Thread nD τ).loc main_arg3))

/-- The reference's residual rows of the sample. -/
def refSampleRows (c : Dev nD) : FVec Ideal Cert.FfnLastReferenceIdeal.S8x2048 .f32 :=
  sampleRows (F := Ideal) (m ((c : Thread nD τ).loc main_arg1)) (m ((c : Thread nD τ).loc main_arg2)) (m ((c : Thread nD τ).loc main_arg4))

/-- The residual rows a point makes are the reference's. -/
theorem point_rows (c : Dev nD) (t : Fin cfg0.N) (r : Fin 512) (j : Fin 512) (p : Fin 8192) (i : Fin 2048) (hp : p.val = t.val % 16 * 512 + r.val) (hi : i.val = t.val / 16 * 512 + j.val) :
    k0_pay3 (F := Ideal) (iblk m c 0 t) (wts m c t) (iblk m c 3 t) (ix2 r j) = refRows m c (ix2 p i) := by
  rw [pt_row, refRows, rows_at]
  refine congrArg₂ _ (iblk_3 m c t r j p i hp hi) (Finset.sum_congr rfl fun k _ => congrArg₂ _ (iblk_0 m c t r k p hp) (wts_at m c t k j i hi))

/-- The residual rows of the sample a sweep makes are the reference's. -/
theorem point_sampleRows (c : Dev nD) (t : Fin cfg0.N) (r : Fin 8) (j : Fin 512) (i : Fin 2048) (hi : i.val = t.val / 16 * 512 + j.val) :
    k0_pay2 (F := Ideal) (iblk m c 1 (start t)) (wts m c t) (iblk m c 4 (start t)) (ix2 r j) = refSampleRows m c (ix2 r i) := by
  rw [first_row, refSampleRows, sampleRows_at]
  refine congrArg₂ _ (iblk_4 m c (start t) r j i (by rw [hi]; simp only [start]; omega)) (Finset.sum_congr rfl fun k _ => congrArg₂ _ (iblk_1 m c (start t) r k) (wts_at m c t k j i hi))

/-- The first result after the run is the reference's. -/
theorem result_0 (c : Dev nD) : (dats m 0 c).arrAt 5 cfg0.N = refRows m c := by
  refine (dats m 0 c).arrAt_eq_of_covers 5 _ (by decide +kernel) fun t _ y => ?_
  obtain ⟨-, -, -, -, -, ⟨h0, h1⟩, -⟩ := places t
  have hy0 : (y 0).val < 512 := (y 0).isLt
  have hy1 : (y 1).val < 512 := (y 1).isLt
  have ht : t.val < 64 := t.isLt
  have e : ((cfg0.win 5).blk t).view.emb y = ix2 (⟨t.val % 16 * 512 + (y 0).val, by omega⟩ : Fin 8192) (⟨t.val / 16 * 512 + (y 1).val, by omega⟩ : Fin 2048) := by
    funext a; apply Fin.ext
    match a with
    | ⟨0, _⟩ => show win0_5.index t 0 * 512 + 1 * (y 0).val = _; rw [h0]; simp
    | ⟨1, _⟩ => show win0_5.index t 1 * 512 + 1 * (y 1).val = _; rw [h1]; simp
  have ey : y = ix2 (⟨(y 0).val, hy0⟩ : Fin 512) (⟨(y 1).val, hy1⟩ : Fin 512) := by
    funext a; match a with | ⟨0, _⟩ => rfl | ⟨1, _⟩ => rfl
  have q : (dats m 0 c).after 5 t = k0_pay3 (F := Ideal) (iblk m c 0 t) (wts m c t) (iblk m c 3 t) := by dsimp only [dats]
  refine (congrFun q y).trans ?_
  rw [e]
  refine (congrArg _ ey).trans ?_
  exact point_rows m c t _ _ _ _ rfl rfl

/-- The second result after the run is the reference's. -/
theorem result_1 (c : Dev nD) : (dats m 0 c).arrAt 6 cfg0.N = refSampleRows m c := by
  refine (dats m 0 c).arrAt_eq_of_covers 6 _ (by decide +kernel) fun t _ y => ?_
  obtain ⟨-, -, -, -, -, -, ⟨h0, h1⟩⟩ := places t
  have hy0 : (y 0).val < 8 := (y 0).isLt
  have hy1 : (y 1).val < 512 := (y 1).isLt
  have ht : t.val < 64 := t.isLt
  have e : ((cfg0.win 6).blk t).view.emb y = ix2 (⟨(y 0).val, hy0⟩ : Fin 8) (⟨t.val / 16 * 512 + (y 1).val, by omega⟩ : Fin 2048) := by
    funext a; apply Fin.ext
    match a with
    | ⟨0, _⟩ => show win0_6.index t 0 * 8 + 1 * (y 0).val = _; rw [h0]; simp
    | ⟨1, _⟩ => show win0_6.index t 1 * 512 + 1 * (y 1).val = _; rw [h1]; simp
  have ey : y = ix2 (⟨(y 0).val, hy0⟩ : Fin 8) (⟨(y 1).val, hy1⟩ : Fin 512) := by
    funext a; match a with | ⟨0, _⟩ => rfl | ⟨1, _⟩ => rfl
  have q : (dats m 0 c).after 6 t = k0_pay2 (F := Ideal) (iblk m c 1 (start t)) (wts m c t) (iblk m c 4 (start t)) := by dsimp only [dats]
  refine (congrFun q y).trans ?_
  rw [e]
  refine (congrArg _ ey).trans ?_
  exact point_sampleRows m c t _ _ _ rfl

end Cert.FfnLastIdeal.Own

end
-- ==== Proof.FfnLastClaim.lean ====
/- The claims of the product that ends the last layer. -/
module

public import proofs.«01_k».proof.Defs
public import proofs.«01_k».proof.Proof.Gen.FfnLast
public import proofs.«01_k».proof.Proof.FfnLastValue
public import Idealize.ShloMosaic.Lib.Quiescent
public import Idealize.ShloMosaic.Adequacy
public import Idealize.ShloMosaic.Init

@[expose] public section

noncomputable section

namespace Cert.FfnLastClaim

open Idealize.ShloMosaic Idealize.SL.Sem

/-- The program and its idealisation run the same pieces. -/
theorem defs₀_same : @Cert.FfnLast.defs₀ Bits _ Cert.FfnLast.Gen.facts = @Cert.FfnLastIdeal.defs₀ Bits _ Cert.FfnLastIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.FfnLast.defs Bits _ Cert.FfnLast.Gen.facts = @Cert.FfnLastIdeal.defs Bits _ Cert.FfnLastIdeal.Gen.facts :=
  congrArg (Pipeline.defs _) defs₀_same

/-- The program runs and keeps its arguments. -/
theorem kernel_runs : Cert.quiescent_FfnLast (hFfnLast := Cert.FfnLast.Gen.facts) := by
  intro m g _
  rw [defs_same]
  exact Cert.FfnLastIdeal.Own.unchanged (F := Bits) m g

/-- The idealised program runs and keeps its arguments. -/
theorem ideal_runs : Cert.quiescent_FfnLastIdeal (hFfnLastIdeal := Cert.FfnLastIdeal.Gen.facts) := fun m g _ =>
  Cert.FfnLastIdeal.Own.unchanged (F := Ideal) m g

/-- The reference runs and keeps its arguments; it has no semaphores. -/
theorem reference_runs : Cert.quiescent_FfnLastReferenceIdeal (hFfnLastReferenceIdeal := Cert.FfnLastReferenceIdeal.Gen.facts) := fun m g _ =>
  (θ_run Cert.FfnLastReferenceIdeal.defs _ _).mono (fun r h => ⟨fun c => (h c).2.2, sem_eq_zero_of_no_sems (by decide) r.2⟩)
    (Cert.FfnLastReferenceIdeal.Value.run m g)

/-- The kernel's results are the reference's. -/
theorem equal : Cert.algebraic_FfnLastIdeal_FfnLastReferenceIdeal (hFfnLastIdeal := Cert.FfnLastIdeal.Gen.facts)
    (hFfnLastReferenceIdeal := Cert.FfnLastReferenceIdeal.Gen.facts) := by
  intro m g m' g' _ hargs
  refine ⟨fun c => (Cert.FfnLastIdeal.Own.dats m 0 c).arrAt 5 Cert.FfnLastIdeal.cfg0.N, fun c => (Cert.FfnLastIdeal.Own.dats m 0 c).arrAt 6 Cert.FfnLastIdeal.cfg0.N, ?_, ?_⟩
  · exact (θ_run Cert.FfnLastIdeal.defs _ _).mono (fun r h c => ⟨(h.1 c).1 5, (h.1 c).1 6, h.2.1 c⟩)
      (θ_run_and ((θ_run Cert.FfnLastIdeal.defs _ _).mono (fun _ h => h.1) (Cert.FfnLastIdeal.Own.run m g)) (Cert.FfnLastIdeal.Own.unchanged (F := Ideal) m g))
  · refine (θ_run Cert.FfnLastReferenceIdeal.defs _ _).mono (fun r h c => ?_) (Cert.FfnLastReferenceIdeal.Value.run m' g')
    obtain ⟨h0, h1, hk⟩ := h c
    obtain ⟨a0, a1, a2, a3, a4⟩ := hargs c
    refine ⟨h0.trans ?_, h1.trans ?_, hk⟩
    · rw [a0, a2, a3]
      exact (Cert.FfnLastIdeal.Own.result_0 m c).symm
    · rw [a1, a2, a4]
      exact (Cert.FfnLastIdeal.Own.result_1 m c).symm

end Cert.FfnLastClaim

end
-- ==== Proof.NormPromptClaim.lean ====
/- The final norm of the prompt: the kernel's result is the reference's, and the claims. -/
module

public import proofs.«01_k».proof.Defs
public import proofs.«01_k».proof.Proof.Gen.NormPrompt
public import proofs.«01_k».proof.Proof.Gen.NormPrompt.Frame
public import proofs.«01_k».proof.Proof.Gen.NormPromptIdeal.Frame
public import proofs.«01_k».proof.Proof.Gen.NormPromptIdeal.Value
public import proofs.«01_k».proof.Proof.Gen.NormPromptReferenceIdeal.Run
public import Idealize.ShloMosaic.Lib.Pipeline.ValueKit.Geometry
public import Idealize.ShloMosaic.Lib.Pointwise
public import Idealize.ShloMosaic.Lib.ReduceAll
public import Idealize.ShloMosaic.Lib.ValueLayout
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem Idealize.ShloMosaic.Pipeline

namespace Cert.NormPromptReferenceIdeal.Own

open Cert.NormPromptReferenceIdeal Cert.NormPromptReferenceIdeal.Gen

/-- The rows of the prompt over their root mean square, times the gains. -/
def normed {F : FTy → Type} [FloatOps F] (x : FVec F S8192x2048 .f32) (g : FVec F S2048 .f32) : FVec F S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- A normed row at a column. -/
theorem normed_at (x : FVec Ideal S8192x2048 .f32) (g : FVec Ideal S2048 .f32) (r : Fin 8192) (j : Fin 2048) :
    normed x g (ix2 r j) = x (ix2 r j) * Ideal.rsqrt (Ideal.div (∑ k : Fin 2048, x (ix2 r k) * x (ix2 r k)) (Ideal.ofBits .f32 0x45000000#32) + Ideal.ofBits .f32 0x358637BD#32) * g (ix1 j) := by
  pointwise [normed]

end Cert.NormPromptReferenceIdeal.Own

namespace Cert.NormPromptIdeal.Own

open Cert.NormPromptIdeal Cert.NormPromptIdeal.Gen Cert.NormPromptReferenceIdeal.Own

/-- What a point stores, at a row and a column of the block. -/
theorem pt_at (x : FVec Ideal S512x2048 .f32) (g : FVec Ideal S1x1x2048 .f32) (r : Fin 512) (j : Fin 2048) :
    k0_pay1 (F := Ideal) x g (ix2 r j) = x (ix2 r j) * Ideal.rsqrt (Ideal.div (∑ k : Fin 2048, x (ix2 r k) * x (ix2 r k)) (Ideal.ofBits .f32 0x45000000#32) + Ideal.ofBits .f32 0x358637BD#32) * g (ix3 0 0 j) := by
  pointwise [k0_pay1]

/-- Where the windows' blocks lie. -/
theorem places : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) := by
  decide +kernel

variable (m : (ℓ : Loc nD τ sig) → Buf (Elt Ideal) ℓ)

/-- The gains reshaped for the kernel, at a column. -/
theorem gain_at (x : FVec Ideal S2048 .f32) (i : Fin 2048) : shapeCast S1x1x2048 (shapeCast S1x2048 x shapeCasts_S2048_S1x2048) shapeCasts_S1x2048_S1x1x2048 (ix3 0 0 i) = x (ix1 i) := by
  pointwise []

/-- The gains as the region finds them. -/
theorem V_main_v1 (c : Dev nD) : (V m c main_v1 : FVec Ideal S1x1x2048 .f32) =
    shapeCast S1x1x2048 (shapeCast S1x2048 (m ((c : Thread nD τ).loc main_arg1) : FVec Ideal S2048 .f32) shapeCasts_S2048_S1x2048) shapeCasts_S1x2048_S1x1x2048 := by
  show StableHlo.after hostOps0 _ (Proc.devRef .tc main_v1) = _
  simp only [hostOps0]
  after_results_simp
  rfl

/-- The rows of a point. -/
theorem iblk_0 (c : Dev nD) (t : Fin cfg0.N) (r : Fin 512) (k : Fin 2048) (i : Fin 8192) (hi : i.val = t.val * 512 + r.val) :
    (iblk m c 0 t : Vec Ideal S512x2048 .f32) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 512 + 1 * r.val = i.val; omega
  | ⟨1, _⟩ => show win0_0.index t 1 * 2048 + 1 * k.val = k.val; omega

/-- The gains. -/
theorem iblk_1 (c : Dev nD) (t : Fin cfg0.N) (j : Fin 2048) :
    (iblk m c 1 t : Vec Ideal S1x1x2048 .f32) (ix3 0 0 j) = m ((c : Thread nD τ).loc main_arg1) (ix1 j) := by
  obtain ⟨-, ⟨h0, h1, h2⟩, -⟩ := places t
  unfold iblk
  rw [View.read_apply]
  show (V m c main_v1 : FVec Ideal S1x1x2048 .f32) _ = _
  rw [V_main_v1]
  refine (congrArg _ (?_ : _ = (ix3 0 0 j : S1x1x2048.Idx))).trans (gain_at _ j)
  refine funext fun a => Fin.ext ?_
  match a with
  | ⟨0, _⟩ => show win0_1.index t 0 * 1 + 1 * 0 = 0; omega
  | ⟨1, _⟩ => show win0_1.index t 1 * 1 + 1 * 0 = 0; omega
  | ⟨2, _⟩ => show win0_1.index t 2 * 2048 + 1 * j.val = j.val; omega

/-- What the body leaves in the block is what it stores. -/
theorem out_eq (x : Vec Ideal S512x2048 .f32) (g : Vec Ideal S1x1x2048 .f32) : out0_2 (F := Ideal) x g = k0_pay1 x g := by
  unfold out0_2
  rw [View.canon_cons_unit_lit _ _ _ (by decide), View.ld_unit_lit _ x (by decide), View.ld_unit_lit _ g (by decide)]

/-- The result after the run is the reference's. -/
theorem result (c : Dev nD) : (dats m 0 c).arrAt 2 cfg0.N = normed (F := Ideal) (m ((c : Thread nD τ).loc main_arg0)) (m ((c : Thread nD τ).loc main_arg1)) := by
  refine (dats m 0 c).arrAt_eq_of_covers 2 _ (by decide +kernel) fun t _ y => ?_
  obtain ⟨-, -, ⟨h0, h1⟩⟩ := places t
  have hy0 : (y 0).val < 512 := (y 0).isLt
  have hy1 : (y 1).val < 2048 := (y 1).isLt
  have ht : t.val < 16 := t.isLt
  have e : ((cfg0.win 2).blk t).view.emb y = ix2 (⟨t.val * 512 + (y 0).val, by omega⟩ : Fin 8192) (⟨(y 1).val, hy1⟩ : Fin 2048) := by
    funext a; apply Fin.ext
    match a with
    | ⟨0, _⟩ => show win0_2.index t 0 * 512 + 1 * (y 0).val = _; rw [h0]; simp
    | ⟨1, _⟩ => show win0_2.index t 1 * 2048 + 1 * (y 1).val = _; rw [h1]; simp
  have ey : y = ix2 (⟨(y 0).val, hy0⟩ : Fin 512) (⟨(y 1).val, hy1⟩ : Fin 2048) := by
    funext a; match a with | ⟨0, _⟩ => rfl | ⟨1, _⟩ => rfl
  have q : (dats m 0 c).after 2 t = k0_pay1 (F := Ideal) (iblk m c 0 t) (iblk m c 1 t) := (after0_2 m c t).trans (out_eq _ _)
  refine (congrFun q y).trans ?_
  rw [e, normed_at]
  refine (congrArg _ ey).trans ?_
  rw [pt_at]
  have b := fun k => iblk_0 m c t ⟨(y 0).val, hy0⟩ k ⟨t.val * 512 + (y 0).val, by omega⟩ rfl
  refine congrArg₂ _ (congrArg₂ _ (b _) (congrArg (fun s : EReal => Ideal.rsqrt (Ideal.div s _ + _)) ?_)) (iblk_1 m c t _)
  exact Finset.sum_congr rfl fun k _ => congrArg₂ _ (b k) (b k)

end Cert.NormPromptIdeal.Own

namespace Cert.NormPromptClaim

/-- The program runs and keeps its arguments. -/
theorem kernel_runs : Cert.quiescent_NormPrompt (hNormPrompt := Cert.NormPrompt.Gen.facts) := fun m g _ => Cert.NormPrompt.Gen.frame m g

/-- The idealised program runs and keeps its arguments. -/
theorem ideal_runs : Cert.quiescent_NormPromptIdeal (hNormPromptIdeal := Cert.NormPromptIdeal.Gen.facts) := fun m g _ => Cert.NormPromptIdeal.Gen.frame m g

/-- The reference runs and keeps its arguments; it has no semaphores. -/
theorem reference_runs : Cert.quiescent_NormPromptReferenceIdeal (hNormPromptReferenceIdeal := Cert.NormPromptReferenceIdeal.Gen.facts) := fun m g _ =>
  (θ_run Cert.NormPromptReferenceIdeal.defs _ _).mono (fun r h => ⟨fun c => (h c).2, sem_eq_zero_of_no_sems (by decide) r.2⟩)
    (Cert.NormPromptReferenceIdeal.Value.run m g)

/-- The kernel's result is the reference's. -/
theorem equal : Cert.algebraic_NormPromptIdeal_NormPromptReferenceIdeal (hNormPromptIdeal := Cert.NormPromptIdeal.Gen.facts) (hNormPromptReferenceIdeal := Cert.NormPromptReferenceIdeal.Gen.facts) := by
  intro m g m' g' _ hargs
  refine ⟨fun c => (Cert.NormPromptIdeal.Gen.dats m 0 c).arrAt 2 Cert.NormPromptIdeal.cfg0.N, Cert.NormPromptIdeal.Value.run_blocks m g, ?_⟩
  refine (θ_run Cert.NormPromptReferenceIdeal.defs _ _).mono (fun r h c => ?_) (Cert.NormPromptReferenceIdeal.Value.run m' g')
  obtain ⟨h0, hk⟩ := h c
  obtain ⟨a0, a1⟩ := hargs c
  refine ⟨h0.trans ?_, hk⟩
  rw [a0, a1]
  exact (Cert.NormPromptIdeal.Own.result m c).symm

end Cert.NormPromptClaim

end
-- ==== Proof.NormSampleClaim.lean ====
/- The final norm of the sample: the kernel's result is the reference's, and the claims. -/
module

public import proofs.«01_k».proof.Defs
public import proofs.«01_k».proof.Proof.Gen.NormSample
public import proofs.«01_k».proof.Proof.Gen.NormSample.Frame
public import proofs.«01_k».proof.Proof.Gen.NormSampleIdeal.Frame
public import proofs.«01_k».proof.Proof.Gen.NormSampleIdeal.Value
public import proofs.«01_k».proof.Proof.Gen.NormSampleReferenceIdeal.Run
public import Idealize.ShloMosaic.Lib.Pipeline.ValueKit.Geometry
public import Idealize.ShloMosaic.Lib.Pointwise
public import Idealize.ShloMosaic.Lib.ReduceAll
public import Idealize.ShloMosaic.Lib.ValueLayout
public import Idealize.ShloMosaic.Lib.Tactic
public import Idealize.ShloMosaic.Lib.Quiescent
public import Idealize.ShloMosaic.Adequacy
public import Idealize.ShloMosaic.Init

@[expose] public section

noncomputable section

open Idealize.ShloMosaic Idealize.ShloMosaic.TcCoe Idealize.SL.Sem Idealize.ShloMosaic.Pipeline

namespace Cert.NormSampleReferenceIdeal.Own

open Cert.NormSampleReferenceIdeal Cert.NormSampleReferenceIdeal.Gen

/-- The rows of the sample over their root mean square, times the gains. -/
def normed {F : FTy → Type} [FloatOps F] (x : FVec F S8x2048 .f32) (g : FVec F S2048 .f32) : FVec F S8x2048 .f32 :=
  mulf (mulf x (broadcastInDim S8x2048 ![0, 1] bcast_S8x1_S8x2048_0_1 (Host.rsqrt (addf (Host.divf (broadcastInDim S8x1 ![0] bcast_S8_S8x1_0 (Host.reduceAdd (mulf x x) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (broadcastInDim S1x2048 ![1] bcast_S2048_S1x2048_1 g))

/-- A normed row at a column. -/
theorem normed_at (x : FVec Ideal S8x2048 .f32) (g : FVec Ideal S2048 .f32) (r : Fin 8) (j : Fin 2048) :
    normed x g (ix2 r j) = x (ix2 r j) * Ideal.rsqrt (Ideal.div (∑ k : Fin 2048, x (ix2 r k) * x (ix2 r k)) (Ideal.ofBits .f32 0x45000000#32) + Ideal.ofBits .f32 0x358637BD#32) * g (ix1 j) := by
  pointwise [normed]

end Cert.NormSampleReferenceIdeal.Own

namespace Cert.NormSampleIdeal.Own

open Cert.NormSampleIdeal Cert.NormSampleIdeal.Gen Cert.NormSampleReferenceIdeal.Own

/-- What a point stores, at a row and a column of the block. -/
theorem pt_at (x : FVec Ideal S8x2048 .f32) (g : FVec Ideal S1x1x2048 .f32) (r : Fin 8) (j : Fin 2048) :
    k0_pay1 (F := Ideal) x g (ix2 r j) = x (ix2 r j) * Ideal.rsqrt (Ideal.div (∑ k : Fin 2048, x (ix2 r k) * x (ix2 r k)) (Ideal.ofBits .f32 0x45000000#32) + Ideal.ofBits .f32 0x358637BD#32) * g (ix3 0 0 j) := by
  pointwise [k0_pay1]

/-- Where the windows' blocks lie. -/
theorem places : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) := by
  decide +kernel

variable (m : (ℓ : Loc nD τ sig) → Buf (Elt Ideal) ℓ)

/-- The gains reshaped for the kernel, at a column. -/
theorem gain_at (x : FVec Ideal S2048 .f32) (i : Fin 2048) : shapeCast S1x1x2048 (shapeCast S1x2048 x shapeCasts_S2048_S1x2048) shapeCasts_S1x2048_S1x1x2048 (ix3 0 0 i) = x (ix1 i) := by
  pointwise []

/-- The gains as the region finds them. -/
theorem V_main_v1 (c : Dev nD) : (V m c main_v1 : FVec Ideal S1x1x2048 .f32) =
    shapeCast S1x1x2048 (shapeCast S1x2048 (m ((c : Thread nD τ).loc main_arg1) : FVec Ideal S2048 .f32) shapeCasts_S2048_S1x2048) shapeCasts_S1x2048_S1x1x2048 := by
  show StableHlo.after hostOps0 _ (Proc.devRef .tc main_v1) = _
  simp only [hostOps0]
  after_results_simp
  rfl

/-- The rows of a point. -/
theorem iblk_0 (c : Dev nD) (t : Fin cfg0.N) (r : Fin 8) (k : Fin 2048) (i : Fin 8) (hi : i.val = t.val * 8 + r.val) :
    (iblk m c 0 t : Vec Ideal S8x2048 .f32) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 8 + 1 * r.val = i.val; omega
  | ⟨1, _⟩ => show win0_0.index t 1 * 2048 + 1 * k.val = k.val; omega

/-- The gains. -/
theorem iblk_1 (c : Dev nD) (t : Fin cfg0.N) (j : Fin 2048) :
    (iblk m c 1 t : Vec Ideal S1x1x2048 .f32) (ix3 0 0 j) = m ((c : Thread nD τ).loc main_arg1) (ix1 j) := by
  obtain ⟨-, ⟨h0, h1, h2⟩, -⟩ := places t
  unfold iblk
  rw [View.read_apply]
  show (V m c main_v1 : FVec Ideal S1x1x2048 .f32) _ = _
  rw [V_main_v1]
  refine (congrArg _ (?_ : _ = (ix3 0 0 j : S1x1x2048.Idx))).trans (gain_at _ j)
  refine funext fun a => Fin.ext ?_
  match a with
  | ⟨0, _⟩ => show win0_1.index t 0 * 1 + 1 * 0 = 0; omega
  | ⟨1, _⟩ => show win0_1.index t 1 * 1 + 1 * 0 = 0; omega
  | ⟨2, _⟩ => show win0_1.index t 2 * 2048 + 1 * j.val = j.val; omega

/-- What the body leaves in the block is what it stores. -/
theorem out_eq (x : Vec Ideal S8x2048 .f32) (g : Vec Ideal S1x1x2048 .f32) : out0_2 (F := Ideal) x g = k0_pay1 x g := by
  unfold out0_2
  rw [View.canon_cons_unit_lit _ _ _ (by decide), View.ld_unit_lit _ x (by decide), View.ld_unit_lit _ g (by decide)]

/-- The result after the run is the reference's. -/
theorem result (c : Dev nD) : (dats m 0 c).arrAt 2 cfg0.N = normed (F := Ideal) (m ((c : Thread nD τ).loc main_arg0)) (m ((c : Thread nD τ).loc main_arg1)) := by
  refine (dats m 0 c).arrAt_eq_of_covers 2 _ (by decide +kernel) fun t _ y => ?_
  obtain ⟨-, -, ⟨h0, h1⟩⟩ := places t
  have hy0 : (y 0).val < 8 := (y 0).isLt
  have hy1 : (y 1).val < 2048 := (y 1).isLt
  have ht : t.val < 1 := t.isLt
  have e : ((cfg0.win 2).blk t).view.emb y = ix2 (⟨t.val * 8 + (y 0).val, by omega⟩ : Fin 8) (⟨(y 1).val, hy1⟩ : Fin 2048) := by
    funext a; apply Fin.ext
    match a with
    | ⟨0, _⟩ => show win0_2.index t 0 * 8 + 1 * (y 0).val = _; rw [h0]; simp
    | ⟨1, _⟩ => show win0_2.index t 1 * 2048 + 1 * (y 1).val = _; rw [h1]; simp
  have ey : y = ix2 (⟨(y 0).val, hy0⟩ : Fin 8) (⟨(y 1).val, hy1⟩ : Fin 2048) := by
    funext a; match a with | ⟨0, _⟩ => rfl | ⟨1, _⟩ => rfl
  have q : (dats m 0 c).after 2 t = k0_pay1 (F := Ideal) (iblk m c 0 t) (iblk m c 1 t) := (after0_2 m c t).trans (out_eq _ _)
  refine (congrFun q y).trans ?_
  rw [e, normed_at]
  refine (congrArg _ ey).trans ?_
  rw [pt_at]
  have b := fun k => iblk_0 m c t ⟨(y 0).val, hy0⟩ k ⟨t.val * 8 + (y 0).val, by omega⟩ rfl
  refine congrArg₂ _ (congrArg₂ _ (b _) (congrArg (fun s : EReal => Ideal.rsqrt (Ideal.div s _ + _)) ?_)) (iblk_1 m c t _)
  exact Finset.sum_congr rfl fun k _ => congrArg₂ _ (b k) (b k)

end Cert.NormSampleIdeal.Own

namespace Cert.NormSampleClaim

/-- The program runs and keeps its arguments. -/
theorem kernel_runs : Cert.quiescent_NormSample (hNormSample := Cert.NormSample.Gen.facts) := fun m g _ => Cert.NormSample.Gen.frame m g

/-- The idealised program runs and keeps its arguments. -/
theorem ideal_runs : Cert.quiescent_NormSampleIdeal (hNormSampleIdeal := Cert.NormSampleIdeal.Gen.facts) := fun m g _ => Cert.NormSampleIdeal.Gen.frame m g

/-- The reference runs and keeps its arguments; it has no semaphores. -/
theorem reference_runs : Cert.quiescent_NormSampleReferenceIdeal (hNormSampleReferenceIdeal := Cert.NormSampleReferenceIdeal.Gen.facts) := fun m g _ =>
  (θ_run Cert.NormSampleReferenceIdeal.defs _ _).mono (fun r h => ⟨fun c => (h c).2, sem_eq_zero_of_no_sems (by decide) r.2⟩)
    (Cert.NormSampleReferenceIdeal.Value.run m g)

/-- The kernel's result is the reference's. -/
theorem equal : Cert.algebraic_NormSampleIdeal_NormSampleReferenceIdeal (hNormSampleIdeal := Cert.NormSampleIdeal.Gen.facts) (hNormSampleReferenceIdeal := Cert.NormSampleReferenceIdeal.Gen.facts) := by
  intro m g m' g' _ hargs
  refine ⟨fun c => (Cert.NormSampleIdeal.Gen.dats m 0 c).arrAt 2 Cert.NormSampleIdeal.cfg0.N, Cert.NormSampleIdeal.Value.run_blocks m g, ?_⟩
  refine (θ_run Cert.NormSampleReferenceIdeal.defs _ _).mono (fun r h c => ?_) (Cert.NormSampleReferenceIdeal.Value.run m' g')
  obtain ⟨h0, hk⟩ := h c
  obtain ⟨a0, a1⟩ := hargs c
  refine ⟨h0.trans ?_, hk⟩
  rw [a0, a1]
  exact (Cert.NormSampleIdeal.Own.result m c).symm

end Cert.NormSampleClaim

end
-- ==== Proof.InFirstBody.lean ====
/- The first layer's input product, point by point: what each run of the kernel body leaves in the scratch
   buffer and in the two output blocks, the pipeline's data built on that, and the run of the whole program. -/
module

public import proofs.«01_k».proof.Proof.Gen.InFirstIdeal.Skeleton
public import proofs.«01_k».proof.Proof.Gen.InFirstIdeal.Frame
public import proofs.«01_k».proof.Proof.Store
public import Idealize.ShloMosaic.Lib.Claim

@[expose] public section

set_option maxRecDepth 16384

noncomputable section

namespace Cert.InFirstIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InFirstIdeal.Gen

variable {F : FTy → Type} [FloatOps F]

local notation "𝕄" => MT nD τ sig Unit (Elt F) ℕ (UR sig nD τ) ℕ

/-- A point that begins a sweep over the row blocks: weights are rounded into the scratch buffer and the sample
    rows multiplied, then the point's own rows. -/
theorem body_first (c : Dev nD) (i : grid0.Coords) (arg2 : Memref sig .tc .vmem S1024x2048 .bf16) (harg2 : arg2.IsWhole)
    (arg3 : Memref sig .tc .vmem S8x2048 .bf16) (harg3 : arg3.IsWhole) (arg4 : Memref sig .tc .vmem S1x2048x1024 .f32) (harg4 : arg4.IsWhole)
    (arg5 : Memref sig .tc .vmem S1x1024x128 .f32) (harg5 : arg5.IsWhole) (arg6 : Memref sig .tc .vmem S1x8x128 .f32) (harg6 : arg6.IsWhole)
    (arg7 : Memref sig .tc .vmem S1024x1024 .f32) (harg7 : arg7.IsWhole) (arg8 : Memref sig .tc .vmem S8x1024 .f32) (harg8 : arg8.IsWhole)
    (arg9 : Memref sig .tc .vmem S2048x1024 .bf16) (harg9 : arg9.IsWhole) (hc : k0_cond1 i = 1#1)
    (x0 : Vec F S1024x2048 .bf16) (x1 : Vec F S8x2048 .bf16) (x2 : Vec F S1x2048x1024 .f32) (x3 : Vec F S1x1024x128 .f32) (x4 : Vec F S1x8x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 x0 (k0_pay1 x2) x3) ∗ owns (c : Thread nD τ) arg8 fullShare (k0_pay2 x1 (k0_pay1 x2) x4)
            ∗ owns (c : Thread nD τ) arg9 fullShare (k0_pay1 x2)) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iapply (Cert.Own.owns_store c arg7 _ _ (by decide) _ _ ?_) $$ H7
    sl_unfold_words
    simp only [View.readAt_eq_ld, harg2.read_unread, harg4.read_unread, harg5.read_unread]
    rw [View.readCov_unit_lit _ _ _ (by decide), View.ld_unit_lit _ x0 (by decide), View.ld_unit_lit _ x2 (by decide), View.ld_unit_lit _ x3 (by decide)]
  isplitl [H8]
  · iapply (Cert.Own.owns_store c arg8 _ _ (by decide) _ _ ?_) $$ H8
    sl_unfold_words
    simp only [View.readAt_eq_ld, harg3.read_unread, harg4.read_unread, harg6.read_unread]
    rw [View.readCov_unit_lit _ _ _ (by decide), View.ld_unit_lit _ x1 (by decide), View.ld_unit_lit _ x2 (by decide), View.ld_unit_lit _ x4 (by decide)]
  sl_unfold_words
  iapply (Cert.Own.owns_store c arg9 _ _ (by decide) _ _ ?_) $$ H9
  simp only [View.readAt_eq_ld, harg4.read_unread]
  rw [View.ld_unit_lit _ x2 (by decide)]

/-- Any other point of a sweep: the point's own rows times the rounded weights of the scratch buffer. -/
theorem body_next (c : Dev nD) (i : grid0.Coords) (arg2 : Memref sig .tc .vmem S1024x2048 .bf16) (harg2 : arg2.IsWhole)
    (arg3 : Memref sig .tc .vmem S8x2048 .bf16) (harg3 : arg3.IsWhole) (arg4 : Memref sig .tc .vmem S1x2048x1024 .f32) (harg4 : arg4.IsWhole)
    (arg5 : Memref sig .tc .vmem S1x1024x128 .f32) (harg5 : arg5.IsWhole) (arg6 : Memref sig .tc .vmem S1x8x128 .f32) (harg6 : arg6.IsWhole)
    (arg7 : Memref sig .tc .vmem S1024x1024 .f32) (harg7 : arg7.IsWhole) (arg8 : Memref sig .tc .vmem S8x1024 .f32) (harg8 : arg8.IsWhole)
    (arg9 : Memref sig .tc .vmem S2048x1024 .bf16) (harg9 : arg9.IsWhole) (hc : ¬k0_cond1 i = 1#1)
    (x0 : Vec F S1024x2048 .bf16) (x3 : Vec F S1x1024x128 .f32) (w : Vec F S2048x1024 .bf16)
    (K : PUnit → sProp 𝕄) :
    iprop(owns (c : Thread nD τ) arg2 fullShare x0 ∗ owns (c : Thread nD τ) arg5 fullShare x3
        ∗ (∃ d, owns (c : Thread nD τ) arg7 fullShare d) ∗ owns (c : Thread nD τ) arg9 fullShare w
        ∗ (iprop(owns (c : Thread nD τ) arg2 fullShare x0 ∗ owns (c : Thread nD τ) arg5 fullShare x3
            ∗ owns (c : Thread nD τ) arg7 fullShare (k0_pay3 x0 w x3) ∗ owns (c : Thread nD τ) arg9 fullShare w) -∗ K ⟨⟩))
      ⊢ wp frame (wpE (defs₀ (F := F)) Variants.none c none) Set.univ
          (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f3, %hf3, H3⟩, ⟨%d7, %f7, -, H7⟩, ⟨%f9, %hf9, H9⟩, Hk⟩
  obtain rfl := harg2.eq_unread hf0; obtain rfl := harg5.eq_unread hf3; obtain rfl := harg9.eq_unread hf9
  sl_exec (disch := sl_exact hc)
  sl_step
  iapply Hk
  isplitl [H0]
  · iexists _; isplitr; · ipureintro; exact harg2.read_unread _
    iexact H0
  isplitl [H3]
  · iexists _; isplitr; · ipureintro; exact harg5.read_unread _
    iexact H3
  isplitl [H7]
  · iapply (Cert.Own.owns_store c arg7 _ _ (by decide) _ _ ?_) $$ H7
    sl_unfold_words
    simp only [View.readAt_eq_ld, harg2.read_unread, harg5.read_unread, harg9.read_unread]
    rw [View.ld_unit_lit _ x0 (by decide), View.ld_unit_lit _ w (by decide), View.ld_unit_lit _ x3 (by decide)]
  iexists _; isplitr; · ipureintro; exact harg9.read_unread _
  iexact H9

/-! ## The pipeline's data -/

/-- The body's condition holds at the first point of each sweep of eight. -/
theorem cond_iff : ∀ t : Fin cfg0.N, k0_cond1 (grid0.coords t) = 1#1 ↔ t.val % 8 = 0 := by decide +kernel

/-- The first point of the sweep `t` belongs to. -/
def start (t : Fin cfg0.N) : Fin cfg0.N := ⟨t.val - t.val % 8, lt_of_le_of_lt (Nat.sub_le _ _) t.isLt⟩

theorem start_first (t : Fin cfg0.N) (h : t.val % 8 = 0) : start t = t := Fin.ext (by simp only [start]; omega)

theorem start_pred (t : Fin cfg0.N) (h : ¬t.val % 8 = 0) : start ⟨t.val - 1, by omega⟩ = start t :=
  Fin.ext (by simp only [start]; omega)

variable (m : (ℓ : Loc nD τ sig) → Buf (Elt F) ℓ) (ρ : Dev nD → PrngReg)

/-- The rounded weights a sweep works with: those its first point puts into the scratch buffer. -/
def wts (c : Dev nD) (t : Fin cfg0.N) : Vec F S2048x1024 .bf16 := k0_pay1 (iblk m c 2 (start t))

/-- The region's invariant before a point: the scratch buffer at the weights of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (wts m c ⟨n, hn⟩) ∗ (∃ r, prngReg c r))

theorem PhiS_pos (c : Dev nD) (n : ℕ) (h : n ≤ cfg0.N) (hz : n ≠ 0) :
    PhiS m c n h = iprop(owns (c : Thread nD τ) (Memref.whole cc0_scratch0) fullShare (wts m c ⟨n - 1, by omega⟩) ∗ (∃ r, prngReg c r)) := by
  cases n with
  | zero => exact absurd rfl hz
  | succ n => rfl

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The invariant with the scratch buffer's contents forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS, Hg⟩
    isplitl [HS]
    · iexists _; iexact HS
    iexact Hg

/-- What every buffer holds after each point: the inputs their blocks, the first result the product of the point's
    rows, the second the product of the sample rows, made at the sweep's first point and kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (wts m c t) (iblk m c 3 t)
    | ⟨6, _⟩ => k0_pay2 (iblk m c 1 (start t)) (wts m c t) (iblk m c 4 (start t))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_out (c : Dev nD) (t : Fin (cfg0.N + 1)) : (dats m 0 c).Φ t ⊢ Pipeline.ΦA spec0 c := by
  dsimp only [dats]; exact PhiS_forget m c _ _

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d

/-- The second result's block is kept where nothing is stored into it. -/
theorem kept_6 (c : Dev nD) (t : Fin cfg0.N) (h : ¬t.val % 8 = 0) :
    iprop(∃ d, owns (c : Thread nD τ) (st0_6 t) fullShare ((dats m 0 c).before 6 t d)) ⊢ (dats m 0 c).leavesExact 6 t :=
  Cert.Own.retained (dats m 0 c) 6 rfl (fun _ _ => rfl) (fun n => n % 8 == 0) rfl (by decide +kernel)
    (fun t h => by
      have h' : ¬t.val % 8 = 0 := by simpa using h
      dsimp only [dats, wts]; rw [start_pred t h'])
    t ((by decide +kernel : ∀ t : Fin cfg0.N, ¬t.val % 8 = 0 → cfg0.idle 6 (grid0.coords t) = true) t h)
    (fun _ => by simpa using h)

/-! ## The body at a point -/

set_option maxHeartbeats 1600000 in
/-- The body at any point takes the invariant and the blocks from before the point to after it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t
        ∗ (dats m 0 c).leavesExact 4 t ∗ (dats m 0 c).leavesExact 5 t ∗ (dats m 0 c).leavesExact 6 t)) := by
  unfold bodyAt0
  simp only [before_0, before_1, before_2, before_3, before_4]
  rw [show (dats m 0 c).owesAt () t.succ = (dats m 0 c).owesAt () t.castSucc from rfl,
    show (dats m 0 c).Φ t.succ = iprop(owns (c : Thread nD τ) (Memref.whole cc0_scratch0) fullShare (wts m c t) ∗ (∃ r, prngReg c r)) from rfl,
    show (dats m 0 c).Φ t.castSucc = PhiS m c t.val (Nat.le_of_lt t.isLt) from by dsimp only [dats]; exact Pipeline.Dat.Φ_castSucc (PhiS m c) t,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (k0_pay3 (iblk m c 0 t) (wts m c t) (iblk m c 3 t)) from rfl]
  by_cases h : t.val % 8 = 0
  · have e6 : (dats m 0 c).leavesExact 6 t = owns (c : Thread nD τ) (st0_6 t) fullShare (k0_pay2 (iblk m c 1 t) (wts m c t) (iblk m c 4 t)) := by
      unfold Dat.leavesExact
      rw [(by decide +kernel : ∀ t : Fin cfg0.N, t.val % 8 = 0 → cfg0.idle 6 (grid0.coords t) = false) t h]
      dsimp only [dats]; rw [start_first t h]
    rw [e6, show wts m c t = k0_pay1 (iblk m c 2 t) from by unfold wts; rw [start_first t h]]
    have key := PhiS_forget m c t.val (Nat.le_of_lt t.isLt)
    rw [PhiA_eq] at key
    iintro ⟨HΦ, Ho, ⟨%d0, H0⟩, ⟨%d1, H1⟩, ⟨%d2, H2⟩, ⟨%d3, H3⟩, ⟨%d4, H4⟩, ⟨%d5, H5⟩, ⟨%d6, H6⟩⟩
    ihave ⟨HS, Hg⟩ := key $$ HΦ
    iapply (body_first c (grid0.coords t) _ _ _ _ _ _ _ _ _ _ _ _ _ _ _ _ ((cond_iff t).mpr h)
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h (by rw [e])
    rw [PhiS_pos m c _ _ hz, show wts m c ⟨t.val - 1, by omega⟩ = wts m c t from by unfold wts; rw [start_pred t h]]
    iintro ⟨⟨HS, Hg⟩, Ho, ⟨%d0, H0⟩, ⟨%d1, H1⟩, ⟨%d2, H2⟩, ⟨%d3, H3⟩, ⟨%d4, H4⟩, ⟨%d5, H5⟩, H6⟩
    iapply (body_next c (grid0.coords t) _ _ _ _ _ _ _ _ _ _ _ _ _ _ _ _ (fun e => h ((cond_iff t).mp e))
      (iblk m c 0 t) (iblk m c 3 t) (wts m c t) _)
    isplitl [H0]; · iexact H0
    isplitl [H3]; · iexact H3
    isplitl [H5]; · iexists _; iexact H5
    isplitl [HS]; · iexact HS
    iintro ⟨H0, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (kept_6 m c t h) $$ H6

theorem defs₀_row (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array ends as the data says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by
      unfold Dat.share; split <;> rfl)
    (howed := fun _ _ => rfl) (V := V m) (hmain := hmain m Variants.none) (hA := A_eq m)
    (hin := fun c => Idealize.SL.BI.Entails.refl _) (hout := fun c => Phi_out m c _)

/-- The program terminates without a fault, its arguments end unchanged and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.InFirstIdeal.Own

end
-- ==== Proof.InFirstValue.lean ====
/- The value of the first layer's input projection: under the precondition that the parts of the squares are not negative
   both results are the reference's, the normalised rows times the layer's weights. -/
module

public import proofs.«01_k».proof.Proof.InFirstBody
public import proofs.«01_k».proof.Proof.Scale
public import proofs.«01_k».proof.Proof.Gen.InFirstReferenceIdeal.Run
public import proofs.«01_k».proof.Pre_in_first_squares
public import Idealize.ShloMosaic.Lib.Pipeline.ValueKit.Geometry

@[expose] public section

noncomputable section

open Idealize.ShloMosaic Idealize.ShloMosaic.TcCoe Idealize.SL.Sem Idealize.ShloMosaic.Pipeline

namespace Cert.Pre_in_first_squares

/-- The shape relations of the precondition's operations. -/
theorem facts : Facts := ⟨by decide, by decide, by decide, by decide, by decide⟩

/-- Under the precondition no part of the squares is negative. -/
theorem parts_nonneg [Facts] (h : FVec Ideal S8192x2048 .bf16) (hs : FVec Ideal S8x2048 .bf16) (s : FVec Ideal S1x8192x128 .f32)
    (ss : FVec Ideal S1x8x128 .f32) (w : FVec Ideal S2x2048x7168 .f32) (e : fn h hs s ss w = fun _ => 1#1) :
    (∀ i, 0 ≤ s i) ∧ ∀ i, 0 ≤ ss i := by
  have e := congrFun e ix0
  obtain ⟨e1, e2⟩ := IntOp.andi_eq_one.1 (show IntOp.andi _ _ = 1#1 from e)
  have : Subsingleton S_.Idx := ⟨fun a b => funext fun i => i.elim0⟩
  exact ⟨fun i => Cert.Own.nonneg_of_cmp _ (Host.reduce_andi_all _ _ _ _ _ e1 i), fun i => Cert.Own.nonneg_of_cmp _ (Host.reduce_andi_all _ _ _ _ _ e2 i)⟩

end Cert.Pre_in_first_squares

namespace Cert.InFirstReferenceIdeal.Own

open Cert.InFirstReferenceIdeal Cert.InFirstReferenceIdeal.Gen

/-- The reference's product of the normalised rows of the prompt with the layer's weights. -/
def rows {F : FTy → Type} [FloatOps F] (h : FVec F S8192x2048 .bf16) (s : FVec F S1x8192x128 .f32) (w : FVec F S2x2048x7168 .f32) : FVec F S8192x7168 .f32 :=
  Host.dotGeneral dot_S8192x2048_S2048x7168_S8192x7168_1_0_0_1_n_n none (mulf (extf .f32 h bitsLt_bf16_f32) (broadcastInDim S8192x2048 ![0, 1] bcast_S8192x1_S8192x2048_0_1 (broadcastInDim S8192x1 ![0] bcast_S8192_S8192x1_0 (Host.rsqrt (addf (Host.divf (Host.reduceAdd s (constant S_ .f32 0x00000000#32) reducesTo_S1x8192x128_S8192_d0_2 h_S_) (broadcastInDim S8192 ![] bcast_S_S8192 (constant S_ .f32 0x45000000#32))) (broadcastInDim S8192 ![] bcast_S_S8192 (constant S_ .f32 0x358637BD#32))))))) (shapeCast _ (extractStridedSlice S1x2048x7168 ![0, 0, 0] w slices_S2x2048x7168_S1x2048x7168_0_0_0) shapeCasts_S1x2048x7168_S2048x7168)

/-- The same of the sample rows. -/
def sampleRows {F : FTy → Type} [FloatOps F] (h : FVec F S8x2048 .bf16) (s : FVec F S1x8x128 .f32) (w : FVec F S2x2048x7168 .f32) : FVec F S8x7168 .f32 :=
  Host.dotGeneral dot_S8x2048_S2048x7168_S8x7168_1_0_0_1_n_n none (mulf (extf .f32 h bitsLt_bf16_f32) (broadcastInDim S8x2048 ![0, 1] bcast_S8x1_S8x2048_0_1 (broadcastInDim S8x1 ![0] bcast_S8_S8x1_0 (Host.rsqrt (addf (Host.divf (Host.reduceAdd s (constant S_ .f32 0x00000000#32) reducesTo_S1x8x128_S8_d0_2 h_S_) (broadcastInDim S8 ![] bcast_S_S8 (constant S_ .f32 0x45000000#32))) (broadcastInDim S8 ![] bcast_S_S8 (constant S_ .f32 0x358637BD#32))))))) (shapeCast _ (extractStridedSlice S1x2048x7168 ![0, 0, 0] w slices_S2x2048x7168_S1x2048x7168_0_0_0) shapeCasts_S1x2048x7168_S2048x7168)

/-- The reference's product at a row and a column. -/
theorem rows_at (h : FVec Ideal S8192x2048 .bf16) (s : FVec Ideal S1x8192x128 .f32) (w : FVec Ideal S2x2048x7168 .f32) (r : Fin 8192) (j : Fin 7168) :
    rows h s w (ix2 r j) = ∑ k : Fin 2048, h (ix2 r k) * Cert.Own.scale (∑ l : Fin 128, ∑ p : Fin 1, s (ix3 p r l)) * w (ix3 0 k j) := by
  pointwise [rows]
  rw [Cert.Own.sum_outer, zero_add]
  rfl

/-- The same of the sample rows. -/
theorem sampleRows_at (h : FVec Ideal S8x2048 .bf16) (s : FVec Ideal S1x8x128 .f32) (w : FVec Ideal S2x2048x7168 .f32) (r : Fin 8) (j : Fin 7168) :
    sampleRows h s w (ix2 r j) = ∑ k : Fin 2048, h (ix2 r k) * Cert.Own.scale (∑ l : Fin 128, ∑ p : Fin 1, s (ix3 p r l)) * w (ix3 0 k j) := by
  pointwise [sampleRows]
  rw [Cert.Own.sum_outer, zero_add]
  rfl

end Cert.InFirstReferenceIdeal.Own

namespace Cert.InFirstIdeal.Own

open Cert.InFirstIdeal Cert.InFirstIdeal.Gen

/-- The rounded weights are the weights. -/
theorem pay1_at (w : FVec Ideal S1x2048x1024 .f32) (k : Fin 2048) (j : Fin 1024) :
    k0_pay1 (F := Ideal) w (ix2 k j) = w (ix3 0 k j) := by
  pointwise [k0_pay1]

/-- What a point stores, at a row and a column of the block. -/
theorem pay3_at (x : FVec Ideal S1024x2048 .bf16) (w : FVec Ideal S2048x1024 .bf16) (s : FVec Ideal S1x1024x128 .f32) (r j : Fin 1024) :
    k0_pay3 (F := Ideal) x w s (ix2 r j) = (∑ k, x (ix2 r k) * w (ix2 k j)) * Cert.Own.scale (∑ l : Fin 128, ∑ p : Fin 1, s (ix3 p r l)) := by
  pointwise [k0_pay3]
  rfl

/-- What a sweep's first point stores of the sample rows. -/
theorem pay2_at (x : FVec Ideal S8x2048 .bf16) (w : FVec Ideal S2048x1024 .bf16) (s : FVec Ideal S1x8x128 .f32) (r : Fin 8) (j : Fin 1024) :
    k0_pay2 (F := Ideal) x w s (ix2 r j) = (∑ k, x (ix2 r k) * w (ix2 k j)) * Cert.Own.scale (∑ l : Fin 128, ∑ p : Fin 1, s (ix3 p r l)) := by
  pointwise [k0_pay2]
  rfl

/-- Where the windows' blocks lie. -/
theorem places : ∀ t : Fin cfg0.N, (win0_0.index t 0 = t.val % 8 ∧ win0_0.index t 1 = 0) ∧ (win0_1.index t 0 = 0 ∧ win0_1.index t 1 = 0)
    ∧ (win0_2.index t 0 = 0 ∧ win0_2.index t 1 = 0 ∧ win0_2.index t 2 = t.val / 8)
    ∧ (win0_3.index t 0 = 0 ∧ win0_3.index t 1 = t.val % 8 ∧ win0_3.index t 2 = 0)
    ∧ (win0_4.index t 0 = 0 ∧ win0_4.index t 1 = 0 ∧ win0_4.index t 2 = 0)
    ∧ (win0_5.index t 0 = t.val % 8 ∧ win0_5.index t 1 = t.val / 8) ∧ (win0_6.index t 0 = 0 ∧ win0_6.index t 1 = t.val / 8) := by
  decide +kernel

variable (m : (ℓ : Loc nD τ sig) → Buf (Elt Ideal) ℓ)

/-- The prompt's rows of a point. -/
theorem iblk_0 (c : Dev nD) (t : Fin cfg0.N) (r : Fin 1024) (k : Fin 2048) (i : Fin 8192) (hi : i.val = t.val % 8 * 1024 + r.val) :
    (iblk m c 0 t : Vec Ideal S1024x2048 .bf16) (ix2 r k) = m ((c : Thread nD τ).loc main_arg0) (ix2 i k) := by
  obtain ⟨⟨h0, h1⟩, -⟩ := places t
  unfold iblk
  rw [View.read_apply]
  show V m c main_arg0 _ = _
  rw [V_main_arg0]
  refine congrArg _ (funext fun a => Fin.ext ?_)
  match a with
  | ⟨0, _⟩ => show win0_0.index t 0 * 1024 + 1 * r.val = i.val; omega
  | ⟨1, _⟩ => show win0_0.index t 1 * 2048 + 1 * k.val = k.val; omega

/-- The sample rows. -/
theorem iblk_1 (c : Dev nD) (t : Fin cfg0.N) (r : Fin 8) (k : Fin 2048) :
    (iblk m c 1 t : Vec Ideal S8x2048 .bf16) (ix2 r k) = m ((c : Thread nD τ).loc main_arg1) (ix2 r k) := by
  obtain ⟨-, ⟨h0, h1⟩, -⟩ := places t
  unfold iblk
  rw [View.read_apply]
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 2048 + 1 * k.val = k.val; omega

/-- The columns of the weights a point works with. -/
theorem iblk_2 (c : Dev nD) (t : Fin cfg0.N) (k : Fin 2048) (j : Fin 1024) (i : Fin 7168) (hi : i.val = t.val / 8 * 1024 + j.val) :
    (iblk m c 2 t : Vec Ideal S1x2048x1024 .f32) (ix3 0 k j) = m ((c : Thread nD τ).loc main_arg4) (ix3 0 k i) := by
  obtain ⟨-, -, ⟨h0, h1, h2⟩, -⟩ := places t
  unfold iblk
  rw [View.read_apply]
  show V m c main_arg4 _ = _
  rw [V_main_arg4]
  refine congrArg _ (funext fun a => Fin.ext ?_)
  match a with
  | ⟨0, _⟩ => show win0_2.index t 0 * 1 + 1 * 0 = 0; omega
  | ⟨1, _⟩ => show win0_2.index t 1 * 2048 + 1 * k.val = k.val; omega
  | ⟨2, _⟩ => show win0_2.index t 2 * 1024 + 1 * j.val = i.val; omega

/-- The parts of the squares of a point's rows. -/
theorem iblk_3 (c : Dev nD) (t : Fin cfg0.N) (p : Fin 1) (r : Fin 1024) (l : Fin 128) (i : Fin 8192) (hi : i.val = t.val % 8 * 1024 + r.val) :
    (iblk m c 3 t : Vec Ideal S1x1024x128 .f32) (ix3 p r l) = m ((c : Thread nD τ).loc main_arg2) (ix3 p i l) := by
  obtain ⟨-, -, -, ⟨h0, h1, h2⟩, -⟩ := places t
  unfold iblk
  rw [View.read_apply]
  show V m c main_arg2 _ = _
  rw [V_main_arg2]
  refine congrArg _ (funext fun a => Fin.ext ?_)
  match a with
  | ⟨0, _⟩ => show win0_3.index t 0 * 1 + 1 * p.val = p.val; omega
  | ⟨1, _⟩ => show win0_3.index t 1 * 1024 + 1 * r.val = i.val; omega
  | ⟨2, _⟩ => show win0_3.index t 2 * 128 + 1 * l.val = l.val; omega

/-- The parts of the squares of the sample rows. -/
theorem iblk_4 (c : Dev nD) (t : Fin cfg0.N) (p : Fin 1) (r : Fin 8) (l : Fin 128) :
    (iblk m c 4 t : Vec Ideal S1x8x128 .f32) (ix3 p r l) = m ((c : Thread nD τ).loc main_arg3) (ix3 p r l) := by
  obtain ⟨-, -, -, -, ⟨h0, h1, h2⟩, -⟩ := places t
  unfold iblk
  rw [View.read_apply]
  show V m c main_arg3 _ = _
  rw [V_main_arg3]
  refine congrArg _ (funext fun a => Fin.ext ?_)
  match a with
  | ⟨0, _⟩ => show win0_4.index t 0 * 1 + 1 * p.val = p.val; omega
  | ⟨1, _⟩ => show win0_4.index t 1 * 8 + 1 * r.val = r.val; omega
  | ⟨2, _⟩ => show win0_4.index t 2 * 128 + 1 * l.val = l.val; omega

/-- The weights of a sweep, at a row and a column. -/
theorem wts_at (c : Dev nD) (t : Fin cfg0.N) (k : Fin 2048) (j : Fin 1024) (i : Fin 7168) (hi : i.val = t.val / 8 * 1024 + j.val) :
    (wts m c t : Vec Ideal S2048x1024 .bf16) (ix2 k j) = m ((c : Thread nD τ).loc main_arg4) (ix3 0 k i) :=
  (pay1_at _ k j).trans (iblk_2 m c (start t) k j i (by rw [hi]; simp only [start]; omega))

/-- The first result after the run is the reference's. -/
theorem result_0 (c : Dev nD) (h : ∀ i, (0 : EReal) ≤ m ((c : Thread nD τ).loc main_arg2) i) :
    (dats m 0 c).arrAt 5 cfg0.N = Cert.InFirstReferenceIdeal.Own.rows (F := Ideal) (m ((c : Thread nD τ).loc main_arg0)) (m ((c : Thread nD τ).loc main_arg2)) (m ((c : Thread nD τ).loc main_arg4)) := by
  refine (dats m 0 c).arrAt_eq_of_covers 5 _ (by decide +kernel) fun t _ y => ?_
  obtain ⟨-, -, -, -, -, ⟨h0, h1⟩, -⟩ := places t
  have hy0 : (y 0).val < 1024 := (y 0).isLt
  have hy1 : (y 1).val < 1024 := (y 1).isLt
  have ht : t.val < 56 := t.isLt
  have e : ((cfg0.win 5).blk t).view.emb y = ix2 (⟨t.val % 8 * 1024 + (y 0).val, by omega⟩ : Fin 8192) (⟨t.val / 8 * 1024 + (y 1).val, by omega⟩ : Fin 7168) := by
    funext a; apply Fin.ext
    match a with
    | ⟨0, _⟩ => show win0_5.index t 0 * 1024 + 1 * (y 0).val = _; rw [h0]; simp
    | ⟨1, _⟩ => show win0_5.index t 1 * 1024 + 1 * (y 1).val = _; rw [h1]; simp
  have ey : y = ix2 (⟨(y 0).val, hy0⟩ : Fin 1024) (⟨(y 1).val, hy1⟩ : Fin 1024) := by
    funext a; match a with | ⟨0, _⟩ => rfl | ⟨1, _⟩ => rfl
  rw [e, Cert.InFirstReferenceIdeal.Own.rows_at]
  show k0_pay3 (F := Ideal) (iblk m c 0 t) (wts m c t) (iblk m c 3 t) y = _
  refine (congrArg _ ey).trans ?_
  rw [pay3_at, ← Cert.Own.scaled_sum _ _ _ _ (Cert.Own.scale_real _ (Finset.sum_nonneg fun l _ => Finset.sum_nonneg fun p _ => h _))]
  refine congrArg₂ _ (Finset.sum_congr rfl fun k _ => congrArg₂ _ (iblk_0 m c t _ k _ rfl) (wts_at m c t k _ _ rfl)) (congrArg _ (Finset.sum_congr rfl fun l _ => Finset.sum_congr rfl fun p _ => iblk_3 m c t p _ l _ rfl))

/-- The second result after the run is the reference's. -/
theorem result_1 (c : Dev nD) (h : ∀ i, (0 : EReal) ≤ m ((c : Thread nD τ).loc main_arg3) i) :
    (dats m 0 c).arrAt 6 cfg0.N = Cert.InFirstReferenceIdeal.Own.sampleRows (F := Ideal) (m ((c : Thread nD τ).loc main_arg1)) (m ((c : Thread nD τ).loc main_arg3)) (m ((c : Thread nD τ).loc main_arg4)) := by
  refine (dats m 0 c).arrAt_eq_of_covers 6 _ (by decide +kernel) fun t _ y => ?_
  obtain ⟨-, -, -, -, -, -, ⟨h0, h1⟩⟩ := places t
  have hy0 : (y 0).val < 8 := (y 0).isLt
  have hy1 : (y 1).val < 1024 := (y 1).isLt
  have ht : t.val < 56 := t.isLt
  have e : ((cfg0.win 6).blk t).view.emb y = ix2 (⟨(y 0).val, hy0⟩ : Fin 8) (⟨t.val / 8 * 1024 + (y 1).val, by omega⟩ : Fin 7168) := by
    funext a; apply Fin.ext
    match a with
    | ⟨0, _⟩ => show win0_6.index t 0 * 8 + 1 * (y 0).val = _; rw [h0]; simp
    | ⟨1, _⟩ => show win0_6.index t 1 * 1024 + 1 * (y 1).val = _; rw [h1]; simp
  have ey : y = ix2 (⟨(y 0).val, hy0⟩ : Fin 8) (⟨(y 1).val, hy1⟩ : Fin 1024) := by
    funext a; match a with | ⟨0, _⟩ => rfl | ⟨1, _⟩ => rfl
  rw [e, Cert.InFirstReferenceIdeal.Own.sampleRows_at]
  show k0_pay2 (F := Ideal) (iblk m c 1 (start t)) (wts m c t) (iblk m c 4 (start t)) y = _
  refine (congrArg _ ey).trans ?_
  rw [pay2_at, ← Cert.Own.scaled_sum _ _ _ _ (Cert.Own.scale_real _ (Finset.sum_nonneg fun l _ => Finset.sum_nonneg fun p _ => h _))]
  refine congrArg₂ _ (Finset.sum_congr rfl fun k _ => congrArg₂ _ (iblk_1 m c _ _ k) (wts_at m c t k _ _ rfl)) (congrArg _ (Finset.sum_congr rfl fun l _ => Finset.sum_congr rfl fun p _ => iblk_4 m c _ p _ l))

end Cert.InFirstIdeal.Own

end
-- ==== Proof.InFirstClaim.lean ====
/- The claims of the first layer's input projection. -/
module

public import proofs.«01_k».proof.Defs
public import proofs.«01_k».proof.Proof.Gen.InFirst
public import proofs.«01_k».proof.Proof.InFirstValue
public import Idealize.ShloMosaic.Lib.Quiescent
public import Idealize.ShloMosaic.Adequacy
public import Idealize.ShloMosaic.Init

@[expose] public section

noncomputable section

namespace Cert.InFirstClaim

open Idealize.ShloMosaic Idealize.SL.Sem

/-- The program and its idealisation run the same pieces. -/
theorem defs₀_same : @Cert.InFirst.defs₀ Bits _ Cert.InFirst.Gen.facts = @Cert.InFirstIdeal.defs₀ Bits _ Cert.InFirstIdeal.Gen.facts :=
  congrArg Defs.onTc (funext fun l => funext fun x => match l, x with
    | 0, _ => rfl
    | ⟨_ + 1, h⟩, _ => absurd h (Nat.not_lt.2 (Nat.le_add_left _ _)))

/-- The same, with the pieces the pipeline adds. -/
theorem defs_same : @Cert.InFirst.defs Bits _ Cert.InFirst.Gen.facts = @Cert.InFirstIdeal.defs Bits _ Cert.InFirstIdeal.Gen.facts :=
  congrArg (Pipeline.defs _) defs₀_same

/-- The program runs and keeps its arguments. -/
theorem kernel_runs : Cert.quiescent_InFirst (hInFirst := Cert.InFirst.Gen.facts) := by
  intro m g _
  rw [defs_same]
  exact Cert.InFirstIdeal.Own.unchanged (F := Bits) m g

/-- The idealised program runs and keeps its arguments. -/
theorem ideal_runs : Cert.quiescent_InFirstIdeal (hInFirstIdeal := Cert.InFirstIdeal.Gen.facts) := fun m g _ =>
  Cert.InFirstIdeal.Own.unchanged (F := Ideal) m g

/-- The reference runs and keeps its arguments; it has no semaphores. -/
theorem reference_runs : Cert.quiescent_InFirstReferenceIdeal (hInFirstReferenceIdeal := Cert.InFirstReferenceIdeal.Gen.facts) := fun m g _ =>
  (θ_run Cert.InFirstReferenceIdeal.defs _ _).mono (fun r h => ⟨fun c => (h c).2.2, sem_eq_zero_of_no_sems (by decide) r.2⟩)
    (Cert.InFirstReferenceIdeal.Value.run m g)

/-- Where no part of the squares is negative the kernel's results are the reference's. -/
theorem equal : Cert.algebraic_InFirstIdeal_InFirstReferenceIdeal_pre_in_first_squares (hInFirstIdeal := Cert.InFirstIdeal.Gen.facts)
    (hInFirstReferenceIdeal := Cert.InFirstReferenceIdeal.Gen.facts) (hPre_in_first_squares := Cert.Pre_in_first_squares.facts) := by
  intro m g m' g' hpre hargs
  have hn := fun c => @Cert.Pre_in_first_squares.parts_nonneg Cert.Pre_in_first_squares.facts _ _ _ _ _ (hpre c)
  refine ⟨fun c => (Cert.InFirstIdeal.Own.dats m 0 c).arrAt 5 Cert.InFirstIdeal.cfg0.N, fun c => (Cert.InFirstIdeal.Own.dats m 0 c).arrAt 6 Cert.InFirstIdeal.cfg0.N, ?_, ?_⟩
  · exact (θ_run Cert.InFirstIdeal.defs _ _).mono (fun r h c => ⟨(h.1 c).1 5, (h.1 c).1 6, h.2.1 c⟩)
      (θ_run_and ((θ_run Cert.InFirstIdeal.defs _ _).mono (fun _ h => h.1) (Cert.InFirstIdeal.Own.run m g)) (Cert.InFirstIdeal.Own.unchanged (F := Ideal) m g))
  · refine (θ_run Cert.InFirstReferenceIdeal.defs _ _).mono (fun r h c => ?_) (Cert.InFirstReferenceIdeal.Value.run m' g')
    obtain ⟨h0, h1, hk⟩ := h c
    obtain ⟨a0, a1, a2, a3, a4⟩ := hargs c
    refine ⟨h0.trans ?_, h1.trans ?_, hk⟩
    · rw [a0, a2, a4]
      exact (Cert.InFirstIdeal.Own.result_0 m c (hn c).1).symm
    · rw [a1, a3, a4]
      exact (Cert.InFirstIdeal.Own.result_1 m c (hn c).2).symm

end Cert.InFirstClaim

end
-- ==== Proof.lean ====
/- The claims of the certificate: the programs run and keep their arguments, the kernel idealises with no rewrite, and under the
   preconditions its exact results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInReferenceIdeal
public import proofs.«01_k».proof.Proof.Gen.FfnInReferenceIdeal.Run
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddReferenceIdeal
public import proofs.«01_k».proof.Proof.Gen.InOddReferenceIdeal.Run
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenReferenceIdeal
public import proofs.«01_k».proof.Proof.Gen.InEvenReferenceIdeal.Run
public import proofs.«01_k».proof.Proof.Gen.InFirst
public import proofs.«01_k».proof.Proof.Gen.InFirst.Skeleton
public import proofs.«01_k».proof.Proof.Gen.InFirst.Launch
public import proofs.«01_k».proof.Proof.Gen.InFirst.Points
public import proofs.«01_k».proof.Proof.Gen.InFirst.Frame
public import proofs.«01_k».proof.Proof.Gen.InFirstIdeal
public import proofs.«01_k».proof.Proof.Gen.InFirstIdeal.Skeleton
public import proofs.«01_k».proof.Proof.Gen.InFirstIdeal.Launch
public import proofs.«01_k».proof.Proof.Gen.InFirstIdeal.Points
public import proofs.«01_k».proof.Proof.Gen.InFirstIdeal.Frame
public import proofs.«01_k».proof.Proof.Gen.InFirstReferenceIdeal
public import proofs.«01_k».proof.Proof.Gen.InFirstReferenceIdeal.Run
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutReferenceIdeal
public import proofs.«01_k».proof.Proof.Gen.FfnOutReferenceIdeal.Run
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddReferenceIdeal
public import proofs.«01_k».proof.Proof.Gen.OutOddReferenceIdeal.Run
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenReferenceIdeal
public import proofs.«01_k».proof.Proof.Gen.OutEvenReferenceIdeal.Run
public import proofs.«01_k».proof.Proof.Gen.FfnLast
public import proofs.«01_k».proof.Proof.Gen.FfnLast.Skeleton
public import proofs.«01_k».proof.Proof.Gen.FfnLast.Launch
public import proofs.«01_k».proof.Proof.Gen.FfnLast.Points
public import proofs.«01_k».proof.Proof.Gen.FfnLast.Frame
public import proofs.«01_k».proof.Proof.Gen.FfnLastIdeal
public import proofs.«01_k».proof.Proof.Gen.FfnLastIdeal.Skeleton
public import proofs.«01_k».proof.Proof.Gen.FfnLastIdeal.Launch
public import proofs.«01_k».proof.Proof.Gen.FfnLastIdeal.Points
public import proofs.«01_k».proof.Proof.Gen.FfnLastIdeal.Frame
public import proofs.«01_k».proof.Proof.Gen.FfnLastReferenceIdeal
public import proofs.«01_k».proof.Proof.Gen.FfnLastReferenceIdeal.Run
public import proofs.«01_k».proof.Proof.Gen.NormPrompt
public import proofs.«01_k».proof.Proof.Gen.NormPrompt.Skeleton
public import proofs.«01_k».proof.Proof.Gen.NormPrompt.Launch
public import proofs.«01_k».proof.Proof.Gen.NormPrompt.Points
public import proofs.«01_k».proof.Proof.Gen.NormPrompt.Frame
public import proofs.«01_k».proof.Proof.Gen.NormPromptIdeal
public import proofs.«01_k».proof.Proof.Gen.NormPromptIdeal.Skeleton
public import proofs.«01_k».proof.Proof.Gen.NormPromptIdeal.Launch
public import proofs.«01_k».proof.Proof.Gen.NormPromptIdeal.Points
public import proofs.«01_k».proof.Proof.Gen.NormPromptIdeal.Frame
public import proofs.«01_k».proof.Proof.Gen.NormPromptIdeal.Value
public import proofs.«01_k».proof.Proof.Gen.NormPromptReferenceIdeal
public import proofs.«01_k».proof.Proof.Gen.NormPromptReferenceIdeal.Run
public import proofs.«01_k».proof.Proof.Gen.NormSample
public import proofs.«01_k».proof.Proof.Gen.NormSample.Skeleton
public import proofs.«01_k».proof.Proof.Gen.NormSample.Launch
public import proofs.«01_k».proof.Proof.Gen.NormSample.Points
public import proofs.«01_k».proof.Proof.Gen.NormSample.Frame
public import proofs.«01_k».proof.Proof.Gen.NormSampleIdeal
public import proofs.«01_k».proof.Proof.Gen.NormSampleIdeal.Skeleton
public import proofs.«01_k».proof.Proof.Gen.NormSampleIdeal.Launch
public import proofs.«01_k».proof.Proof.Gen.NormSampleIdeal.Points
public import proofs.«01_k».proof.Proof.Gen.NormSampleIdeal.Frame
public import proofs.«01_k».proof.Proof.Gen.NormSampleIdeal.Value
public import proofs.«01_k».proof.Proof.Gen.NormSampleReferenceIdeal
public import proofs.«01_k».proof.Proof.Gen.NormSampleReferenceIdeal.Run
public import proofs.«01_k».proof.Proof.Pre
public import proofs.«01_k».proof.Proof.Equal
public import proofs.«01_k».proof.Proof.FfnInClaim
public import proofs.«01_k».proof.Proof.InOddClaim
public import proofs.«01_k».proof.Proof.InEvenClaim
public import proofs.«01_k».proof.Proof.FfnOutClaim
public import proofs.«01_k».proof.Proof.OutOddClaim
public import proofs.«01_k».proof.Proof.OutEvenClaim
public import proofs.«01_k».proof.Proof.FfnLastClaim
public import proofs.«01_k».proof.Proof.NormPromptClaim
public import proofs.«01_k».proof.Proof.NormSampleClaim
public import proofs.«01_k».proof.Proof.InFirstClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs and keeps its arguments; it has no semaphores. -/
theorem reference_runs : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Ret.run m g)

/-- Under the precondition the kernel's results are the reference's. -/
theorem equal : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨Cert.KernelIdeal.Value.G7 m, Cert.KernelIdeal.Value.G8 m, Cert.KernelIdeal.Value.run m g, ?_⟩
  refine (θ_run Cert.ReferenceIdeal.defs _ _).mono (fun r h c => ?_) (Cert.ReferenceIdeal.Ret.run m' g')
  obtain ⟨h0, h1, hk⟩ := h c
  obtain ⟨a0, a1, a2, a3⟩ := hargs c
  have hr := @Cert.Pre_finite.realArgs Cert.Pre_finite.facts _ _ _ _ (hpre c)
  refine ⟨h0.trans ?_, h1.trans ?_, hk⟩
  · rw [a0, a1, a2, a3]
    exact (Cert.KernelIdeal.Ret.rows_equal m c hr).symm
  · rw [a0, a1, a2]
    exact (Cert.KernelIdeal.Ret.states_equal m c hr).symm

/-- The certificate's claims. -/
theorem claim : Cert.Claim := ⟨Cert.Kernel.Gen.facts, Cert.KernelIdeal.Gen.facts, Cert.ReferenceIdeal.Gen.facts, Cert.FfnIn.Gen.facts, Cert.FfnInIdeal.Gen.facts, Cert.FfnInReferenceIdeal.Gen.facts, Cert.InOdd.Gen.facts, Cert.InOddIdeal.Gen.facts, Cert.InOddReferenceIdeal.Gen.facts, Cert.InEven.Gen.facts, Cert.InEvenIdeal.Gen.facts, Cert.InEvenReferenceIdeal.Gen.facts, Cert.FfnOut.Gen.facts, Cert.FfnOutIdeal.Gen.facts, Cert.FfnOutReferenceIdeal.Gen.facts, Cert.OutOdd.Gen.facts, Cert.OutOddIdeal.Gen.facts, Cert.OutOddReferenceIdeal.Gen.facts, Cert.OutEven.Gen.facts, Cert.OutEvenIdeal.Gen.facts, Cert.OutEvenReferenceIdeal.Gen.facts,
  Cert.FfnLast.Gen.facts, Cert.FfnLastIdeal.Gen.facts, Cert.FfnLastReferenceIdeal.Gen.facts, Cert.NormPrompt.Gen.facts, Cert.NormPromptIdeal.Gen.facts, Cert.NormPromptReferenceIdeal.Gen.facts, Cert.NormSample.Gen.facts, Cert.NormSampleIdeal.Gen.facts, Cert.NormSampleReferenceIdeal.Gen.facts,
  Cert.InFirst.Gen.facts, Cert.InFirstIdeal.Gen.facts, Cert.InFirstReferenceIdeal.Gen.facts,
  Cert.Pre_finite.facts, Cert.Pre_ffn_in_squares.facts, Cert.Pre_in_odd_squares.facts, Cert.Pre_in_even_squares.facts, Cert.Pre_in_first_squares.facts,
  fun m ρ _ => Cert.Kernel.Gen.frame m ρ, fun m ρ _ => Cert.KernelIdeal.Gen.frame m ρ, fun m ρ _ => Cert.KernelIdeal.Gen.frame m ρ,
  reference_runs, fun m ρ _ => reference_runs m ρ trivial,
  Cert.FfnInClaim.kernel_runs, Cert.FfnInClaim.ideal_runs, fun m ρ _ => Cert.FfnInClaim.ideal_runs m ρ trivial, Cert.FfnInClaim.reference_runs, fun m ρ _ => Cert.FfnInClaim.reference_runs m ρ trivial,
  Cert.InOddClaim.kernel_runs, Cert.InOddClaim.ideal_runs, fun m ρ _ => Cert.InOddClaim.ideal_runs m ρ trivial, Cert.InOddClaim.reference_runs, fun m ρ _ => Cert.InOddClaim.reference_runs m ρ trivial,
  Cert.InEvenClaim.kernel_runs, Cert.InEvenClaim.ideal_runs, fun m ρ _ => Cert.InEvenClaim.ideal_runs m ρ trivial, Cert.InEvenClaim.reference_runs, fun m ρ _ => Cert.InEvenClaim.reference_runs m ρ trivial,
  Cert.FfnOutClaim.kernel_runs, Cert.FfnOutClaim.ideal_runs, Cert.FfnOutClaim.reference_runs,
  Cert.OutOddClaim.kernel_runs, Cert.OutOddClaim.ideal_runs, Cert.OutOddClaim.reference_runs,
  Cert.OutEvenClaim.kernel_runs, Cert.OutEvenClaim.ideal_runs, Cert.OutEvenClaim.reference_runs,
  Cert.FfnLastClaim.kernel_runs, Cert.FfnLastClaim.ideal_runs, Cert.FfnLastClaim.reference_runs,
  Cert.NormPromptClaim.kernel_runs, Cert.NormPromptClaim.ideal_runs, Cert.NormPromptClaim.reference_runs,
  Cert.NormSampleClaim.kernel_runs, Cert.NormSampleClaim.ideal_runs, Cert.NormSampleClaim.reference_runs,
  Cert.InFirstClaim.kernel_runs, Cert.InFirstClaim.ideal_runs, fun m ρ _ => Cert.InFirstClaim.ideal_runs m ρ trivial, Cert.InFirstClaim.reference_runs, fun m ρ _ => Cert.InFirstClaim.reference_runs m ρ trivial,
  trivial, equal, trivial, Cert.FfnInClaim.equal, trivial, Cert.InOddClaim.equal, trivial, Cert.InEvenClaim.equal, trivial, Cert.FfnOutClaim.equal, trivial, Cert.OutOddClaim.equal, trivial, Cert.OutEvenClaim.equal, trivial, Cert.FfnLastClaim.equal, trivial, Cert.NormPromptClaim.equal, trivial, Cert.NormSampleClaim.equal, trivial, Cert.InFirstClaim.equal⟩

end Cert.Proof

end
